-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8)
      ∧ r.2.mem ((c.tc : Thread Cert.Kernel21.nD Cert.Kernel21.τ).loc Cert.Kernel21.main_arg9) = m ((c.tc : Thread Cert.Kernel21.nD Cert.Kernel21.τ).loc Cert.Kernel21.main_arg9)
      ∧ r.2.mem ((c.tc : Thread Cert.Kernel21.nD Cert.Kernel21.τ).loc Cert.Kernel21.main_arg10) = m ((c.tc : Thread Cert.Kernel21.nD Cert.Kernel21.τ).loc Cert.Kernel21.main_arg10)
      ∧ r.2.mem ((c.tc : Thread Cert.Kernel21.nD Cert.Kernel21.τ).loc Cert.Kernel21.main_arg11) = m ((c.tc : Thread Cert.Kernel21.nD Cert.Kernel21.τ).loc Cert.Kernel21.main_arg11)
      ∧ r.2.mem ((c.tc : Thread Cert.Kernel21.nD Cert.Kernel21.τ).loc Cert.Kernel21.main_arg12) = m ((c.tc : Thread Cert.Kernel21.nD Cert.Kernel21.τ).loc Cert.Kernel21.main_arg12)
      ∧ r.2.mem ((c.tc : Thread Cert.Kernel21.nD Cert.Kernel21.τ).loc Cert.Kernel21.main_arg13) = m ((c.tc : Thread Cert.Kernel21.nD Cert.Kernel21.τ).loc Cert.Kernel21.main_arg13)
      ∧ r.2.mem ((c.tc : Thread Cert.Kernel21.nD Cert.Kernel21.τ).loc Cert.Kernel21.main_arg14) = m ((c.tc : Thread Cert.Kernel21.nD Cert.Kernel21.τ).loc Cert.Kernel21.main_arg14)
      ∧ r.2.mem ((c.tc : Thread Cert.Kernel21.nD Cert.Kernel21.τ).loc Cert.Kernel21.main_arg15) = m ((c.tc : Thread Cert.Kernel21.nD Cert.Kernel21.τ).loc Cert.Kernel21.main_arg15))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
      ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
      ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
      ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
      ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
      ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
      ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
      ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8)
      ∧ r.2.mem ((c.tc : Thread Cert.Reference21Ideal.nD Cert.Reference21Ideal.τ).loc Cert.Reference21Ideal.main_arg9) = m ((c.tc : Thread Cert.Reference21Ideal.nD Cert.Reference21Ideal.τ).loc Cert.Reference21Ideal.main_arg9)
      ∧ r.2.mem ((c.tc : Thread Cert.Reference21Ideal.nD Cert.Reference21Ideal.τ).loc Cert.Reference21Ideal.main_arg10) = m ((c.tc : Thread Cert.Reference21Ideal.nD Cert.Reference21Ideal.τ).loc Cert.Reference21Ideal.main_arg10)
      ∧ r.2.mem ((c.tc : Thread Cert.Reference21Ideal.nD Cert.Reference21Ideal.τ).loc Cert.Reference21Ideal.main_arg11) = m ((c.tc : Thread Cert.Reference21Ideal.nD Cert.Reference21Ideal.τ).loc Cert.Reference21Ideal.main_arg11)
      ∧ r.2.mem ((c.tc : Thread Cert.Reference21Ideal.nD Cert.Reference21Ideal.τ).loc Cert.Reference21Ideal.main_arg12) = m ((c.tc : Thread Cert.Reference21Ideal.nD Cert.Reference21Ideal.τ).loc Cert.Reference21Ideal.main_arg12)
      ∧ r.2.mem ((c.tc : Thread Cert.Reference21Ideal.nD Cert.Reference21Ideal.τ).loc Cert.Reference21Ideal.main_arg13) = m ((c.tc : Thread Cert.Reference21Ideal.nD Cert.Reference21Ideal.τ).loc Cert.Reference21Ideal.main_arg13)
      ∧ r.2.mem ((c.tc : Thread Cert.Reference21Ideal.nD Cert.Reference21Ideal.τ).loc Cert.Reference21Ideal.main_arg14) = m ((c.tc : Thread Cert.Reference21Ideal.nD Cert.Reference21Ideal.τ).loc Cert.Reference21Ideal.main_arg14)
      ∧ r.2.mem ((c.tc : Thread Cert.Reference21Ideal.nD Cert.Reference21Ideal.τ).loc Cert.Reference21Ideal.main_arg15) = m ((c.tc : Thread Cert.Reference21Ideal.nD Cert.Reference21Ideal.τ).loc Cert.Reference21Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14_1)) (v1 : (c : Dev Cert.KernelIdeal.nD) → Buf (Elt Ideal) ((c.tc : Thread Cert.KernelIdeal.nD Cert.KernelIdeal.τ).loc Cert.KernelIdeal.main_v14_2)) (v2 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_1) = v0 c
          ∧ r.2.mem ((c.tc : Thread Cert.KernelIdeal.nD Cert.KernelIdeal.τ).loc Cert.KernelIdeal.main_v14_2) = v1 c
          ∧ r.2.mem ((c.tc : Thread Cert.KernelIdeal.nD Cert.KernelIdeal.τ).loc Cert.KernelIdeal.main_v14_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v12_0)) (v1 : (c : Dev Cert.Kernel7Ideal.nD) → Buf (Elt Ideal) ((c.tc : Thread Cert.Kernel7Ideal.nD Cert.Kernel7Ideal.τ).loc Cert.Kernel7Ideal.main_v12_1)) (v2 : (c : Dev Cert.Kernel7Ideal.nD) → Buf (Elt Ideal) ((c.tc : Thread Cert.Kernel7Ideal.nD Cert.Kernel7Ideal.τ).loc Cert.Kernel7Ideal.main_v12_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12_0) = v0 c
          ∧ r.2.mem ((c.tc : Thread Cert.Kernel7Ideal.nD Cert.Kernel7Ideal.τ).loc Cert.Kernel7Ideal.main_v12_1) = v1 c
          ∧ r.2.mem ((c.tc : Thread Cert.Kernel7Ideal.nD Cert.Kernel7Ideal.τ).loc Cert.Kernel7Ideal.main_v12_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v64) = v0 c
          ∧ r.2.mem ((c.tc : Thread Cert.Reference7Ideal.nD Cert.Reference7Ideal.τ).loc Cert.Reference7Ideal.main_v80) = v1 c
          ∧ r.2.mem ((c.tc : Thread Cert.Reference7Ideal.nD Cert.Reference7Ideal.τ).loc Cert.Reference7Ideal.main_v81) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v65) = v0 c
          ∧ r.2.mem ((c.tc : Thread Cert.Reference8Ideal.nD Cert.Reference8Ideal.τ).loc Cert.Reference8Ideal.main_v70) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v12_0)) (v1 : (c : Dev Cert.Kernel10Ideal.nD) → Buf (Elt Ideal) ((c.tc : Thread Cert.Kernel10Ideal.nD Cert.Kernel10Ideal.τ).loc Cert.Kernel10Ideal.main_v12_1)) (v2 : (c : Dev Cert.Kernel10Ideal.nD) → Buf (Elt Ideal) ((c.tc : Thread Cert.Kernel10Ideal.nD Cert.Kernel10Ideal.τ).loc Cert.Kernel10Ideal.main_v12_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v12_0) = v0 c
          ∧ r.2.mem ((c.tc : Thread Cert.Kernel10Ideal.nD Cert.Kernel10Ideal.τ).loc Cert.Kernel10Ideal.main_v12_1) = v1 c
          ∧ r.2.mem ((c.tc : Thread Cert.Kernel10Ideal.nD Cert.Kernel10Ideal.τ).loc Cert.Kernel10Ideal.main_v12_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v38) = v1 c
          ∧ r.2.mem ((c.tc : Thread Cert.Reference10Ideal.nD Cert.Reference10Ideal.τ).loc Cert.Reference10Ideal.main_v39) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v10)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v50) = v0 c
          ∧ r.2.mem ((c.tc : Thread Cert.Reference12Ideal.nD Cert.Reference12Ideal.τ).loc Cert.Reference12Ideal.main_v55) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v33) = v0 c
          ∧ r.2.mem ((c.tc : Thread Cert.Reference17Ideal.nD Cert.Reference17Ideal.τ).loc Cert.Reference17Ideal.main_v57) = v1 c
          ∧ r.2.mem ((c.tc : Thread Cert.Reference17Ideal.nD Cert.Reference17Ideal.τ).loc Cert.Reference17Ideal.main_v38) = v2 c
          ∧ r.2.mem ((c.tc : Thread Cert.Reference17Ideal.nD Cert.Reference17Ideal.τ).loc Cert.Reference17Ideal.main_v44) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v37) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_v30) = v1 c
          ∧ r.2.mem ((c.tc : Thread Cert.Reference19Ideal.nD Cert.Reference19Ideal.τ).loc Cert.Reference19Ideal.main_v11) = v2 c
          ∧ r.2.mem ((c.tc : Thread Cert.Reference19Ideal.nD Cert.Reference19Ideal.τ).loc Cert.Reference19Ideal.main_v17) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)) →
    ∃ (v0 : (c : Dev Cert.Kernel20Ideal.nD) → Buf (Elt Ideal) ((c.tc : Thread Cert.Kernel20Ideal.nD Cert.Kernel20Ideal.τ).loc Cert.Kernel20Ideal.main_v14_6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v14_6) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v32) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)
      ∧ m' ((c.tc : Thread Cert.Reference21Ideal.nD Cert.Reference21Ideal.τ).loc Cert.Reference21Ideal.main_arg9) = m ((c.tc : Thread Cert.Kernel21Ideal.nD Cert.Kernel21Ideal.τ).loc Cert.Kernel21Ideal.main_arg9)
      ∧ m' ((c.tc : Thread Cert.Reference21Ideal.nD Cert.Reference21Ideal.τ).loc Cert.Reference21Ideal.main_arg10) = m ((c.tc : Thread Cert.Kernel21Ideal.nD Cert.Kernel21Ideal.τ).loc Cert.Kernel21Ideal.main_arg10)
      ∧ m' ((c.tc : Thread Cert.Reference21Ideal.nD Cert.Reference21Ideal.τ).loc Cert.Reference21Ideal.main_arg11) = m ((c.tc : Thread Cert.Kernel21Ideal.nD Cert.Kernel21Ideal.τ).loc Cert.Kernel21Ideal.main_arg11)
      ∧ m' ((c.tc : Thread Cert.Reference21Ideal.nD Cert.Reference21Ideal.τ).loc Cert.Reference21Ideal.main_arg12) = m ((c.tc : Thread Cert.Kernel21Ideal.nD Cert.Kernel21Ideal.τ).loc Cert.Kernel21Ideal.main_arg12)
      ∧ m' ((c.tc : Thread Cert.Reference21Ideal.nD Cert.Reference21Ideal.τ).loc Cert.Reference21Ideal.main_arg13) = m ((c.tc : Thread Cert.Kernel21Ideal.nD Cert.Kernel21Ideal.τ).loc Cert.Kernel21Ideal.main_arg13)
      ∧ m' ((c.tc : Thread Cert.Reference21Ideal.nD Cert.Reference21Ideal.τ).loc Cert.Reference21Ideal.main_arg14) = m ((c.tc : Thread Cert.Kernel21Ideal.nD Cert.Kernel21Ideal.τ).loc Cert.Kernel21Ideal.main_arg14)
      ∧ m' ((c.tc : Thread Cert.Reference21Ideal.nD Cert.Reference21Ideal.τ).loc Cert.Reference21Ideal.main_arg15) = m ((c.tc : Thread Cert.Kernel21Ideal.nD Cert.Kernel21Ideal.τ).loc Cert.Kernel21Ideal.main_arg15)) →
    ∃ (v0 : (c : Dev Cert.Kernel21Ideal.nD) → Buf (Elt Ideal) ((c.tc : Thread Cert.Kernel21Ideal.nD Cert.Kernel21Ideal.τ).loc Cert.Kernel21Ideal.main_v16)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v16) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8)
          ∧ r.2.mem ((c.tc : Thread Cert.Kernel21Ideal.nD Cert.Kernel21Ideal.τ).loc Cert.Kernel21Ideal.main_arg9) = m ((c.tc : Thread Cert.Kernel21Ideal.nD Cert.Kernel21Ideal.τ).loc Cert.Kernel21Ideal.main_arg9)
          ∧ r.2.mem ((c.tc : Thread Cert.Kernel21Ideal.nD Cert.Kernel21Ideal.τ).loc Cert.Kernel21Ideal.main_arg10) = m ((c.tc : Thread Cert.Kernel21Ideal.nD Cert.Kernel21Ideal.τ).loc Cert.Kernel21Ideal.main_arg10)
          ∧ r.2.mem ((c.tc : Thread Cert.Kernel21Ideal.nD Cert.Kernel21Ideal.τ).loc Cert.Kernel21Ideal.main_arg11) = m ((c.tc : Thread Cert.Kernel21Ideal.nD Cert.Kernel21Ideal.τ).loc Cert.Kernel21Ideal.main_arg11)
          ∧ r.2.mem ((c.tc : Thread Cert.Kernel21Ideal.nD Cert.Kernel21Ideal.τ).loc Cert.Kernel21Ideal.main_arg12) = m ((c.tc : Thread Cert.Kernel21Ideal.nD Cert.Kernel21Ideal.τ).loc Cert.Kernel21Ideal.main_arg12)
          ∧ r.2.mem ((c.tc : Thread Cert.Kernel21Ideal.nD Cert.Kernel21Ideal.τ).loc Cert.Kernel21Ideal.main_arg13) = m ((c.tc : Thread Cert.Kernel21Ideal.nD Cert.Kernel21Ideal.τ).loc Cert.Kernel21Ideal.main_arg13)
          ∧ r.2.mem ((c.tc : Thread Cert.Kernel21Ideal.nD Cert.Kernel21Ideal.τ).loc Cert.Kernel21Ideal.main_arg14) = m ((c.tc : Thread Cert.Kernel21Ideal.nD Cert.Kernel21Ideal.τ).loc Cert.Kernel21Ideal.main_arg14)
          ∧ r.2.mem ((c.tc : Thread Cert.Kernel21Ideal.nD Cert.Kernel21Ideal.τ).loc Cert.Kernel21Ideal.main_arg15) = m ((c.tc : Thread Cert.Kernel21Ideal.nD Cert.Kernel21Ideal.τ).loc Cert.Kernel21Ideal.main_arg15))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v28) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8)
          ∧ r.2.mem ((c.tc : Thread Cert.Reference21Ideal.nD Cert.Reference21Ideal.τ).loc Cert.Reference21Ideal.main_arg9) = m' ((c.tc : Thread Cert.Reference21Ideal.nD Cert.Reference21Ideal.τ).loc Cert.Reference21Ideal.main_arg9)
          ∧ r.2.mem ((c.tc : Thread Cert.Reference21Ideal.nD Cert.Reference21Ideal.τ).loc Cert.Reference21Ideal.main_arg10) = m' ((c.tc : Thread Cert.Reference21Ideal.nD Cert.Reference21Ideal.τ).loc Cert.Reference21Ideal.main_arg10)
          ∧ r.2.mem ((c.tc : Thread Cert.Reference21Ideal.nD Cert.Reference21Ideal.τ).loc Cert.Reference21Ideal.main_arg11) = m' ((c.tc : Thread Cert.Reference21Ideal.nD Cert.Reference21Ideal.τ).loc Cert.Reference21Ideal.main_arg11)
          ∧ r.2.mem ((c.tc : Thread Cert.Reference21Ideal.nD Cert.Reference21Ideal.τ).loc Cert.Reference21Ideal.main_arg12) = m' ((c.tc : Thread Cert.Reference21Ideal.nD Cert.Reference21Ideal.τ).loc Cert.Reference21Ideal.main_arg12)
          ∧ r.2.mem ((c.tc : Thread Cert.Reference21Ideal.nD Cert.Reference21Ideal.τ).loc Cert.Reference21Ideal.main_arg13) = m' ((c.tc : Thread Cert.Reference21Ideal.nD Cert.Reference21Ideal.τ).loc Cert.Reference21Ideal.main_arg13)
          ∧ r.2.mem ((c.tc : Thread Cert.Reference21Ideal.nD Cert.Reference21Ideal.τ).loc Cert.Reference21Ideal.main_arg14) = m' ((c.tc : Thread Cert.Reference21Ideal.nD Cert.Reference21Ideal.τ).loc Cert.Reference21Ideal.main_arg14)
          ∧ r.2.mem ((c.tc : Thread Cert.Reference21Ideal.nD Cert.Reference21Ideal.τ).loc Cert.Reference21Ideal.main_arg15) = m' ((c.tc : Thread Cert.Reference21Ideal.nD Cert.Reference21Ideal.τ).loc Cert.Reference21Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite4 : Cert.Pre_finite4.Facts) (hPre_finite5 : Cert.Pre_finite5.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite4.lean ====
abbrev S4096x1024 : Shape := ⟨2, ![4096, 1024]⟩
abbrev S4096x4096 : Shape := ⟨2, ![4096, 4096]⟩
abbrev S4x6x1024 : Shape := ⟨3, ![4, 6, 1024]⟩
abbrev S4x1024 : Shape := ⟨2, ![4, 1024]⟩
abbrev S4x4096x1024 : Shape := ⟨3, ![4, 4096, 1024]⟩
abbrev S_ : Shape := ⟨0, ![]⟩

class Facts : Prop where
  bcast_S_S4096x1024 : S_.BroadcastsInDim S4096x1024 (![] : Fin 0 → Fin S4096x1024.rank)
  bcast_S_S4096x4096 : S_.BroadcastsInDim S4096x4096 (![] : Fin 0 → Fin S4096x4096.rank)
  bcast_S_S4x6x1024 : S_.BroadcastsInDim S4x6x1024 (![] : Fin 0 → Fin S4x6x1024.rank)
  bcast_S_S4x4096x1024 : S_.BroadcastsInDim S4x4096x1024 (![] : Fin 0 → Fin S4x4096x1024.rank)

variable [Facts]

def fn {F : FTy → Type} [FloatOps F] (main_arg0 : FVec F S4096x1024 .f32) (main_arg1 : FVec F S4096x4096 .f32) (main_arg2 : FVec F S4x6x1024 .f32) (main_arg3 : FVec F S4x1024 .f32) (main_arg4 : FVec F S4x1024 .f32) (main_arg5 : FVec F S4x4096x1024 .f32) : IVec S4096x1024 1 × IVec S4096x4096 1 × IVec S4x6x1024 1 × IVec S4x4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S4x6x1024 .f32 := Host.absf main_arg2
  let main_cst_1 : FVec F S_ .f32 := constant S_ .f32 0x7F800000#32
  let main_v7 : FVec F S4x6x1024 .f32 := broadcastInDim S4x6x1024 ![] bcast_S_S4x6x1024 main_cst_1
  let main_v8 : IVec S4x6x1024 1 := cmpf .olt main_v6 main_v7
  let main_v9 : FVec F S4x4096x1024 .f32 := Host.absf main_arg5
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  (main_v2, main_v5, main_v8, main_v11)
-- ==== Pre_finite5.lean ====
abbrev S4096x1024 : Shape := ⟨2, ![4096, 1024]⟩
abbrev S4x6x1024 : Shape := ⟨3, ![4, 6, 1024]⟩
abbrev S4x1024 : Shape := ⟨2, ![4, 1024]⟩
abbrev S4x1024x1024 : Shape := ⟨3, ![4, 1024, 1024]⟩
abbrev S_ : Shape := ⟨0, ![]⟩

class Facts : Prop where
  bcast_S_S4096x1024 : S_.BroadcastsInDim S4096x1024 (![] : Fin 0 → Fin S4096x1024.rank)
  bcast_S_S4x6x1024 : S_.BroadcastsInDim S4x6x1024 (![] : Fin 0 → Fin S4x6x1024.rank)
  bcast_S_S4x1024x1024 : S_.BroadcastsInDim S4x1024x1024 (![] : Fin 0 → Fin S4x1024x1024.rank)

variable [Facts]

def fn {F : FTy → Type} [FloatOps F] (main_arg0 : FVec F S4096x1024 .f32) (main_arg1 : FVec F S4096x1024 .bf16) (main_arg2 : FVec F S4x6x1024 .f32) (main_arg3 : FVec F S4x1024 .f32) (main_arg4 : FVec F S4x1024 .f32) (main_arg5 : FVec F S4x1024x1024 .f32) : IVec S4096x1024 1 × IVec S4096x1024 1 × IVec S4x6x1024 1 × IVec S4x1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : FVec F S4x6x1024 .f32 := Host.absf main_arg2
  let main_cst_1 : FVec F S_ .f32 := constant S_ .f32 0x7F800000#32
  let main_v7 : FVec F S4x6x1024 .f32 := broadcastInDim S4x6x1024 ![] bcast_S_S4x6x1024 main_cst_1
  let main_v8 : IVec S4x6x1024 1 := cmpf .olt main_v6 main_v7
  let main_v9 : FVec F S4x1024x1024 .f32 := Host.absf main_arg5
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  (main_v2, main_v5, main_v8, main_v11)
-- ==== Pre_finite7.lean ====
abbrev S4096x4096 : Shape := ⟨2, ![4096, 4096]⟩
abbrev S4096x1024 : Shape := ⟨2, ![4096, 1024]⟩
abbrev S4x6x1024 : Shape := ⟨3, ![4, 6, 1024]⟩
abbrev S4x1024 : Shape := ⟨2, ![4, 1024]⟩
abbrev S4x1024x4096 : Shape := ⟨3, ![4, 1024, 4096]⟩
abbrev S4x1024x1024 : Shape := ⟨3, ![4, 1024, 1024]⟩
abbrev S_ : Shape := ⟨0, ![]⟩

class Facts : Prop where
  bcast_S_S4096x4096 : S_.BroadcastsInDim S4096x4096 (![] : Fin 0 → Fin S4096x4096.rank)
  bcast_S_S4x6x1024 : S_.BroadcastsInDim S4x6x1024 (![] : Fin 0 → Fin S4x6x1024.rank)
  bcast_S_S4x1024 : S_.BroadcastsInDim S4x1024 (![] : Fin 0 → Fin S4x1024.rank)
  bcast_S_S4x1024x4096 : S_.BroadcastsInDim S4x1024x4096 (![] : Fin 0 → Fin S4x1024x4096.rank)

variable [Facts]

def fn {F : FTy → Type} [FloatOps F] (main_arg0 : FVec F S4096x4096 .bf16) (main_arg1 : FVec F S4096x1024 .f32) (main_arg2 : FVec F S4096x1024 .f32) (main_arg3 : FVec F S4x6x1024 .f32) (main_arg4 : FVec F S4x1024 .f32) (main_arg5 : FVec F S4x1024 .f32) (main_arg6 : FVec F S4x1024x4096 .f32) (main_arg7 : FVec F S4x1024x1024 .f32) : IVec S4096x4096 1 × IVec S4x6x1024 1 × IVec S4x1024 1 × IVec S4x1024x4096 1 :=
  let main_v0 : FVec F S4096x4096 .bf16 := Host.absf main_arg0
  let main_cst : FVec F S_ .bf16 := constant S_ .bf16 0x7F80#16
  let main_v1 : FVec F S4096x4096 .bf16 := broadcastInDim S4096x4096 ![] bcast_S_S4096x4096 main_cst
  let main_v2 : IVec S4096x4096 1 := cmpf .olt main_v0 main_v1
  let main_v3 : FVec F S4x6x1024 .f32 := Host.absf main_arg3
  let main_cst_0 : FVec F S_ .f32 := constant S_ .f32 0x7F800000#32
  let main_v4 : FVec F S4x6x1024 .f32 := broadcastInDim S4x6x1024 ![] bcast_S_S4x6x1024 main_cst_0
  let main_v5 : IVec S4x6x1024 1 := cmpf .olt main_v3 main_v4
  let main_v6 : FVec F S4x1024 .f32 := Host.absf main_arg5
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S4x1024x4096 .f32 := Host.absf main_arg6
  let main_cst_2 : FVec F S_ .f32 := constant S_ .f32 0x7F800000#32
  let main_v10 : FVec F S4x1024x4096 .f32 := broadcastInDim S4x1024x4096 ![] bcast_S_S4x1024x4096 main_cst_2
  let main_v11 : IVec S4x1024x4096 1 := cmpf .olt main_v9 main_v10
  (main_v2, main_v5, main_v8, main_v11)
-- ==== Pre_finite8.lean ====
abbrev S4096x3200 : Shape := ⟨2, ![4096, 3200]⟩
abbrev S4096x1024 : Shape := ⟨2, ![4096, 1024]⟩
abbrev S4x6x1024 : Shape := ⟨3, ![4, 6, 1024]⟩
abbrev S4x1024 : Shape := ⟨2, ![4, 1024]⟩
abbrev S4x1024x3080 : Shape := ⟨3, ![4, 1024, 3080]⟩
abbrev S_ : Shape := ⟨0, ![]⟩

class Facts : Prop where
  bcast_S_S4096x3200 : S_.BroadcastsInDim S4096x3200 (![] : Fin 0 → Fin S4096x3200.rank)
  bcast_S_S4x6x1024 : S_.BroadcastsInDim S4x6x1024 (![] : Fin 0 → Fin S4x6x1024.rank)
  bcast_S_S4x1024 : S_.BroadcastsInDim S4x1024 (![] : Fin 0 → Fin S4x1024.rank)
  bcast_S_S4x1024x3080 : S_.BroadcastsInDim S4x1024x3080 (![] : Fin 0 → Fin S4x1024x3080.rank)

variable [Facts]

def fn {F : FTy → Type} [FloatOps F] (main_arg0 : FVec F S4096x3200 .bf16) (main_arg1 : FVec F S4096x1024 .f32) (main_arg2 : FVec F S4096x1024 .f32) (main_arg3 : FVec F S4x6x1024 .f32) (main_arg4 : FVec F S4x1024 .f32) (main_arg5 : FVec F S4x1024 .f32) (main_arg6 : FVec F S4x1024x3080 .f32) : IVec S4096x3200 1 × IVec S4x6x1024 1 × IVec S4x1024 1 × IVec S4x1024x3080 1 :=
  let main_v0 : FVec F S4096x3200 .bf16 := Host.absf main_arg0
  let main_cst : FVec F S_ .bf16 := constant S_ .bf16 0x7F80#16
  let main_v1 : FVec F S4096x3200 .bf16 := broadcastInDim S4096x3200 ![] bcast_S_S4096x3200 main_cst
  let main_v2 : IVec S4096x3200 1 := cmpf .olt main_v0 main_v1
  let main_v3 : FVec F S4x6x1024 .f32 := Host.absf main_arg3
  let main_cst_0 : FVec F S_ .f32 := constant S_ .f32 0x7F800000#32
  let main_v4 : FVec F S4x6x1024 .f32 := broadcastInDim S4x6x1024 ![] bcast_S_S4x6x1024 main_cst_0
  let main_v5 : IVec S4x6x1024 1 := cmpf .olt main_v3 main_v4
  let main_v6 : FVec F S4x1024 .f32 := Host.absf main_arg4
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S4x1024x3080 .f32 := Host.absf main_arg6
  let main_cst_2 : FVec F S_ .f32 := constant S_ .f32 0x7F800000#32
  let main_v10 : FVec F S4x1024x3080 .f32 := broadcastInDim S4x1024x3080 ![] bcast_S_S4x1024x3080 main_cst_2
  let main_v11 : IVec S4x1024x3080 1 := cmpf .olt main_v9 main_v10
  (main_v2, main_v5, main_v8, main_v11)
-- ==== Kernel.lean ====
abbrev S4096x3200 : Shape := ⟨2, ![4096, 3200]⟩
abbrev S4096x1024 : Shape := ⟨2, ![4096, 1024]⟩
abbrev S32x4x128x128 : Shape := ⟨4, ![32, 4, 128, 128]⟩
abbrev S4096x512 : Shape := ⟨2, ![4096, 512]⟩
abbrev S4096x1536 : Shape := ⟨2, ![4096, 1536]⟩
abbrev S4x512 : Shape := ⟨2, ![4, 512]⟩
abbrev S4x4x128x128 : Shape := ⟨4, ![4, 4, 128, 128]⟩
abbrev S4x4x128 : Shape := ⟨3, ![4, 4, 128]⟩
abbrev S4x4x1536 : Shape := ⟨3, ![4, 4, 1536]⟩
abbrev S4x4 : Shape := ⟨2, ![4, 4]⟩
abbrev S4x128 : Shape := ⟨2, ![4, 128]⟩
abbrev S4x1x512 : Shape := ⟨3, ![4, 1, 512]⟩
abbrev S4x2x512 : Shape := ⟨3, ![4, 2, 512]⟩
abbrev S_ : Shape := ⟨0, ![]⟩
abbrev S4x8x512 : Shape := ⟨3, ![4, 8, 512]⟩
abbrev S4x128x4 : Shape := ⟨3, ![4, 128, 4]⟩
abbrev S4x128x128 : Shape := ⟨3, ![4, 128, 128]⟩
abbrev S4x8x1536 : Shape := ⟨3, ![4, 8, 1536]⟩
abbrev S4x1x128 : Shape := ⟨3, ![4, 1, 128]⟩
abbrev S4x3x128 : Shape := ⟨3, ![4, 3, 128]⟩
abbrev S4x8x128 : Shape := ⟨3, ![4, 8, 128]⟩
abbrev S8x512 : Shape := ⟨2, ![8, 512]⟩
abbrev S128x128 : Shape := ⟨2, ![128, 128]⟩
abbrev S8x1536 : Shape := ⟨2, ![8, 1536]⟩
abbrev S8x128 : Shape := ⟨2, ![8, 128]⟩
abbrev S128x3200 : Shape := ⟨2, ![128, 3200]⟩
abbrev S128x1024 : Shape := ⟨2, ![128, 1024]⟩
abbrev S1x4x128x128 : Shape := ⟨4, ![1, 4, 128, 128]⟩
abbrev S128x512 : Shape := ⟨2, ![128, 512]⟩
abbrev S128x1536 : Shape := ⟨2, ![128, 1536]⟩
abbrev S1x8x512 : Shape := ⟨3, ![1, 8, 512]⟩
abbrev S1x128x128 : Shape := ⟨3, ![1, 128, 128]⟩
abbrev S1x8x1536 : Shape := ⟨3, ![1, 8, 1536]⟩
abbrev S1x8x128 : Shape := ⟨3, ![1, 8, 128]⟩
abbrev S136x1536 : Shape := ⟨2, ![136, 1536]⟩
abbrev S128 : Shape := ⟨1, ![128]⟩
abbrev S128x1 : Shape := ⟨2, ![128, 1]⟩
abbrev S1x1x512 : Shape := ⟨3, ![1, 1, 512]⟩
abbrev S1x512 : Shape := ⟨2, ![1, 512]⟩
abbrev S1x1x128x128 : Shape := ⟨4, ![1, 1, 128, 128]⟩
abbrev S512 : Shape := ⟨1, ![512]⟩
abbrev S1x1x128 : Shape := ⟨3, ![1, 1, 128]⟩
abbrev S1x128 : Shape := ⟨2, ![1, 128]⟩
abbrev S1 : Shape := ⟨1, ![1]⟩
abbrev S1x1 : Shape := ⟨2, ![1, 1]⟩
abbrev S1x1x1536 : Shape := ⟨3, ![1, 1, 1536]⟩
abbrev S1x1536 : Shape := ⟨2, ![1, 1536]⟩
abbrev S1536 : Shape := ⟨1, ![1536]⟩

abbrev nBuf : Space → Nat
  | .hbm => 48
  | .vmem => 30
  | .smem => 0
  | _ => 0

abbrev bufTy : (tb : Table) → Fin (tcTables nBuf tb) → BufTy
  | .hbm, ⟨0, _⟩ => ⟨S4096x3200, .f32⟩
  | .hbm, ⟨1, _⟩ => ⟨S4096x1024, .bf16⟩
  | .hbm, ⟨2, _⟩ => ⟨S32x4x128x128, .f32⟩
  | .hbm, ⟨3, _⟩ => ⟨S32x4x128x128, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1536, .f32⟩
  | .hbm, ⟨8, _⟩ => ⟨S4x512, .f32⟩
  | .hbm, ⟨9, _⟩ => ⟨S4x512, .f32⟩
  | .hbm, ⟨10, _⟩ => ⟨S4x4x128x128, .f32⟩
  | .hbm, ⟨11, _⟩ => ⟨S4x4x128, .f32⟩
  | .hbm, ⟨12, _⟩ => ⟨S4x4x1536, .f32⟩
  | .hbm, ⟨13, _⟩ => ⟨S4x4, .f32⟩
  | .hbm, ⟨14, _⟩ => ⟨S4x4, .f32⟩
  | .hbm, ⟨15, _⟩ => ⟨S4x128, .f32⟩
  | .hbm, ⟨16, _⟩ => ⟨S4x1x512, .f32⟩
  | .hbm, ⟨17, _⟩ => ⟨S4x1x512, .f32⟩
  | .hbm, ⟨18, _⟩ => ⟨S4x2x512, .f32⟩
  | .hbm, ⟨19, _⟩ => ⟨S_, .i32⟩
  | .hbm, ⟨20, _⟩ => ⟨S_, .f32⟩
  | .hbm, ⟨21, _⟩ => ⟨S4x8x512, .f32⟩
  | .hbm, ⟨22, _⟩ => ⟨S4x128x4, .f32⟩
  | .hbm, ⟨23, _⟩ => ⟨S_, .i32⟩
  | .hbm, ⟨24, _⟩ => ⟨S_, .f32⟩
  | .hbm, ⟨25, _⟩ => ⟨S4x128x128, .f32⟩
  | .hbm, ⟨26, _⟩ => ⟨S_, .i32⟩
  | .hbm, ⟨27, _⟩ => ⟨S_, .f32⟩
  | .hbm, ⟨28, _⟩ => ⟨S4x8x1536, .f32⟩
  | .hbm, ⟨29, _⟩ => ⟨S_, .i32⟩
  | .hbm, ⟨30, _⟩ => ⟨S_, .f32⟩
  | .hbm, ⟨31, _⟩ => ⟨S4x128, .f32⟩
  | .hbm, ⟨32, _⟩ => ⟨S_, .i32⟩
  | .hbm, ⟨33, _⟩ => ⟨S_, .f32⟩
  | .hbm, ⟨34, _⟩ => ⟨S4x128, .f32⟩
  | .hbm, ⟨35, _⟩ => ⟨S4x1x128, .f32⟩
  | .hbm, ⟨36, _⟩ => ⟨S4x1x128, .f32⟩
  | .hbm, ⟨37, _⟩ => ⟨S4x1x128, .f32⟩
  | .hbm, ⟨38, _⟩ => ⟨S4x3x128, .f32⟩
  | .hbm, ⟨39, _⟩ => ⟨S_, .i32⟩
  | .hbm, ⟨40, _⟩ => ⟨S_, .f32⟩
  | .hbm, ⟨41, _⟩ => ⟨S4x8x128, .f32⟩
  | .hbm, ⟨42, _⟩ => ⟨S4096x3200, .bf16⟩
  | .hbm, ⟨43, _⟩ => ⟨S8x512, .f32⟩
  | .hbm, ⟨44, _⟩ => ⟨S4x128x128, .f32⟩
  | .hbm, ⟨45, _⟩ => ⟨S128x128, .f32⟩
  | .hbm, ⟨46, _⟩ => ⟨S8x1536, .f32⟩
  | .hbm, ⟨47, _⟩ => ⟨S8x128, .f32⟩
  | .local _ .vmem, ⟨0, _⟩ => ⟨S128x3200, .f32⟩
  | .local _ .vmem, ⟨1, _⟩ => ⟨S128x3200, .f32⟩
  | .local _ .vmem, ⟨2, _⟩ => ⟨S128x1024, .bf16⟩
  | .local _ .vmem, ⟨3, _⟩ => ⟨S128x1024, .bf16⟩
  | .local _ .vmem, ⟨4, _⟩ => ⟨S1x4x128x128, .f32⟩
  | .local _ .vmem, ⟨5, _⟩ => ⟨S1x4x128x128, .f32⟩
  | .local _ .vmem, ⟨6, _⟩ => ⟨S1x4x128x128, .f32⟩
  | .local _ .vmem, ⟨7, _⟩ => ⟨S1x4x128x128, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x1536, .f32⟩
  | .local _ .vmem, ⟨15, _⟩ => ⟨S128x1536, .f32⟩
  | .local _ .vmem, ⟨16, _⟩ => ⟨S1x8x512, .f32⟩
  | .local _ .vmem, ⟨17, _⟩ => ⟨S1x4x128x128, .f32⟩
  | .local _ .vmem, ⟨18, _⟩ => ⟨S1x128x128, .f32⟩
  | .local _ .vmem, ⟨19, _⟩ => ⟨S1x8x1536, .f32⟩
  | .local _ .vmem, ⟨20, _⟩ => ⟨S1x8x128, .f32⟩
  | .local _ .vmem, ⟨21, _⟩ => ⟨S128x3200, .bf16⟩
  | .local _ .vmem, ⟨22, _⟩ => ⟨S128x3200, .bf16⟩
  | .local _ .vmem, ⟨23, _⟩ => ⟨S8x512, .f32⟩
  | .local _ .vmem, ⟨24, _⟩ => ⟨S4x128x128, .f32⟩
  | .local _ .vmem, ⟨25, _⟩ => ⟨S128x128, .f32⟩
  | .local _ .vmem, ⟨26, _⟩ => ⟨S8x1536, .f32⟩
  | .local _ .vmem, ⟨27, _⟩ => ⟨S8x128, .f32⟩
  | .local _ .vmem, ⟨28, _⟩ => ⟨S4x128x128, .f32⟩
  | .local _ .vmem, ⟨29, _⟩ => ⟨S136x1536, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_v5 : Ref sig .tc := ⟨.hbm, 25, rfl⟩
abbrev main_c_1 : Ref sig .tc := ⟨.hbm, 26, rfl⟩
abbrev main_call2_v0 : Ref sig .tc := ⟨.hbm, 27, rfl⟩
abbrev main_v6 : Ref sig .tc := ⟨.hbm, 28, rfl⟩
abbrev main_c_2 : Ref sig .tc := ⟨.hbm, 29, rfl⟩
abbrev main_call3_v0 : Ref sig .tc := ⟨.hbm, 30, rfl⟩
abbrev main_v7 : Ref sig .tc := ⟨.hbm, 31, rfl⟩
abbrev main_c_3 : Ref sig .tc := ⟨.hbm, 32, rfl⟩
abbrev main_call4_v0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_4 : Ref sig .tc := ⟨.hbm, 39, rfl⟩
abbrev main_call5_v0 : Ref sig .tc := ⟨.hbm, 40, rfl⟩
abbrev main_v13 : Ref sig .tc := ⟨.hbm, 41, rfl⟩
abbrev main_v14_0 : Ref sig .tc := ⟨.hbm, 42, rfl⟩
abbrev main_v14_1 : Ref sig .tc := ⟨.hbm, 43, rfl⟩
abbrev main_v14_2 : Ref sig .tc := ⟨.hbm, 44, rfl⟩
abbrev main_v14_3 : Ref sig .tc := ⟨.hbm, 45, rfl⟩
abbrev main_v14_4 : Ref sig .tc := ⟨.hbm, 46, rfl⟩
abbrev main_v14_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x3200 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S4096x3200 : Shape := ⟨2, ![4096, 3200]⟩
abbrev S4096x1024 : Shape := ⟨2, ![4096, 1024]⟩
abbrev S32x4x128x128 : Shape := ⟨4, ![32, 4, 128, 128]⟩
abbrev S4096x512 : Shape := ⟨2, ![4096, 512]⟩
abbrev S4096x1536 : Shape := ⟨2, ![4096, 1536]⟩
abbrev S4x512 : Shape := ⟨2, ![4, 512]⟩
abbrev S4x4x128x128 : Shape := ⟨4, ![4, 4, 128, 128]⟩
abbrev S4x4x128 : Shape := ⟨3, ![4, 4, 128]⟩
abbrev S4x4x1536 : Shape := ⟨3, ![4, 4, 1536]⟩
abbrev S4x4 : Shape := ⟨2, ![4, 4]⟩
abbrev S4x128 : Shape := ⟨2, ![4, 128]⟩
abbrev S1x4096x512 : Shape := ⟨3, ![1, 4096, 512]⟩
abbrev S1x512 : Shape := ⟨2, ![1, 512]⟩
abbrev S512 : Shape := ⟨1, ![512]⟩
abbrev S1x4x128x128 : Shape := ⟨4, ![1, 4, 128, 128]⟩
abbrev S4x128x128 : Shape := ⟨3, ![4, 128, 128]⟩
abbrev S1x4x128 : Shape := ⟨3, ![1, 4, 128]⟩
abbrev S_ : Shape := ⟨0, ![]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S2x512 : Shape := ⟨2, ![2, 512]⟩
abbrev S8x512 : Shape := ⟨2, ![8, 512]⟩

abbrev nBuf : Space → Nat
  | .hbm => 157
  | .vmem => 0
  | .smem => 0
  | _ => 0

abbrev hbmTy0_0 (i : Nat) : BufTy := match i % 128 with
  | 0 => ⟨S4096x3200, .f32⟩
  | 1 => ⟨S4096x1024, .bf16⟩
  | 2 => ⟨S32x4x128x128, .f32⟩
  | 3 => ⟨S32x4x128x128, .f32⟩
  | 4 => ⟨S4096x512, .f32⟩
  | 5 => ⟨S4096x512, .f32⟩
  | 6 => ⟨S4096x512, .f32⟩
  | 7 => ⟨S4096x1536, .f32⟩
  | 8 => ⟨S4x512, .f32⟩
  | 9 => ⟨S4x512, .f32⟩
  | 10 => ⟨S4x4x128x128, .f32⟩
  | 11 => ⟨S4x4x128, .f32⟩
  | 12 => ⟨S4x4x1536, .f32⟩
  | 13 => ⟨S4x4, .f32⟩
  | 14 => ⟨S4x4, .f32⟩
  | 15 => ⟨S4x128, .f32⟩
  | 16 => ⟨S4096x512, .bf16⟩
  | 17 => ⟨S1x4096x512, .bf16⟩
  | 18 => ⟨S1x4096x512, .f32⟩
  | 19 => ⟨S1x512, .f32⟩
  | 20 => ⟨S512, .f32⟩
  | 21 => ⟨S1x512, .f32⟩
  | 22 => ⟨S512, .f32⟩
  | 23 => ⟨S1x4x128x128, .f32⟩
  | 24 => ⟨S4x128x128, .f32⟩
  | 25 => ⟨S1x4x128, .f32⟩
  | 26 => ⟨S4x128, .f32⟩
  | 27 => ⟨S4096x512, .f32⟩
  | 28 => ⟨S1x4096x512, .f32⟩
  | 29 => ⟨S4096x512, .f32⟩
  | 30 => ⟨S1x4096x512, .f32⟩
  | 31 => ⟨S1x4096x512, .f32⟩
  | 32 => ⟨S1x4096x512, .f32⟩
  | 33 => ⟨S_, .f32⟩
  | 34 => ⟨S1x4096x512, .f32⟩
  | 35 => ⟨S1x4096x512, .f32⟩
  | 36 => ⟨S1x4096x512, .f32⟩
  | 37 => ⟨S_, .f32⟩
  | 38 => ⟨S1x4096x512, .f32⟩
  | 39 => ⟨S1x4096x512, .f32⟩
  | 40 => ⟨S1x4096x512, .f32⟩
  | 41 => ⟨S_, .f32⟩
  | 42 => ⟨S1x4096x512, .f32⟩
  | 43 => ⟨S1x4096x512, .f32⟩
  | 44 => ⟨S_, .f32⟩
  | 45 => ⟨S1x4096x512, .f32⟩
  | 46 => ⟨S1x4096x512, .f32⟩
  | 47 => ⟨S1x4096x512, .f32⟩
  | 48 => ⟨S1x4096x512, .f32⟩
  | 49 => ⟨S1x4096x512, .f32⟩
  | 50 => ⟨S_, .f32⟩
  | 51 => ⟨S1x4096x512, .f32⟩
  | 52 => ⟨S1x4096x512, .f32⟩
  | 53 => ⟨S1x4096x512, .f32⟩
  | 54 => ⟨S_, .f32⟩
  | 55 => ⟨S1x4096x512, .f32⟩
  | 56 => ⟨S1x4096x512, .f32⟩
  | 57 => ⟨S1x4096x512, .f32⟩
  | 58 => ⟨S_, .f32⟩
  | 59 => ⟨S1x4096x512, .f32⟩
  | 60 => ⟨S1x4096x512, .f32⟩
  | 61 => ⟨S_, .f32⟩
  | 62 => ⟨S1x4096x512, .f32⟩
  | 63 => ⟨S1x4096x512, .f32⟩
  | 64 => ⟨S1x4096x512, .f32⟩
  | 65 => ⟨S_, .f32⟩
  | 66 => ⟨S1x4096, .f32⟩
  | 67 => ⟨S1x4096x1, .f32⟩
  | 68 => ⟨S_, .f32⟩
  | 69 => ⟨S1x4096x1, .f32⟩
  | 70 => ⟨S1x4096x1, .f32⟩
  | 71 => ⟨S1x4096x512, .f32⟩
  | 72 => ⟨S1x4096x512, .f32⟩
  | 73 => ⟨S1x4096x512, .f32⟩
  | 74 => ⟨S_, .f32⟩
  | 75 => ⟨S1x4096, .f32⟩
  | 76 => ⟨S1x4096x1, .f32⟩
  | 77 => ⟨S_, .f32⟩
  | 78 => ⟨S1x4096x1, .f32⟩
  | 79 => ⟨S1x4096x1, .f32⟩
  | 80 => ⟨S_, .f32⟩
  | 81 => ⟨S1x4096x1, .f32⟩
  | 82 => ⟨S1x4096x1, .f32⟩
  | 83 => ⟨S1x4096x1, .f32⟩
  | 84 => ⟨S1x4096x512, .f32⟩
  | 85 => ⟨S1x4096x512, .f32⟩
  | 86 => ⟨S1x1x512, .f32⟩
  | 87 => ⟨S1x4096x512, .f32⟩
  | 88 => ⟨S1x4096x512, .f32⟩
  | 89 => ⟨S1x1x512, .f32⟩
  | 90 => ⟨S1x4096x512, .f32⟩
  | 91 => ⟨S1x4096x512, .f32⟩
  | 92 => ⟨S1x32x128x4x128, .f32⟩
  | 93 => ⟨S_, .i1⟩
  | 94 => ⟨S128x128, .i1⟩
  | 95 => ⟨S128x128, .i32⟩
  | 96 => ⟨S_, .i32⟩
  | 97 => ⟨S128x128, .i32⟩
  | 98 => ⟨S128x128, .i32⟩
  | 99 => ⟨S128x128, .i32⟩
  | 100 => ⟨S128x128, .i1⟩
  | 101 => ⟨S_, .i1⟩
  | 102 => ⟨S128x128, .i1⟩
  | 103 => ⟨S128x128, .i1⟩
  | 104 => ⟨S1x128x128, .i1⟩
  | 105 => ⟨S_, .f32⟩
  | 106 => ⟨S_, .f32⟩
  | 107 => ⟨S4x128x128, .i1⟩
  | 108 => ⟨S4x128x128, .f32⟩
  | 109 => ⟨S4x128x128, .f32⟩
  | 110 => ⟨S_, .f32⟩
  | 111 => ⟨S4x128x128, .f32⟩
  | 112 => ⟨S4x1x32x128x128, .f32⟩
  | 113 => ⟨S1x32x128x4x128, .f32⟩
  | 114 => ⟨S128x4, .f32⟩
  | 115 => ⟨S1x1x128x4x1, .f32⟩
  | 116 => ⟨S1x32x128x4x128, .f32⟩
  | 117 => ⟨S1x32x128x4x128, .f32⟩
  | 118 => ⟨S1x4096x512, .f32⟩
  | 119 => ⟨S1x4096x512, .f32⟩
  | 120 => ⟨S1x4096x512, .f32⟩
  | 121 => ⟨S1x32x128x4x128, .f32⟩
  | 122 => ⟨S_, .f32⟩
  | 123 => ⟨S1x128x4, .f32⟩
  | 124 => ⟨S1x1x128x4x1, .f32⟩
  | 125 => ⟨S_, .f32⟩
  | 126 => ⟨S128x4, .f32⟩
  | 127 => ⟨S4x128, .f32⟩
  | _ => ⟨S4096x3200, .f32⟩

abbrev hbmTy0_1 (i : Nat) : BufTy := match i % 128 with
  | 0 => ⟨S4x1x32x128x128, .f32⟩
  | 1 => ⟨S4x128x128, .f32⟩
  | 2 => ⟨S4x1x32x128x128, .f32⟩
  | 3 => ⟨S1x32x128x4x128, .f32⟩
  | 4 => ⟨S_, .f32⟩
  | 5 => ⟨S4x128x128, .f32⟩
  | 6 => ⟨S4x128x128, .f32⟩
  | 7 => ⟨S1x4096x512, .f32⟩
  | 8 => ⟨S_, .f32⟩
  | 9 => ⟨S1x512, .f32⟩
  | 10 => ⟨S1x1x512, .f32⟩
  | 11 => ⟨S_, .f32⟩
  | 12 => ⟨S512, .f32⟩
  | 13 => ⟨S1x4096x512, .f32⟩
  | 14 => ⟨S_, .f32⟩
  | 15 => ⟨S1x512, .f32⟩
  | 16 => ⟨S1x1x512, .f32⟩
  | 17 => ⟨S_, .f32⟩
  | 18 => ⟨S512, .f32⟩
  | 19 => ⟨S1x512, .f32⟩
  | 20 => ⟨S1x512, .f32⟩
  | 21 => ⟨S2x512, .f32⟩
  | 22 => ⟨S_, .i32⟩
  | 23 => ⟨S_, .f32⟩
  | 24 => ⟨S8x512, .f32⟩
  | 25 => ⟨S128x4, .f32⟩
  | 26 => ⟨S_, .i32⟩
  | 27 => ⟨S_, .f32⟩
  | 28 => ⟨S128x128, .f32⟩
  | _ => ⟨S4096x3200, .f32⟩

abbrev hbmTy (i : Nat) : BufTy := match i / 128 with
  | 0 => hbmTy0_0 i
  | 1 => hbmTy0_1 i
  | _ => ⟨S4096x3200, .f32⟩

abbrev bufTy : (tb : Table) → Fin (tcTables nBuf tb) → BufTy
  | .hbm, ⟨i, _⟩ => hbmTy i
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c : Ref sig .tc := ⟨.hbm, 93, rfl⟩
abbrev main_v64 : Ref sig .tc := ⟨.hbm, 94, rfl⟩
abbrev main_call0_v0 : Ref sig .tc := ⟨.hbm, 95, rfl⟩
abbrev main_call0_c : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_c_0 : Ref sig .tc := ⟨.hbm, 101, rfl⟩
abbrev main_call0_v5 : Ref sig .tc := ⟨.hbm, 102, rfl⟩
abbrev main_v65 : Ref sig .tc := ⟨.hbm, 103, rfl⟩
abbrev main_v66 : Ref sig .tc := ⟨.hbm, 104, rfl⟩
abbrev main_cst_12 : Ref sig .tc := ⟨.hbm, 105, rfl⟩
abbrev main_call1_v0 : Ref sig .tc := ⟨.hbm, 106, rfl⟩
abbrev main_v67_1 : Ref sig .tc := ⟨.hbm, 107, rfl⟩
abbrev main_call1_v2 : Ref sig .tc := ⟨.hbm, 108, rfl⟩
abbrev main_v67_0 : Ref sig .tc := ⟨.hbm, 109, rfl⟩
abbrev main_call1_cst : Ref sig .tc := ⟨.hbm, 110, rfl⟩
abbrev main_v67_2 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_13 : Ref sig .tc := ⟨.hbm, 122, rfl⟩
abbrev main_v78 : Ref sig .tc := ⟨.hbm, 123, rfl⟩
abbrev main_v79 : Ref sig .tc := ⟨.hbm, 124, rfl⟩
abbrev main_cst_14 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_call2_cst : Ref sig .tc := ⟨.hbm, 132, rfl⟩
abbrev main_call2_v0 : Ref sig .tc := ⟨.hbm, 133, rfl⟩
abbrev main_v86 : Ref sig .tc := ⟨.hbm, 134, rfl⟩
abbrev main_v87 : Ref sig .tc := ⟨.hbm, 135, rfl⟩
abbrev main_cst_15 : Ref sig .tc := ⟨.hbm, 136, rfl⟩
abbrev main_v88 : Ref sig .tc := ⟨.hbm, 137, rfl⟩
abbrev main_v89 : Ref sig .tc := ⟨.hbm, 138, rfl⟩
abbrev main_cst_16 : Ref sig .tc := ⟨.hbm, 139, rfl⟩
abbrev main_v90 : Ref sig .tc := ⟨.hbm, 140, rfl⟩
abbrev main_v91 : Ref sig .tc := ⟨.hbm, 141, rfl⟩
abbrev main_cst_17 : Ref sig .tc := ⟨.hbm, 142, rfl⟩
abbrev main_v92 : Ref sig .tc := ⟨.hbm, 143, rfl⟩
abbrev main_v93 : Ref sig .tc := ⟨.hbm, 144, rfl⟩
abbrev main_cst_18 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_c_19 : Ref sig .tc := ⟨.hbm, 150, rfl⟩
abbrev main_call3_v0 : Ref sig .tc := ⟨.hbm, 151, rfl⟩
abbrev main_v98 : Ref sig .tc := ⟨.hbm, 152, rfl⟩
abbrev main_v99 : Ref sig .tc := ⟨.hbm, 153, rfl⟩
abbrev main_c_20 : Ref sig .tc := ⟨.hbm, 154, rfl⟩
abbrev main_call4_v0 : Ref sig .tc := ⟨.hbm, 155, rfl⟩
abbrev main_v100 : Ref sig .tc := ⟨.hbm, 156, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S4x6x1024 : Shape := ⟨3, ![4, 6, 1024]⟩
abbrev S4x1024 : Shape := ⟨2, ![4, 1024]⟩
abbrev S4x4096x1024 : Shape := ⟨3, ![4, 4096, 1024]⟩
abbrev S_ : Shape := ⟨0, ![]⟩
abbrev S4x1x1024 : Shape := ⟨3, ![4, 1, 1024]⟩
abbrev S4x8x1024 : Shape := ⟨3, ![4, 8, 1024]⟩
abbrev S1x4096x1024 : Shape := ⟨3, ![1, 4096, 1024]⟩
abbrev S4x1024x1024 : Shape := ⟨3, ![4, 1024, 1024]⟩
abbrev S512x1024 : Shape := ⟨2, ![512, 1024]⟩
abbrev S512x4096 : Shape := ⟨2, ![512, 4096]⟩
abbrev S1x8x1024 : Shape := ⟨3, ![1, 8, 1024]⟩
abbrev S1x1x1024 : Shape := ⟨3, ![1, 1, 1024]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 18
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4x1x1024, .f32⟩
  | .hbm, ⟨11, _⟩ => ⟨S4x1x1024, .f32⟩
  | .hbm, ⟨12, _⟩ => ⟨S4x8x1024, .f32⟩
  | .hbm, ⟨13, _⟩ => ⟨S1x4096x1024, .f32⟩
  | .hbm, ⟨14, _⟩ => ⟨S4096x1024, .f32⟩
  | .hbm, ⟨15, _⟩ => ⟨S4x1024x1024, .f32⟩
  | .hbm, ⟨16, _⟩ => ⟨S4x1024x1024, .bf16⟩
  | .hbm, ⟨17, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S1x8x1024, .f32⟩
  | .local _ .vmem, ⟨5, _⟩ => ⟨S4x1024x1024, .bf16⟩
  | .local _ .vmem, ⟨6, _⟩ => ⟨S512x4096, .bf16⟩
  | .local _ .vmem, ⟨7, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4096x1024 : Shape := ⟨2, ![4096, 1024]⟩
abbrev S4096x4096 : Shape := ⟨2, ![4096, 4096]⟩
abbrev S4x6x1024 : Shape := ⟨3, ![4, 6, 1024]⟩
abbrev S4x1024 : Shape := ⟨2, ![4, 1024]⟩
abbrev S4x4096x1024 : Shape := ⟨3, ![4, 4096, 1024]⟩
abbrev S1x1x1024 : Shape := ⟨3, ![1, 1, 1024]⟩
abbrev S1x1024 : Shape := ⟨2, ![1, 1024]⟩
abbrev S_ : Shape := ⟨0, ![]⟩
abbrev S1x4096x1024 : Shape := ⟨3, ![1, 4096, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x4096x1024, .f32⟩
  | .hbm, ⟨6, _⟩ => ⟨S1x1x1024, .f32⟩
  | .hbm, ⟨7, _⟩ => ⟨S1x1024, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S1x4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S4x6x1024 : Shape := ⟨3, ![4, 6, 1024]⟩
abbrev S4x1024 : Shape := ⟨2, ![4, 1024]⟩
abbrev S4x1x1024 : Shape := ⟨3, ![4, 1, 1024]⟩
abbrev S4x8x1024 : Shape := ⟨3, ![4, 8, 1024]⟩
abbrev S4x1024x1024 : Shape := ⟨3, ![4, 1024, 1024]⟩
abbrev S2048x1024 : Shape := ⟨2, ![2048, 1024]⟩
abbrev S1x8x1024 : Shape := ⟨3, ![1, 8, 1024]⟩
abbrev S1x1024x1024 : Shape := ⟨3, ![1, 1024, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x1x1024, .f32⟩
  | .hbm, ⟨6, _⟩ => ⟨S4x1x1024, .f32⟩
  | .hbm, ⟨7, _⟩ => ⟨S4x8x1024, .f32⟩
  | .hbm, ⟨8, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x8x1024, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S4096x1024 : Shape := ⟨2, ![4096, 1024]⟩
abbrev S4096x4096 : Shape := ⟨2, ![4096, 4096]⟩
abbrev S4x6x1024 : Shape := ⟨3, ![4, 6, 1024]⟩
abbrev S4x1024 : Shape := ⟨2, ![4, 1024]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4096x1024, .f32⟩
  | .hbm, ⟨6, _⟩ => ⟨S4096x4096, .f32⟩
  | .hbm, ⟨7, _⟩ => ⟨S_, .f32⟩
  | .hbm, ⟨8, _⟩ => ⟨S1024x4096, .f32⟩
  | .hbm, ⟨9, _⟩ => ⟨S4096x4096, .f32⟩
  | .hbm, ⟨10, _⟩ => ⟨S4096x1024, .f32⟩
  | .hbm, ⟨11, _⟩ => ⟨S1024x4096, .f32⟩
  | .hbm, ⟨12, _⟩ => ⟨S1024x4x1024, .f32⟩
  | .hbm, ⟨13, _⟩ => ⟨S4x1024x1024, .f32⟩
  | .hbm, ⟨14, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x6x1024 : Shape := ⟨3, ![4, 6, 1024]⟩
abbrev S4x1024 : Shape := ⟨2, ![4, 1024]⟩
abbrev S4x4096x1024 : Shape := ⟨3, ![4, 4096, 1024]⟩
abbrev S_ : Shape := ⟨0, ![]⟩
abbrev S4x1x1024 : Shape := ⟨3, ![4, 1, 1024]⟩
abbrev S4x8x1024 : Shape := ⟨3, ![4, 8, 1024]⟩
abbrev S1x4096x1024 : Shape := ⟨3, ![1, 4096, 1024]⟩
abbrev S4x1024x1024 : Shape := ⟨3, ![4, 1024, 1024]⟩
abbrev S8x1024 : Shape := ⟨2, ![8, 1024]⟩
abbrev S2048x1024 : Shape := ⟨2, ![2048, 1024]⟩
abbrev S1x8x1024 : Shape := ⟨3, ![1, 8, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 19
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4x1x1024, .f32⟩
  | .hbm, ⟨11, _⟩ => ⟨S4x1x1024, .f32⟩
  | .hbm, ⟨12, _⟩ => ⟨S4x8x1024, .f32⟩
  | .hbm, ⟨13, _⟩ => ⟨S1x4096x1024, .f32⟩
  | .hbm, ⟨14, _⟩ => ⟨S4096x1024, .f32⟩
  | .hbm, ⟨15, _⟩ => ⟨S4x1024x1024, .f32⟩
  | .hbm, ⟨16, _⟩ => ⟨S4x1024x1024, .bf16⟩
  | .hbm, ⟨17, _⟩ => ⟨S4x1024x1024, .bf16⟩
  | .hbm, ⟨18, _⟩ => ⟨S8x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x8x1024, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S8x1024, .f32⟩
  | .local _ .vmem, ⟨10, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_11 : BitVec 32 := 0#32
  let v23 : BitVec 1 := Scalar.cmpi .ne v22 c0_i32_11
  v23

def k0_cond2 (i : grid0.Coords) : BitVec 1 :=
  let arg0 : BitVec 32 := BitVec.ofNat 32 (i 0).val
  let c0_i32_8 : BitVec 32 := 0#32
  let v16 : BitVec 1 := Scalar.cmpi .eq arg0 c0_i32_8
  let arg1 : BitVec 32 := BitVec.ofNat 32 (i 1).val
  let c0_i32_9 : BitVec 32 := 0#32
  let v17 : BitVec 1 := Scalar.cmpi .eq arg1 c0_i32_9
  let v18 : BitVec 1 := Scalar.andi v16 v17
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference4Ideal.lean ====
abbrev S4096x1024 : Shape := ⟨2, ![4096, 1024]⟩
abbrev S4096x4096 : Shape := ⟨2, ![4096, 4096]⟩
abbrev S4x6x1024 : Shape := ⟨3, ![4, 6, 1024]⟩
abbrev S4x1024 : Shape := ⟨2, ![4, 1024]⟩
abbrev S4x4096x1024 : Shape := ⟨3, ![4, 4096, 1024]⟩
abbrev S1x1x1024 : Shape := ⟨3, ![1, 1, 1024]⟩
abbrev S1024 : Shape := ⟨1, ![1024]⟩
abbrev S1x4096x1024 : Shape := ⟨3, ![1, 4096, 1024]⟩
abbrev S_ : Shape := ⟨0, ![]⟩
abbrev S1x1024 : Shape := ⟨2, ![1, 1024]⟩
abbrev S1024x4096 : Shape := ⟨2, ![1024, 4096]⟩
abbrev S4x1024x1024 : Shape := ⟨3, ![4, 1024, 1024]⟩
abbrev S8x1024 : Shape := ⟨2, ![8, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x4096x1024, .f32⟩
  | .hbm, ⟨6, _⟩ => ⟨S1x1x1024, .f32⟩
  | .hbm, ⟨7, _⟩ => ⟨S1024, .f32⟩
  | .hbm, ⟨8, _⟩ => ⟨S1x4096x1024, .f32⟩
  | .hbm, ⟨9, _⟩ => ⟨S4096x1024, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .f32⟩
  | .hbm, ⟨25, _⟩ => ⟨S1024, .f32⟩
  | .hbm, ⟨26, _⟩ => ⟨S1024x4096, .f32⟩
  | .hbm, ⟨27, _⟩ => ⟨S4096x1024, .f32⟩
  | .hbm, ⟨28, _⟩ => ⟨S4x1024x1024, .f32⟩
  | .hbm, ⟨29, _⟩ => ⟨S4x1024x1024, .bf16⟩
  | .hbm, ⟨30, _⟩ => ⟨S1x1024, .f32⟩
  | .hbm, ⟨31, _⟩ => ⟨S_, .i32⟩
  | .hbm, ⟨32, _⟩ => ⟨S_, .f32⟩
  | .hbm, ⟨33, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call1_v0 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel5.lean ====
abbrev S4096x1024 : Shape := ⟨2, ![4096, 1024]⟩
abbrev S4x6x1024 : Shape := ⟨3, ![4, 6, 1024]⟩
abbrev S4x1024 : Shape := ⟨2, ![4, 1024]⟩
abbrev S4x1024x1024 : Shape := ⟨3, ![4, 1024, 1024]⟩
abbrev S4x1x1024 : Shape := ⟨3, ![4, 1, 1024]⟩
abbrev S4x8x1024 : Shape := ⟨3, ![4, 8, 1024]⟩
abbrev S1x1024x1024 : Shape := ⟨3, ![1, 1024, 1024]⟩
abbrev S1024x1024 : Shape := ⟨2, ![1024, 1024]⟩
abbrev S4x256x1024 : Shape := ⟨3, ![4, 256, 1024]⟩
abbrev S8x1024 : Shape := ⟨2, ![8, 1024]⟩
abbrev S2048x1024 : Shape := ⟨2, ![2048, 1024]⟩
abbrev S1x8x1024 : Shape := ⟨3, ![1, 8, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 16
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x1024x1024, .f32⟩
  | .hbm, ⟨6, _⟩ => ⟨S4x1x1024, .f32⟩
  | .hbm, ⟨7, _⟩ => ⟨S4x1x1024, .f32⟩
  | .hbm, ⟨8, _⟩ => ⟨S4x8x1024, .f32⟩
  | .hbm, ⟨9, _⟩ => ⟨S1x1024x1024, .f32⟩
  | .hbm, ⟨10, _⟩ => ⟨S1024x1024, .f32⟩
  | .hbm, ⟨11, _⟩ => ⟨S4x256x1024, .f32⟩
  | .hbm, ⟨12, _⟩ => ⟨S4x256x1024, .bf16⟩
  | .hbm, ⟨13, _⟩ => ⟨S1024x1024, .bf16⟩
  | .hbm, ⟨14, _⟩ => ⟨S1024x1024, .bf16⟩
  | .hbm, ⟨15, _⟩ => ⟨S8x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x8x1024, .f32⟩
  | .local _ .vmem, ⟨5, _⟩ => ⟨S1024x1024, .bf16⟩
  | .local _ .vmem, ⟨6, _⟩ => ⟨S1024x1024, .bf16⟩
  | .local _ .vmem, ⟨7, _⟩ => ⟨S8x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_11 : BitVec 32 := 0#32
  let v19 : BitVec 1 := Scalar.cmpi .ne v18 c0_i32_11
  v19

def k0_cond2 (i : grid0.Coords) : BitVec 1 :=
  let arg0 : BitVec 32 := BitVec.ofNat 32 (i 0).val
  let c0_i32_8 : BitVec 32 := 0#32
  let v12 : BitVec 1 := Scalar.cmpi .eq arg0 c0_i32_8
  let arg1 : BitVec 32 := BitVec.ofNat 32 (i 1).val
  let c0_i32_9 : BitVec 32 := 0#32
  let v13 : BitVec 1 := Scalar.cmpi .eq arg1 c0_i32_9
  let v14 : BitVec 1 := Scalar.andi v12 v13
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference5Ideal.lean ====
abbrev S4096x1024 : Shape := ⟨2, ![4096, 1024]⟩
abbrev S4x6x1024 : Shape := ⟨3, ![4, 6, 1024]⟩
abbrev S4x1024 : Shape := ⟨2, ![4, 1024]⟩
abbrev S4x1024x1024 : Shape := ⟨3, ![4, 1024, 1024]⟩
abbrev S1x1x1024 : Shape := ⟨3, ![1, 1, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S8x1024 : Shape := ⟨2, ![8, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x1024x1024, .f32⟩
  | .hbm, ⟨6, _⟩ => ⟨S4096x1024, .f32⟩
  | .hbm, ⟨7, _⟩ => ⟨S1x1x1024, .f32⟩
  | .hbm, ⟨8, _⟩ => ⟨S1024, .f32⟩
  | .hbm, ⟨9, _⟩ => ⟨S1x1024x1024, .f32⟩
  | .hbm, ⟨10, _⟩ => ⟨S1024x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S_, .f32⟩
  | .hbm, ⟨22, _⟩ => ⟨S1024, .f32⟩
  | .hbm, ⟨23, _⟩ => ⟨S1024x1024, .f32⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S_, .i32⟩
  | .hbm, ⟨28, _⟩ => ⟨S_, .f32⟩
  | .hbm, ⟨29, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel6.lean ====
abbrev S4096x1024 : Shape := ⟨2, ![4096, 1024]⟩
abbrev S4096x3200 : Shape := ⟨2, ![4096, 3200]⟩
abbrev S4x6x1024 : Shape := ⟨3, ![4, 6, 1024]⟩
abbrev S4x1024 : Shape := ⟨2, ![4, 1024]⟩
abbrev S4x1x1024 : Shape := ⟨3, ![4, 1, 1024]⟩
abbrev S4x8x1024 : Shape := ⟨3, ![4, 8, 1024]⟩
abbrev S1024x3200 : Shape := ⟨2, ![1024, 3200]⟩
abbrev S2048x1024 : Shape := ⟨2, ![2048, 1024]⟩
abbrev S2048x640 : Shape := ⟨2, ![2048, 640]⟩
abbrev S1x8x1024 : Shape := ⟨3, ![1, 8, 1024]⟩
abbrev S1024x640 : Shape := ⟨2, ![1024, 640]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x1x1024, .f32⟩
  | .hbm, ⟨6, _⟩ => ⟨S4x1x1024, .f32⟩
  | .hbm, ⟨7, _⟩ => ⟨S4x8x1024, .f32⟩
  | .hbm, ⟨8, _⟩ => ⟨S1024x3200, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x8x1024, .f32⟩
  | .local _ .vmem, ⟨5, _⟩ => ⟨S1024x640, .bf16⟩
  | .local _ .vmem, ⟨6, _⟩ => ⟨S1024x640, .bf16⟩
  | .local _ .vmem, ⟨7, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![5, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference6Ideal.lean ====
abbrev S4096x1024 : Shape := ⟨2, ![4096, 1024]⟩
abbrev S4096x3200 : Shape := ⟨2, ![4096, 3200]⟩
abbrev S4x6x1024 : Shape := ⟨3, ![4, 6, 1024]⟩
abbrev S4x1024 : Shape := ⟨2, ![4, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4096x1024, .f32⟩
  | .hbm, ⟨6, _⟩ => ⟨S4096x3200, .f32⟩
  | .hbm, ⟨7, _⟩ => ⟨S_, .f32⟩
  | .hbm, ⟨8, _⟩ => ⟨S1024x3200, .f32⟩
  | .hbm, ⟨9, _⟩ => ⟨S4096x3200, .f32⟩
  | .hbm, ⟨10, _⟩ => ⟨S3200x1024, .f32⟩
  | .hbm, ⟨11, _⟩ => ⟨S1024x3200, .f32⟩
  | .hbm, ⟨12, _⟩ => ⟨S1024x3200, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S4x6x1024 : Shape := ⟨3, ![4, 6, 1024]⟩
abbrev S4x1024 : Shape := ⟨2, ![4, 1024]⟩
abbrev S4x1024x4096 : Shape := ⟨3, ![4, 1024, 4096]⟩
abbrev S4x1024x1024 : Shape := ⟨3, ![4, 1024, 1024]⟩
abbrev S1x1024x4096 : Shape := ⟨3, ![1, 1024, 4096]⟩
abbrev S1024x4096 : Shape := ⟨2, ![1024, 4096]⟩
abbrev S1024x4x1024 : Shape := ⟨3, ![1024, 4, 1024]⟩
abbrev S4x1x1024 : Shape := ⟨3, ![4, 1, 1024]⟩
abbrev S4x8x1024 : Shape := ⟨3, ![4, 8, 1024]⟩
abbrev S1x1024x1024 : Shape := ⟨3, ![1, 1024, 1024]⟩
abbrev S1024x1024 : Shape := ⟨2, ![1024, 1024]⟩
abbrev S4x256x1024 : Shape := ⟨3, ![4, 256, 1024]⟩
abbrev S8x1024 : Shape := ⟨2, ![8, 1024]⟩
abbrev S512x4096 : Shape := ⟨2, ![512, 4096]⟩
abbrev S512x1024 : Shape := ⟨2, ![512, 1024]⟩
abbrev S1x8x1024 : Shape := ⟨3, ![1, 8, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4x6x1024, .f32⟩
  | .hbm, ⟨4, _⟩ => ⟨S4x1024, .f32⟩
  | .hbm, ⟨5, _⟩ => ⟨S4x1024, .f32⟩
  | .hbm, ⟨6, _⟩ => ⟨S4x1024x4096, .f32⟩
  | .hbm, ⟨7, _⟩ => ⟨S4x1024x1024, .f32⟩
  | .hbm, ⟨8, _⟩ => ⟨S1x1024x4096, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x1024x1024, .bf16⟩
  | .hbm, ⟨13, _⟩ => ⟨S4x1x1024, .f32⟩
  | .hbm, ⟨14, _⟩ => ⟨S4x1x1024, .f32⟩
  | .hbm, ⟨15, _⟩ => ⟨S4x8x1024, .f32⟩
  | .hbm, ⟨16, _⟩ => ⟨S1x1024x1024, .f32⟩
  | .hbm, ⟨17, _⟩ => ⟨S1024x1024, .f32⟩
  | .hbm, ⟨18, _⟩ => ⟨S4x256x1024, .f32⟩
  | .hbm, ⟨19, _⟩ => ⟨S4x256x1024, .bf16⟩
  | .hbm, ⟨20, _⟩ => ⟨S4096x1024, .f32⟩
  | .hbm, ⟨21, _⟩ => ⟨S8x1024, .f32⟩
  | .hbm, ⟨22, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x8x1024, .f32⟩
  | .local _ .vmem, ⟨8, _⟩ => ⟨S4x256x1024, .bf16⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S512x1024, .bf16⟩
  | .local _ .vmem, ⟨13, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4096x4096 : Shape := ⟨2, ![4096, 4096]⟩
abbrev S4096x1024 : Shape := ⟨2, ![4096, 1024]⟩
abbrev S4x6x1024 : Shape := ⟨3, ![4, 6, 1024]⟩
abbrev S4x1024 : Shape := ⟨2, ![4, 1024]⟩
abbrev S4x1024x4096 : Shape := ⟨3, ![4, 1024, 4096]⟩
abbrev S4x1024x1024 : Shape := ⟨3, ![4, 1024, 1024]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩
abbrev S1x1024x1024 : Shape := ⟨3, ![1, 1024, 1024]⟩
abbrev S1024x1024 : Shape := ⟨2, ![1024, 1024]⟩
abbrev S3x1024 : Shape := ⟨2, ![3, 1024]⟩
abbrev S8x1024 : Shape := ⟨2, ![8, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4x6x1024, .f32⟩
  | .hbm, ⟨4, _⟩ => ⟨S4x1024, .f32⟩
  | .hbm, ⟨5, _⟩ => ⟨S4x1024, .f32⟩
  | .hbm, ⟨6, _⟩ => ⟨S4x1024x4096, .f32⟩
  | .hbm, ⟨7, _⟩ => ⟨S4x1024x1024, .f32⟩
  | .hbm, ⟨8, _⟩ => ⟨S1x1x1024, .f32⟩
  | .hbm, ⟨9, _⟩ => ⟨S1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024x4096, .f32⟩
  | .hbm, ⟨44, _⟩ => ⟨S1024x4096, .f32⟩
  | .hbm, ⟨45, _⟩ => ⟨S4096x4096, .f32⟩
  | .hbm, ⟨46, _⟩ => ⟨S4096x4096, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096x1024, .f32⟩
  | .hbm, ⟨89, _⟩ => ⟨S1x1x1024, .f32⟩
  | .hbm, ⟨90, _⟩ => ⟨S1x1024, .f32⟩
  | .hbm, ⟨91, _⟩ => ⟨S1x1024x1024, .f32⟩
  | .hbm, ⟨92, _⟩ => ⟨S1024x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S3x1024, .f32⟩
  | .hbm, ⟨103, _⟩ => ⟨S_, .i32⟩
  | .hbm, ⟨104, _⟩ => ⟨S_, .f32⟩
  | .hbm, ⟨105, _⟩ => ⟨S8x1024, .f32⟩
  | .hbm, ⟨106, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c : Ref sig .tc := ⟨.hbm, 103, rfl⟩
abbrev main_call0_v0 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel8.lean ====
abbrev S4096x3200 : Shape := ⟨2, ![4096, 3200]⟩
abbrev S4096x1024 : Shape := ⟨2, ![4096, 1024]⟩
abbrev S4x6x1024 : Shape := ⟨3, ![4, 6, 1024]⟩
abbrev S4x1024 : Shape := ⟨2, ![4, 1024]⟩
abbrev S4x1024x3080 : Shape := ⟨3, ![4, 1024, 3080]⟩
abbrev S1x1024x3080 : Shape := ⟨3, ![1, 1024, 3080]⟩
abbrev S1024x3080 : Shape := ⟨2, ![1024, 3080]⟩
abbrev S_ : Shape := ⟨0, ![]⟩
abbrev S1024x3200 : Shape := ⟨2, ![1024, 3200]⟩
abbrev S4x1x1024 : Shape := ⟨3, ![4, 1, 1024]⟩
abbrev S4x8x1024 : Shape := ⟨3, ![4, 8, 1024]⟩
abbrev S8x1024 : Shape := ⟨2, ![8, 1024]⟩
abbrev S512x3200 : Shape := ⟨2, ![512, 3200]⟩
abbrev S512x1024 : Shape := ⟨2, ![512, 1024]⟩
abbrev S1x8x1024 : Shape := ⟨3, ![1, 8, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 11
  | .smem => 0
  | _ => 0

abbrev bufTy : (tb : Table) → Fin (tcTables nBuf tb) → BufTy
  | .hbm, ⟨0, _⟩ => ⟨S4096x3200, .bf16⟩
  | .hbm, ⟨1, _⟩ => ⟨S4096x1024, .f32⟩
  | .hbm, ⟨2, _⟩ => ⟨S4096x1024, .f32⟩
  | .hbm, ⟨3, _⟩ => ⟨S4x6x1024, .f32⟩
  | .hbm, ⟨4, _⟩ => ⟨S4x1024, .f32⟩
  | .hbm, ⟨5, _⟩ => ⟨S4x1024, .f32⟩
  | .hbm, ⟨6, _⟩ => ⟨S4x1024x3080, .f32⟩
  | .hbm, ⟨7, _⟩ => ⟨S1x1024x3080, .f32⟩
  | .hbm, ⟨8, _⟩ => ⟨S1024x3080, .f32⟩
  | .hbm, ⟨9, _⟩ => ⟨S_, .i32⟩
  | .hbm, ⟨10, _⟩ => ⟨S_, .f32⟩
  | .hbm, ⟨11, _⟩ => ⟨S1024x3200, .f32⟩
  | .hbm, ⟨12, _⟩ => ⟨S1024x3200, .bf16⟩
  | .hbm, ⟨13, _⟩ => ⟨S4x1x1024, .f32⟩
  | .hbm, ⟨14, _⟩ => ⟨S4x1x1024, .f32⟩
  | .hbm, ⟨15, _⟩ => ⟨S4x8x1024, .f32⟩
  | .hbm, ⟨16, _⟩ => ⟨S4096x1024, .f32⟩
  | .hbm, ⟨17, _⟩ => ⟨S8x1024, .f32⟩
  | .local _ .vmem, ⟨0, _⟩ => ⟨S512x3200, .bf16⟩
  | .local _ .vmem, ⟨1, _⟩ => ⟨S512x3200, .bf16⟩
  | .local _ .vmem, ⟨2, _⟩ => ⟨S1024x3200, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x8x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x3200 : Shape := ⟨2, ![4096, 3200]⟩
abbrev S4096x1024 : Shape := ⟨2, ![4096, 1024]⟩
abbrev S4x6x1024 : Shape := ⟨3, ![4, 6, 1024]⟩
abbrev S4x1024 : Shape := ⟨2, ![4, 1024]⟩
abbrev S4x1024x3080 : Shape := ⟨3, ![4, 1024, 3080]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1024x3080 : Shape := ⟨3, ![1, 1024, 3080]⟩
abbrev S1024x3080 : Shape := ⟨2, ![1024, 3080]⟩
abbrev S4096x3080 : Shape := ⟨2, ![4096, 3080]⟩
abbrev S3x1024 : Shape := ⟨2, ![3, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S4096x1024, .f32⟩
  | .hbm, ⟨2, _⟩ => ⟨S4096x1024, .f32⟩
  | .hbm, ⟨3, _⟩ => ⟨S4x6x1024, .f32⟩
  | .hbm, ⟨4, _⟩ => ⟨S4x1024, .f32⟩
  | .hbm, ⟨5, _⟩ => ⟨S4x1024, .f32⟩
  | .hbm, ⟨6, _⟩ => ⟨S4x1024x3080, .f32⟩
  | .hbm, ⟨7, _⟩ => ⟨S1x1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024x3080, .f32⟩
  | .hbm, ⟨43, _⟩ => ⟨S1024x3080, .f32⟩
  | .hbm, ⟨44, _⟩ => ⟨S4096x3080, .f32⟩
  | .hbm, ⟨45, _⟩ => ⟨S4096x3080, .bf16⟩
  | .hbm, ⟨46, _⟩ => ⟨S4096x3080, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S3x1024, .f32⟩
  | .hbm, ⟨91, _⟩ => ⟨S_, .i32⟩
  | .hbm, ⟨92, _⟩ => ⟨S_, .f32⟩
  | .hbm, ⟨93, _⟩ => ⟨S8x1024, .f32⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c : Ref sig .tc := ⟨.hbm, 91, rfl⟩
abbrev main_call0_v0 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Kernel9.lean ====
abbrev S4096x1024 : Shape := ⟨2, ![4096, 1024]⟩
abbrev S4x6x1024 : Shape := ⟨3, ![4, 6, 1024]⟩
abbrev S4x1024 : Shape := ⟨2, ![4, 1024]⟩
abbrev S4x1024x3080 : Shape := ⟨3, ![4, 1024, 3080]⟩
abbrev S4x1x1024 : Shape := ⟨3, ![4, 1, 1024]⟩
abbrev S4x8x1024 : Shape := ⟨3, ![4, 8, 1024]⟩
abbrev S1x1024x3080 : Shape := ⟨3, ![1, 1024, 3080]⟩
abbrev S1024x3080 : Shape := ⟨2, ![1024, 3080]⟩
abbrev S_ : Shape := ⟨0, ![]⟩
abbrev S1024x3200 : Shape := ⟨2, ![1024, 3200]⟩
abbrev S4096x3200 : Shape := ⟨2, ![4096, 3200]⟩
abbrev S512x1024 : Shape := ⟨2, ![512, 1024]⟩
abbrev S1x8x1024 : Shape := ⟨3, ![1, 8, 1024]⟩
abbrev S512x3200 : Shape := ⟨2, ![512, 3200]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 16
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S4x1024x3080, .f32⟩
  | .hbm, ⟨5, _⟩ => ⟨S4x1x1024, .f32⟩
  | .hbm, ⟨6, _⟩ => ⟨S4x1x1024, .f32⟩
  | .hbm, ⟨7, _⟩ => ⟨S4x8x1024, .f32⟩
  | .hbm, ⟨8, _⟩ => ⟨S1x1024x3080, .f32⟩
  | .hbm, ⟨9, _⟩ => ⟨S1024x3080, .f32⟩
  | .hbm, ⟨10, _⟩ => ⟨S_, .i32⟩
  | .hbm, ⟨11, _⟩ => ⟨S_, .f32⟩
  | .hbm, ⟨12, _⟩ => ⟨S1024x3200, .f32⟩
  | .hbm, ⟨13, _⟩ => ⟨S1024x3200, .bf16⟩
  | .hbm, ⟨14, _⟩ => ⟨S4096x3200, .f32⟩
  | .hbm, ⟨15, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S4x6x1024 : Shape := ⟨3, ![4, 6, 1024]⟩
abbrev S4x1024 : Shape := ⟨2, ![4, 1024]⟩
abbrev S4x1024x3080 : Shape := ⟨3, ![4, 1024, 3080]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1x1024 : Shape := ⟨3, ![1, 1, 1024]⟩
abbrev S1x1024x3080 : Shape := ⟨3, ![1, 1024, 3080]⟩
abbrev S1024x3080 : Shape := ⟨2, ![1024, 3080]⟩
abbrev S4096x3080 : Shape := ⟨2, ![4096, 3080]⟩
abbrev S4096x3200 : Shape := ⟨2, ![4096, 3200]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S4x1024, .f32⟩
  | .hbm, ⟨3, _⟩ => ⟨S4x1024, .f32⟩
  | .hbm, ⟨4, _⟩ => ⟨S4x1024x3080, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1x1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1x1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024x3080, .f32⟩
  | .hbm, ⟨35, _⟩ => ⟨S1024x3080, .f32⟩
  | .hbm, ⟨36, _⟩ => ⟨S4096x3080, .f32⟩
  | .hbm, ⟨37, _⟩ => ⟨S_, .i32⟩
  | .hbm, ⟨38, _⟩ => ⟨S_, .f32⟩
  | .hbm, ⟨39, _⟩ => ⟨S4096x3200, .f32⟩
  | .hbm, ⟨40, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel10.lean ====
abbrev S4096x1024 : Shape := ⟨2, ![4096, 1024]⟩
abbrev S4x6x1024 : Shape := ⟨3, ![4, 6, 1024]⟩
abbrev S4x1024 : Shape := ⟨2, ![4, 1024]⟩
abbrev S4x1024x1024 : Shape := ⟨3, ![4, 1024, 1024]⟩
abbrev S4x1024x4096 : Shape := ⟨3, ![4, 1024, 4096]⟩
abbrev S4x1x1024 : Shape := ⟨3, ![4, 1, 1024]⟩
abbrev S4x8x1024 : Shape := ⟨3, ![4, 8, 1024]⟩
abbrev S1x1024x1024 : Shape := ⟨3, ![1, 1024, 1024]⟩
abbrev S1024x1024 : Shape := ⟨2, ![1024, 1024]⟩
abbrev S4x256x1024 : Shape := ⟨3, ![4, 256, 1024]⟩
abbrev S1x1024x4096 : Shape := ⟨3, ![1, 1024, 4096]⟩
abbrev S1024x4096 : Shape := ⟨2, ![1024, 4096]⟩
abbrev S1024x4x1024 : Shape := ⟨3, ![1024, 4, 1024]⟩
abbrev S4096x4096 : Shape := ⟨2, ![4096, 4096]⟩
abbrev S512x1024 : Shape := ⟨2, ![512, 1024]⟩
abbrev S1x8x1024 : Shape := ⟨3, ![1, 8, 1024]⟩
abbrev S512x4096 : Shape := ⟨2, ![512, 4096]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 22
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x1024x1024, .f32⟩
  | .hbm, ⟨6, _⟩ => ⟨S4x1024x4096, .f32⟩
  | .hbm, ⟨7, _⟩ => ⟨S4x1x1024, .f32⟩
  | .hbm, ⟨8, _⟩ => ⟨S4x1x1024, .f32⟩
  | .hbm, ⟨9, _⟩ => ⟨S4x8x1024, .f32⟩
  | .hbm, ⟨10, _⟩ => ⟨S1x1024x1024, .f32⟩
  | .hbm, ⟨11, _⟩ => ⟨S1024x1024, .f32⟩
  | .hbm, ⟨12, _⟩ => ⟨S4x256x1024, .f32⟩
  | .hbm, ⟨13, _⟩ => ⟨S4x256x1024, .bf16⟩
  | .hbm, ⟨14, _⟩ => ⟨S1x1024x4096, .f32⟩
  | .hbm, ⟨15, _⟩ => ⟨S1024x4096, .f32⟩
  | .hbm, ⟨16, _⟩ => ⟨S1024x4x1024, .f32⟩
  | .hbm, ⟨17, _⟩ => ⟨S4x1024x1024, .f32⟩
  | .hbm, ⟨18, _⟩ => ⟨S4x1024x1024, .bf16⟩
  | .hbm, ⟨19, _⟩ => ⟨S4096x1024, .f32⟩
  | .hbm, ⟨20, _⟩ => ⟨S4096x4096, .bf16⟩
  | .hbm, ⟨21, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x8x1024, .f32⟩
  | .local _ .vmem, ⟨5, _⟩ => ⟨S4x256x1024, .bf16⟩
  | .local _ .vmem, ⟨6, _⟩ => ⟨S4x1024x1024, .bf16⟩
  | .local _ .vmem, ⟨7, _⟩ => ⟨S512x1024, .f32⟩
  | .local _ .vmem, ⟨8, _⟩ => ⟨S512x1024, .f32⟩
  | .local _ .vmem, ⟨9, _⟩ => ⟨S512x4096, .bf16⟩
  | .local _ .vmem, ⟨10, _⟩ => ⟨S512x4096, .bf16⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4096x1024 : Shape := ⟨2, ![4096, 1024]⟩
abbrev S4x6x1024 : Shape := ⟨3, ![4, 6, 1024]⟩
abbrev S4x1024 : Shape := ⟨2, ![4, 1024]⟩
abbrev S4x1024x1024 : Shape := ⟨3, ![4, 1024, 1024]⟩
abbrev S4x1024x4096 : Shape := ⟨3, ![4, 1024, 4096]⟩
abbrev S1x1x1024 : Shape := ⟨3, ![1, 1, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩
abbrev S4096x4096 : Shape := ⟨2, ![4096, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x1024x1024, .f32⟩
  | .hbm, ⟨6, _⟩ => ⟨S4x1024x4096, .f32⟩
  | .hbm, ⟨7, _⟩ => ⟨S1x1x1024, .f32⟩
  | .hbm, ⟨8, _⟩ => ⟨S1x1024, .f32⟩
  | .hbm, ⟨9, _⟩ => ⟨S4096x1024, .f32⟩
  | .hbm, ⟨10, _⟩ => ⟨S1x1024x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024x4096, .f32⟩
  | .hbm, ⟨46, _⟩ => ⟨S1024x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .bf16⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_cst : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel11.lean ====
abbrev S4096x1024 : Shape := ⟨2, ![4096, 1024]⟩
abbrev S4096x4096 : Shape := ⟨2, ![4096, 4096]⟩
abbrev S4x6x1024 : Shape := ⟨3, ![4, 6, 1024]⟩
abbrev S4x1024 : Shape := ⟨2, ![4, 1024]⟩
abbrev S4x4096x1024 : Shape := ⟨3, ![4, 4096, 1024]⟩
abbrev S_ : Shape := ⟨0, ![]⟩
abbrev S4x1x1024 : Shape := ⟨3, ![4, 1, 1024]⟩
abbrev S4x8x1024 : Shape := ⟨3, ![4, 8, 1024]⟩
abbrev S1x4096x1024 : Shape := ⟨3, ![1, 4096, 1024]⟩
abbrev S4x1024x1024 : Shape := ⟨3, ![4, 1024, 1024]⟩
abbrev S512x1024 : Shape := ⟨2, ![512, 1024]⟩
abbrev S512x4096 : Shape := ⟨2, ![512, 4096]⟩
abbrev S1x8x1024 : Shape := ⟨3, ![1, 8, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 18
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4x1x1024, .f32⟩
  | .hbm, ⟨11, _⟩ => ⟨S4x1x1024, .f32⟩
  | .hbm, ⟨12, _⟩ => ⟨S4x8x1024, .f32⟩
  | .hbm, ⟨13, _⟩ => ⟨S1x4096x1024, .f32⟩
  | .hbm, ⟨14, _⟩ => ⟨S4096x1024, .f32⟩
  | .hbm, ⟨15, _⟩ => ⟨S4x1024x1024, .f32⟩
  | .hbm, ⟨16, _⟩ => ⟨S4x1024x1024, .bf16⟩
  | .hbm, ⟨17, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S1x8x1024, .f32⟩
  | .local _ .vmem, ⟨5, _⟩ => ⟨S4x1024x1024, .bf16⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S4096x1024 : Shape := ⟨2, ![4096, 1024]⟩
abbrev S4096x4096 : Shape := ⟨2, ![4096, 4096]⟩
abbrev S4x6x1024 : Shape := ⟨3, ![4, 6, 1024]⟩
abbrev S4x1024 : Shape := ⟨2, ![4, 1024]⟩
abbrev S4x4096x1024 : Shape := ⟨3, ![4, 4096, 1024]⟩
abbrev S1x1x1024 : Shape := ⟨3, ![1, 1, 1024]⟩
abbrev S1x1024 : Shape := ⟨2, ![1, 1024]⟩
abbrev S_ : Shape := ⟨0, ![]⟩
abbrev S1x4096x1024 : Shape := ⟨3, ![1, 4096, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x6x1024, .f32⟩
  | .hbm, ⟨3, _⟩ => ⟨S4x1024, .f32⟩
  | .hbm, ⟨4, _⟩ => ⟨S4x1024, .f32⟩
  | .hbm, ⟨5, _⟩ => ⟨S4x4096x1024, .f32⟩
  | .hbm, ⟨6, _⟩ => ⟨S1x1x1024, .f32⟩
  | .hbm, ⟨7, _⟩ => ⟨S1x1024, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S1x4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference12Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2x1024 : Shape := ⟨2, ![2, 1024]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1024, .f32⟩
  | .hbm, ⟨72, _⟩ => ⟨S1x1024, .f32⟩
  | .hbm, ⟨73, _⟩ => ⟨S1x1024, .f32⟩
  | .hbm, ⟨74, _⟩ => ⟨S2x1024, .f32⟩
  | .hbm, ⟨75, _⟩ => ⟨S_, .i32⟩
  | .hbm, ⟨76, _⟩ => ⟨S_, .f32⟩
  | .hbm, ⟨77, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c : Ref sig .tc := ⟨.hbm, 75, rfl⟩
abbrev main_call0_v0 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel13.lean ====
abbrev S4x1024x770 : Shape := ⟨3, ![4, 1024, 770]⟩
abbrev S1x512x770 : Shape := ⟨3, ![1, 512, 770]⟩
abbrev S512x770 : Shape := ⟨2, ![512, 770]⟩

abbrev nBuf : Space → Nat
  | .hbm => 7
  | .vmem => 14
  | .smem => 0
  | _ => 0

abbrev bufTy : (tb : Table) → Fin (tcTables nBuf tb) → BufTy
  | .hbm, ⟨0, _⟩ => ⟨S4x1024x770, .f32⟩
  | .hbm, ⟨1, _⟩ => ⟨S4x1024x770, .f32⟩
  | .hbm, ⟨2, _⟩ => ⟨S4x1024x770, .f32⟩
  | .hbm, ⟨3, _⟩ => ⟨S4x1024x770, .f32⟩
  | .hbm, ⟨4, _⟩ => ⟨S4x1024x770, .f32⟩
  | .hbm, ⟨5, _⟩ => ⟨S4x1024x770, .f32⟩
  | .hbm, ⟨6, _⟩ => ⟨S4x1024x770, .f32⟩
  | .local _ .vmem, ⟨0, _⟩ => ⟨S1x512x770, .f32⟩
  | .local _ .vmem, ⟨1, _⟩ => ⟨S1x512x770, .f32⟩
  | .local _ .vmem, ⟨2, _⟩ => ⟨S1x512x770, .f32⟩
  | .local _ .vmem, ⟨3, _⟩ => ⟨S1x512x770, .f32⟩
  | .local _ .vmem, ⟨4, _⟩ => ⟨S1x512x770, .f32⟩
  | .local _ .vmem, ⟨5, _⟩ => ⟨S1x512x770, .f32⟩
  | .local _ .vmem, ⟨6, _⟩ => ⟨S1x512x770, .f32⟩
  | .local _ .vmem, ⟨7, _⟩ => ⟨S1x512x770, .f32⟩
  | .local _ .vmem, ⟨8, _⟩ => ⟨S1x512x770, .f32⟩
  | .local _ .vmem, ⟨9, _⟩ => ⟨S1x512x770, .f32⟩
  | .local _ .vmem, ⟨10, _⟩ => ⟨S1x512x770, .f32⟩
  | .local _ .vmem, ⟨11, _⟩ => ⟨S1x512x770, .f32⟩
  | .local _ .vmem, ⟨12, _⟩ => ⟨S1x512x770, .f32⟩
  | .local _ .vmem, ⟨13, _⟩ => ⟨S1x512x770, .f32⟩
  | _, _ => ⟨S4x1024x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x770 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x770 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x770 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S4x1024x770 : Shape := ⟨3, ![4, 1024, 770]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x770, .f32⟩
  | .hbm, ⟨1, _⟩ => ⟨S4x1024x770, .f32⟩
  | .hbm, ⟨2, _⟩ => ⟨S4x1024x770, .f32⟩
  | .hbm, ⟨3, _⟩ => ⟨S4x1024x770, .f32⟩
  | .hbm, ⟨4, _⟩ => ⟨S_, .f32⟩
  | .hbm, ⟨5, _⟩ => ⟨S4x1024x770, .f32⟩
  | .hbm, ⟨6, _⟩ => ⟨S4x1024x770, .f32⟩
  | .hbm, ⟨7, _⟩ => ⟨S_, .f32⟩
  | .hbm, ⟨8, _⟩ => ⟨S4x1024x770, .f32⟩
  | .hbm, ⟨9, _⟩ => ⟨S4x1024x770, .f32⟩
  | .hbm, ⟨10, _⟩ => ⟨S4x1024x770, .f32⟩
  | .hbm, ⟨11, _⟩ => ⟨S_, .f32⟩
  | .hbm, ⟨12, _⟩ => ⟨S4x1024x770, .f32⟩
  | .hbm, ⟨13, _⟩ => ⟨S4x1024x770, .f32⟩
  | .hbm, ⟨14, _⟩ => ⟨S4x1024x770, .f32⟩
  | .hbm, ⟨15, _⟩ => ⟨S_, .f32⟩
  | .hbm, ⟨16, _⟩ => ⟨S4x1024x770, .f32⟩
  | .hbm, ⟨17, _⟩ => ⟨S4x1024x770, .f32⟩
  | .hbm, ⟨18, _⟩ => ⟨S4x1024x770, .f32⟩
  | .hbm, ⟨19, _⟩ => ⟨S_, .f32⟩
  | .hbm, ⟨20, _⟩ => ⟨S4x1024x770, .f32⟩
  | .hbm, ⟨21, _⟩ => ⟨S4x1024x770, .f32⟩
  | .hbm, ⟨22, _⟩ => ⟨S_, .f32⟩
  | .hbm, ⟨23, _⟩ => ⟨S4x1024x770, .f32⟩
  | .hbm, ⟨24, _⟩ => ⟨S4x1024x770, .f32⟩
  | .hbm, ⟨25, _⟩ => ⟨S4x1024x770, .f32⟩
  | .hbm, ⟨26, _⟩ => ⟨S_, .f32⟩
  | .hbm, ⟨27, _⟩ => ⟨S4x1024x770, .f32⟩
  | .hbm, ⟨28, _⟩ => ⟨S4x1024x770, .f32⟩
  | .hbm, ⟨29, _⟩ => ⟨S4x1024x770, .f32⟩
  | .hbm, ⟨30, _⟩ => ⟨S_, .f32⟩
  | .hbm, ⟨31, _⟩ => ⟨S4x1024x770, .f32⟩
  | .hbm, ⟨32, _⟩ => ⟨S4x1024x770, .f32⟩
  | .hbm, ⟨33, _⟩ => ⟨S4x1024x770, .f32⟩
  | .hbm, ⟨34, _⟩ => ⟨S_, .f32⟩
  | .hbm, ⟨35, _⟩ => ⟨S4x1024x770, .f32⟩
  | .hbm, ⟨36, _⟩ => ⟨S4x1024x770, .f32⟩
  | _, _ => ⟨S4x1024x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S4x256x1024, .f32⟩
  | .hbm, ⟨5, _⟩ => ⟨S4x256x1024, .f32⟩
  | .hbm, ⟨6, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S4x256x1024 : Shape := ⟨3, ![4, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4x1024x1024 : Shape := ⟨3, ![4, 1024, 1024]⟩
abbrev S1x512x1024 : Shape := ⟨3, ![1, 512, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S4x1024x1024 : Shape := ⟨3, ![4, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4x1024x1024 : Shape := ⟨3, ![4, 1024, 1024]⟩
abbrev S1x512x1024 : Shape := ⟨3, ![1, 512, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4x1024x1024, .f32⟩
  | .hbm, ⟨5, _⟩ => ⟨S4x1024x1024, .f32⟩
  | .hbm, ⟨6, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S4x1024x1024 : Shape := ⟨3, ![4, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S8x1024 : Shape := ⟨2, ![8, 1024]⟩
abbrev S4x8x1536 : Shape := ⟨3, ![4, 8, 1536]⟩
abbrev S4x1024x1536 : Shape := ⟨3, ![4, 1024, 1536]⟩
abbrev S1x8x512 : Shape := ⟨3, ![1, 8, 512]⟩
abbrev S1x1024x512 : Shape := ⟨3, ![1, 1024, 512]⟩
abbrev S8x512 : Shape := ⟨2, ![8, 512]⟩
abbrev S1024x512 : Shape := ⟨2, ![1024, 512]⟩

abbrev nBuf : Space → Nat
  | .hbm => 9
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .hbm, ⟨8, _⟩ => ⟨S4x1024x1536, .f32⟩
  | .local _ .vmem, ⟨0, _⟩ => ⟨S8x1024, .f32⟩
  | .local _ .vmem, ⟨1, _⟩ => ⟨S1x8x512, .f32⟩
  | .local _ .vmem, ⟨2, _⟩ => ⟨S1x8x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S8x1024 : Shape := ⟨2, ![8, 1024]⟩
abbrev S4x8x1536 : Shape := ⟨3, ![4, 8, 1536]⟩
abbrev S4x1024x1536 : Shape := ⟨3, ![4, 1024, 1536]⟩
abbrev S_ : Shape := ⟨0, ![]⟩
abbrev S1x1024x1536 : Shape := ⟨3, ![1, 1024, 1536]⟩
abbrev S1024x1536 : Shape := ⟨2, ![1024, 1536]⟩
abbrev S8x1536 : Shape := ⟨2, ![8, 1536]⟩
abbrev S1x8x1536 : Shape := ⟨3, ![1, 8, 1536]⟩
abbrev S1536x1024 : Shape := ⟨2, ![1536, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1x1024x1536, .f32⟩
  | .hbm, ⟨15, _⟩ => ⟨S1024x1536, .f32⟩
  | .hbm, ⟨16, _⟩ => ⟨S8x1536, .f32⟩
  | .hbm, ⟨17, _⟩ => ⟨S1x8x1536, .f32⟩
  | .hbm, ⟨18, _⟩ => ⟨S8x1536, .f32⟩
  | .hbm, ⟨19, _⟩ => ⟨S1536x1024, .f32⟩
  | .hbm, ⟨20, _⟩ => ⟨S1024x1536, .f32⟩
  | .hbm, ⟨21, _⟩ => ⟨S1x1024x1536, .f32⟩
  | .hbm, ⟨22, _⟩ => ⟨S1024x1536, .f32⟩
  | .hbm, ⟨23, _⟩ => ⟨S8x1536, .f32⟩
  | .hbm, ⟨24, _⟩ => ⟨S1x8x1536, .f32⟩
  | .hbm, ⟨25, _⟩ => ⟨S8x1536, .f32⟩
  | .hbm, ⟨26, _⟩ => ⟨S1536x1024, .f32⟩
  | .hbm, ⟨27, _⟩ => ⟨S1024x1536, .f32⟩
  | .hbm, ⟨28, _⟩ => ⟨S1x1024x1536, .f32⟩
  | .hbm, ⟨29, _⟩ => ⟨S1024x1536, .f32⟩
  | .hbm, ⟨30, _⟩ => ⟨S8x1536, .f32⟩
  | .hbm, ⟨31, _⟩ => ⟨S1x8x1536, .f32⟩
  | .hbm, ⟨32, _⟩ => ⟨S8x1536, .f32⟩
  | .hbm, ⟨33, _⟩ => ⟨S1536x1024, .f32⟩
  | .hbm, ⟨34, _⟩ => ⟨S1024x1536, .f32⟩
  | .hbm, ⟨35, _⟩ => ⟨S1x1024x1536, .f32⟩
  | .hbm, ⟨36, _⟩ => ⟨S1024x1536, .f32⟩
  | .hbm, ⟨37, _⟩ => ⟨S8x1536, .f32⟩
  | .hbm, ⟨38, _⟩ => ⟨S1x8x1536, .f32⟩
  | .hbm, ⟨39, _⟩ => ⟨S8x1536, .f32⟩
  | .hbm, ⟨40, _⟩ => ⟨S1536x1024, .f32⟩
  | .hbm, ⟨41, _⟩ => ⟨S1024x1536, .f32⟩
  | .hbm, ⟨42, _⟩ => ⟨S1x1024x1536, .f32⟩
  | .hbm, ⟨43, _⟩ => ⟨S1x1024x1536, .f32⟩
  | .hbm, ⟨44, _⟩ => ⟨S1x1024x1536, .f32⟩
  | .hbm, ⟨45, _⟩ => ⟨S1x1024x1536, .f32⟩
  | .hbm, ⟨46, _⟩ => ⟨S4x1024x1536, .f32⟩
  | .hbm, ⟨47, _⟩ => ⟨S_, .f32⟩
  | .hbm, ⟨48, _⟩ => ⟨S4x1024x1536, .f32⟩
  | .hbm, ⟨49, _⟩ => ⟨S4x1024x1536, .f32⟩
  | .hbm, ⟨50, _⟩ => ⟨S_, .f32⟩
  | .hbm, ⟨51, _⟩ => ⟨S4x1024x1536, .f32⟩
  | .hbm, ⟨52, _⟩ => ⟨S4x1024x1536, .f32⟩
  | .hbm, ⟨53, _⟩ => ⟨S4x1024x1536, .f32⟩
  | .hbm, ⟨54, _⟩ => ⟨S_, .f32⟩
  | .hbm, ⟨55, _⟩ => ⟨S4x1024x1536, .f32⟩
  | .hbm, ⟨56, _⟩ => ⟨S4x1024x1536, .f32⟩
  | .hbm, ⟨57, _⟩ => ⟨S4x1024x1536, .f32⟩
  | .hbm, ⟨58, _⟩ => ⟨S_, .f32⟩
  | .hbm, ⟨59, _⟩ => ⟨S4x1024x1536, .f32⟩
  | .hbm, ⟨60, _⟩ => ⟨S4x1024x1536, .f32⟩
  | .hbm, ⟨61, _⟩ => ⟨S4x1024x1536, .f32⟩
  | .hbm, ⟨62, _⟩ => ⟨S_, .f32⟩
  | .hbm, ⟨63, _⟩ => ⟨S4x1024x1536, .f32⟩
  | .hbm, ⟨64, _⟩ => ⟨S4x1024x1536, .f32⟩
  | .hbm, ⟨65, _⟩ => ⟨S_, .f32⟩
  | .hbm, ⟨66, _⟩ => ⟨S4x1024x1536, .f32⟩
  | .hbm, ⟨67, _⟩ => ⟨S4x1024x1536, .f32⟩
  | .hbm, ⟨68, _⟩ => ⟨S4x1024x1536, .f32⟩
  | .hbm, ⟨69, _⟩ => ⟨S_, .f32⟩
  | .hbm, ⟨70, _⟩ => ⟨S4x1024x1536, .f32⟩
  | .hbm, ⟨71, _⟩ => ⟨S4x1024x1536, .f32⟩
  | .hbm, ⟨72, _⟩ => ⟨S4x1024x1536, .f32⟩
  | .hbm, ⟨73, _⟩ => ⟨S_, .f32⟩
  | .hbm, ⟨74, _⟩ => ⟨S4x1024x1536, .f32⟩
  | .hbm, ⟨75, _⟩ => ⟨S4x1024x1536, .f32⟩
  | .hbm, ⟨76, _⟩ => ⟨S4x1024x1536, .f32⟩
  | .hbm, ⟨77, _⟩ => ⟨S_, .f32⟩
  | .hbm, ⟨78, _⟩ => ⟨S4x1024x1536, .f32⟩
  | .hbm, ⟨79, _⟩ => ⟨S4x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_cst_0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_3 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel18.lean ====
abbrev S8x1024 : Shape := ⟨2, ![8, 1024]⟩
abbrev S4x1024x1536 : Shape := ⟨3, ![4, 1024, 1536]⟩
abbrev S4x1536 : Shape := ⟨2, ![4, 1536]⟩
abbrev S4x1x1536 : Shape := ⟨3, ![4, 1, 1536]⟩
abbrev S4x8x1536 : Shape := ⟨3, ![4, 8, 1536]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S4x1x1536, .f32⟩
  | .hbm, ⟨4, _⟩ => ⟨S4x8x1536, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference18Ideal.lean ====
abbrev S8x1024 : Shape := ⟨2, ![8, 1024]⟩
abbrev S4x1024x1536 : Shape := ⟨3, ![4, 1024, 1536]⟩
abbrev S4x1536 : Shape := ⟨2, ![4, 1536]⟩
abbrev S_ : Shape := ⟨0, ![]⟩
abbrev S1x1024x1536 : Shape := ⟨3, ![1, 1024, 1536]⟩
abbrev S1024x1536 : Shape := ⟨2, ![1024, 1536]⟩
abbrev S8x1536 : Shape := ⟨2, ![8, 1536]⟩
abbrev S1x1536 : Shape := ⟨2, ![1, 1536]⟩
abbrev S1536 : Shape := ⟨1, ![1536]⟩
abbrev S1x8x1536 : Shape := ⟨3, ![1, 8, 1536]⟩
abbrev S4x8x1536 : Shape := ⟨3, ![4, 8, 1536]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x1536, .f32⟩
  | .hbm, ⟨13, _⟩ => ⟨S1024x1536, .f32⟩
  | .hbm, ⟨14, _⟩ => ⟨S8x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S8x1536, .f32⟩
  | .hbm, ⟨19, _⟩ => ⟨S8x1536, .f32⟩
  | .hbm, ⟨20, _⟩ => ⟨S1x1024x1536, .f32⟩
  | .hbm, ⟨21, _⟩ => ⟨S1024x1536, .f32⟩
  | .hbm, ⟨22, _⟩ => ⟨S8x1536, .f32⟩
  | .hbm, ⟨23, _⟩ => ⟨S1x1536, .f32⟩
  | .hbm, ⟨24, _⟩ => ⟨S1536, .f32⟩
  | .hbm, ⟨25, _⟩ => ⟨S1x1536, .f32⟩
  | .hbm, ⟨26, _⟩ => ⟨S8x1536, .f32⟩
  | .hbm, ⟨27, _⟩ => ⟨S8x1536, .f32⟩
  | .hbm, ⟨28, _⟩ => ⟨S1x1024x1536, .f32⟩
  | .hbm, ⟨29, _⟩ => ⟨S1024x1536, .f32⟩
  | .hbm, ⟨30, _⟩ => ⟨S8x1536, .f32⟩
  | .hbm, ⟨31, _⟩ => ⟨S1x1536, .f32⟩
  | .hbm, ⟨32, _⟩ => ⟨S1536, .f32⟩
  | .hbm, ⟨33, _⟩ => ⟨S1x1536, .f32⟩
  | .hbm, ⟨34, _⟩ => ⟨S8x1536, .f32⟩
  | .hbm, ⟨35, _⟩ => ⟨S8x1536, .f32⟩
  | .hbm, ⟨36, _⟩ => ⟨S1x1024x1536, .f32⟩
  | .hbm, ⟨37, _⟩ => ⟨S1024x1536, .f32⟩
  | .hbm, ⟨38, _⟩ => ⟨S8x1536, .f32⟩
  | .hbm, ⟨39, _⟩ => ⟨S1x1536, .f32⟩
  | .hbm, ⟨40, _⟩ => ⟨S1536, .f32⟩
  | .hbm, ⟨41, _⟩ => ⟨S1x1536, .f32⟩
  | .hbm, ⟨42, _⟩ => ⟨S8x1536, .f32⟩
  | .hbm, ⟨43, _⟩ => ⟨S8x1536, .f32⟩
  | .hbm, ⟨44, _⟩ => ⟨S1x8x1536, .f32⟩
  | .hbm, ⟨45, _⟩ => ⟨S1x8x1536, .f32⟩
  | .hbm, ⟨46, _⟩ => ⟨S1x8x1536, .f32⟩
  | .hbm, ⟨47, _⟩ => ⟨S1x8x1536, .f32⟩
  | .hbm, ⟨48, _⟩ => ⟨S4x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel19.lean ====
abbrev S4x432x1024 : Shape := ⟨3, ![4, 432, 1024]⟩
abbrev S376x1024 : Shape := ⟨2, ![376, 1024]⟩
abbrev S1x376x1024 : Shape := ⟨3, ![1, 376, 1024]⟩
abbrev S24x1024 : Shape := ⟨2, ![24, 1024]⟩
abbrev S1x24x1024 : Shape := ⟨3, ![1, 24, 1024]⟩
abbrev S352x1024 : Shape := ⟨2, ![352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x432x1024, .f32⟩
  | .hbm, ⟨1, _⟩ => ⟨S376x1024, .f32⟩
  | .hbm, ⟨2, _⟩ => ⟨S376x1024, .f32⟩
  | .hbm, ⟨3, _⟩ => ⟨S376x1024, .f32⟩
  | .hbm, ⟨4, _⟩ => ⟨S376x1024, .f32⟩
  | .hbm, ⟨5, _⟩ => ⟨S376x1024, .f32⟩
  | .hbm, ⟨6, _⟩ => ⟨S376x1024, .f32⟩
  | .hbm, ⟨7, _⟩ => ⟨S376x1024, .f32⟩
  | .local _ .vmem, ⟨0, _⟩ => ⟨S4x432x1024, .f32⟩
  | .local _ .vmem, ⟨1, _⟩ => ⟨S376x1024, .f32⟩
  | .local _ .vmem, ⟨2, _⟩ => ⟨S376x1024, .f32⟩
  | .local _ .vmem, ⟨3, _⟩ => ⟨S376x1024, .f32⟩
  | .local _ .vmem, ⟨4, _⟩ => ⟨S376x1024, .f32⟩
  | .local _ .vmem, ⟨5, _⟩ => ⟨S376x1024, .f32⟩
  | .local _ .vmem, ⟨6, _⟩ => ⟨S376x1024, .f32⟩
  | .local _ .vmem, ⟨7, _⟩ => ⟨S376x1024, .f32⟩
  | _, _ => ⟨S4x432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x432x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S376x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S376x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S376x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S376x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S376x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S376x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S376x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference19Ideal.lean ====
abbrev S4x432x1024 : Shape := ⟨3, ![4, 432, 1024]⟩
abbrev S376x1024 : Shape := ⟨2, ![376, 1024]⟩
abbrev S4x48x1024 : Shape := ⟨3, ![4, 48, 1024]⟩
abbrev S8x24x1024 : Shape := ⟨3, ![8, 24, 1024]⟩
abbrev S4x376x1024 : Shape := ⟨3, ![4, 376, 1024]⟩
abbrev S_ : Shape := ⟨0, ![]⟩
abbrev S24x1024 : Shape := ⟨2, ![24, 1024]⟩
abbrev S352x1024 : Shape := ⟨2, ![352, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x432x1024, .f32⟩
  | .hbm, ⟨1, _⟩ => ⟨S376x1024, .f32⟩
  | .hbm, ⟨2, _⟩ => ⟨S376x1024, .f32⟩
  | .hbm, ⟨3, _⟩ => ⟨S376x1024, .f32⟩
  | .hbm, ⟨4, _⟩ => ⟨S4x48x1024, .f32⟩
  | .hbm, ⟨5, _⟩ => ⟨S8x24x1024, .f32⟩
  | .hbm, ⟨6, _⟩ => ⟨S4x376x1024, .f32⟩
  | .hbm, ⟨7, _⟩ => ⟨S_, .f32⟩
  | .hbm, ⟨8, _⟩ => ⟨S376x1024, .f32⟩
  | .hbm, ⟨9, _⟩ => ⟨S_, .f32⟩
  | .hbm, ⟨10, _⟩ => ⟨S24x1024, .f32⟩
  | .hbm, ⟨11, _⟩ => ⟨S352x1024, .f32⟩
  | .hbm, ⟨12, _⟩ => ⟨S376x1024, .f32⟩
  | .hbm, ⟨13, _⟩ => ⟨S_, .f32⟩
  | .hbm, ⟨14, _⟩ => ⟨S376x1024, .f32⟩
  | .hbm, ⟨15, _⟩ => ⟨S376x1024, .f32⟩
  | .hbm, ⟨16, _⟩ => ⟨S_, .f32⟩
  | .hbm, ⟨17, _⟩ => ⟨S376x1024, .f32⟩
  | .hbm, ⟨18, _⟩ => ⟨S376x1024, .f32⟩
  | .hbm, ⟨19, _⟩ => ⟨S376x1024, .f32⟩
  | .hbm, ⟨20, _⟩ => ⟨S_, .f32⟩
  | .hbm, ⟨21, _⟩ => ⟨S376x1024, .f32⟩
  | .hbm, ⟨22, _⟩ => ⟨S376x1024, .f32⟩
  | .hbm, ⟨23, _⟩ => ⟨S376x1024, .f32⟩
  | .hbm, ⟨24, _⟩ => ⟨S_, .f32⟩
  | .hbm, ⟨25, _⟩ => ⟨S376x1024, .f32⟩
  | .hbm, ⟨26, _⟩ => ⟨S376x1024, .f32⟩
  | .hbm, ⟨27, _⟩ => ⟨S376x1024, .f32⟩
  | .hbm, ⟨28, _⟩ => ⟨S_, .f32⟩
  | .hbm, ⟨29, _⟩ => ⟨S376x1024, .f32⟩
  | .hbm, ⟨30, _⟩ => ⟨S376x1024, .f32⟩
  | .hbm, ⟨31, _⟩ => ⟨S_, .f32⟩
  | .hbm, ⟨32, _⟩ => ⟨S376x1024, .f32⟩
  | .hbm, ⟨33, _⟩ => ⟨S376x1024, .f32⟩
  | .hbm, ⟨34, _⟩ => ⟨S376x1024, .f32⟩
  | .hbm, ⟨35, _⟩ => ⟨S_, .f32⟩
  | .hbm, ⟨36, _⟩ => ⟨S376x1024, .f32⟩
  | .hbm, ⟨37, _⟩ => ⟨S376x1024, .f32⟩
  | .hbm, ⟨38, _⟩ => ⟨S376x1024, .f32⟩
  | .hbm, ⟨39, _⟩ => ⟨S_, .f32⟩
  | .hbm, ⟨40, _⟩ => ⟨S376x1024, .f32⟩
  | .hbm, ⟨41, _⟩ => ⟨S376x1024, .f32⟩
  | .hbm, ⟨42, _⟩ => ⟨S376x1024, .f32⟩
  | .hbm, ⟨43, _⟩ => ⟨S_, .f32⟩
  | .hbm, ⟨44, _⟩ => ⟨S376x1024, .f32⟩
  | .hbm, ⟨45, _⟩ => ⟨S376x1024, .f32⟩
  | _, _ => ⟨S4x432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel20.lean ====
abbrev S4096x3200 : Shape := ⟨2, ![4096, 3200]⟩
abbrev S4x512 : Shape := ⟨2, ![4, 512]⟩
abbrev S4x4x128x128 : Shape := ⟨4, ![4, 4, 128, 128]⟩
abbrev S4x4x128 : Shape := ⟨3, ![4, 4, 128]⟩
abbrev S4x4x1536 : Shape := ⟨3, ![4, 4, 1536]⟩
abbrev S4x4 : Shape := ⟨2, ![4, 4]⟩
abbrev S4x128 : Shape := ⟨2, ![4, 128]⟩
abbrev S4x1x512 : Shape := ⟨3, ![4, 1, 512]⟩
abbrev S4x2x512 : Shape := ⟨3, ![4, 2, 512]⟩
abbrev S_ : Shape := ⟨0, ![]⟩
abbrev S4x8x512 : Shape := ⟨3, ![4, 8, 512]⟩
abbrev S4x128x4 : Shape := ⟨3, ![4, 128, 4]⟩
abbrev S4x128x128 : Shape := ⟨3, ![4, 128, 128]⟩
abbrev S4x8x1536 : Shape := ⟨3, ![4, 8, 1536]⟩
abbrev S4x1x128 : Shape := ⟨3, ![4, 1, 128]⟩
abbrev S4x3x128 : Shape := ⟨3, ![4, 3, 128]⟩
abbrev S4x8x128 : Shape := ⟨3, ![4, 8, 128]⟩
abbrev S4096x1024 : Shape := ⟨2, ![4096, 1024]⟩
abbrev S32x4x128x128 : Shape := ⟨4, ![32, 4, 128, 128]⟩
abbrev S4096x512 : Shape := ⟨2, ![4096, 512]⟩
abbrev S4096x1536 : Shape := ⟨2, ![4096, 1536]⟩
abbrev S128x3200 : Shape := ⟨2, ![128, 3200]⟩
abbrev S1x8x512 : Shape := ⟨3, ![1, 8, 512]⟩
abbrev S1x4x128x128 : Shape := ⟨4, ![1, 4, 128, 128]⟩
abbrev S1x128x128 : Shape := ⟨3, ![1, 128, 128]⟩
abbrev S1x8x1536 : Shape := ⟨3, ![1, 8, 1536]⟩
abbrev S1x8x128 : Shape := ⟨3, ![1, 8, 128]⟩
abbrev S128x1024 : Shape := ⟨2, ![128, 1024]⟩
abbrev S128x512 : Shape := ⟨2, ![128, 512]⟩
abbrev S128x1536 : Shape := ⟨2, ![128, 1536]⟩
abbrev S136x1536 : Shape := ⟨2, ![136, 1536]⟩
abbrev S8x1536 : Shape := ⟨2, ![8, 1536]⟩
abbrev S128x128 : Shape := ⟨2, ![128, 128]⟩
abbrev S128 : Shape := ⟨1, ![128]⟩
abbrev S128x1 : Shape := ⟨2, ![128, 1]⟩
abbrev S1x1x512 : Shape := ⟨3, ![1, 1, 512]⟩
abbrev S1x512 : Shape := ⟨2, ![1, 512]⟩
abbrev S1x1x128x128 : Shape := ⟨4, ![1, 1, 128, 128]⟩
abbrev S1x1x1536 : Shape := ⟨3, ![1, 1, 1536]⟩
abbrev S1x1536 : Shape := ⟨2, ![1, 1536]⟩
abbrev S1x1x128 : Shape := ⟨3, ![1, 1, 128]⟩
abbrev S1x128 : Shape := ⟨2, ![1, 128]⟩
abbrev S1 : Shape := ⟨1, ![1]⟩
abbrev S1x1 : Shape := ⟨2, ![1, 1]⟩

abbrev nBuf : Space → Nat
  | .hbm => 42
  | .vmem => 23
  | .smem => 0
  | _ => 0

abbrev bufTy : (tb : Table) → Fin (tcTables nBuf tb) → BufTy
  | .hbm, ⟨0, _⟩ => ⟨S4096x3200, .f32⟩
  | .hbm, ⟨1, _⟩ => ⟨S4x512, .f32⟩
  | .hbm, ⟨2, _⟩ => ⟨S4x512, .f32⟩
  | .hbm, ⟨3, _⟩ => ⟨S4x4x128x128, .f32⟩
  | .hbm, ⟨4, _⟩ => ⟨S4x4x128, .f32⟩
  | .hbm, ⟨5, _⟩ => ⟨S4x4x1536, .f32⟩
  | .hbm, ⟨6, _⟩ => ⟨S4x4, .f32⟩
  | .hbm, ⟨7, _⟩ => ⟨S4x4, .f32⟩
  | .hbm, ⟨8, _⟩ => ⟨S4x128, .f32⟩
  | .hbm, ⟨9, _⟩ => ⟨S4x1x512, .f32⟩
  | .hbm, ⟨10, _⟩ => ⟨S4x1x512, .f32⟩
  | .hbm, ⟨11, _⟩ => ⟨S4x2x512, .f32⟩
  | .hbm, ⟨12, _⟩ => ⟨S_, .i32⟩
  | .hbm, ⟨13, _⟩ => ⟨S_, .f32⟩
  | .hbm, ⟨14, _⟩ => ⟨S4x8x512, .f32⟩
  | .hbm, ⟨15, _⟩ => ⟨S4x128x4, .f32⟩
  | .hbm, ⟨16, _⟩ => ⟨S_, .i32⟩
  | .hbm, ⟨17, _⟩ => ⟨S_, .f32⟩
  | .hbm, ⟨18, _⟩ => ⟨S4x128x128, .f32⟩
  | .hbm, ⟨19, _⟩ => ⟨S_, .i32⟩
  | .hbm, ⟨20, _⟩ => ⟨S_, .f32⟩
  | .hbm, ⟨21, _⟩ => ⟨S4x8x1536, .f32⟩
  | .hbm, ⟨22, _⟩ => ⟨S_, .i32⟩
  | .hbm, ⟨23, _⟩ => ⟨S_, .f32⟩
  | .hbm, ⟨24, _⟩ => ⟨S4x128, .f32⟩
  | .hbm, ⟨25, _⟩ => ⟨S_, .i32⟩
  | .hbm, ⟨26, _⟩ => ⟨S_, .f32⟩
  | .hbm, ⟨27, _⟩ => ⟨S4x128, .f32⟩
  | .hbm, ⟨28, _⟩ => ⟨S4x1x128, .f32⟩
  | .hbm, ⟨29, _⟩ => ⟨S4x1x128, .f32⟩
  | .hbm, ⟨30, _⟩ => ⟨S4x1x128, .f32⟩
  | .hbm, ⟨31, _⟩ => ⟨S4x3x128, .f32⟩
  | .hbm, ⟨32, _⟩ => ⟨S_, .i32⟩
  | .hbm, ⟨33, _⟩ => ⟨S_, .f32⟩
  | .hbm, ⟨34, _⟩ => ⟨S4x8x128, .f32⟩
  | .hbm, ⟨35, _⟩ => ⟨S4096x1024, .bf16⟩
  | .hbm, ⟨36, _⟩ => ⟨S32x4x128x128, .f32⟩
  | .hbm, ⟨37, _⟩ => ⟨S32x4x128x128, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x1536, .f32⟩
  | .local _ .vmem, ⟨0, _⟩ => ⟨S128x3200, .f32⟩
  | .local _ .vmem, ⟨1, _⟩ => ⟨S128x3200, .f32⟩
  | .local _ .vmem, ⟨2, _⟩ => ⟨S1x8x512, .f32⟩
  | .local _ .vmem, ⟨3, _⟩ => ⟨S1x4x128x128, .f32⟩
  | .local _ .vmem, ⟨4, _⟩ => ⟨S1x128x128, .f32⟩
  | .local _ .vmem, ⟨5, _⟩ => ⟨S1x8x1536, .f32⟩
  | .local _ .vmem, ⟨6, _⟩ => ⟨S1x8x128, .f32⟩
  | .local _ .vmem, ⟨7, _⟩ => ⟨S128x1024, .bf16⟩
  | .local _ .vmem, ⟨8, _⟩ => ⟨S128x1024, .bf16⟩
  | .local _ .vmem, ⟨9, _⟩ => ⟨S1x4x128x128, .f32⟩
  | .local _ .vmem, ⟨10, _⟩ => ⟨S1x4x128x128, .f32⟩
  | .local _ .vmem, ⟨11, _⟩ => ⟨S1x4x128x128, .f32⟩
  | .local _ .vmem, ⟨12, _⟩ => ⟨S1x4x128x128, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x1536, .f32⟩
  | .local _ .vmem, ⟨20, _⟩ => ⟨S128x1536, .f32⟩
  | .local _ .vmem, ⟨21, _⟩ => ⟨S4x128x128, .f32⟩
  | .local _ .vmem, ⟨22, _⟩ => ⟨S136x1536, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_c_2 : Ref sig .tc := ⟨.hbm, 22, rfl⟩
abbrev main_call3_v0 : Ref sig .tc := ⟨.hbm, 23, rfl⟩
abbrev main_v7 : Ref sig .tc := ⟨.hbm, 24, rfl⟩
abbrev main_c_3 : Ref sig .tc := ⟨.hbm, 25, rfl⟩
abbrev main_call4_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_4 : Ref sig .tc := ⟨.hbm, 32, rfl⟩
abbrev main_call5_v0 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev main_v14_2 : Ref sig .tc := ⟨.hbm, 37, rfl⟩
abbrev main_v14_3 : Ref sig .tc := ⟨.hbm, 38, rfl⟩
abbrev main_v14_4 : Ref sig .tc := ⟨.hbm, 39, rfl⟩
abbrev main_v14_5 : Ref sig .tc := ⟨.hbm, 40, rfl⟩
abbrev main_v14_6 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference20Ideal.lean ====
abbrev S4096x3200 : Shape := ⟨2, ![4096, 3200]⟩
abbrev S4x512 : Shape := ⟨2, ![4, 512]⟩
abbrev S4x4x128x128 : Shape := ⟨4, ![4, 4, 128, 128]⟩
abbrev S4x4x128 : Shape := ⟨3, ![4, 4, 128]⟩
abbrev S4x4x1536 : Shape := ⟨3, ![4, 4, 1536]⟩
abbrev S4x4 : Shape := ⟨2, ![4, 4]⟩
abbrev S4x128 : Shape := ⟨2, ![4, 128]⟩
abbrev S4096x1536 : Shape := ⟨2, ![4096, 1536]⟩
abbrev S1x4x1536 : Shape := ⟨3, ![1, 4, 1536]⟩
abbrev S4x1536 : Shape := ⟨2, ![4, 1536]⟩
abbrev S_ : Shape := ⟨0, ![]⟩
abbrev S4099x1536 : Shape := ⟨2, ![4099, 1536]⟩
abbrev S1x1536 : Shape := ⟨2, ![1, 1536]⟩
abbrev S1536 : Shape := ⟨1, ![1536]⟩

abbrev nBuf : Space → Nat
  | .hbm => 45
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S4x512, .f32⟩
  | .hbm, ⟨2, _⟩ => ⟨S4x512, .f32⟩
  | .hbm, ⟨3, _⟩ => ⟨S4x4x128x128, .f32⟩
  | .hbm, ⟨4, _⟩ => ⟨S4x4x128, .f32⟩
  | .hbm, ⟨5, _⟩ => ⟨S4x4x1536, .f32⟩
  | .hbm, ⟨6, _⟩ => ⟨S4x4, .f32⟩
  | .hbm, ⟨7, _⟩ => ⟨S4x4, .f32⟩
  | .hbm, ⟨8, _⟩ => ⟨S4x128, .f32⟩
  | .hbm, ⟨9, _⟩ => ⟨S4096x1536, .f32⟩
  | .hbm, ⟨10, _⟩ => ⟨S1x4x1536, .f32⟩
  | .hbm, ⟨11, _⟩ => ⟨S4x1536, .f32⟩
  | .hbm, ⟨12, _⟩ => ⟨S_, .i32⟩
  | .hbm, ⟨13, _⟩ => ⟨S_, .f32⟩
  | .hbm, ⟨14, _⟩ => ⟨S4099x1536, .f32⟩
  | .hbm, ⟨15, _⟩ => ⟨S1x1536, .f32⟩
  | .hbm, ⟨16, _⟩ => ⟨S1536, .f32⟩
  | .hbm, ⟨17, _⟩ => ⟨S4096x1536, .f32⟩
  | .hbm, ⟨18, _⟩ => ⟨S1x1536, .f32⟩
  | .hbm, ⟨19, _⟩ => ⟨S4096x1536, .f32⟩
  | .hbm, ⟨20, _⟩ => ⟨S4096x1536, .f32⟩
  | .hbm, ⟨21, _⟩ => ⟨S_, .f32⟩
  | .hbm, ⟨22, _⟩ => ⟨S4096x1536, .f32⟩
  | .hbm, ⟨23, _⟩ => ⟨S4096x1536, .f32⟩
  | .hbm, ⟨24, _⟩ => ⟨S1x1536, .f32⟩
  | .hbm, ⟨25, _⟩ => ⟨S1536, .f32⟩
  | .hbm, ⟨26, _⟩ => ⟨S4096x1536, .f32⟩
  | .hbm, ⟨27, _⟩ => ⟨S1x1536, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S1x1536, .f32⟩
  | .hbm, ⟨32, _⟩ => ⟨S1536, .f32⟩
  | .hbm, ⟨33, _⟩ => ⟨S4096x1536, .f32⟩
  | .hbm, ⟨34, _⟩ => ⟨S1x1536, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S1x1536, .f32⟩
  | .hbm, ⟨39, _⟩ => ⟨S1536, .f32⟩
  | .hbm, ⟨40, _⟩ => ⟨S4096x1536, .f32⟩
  | .hbm, ⟨41, _⟩ => ⟨S1x1536, .f32⟩
  | .hbm, ⟨42, _⟩ => ⟨S4096x1536, .f32⟩
  | .hbm, ⟨43, _⟩ => ⟨S4096x1536, .f32⟩
  | .hbm, ⟨44, _⟩ => ⟨S4096x1536, .f32⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel21.lean ====
abbrev S4096x3200 : Shape := ⟨2, ![4096, 3200]⟩
abbrev S4096x1024 : Shape := ⟨2, ![4096, 1024]⟩
abbrev S32x4x128x128 : Shape := ⟨4, ![32, 4, 128, 128]⟩
abbrev S4096x512 : Shape := ⟨2, ![4096, 512]⟩
abbrev S4096x1536 : Shape := ⟨2, ![4096, 1536]⟩
abbrev S4x512 : Shape := ⟨2, ![4, 512]⟩
abbrev S4x4x128x128 : Shape := ⟨4, ![4, 4, 128, 128]⟩
abbrev S4x4x128 : Shape := ⟨3, ![4, 4, 128]⟩
abbrev S4x4x1536 : Shape := ⟨3, ![4, 4, 1536]⟩
abbrev S4x4 : Shape := ⟨2, ![4, 4]⟩
abbrev S4x128 : Shape := ⟨2, ![4, 128]⟩
abbrev S4x1x512 : Shape := ⟨3, ![4, 1, 512]⟩
abbrev S4x2x512 : Shape := ⟨3, ![4, 2, 512]⟩
abbrev S_ : Shape := ⟨0, ![]⟩
abbrev S4x8x512 : Shape := ⟨3, ![4, 8, 512]⟩
abbrev S4x128x4 : Shape := ⟨3, ![4, 128, 4]⟩
abbrev S4x128x128 : Shape := ⟨3, ![4, 128, 128]⟩
abbrev S4x8x1536 : Shape := ⟨3, ![4, 8, 1536]⟩
abbrev S4x1x128 : Shape := ⟨3, ![4, 1, 128]⟩
abbrev S4x3x128 : Shape := ⟨3, ![4, 3, 128]⟩
abbrev S4x8x128 : Shape := ⟨3, ![4, 8, 128]⟩
abbrev S8x512 : Shape := ⟨2, ![8, 512]⟩
abbrev S128x128 : Shape := ⟨2, ![128, 128]⟩
abbrev S8x1536 : Shape := ⟨2, ![8, 1536]⟩
abbrev S8x128 : Shape := ⟨2, ![8, 128]⟩
abbrev S128x3200 : Shape := ⟨2, ![128, 3200]⟩
abbrev S128x1024 : Shape := ⟨2, ![128, 1024]⟩
abbrev S1x4x128x128 : Shape := ⟨4, ![1, 4, 128, 128]⟩
abbrev S128x512 : Shape := ⟨2, ![128, 512]⟩
abbrev S128x1536 : Shape := ⟨2, ![128, 1536]⟩
abbrev S1x8x512 : Shape := ⟨3, ![1, 8, 512]⟩
abbrev S1x128x128 : Shape := ⟨3, ![1, 128, 128]⟩
abbrev S1x8x1536 : Shape := ⟨3, ![1, 8, 1536]⟩
abbrev S1x8x128 : Shape := ⟨3, ![1, 8, 128]⟩
abbrev S136x1536 : Shape := ⟨2, ![136, 1536]⟩
abbrev S128 : Shape := ⟨1, ![128]⟩
abbrev S128x1 : Shape := ⟨2, ![128, 1]⟩
abbrev S1x1x512 : Shape := ⟨3, ![1, 1, 512]⟩
abbrev S1x512 : Shape := ⟨2, ![1, 512]⟩
abbrev S1x1x128x128 : Shape := ⟨4, ![1, 1, 128, 128]⟩
abbrev S512 : Shape := ⟨1, ![512]⟩
abbrev S1x1x128 : Shape := ⟨3, ![1, 1, 128]⟩
abbrev S1x128 : Shape := ⟨2, ![1, 128]⟩
abbrev S1 : Shape := ⟨1, ![1]⟩
abbrev S1x1 : Shape := ⟨2, ![1, 1]⟩
abbrev S1x1x1536 : Shape := ⟨3, ![1, 1, 1536]⟩
abbrev S1x1536 : Shape := ⟨2, ![1, 1536]⟩
abbrev S1536 : Shape := ⟨1, ![1536]⟩

abbrev nBuf : Space → Nat
  | .hbm => 50
  | .vmem => 30
  | .smem => 0
  | _ => 0

abbrev bufTy : (tb : Table) → Fin (tcTables nBuf tb) → BufTy
  | .hbm, ⟨0, _⟩ => ⟨S4096x3200, .f32⟩
  | .hbm, ⟨1, _⟩ => ⟨S4096x1024, .bf16⟩
  | .hbm, ⟨2, _⟩ => ⟨S32x4x128x128, .f32⟩
  | .hbm, ⟨3, _⟩ => ⟨S32x4x128x128, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1536, .f32⟩
  | .hbm, ⟨8, _⟩ => ⟨S4x512, .f32⟩
  | .hbm, ⟨9, _⟩ => ⟨S4x512, .f32⟩
  | .hbm, ⟨10, _⟩ => ⟨S4x4x128x128, .f32⟩
  | .hbm, ⟨11, _⟩ => ⟨S4x4x128, .f32⟩
  | .hbm, ⟨12, _⟩ => ⟨S4x4x1536, .f32⟩
  | .hbm, ⟨13, _⟩ => ⟨S4x4, .f32⟩
  | .hbm, ⟨14, _⟩ => ⟨S4x4, .f32⟩
  | .hbm, ⟨15, _⟩ => ⟨S4x128, .f32⟩
  | .hbm, ⟨16, _⟩ => ⟨S4x1x512, .f32⟩
  | .hbm, ⟨17, _⟩ => ⟨S4x1x512, .f32⟩
  | .hbm, ⟨18, _⟩ => ⟨S4x2x512, .f32⟩
  | .hbm, ⟨19, _⟩ => ⟨S_, .i32⟩
  | .hbm, ⟨20, _⟩ => ⟨S_, .f32⟩
  | .hbm, ⟨21, _⟩ => ⟨S4x8x512, .f32⟩
  | .hbm, ⟨22, _⟩ => ⟨S4x128x4, .f32⟩
  | .hbm, ⟨23, _⟩ => ⟨S_, .i32⟩
  | .hbm, ⟨24, _⟩ => ⟨S_, .f32⟩
  | .hbm, ⟨25, _⟩ => ⟨S4x128x128, .f32⟩
  | .hbm, ⟨26, _⟩ => ⟨S_, .i32⟩
  | .hbm, ⟨27, _⟩ => ⟨S_, .f32⟩
  | .hbm, ⟨28, _⟩ => ⟨S4x8x1536, .f32⟩
  | .hbm, ⟨29, _⟩ => ⟨S_, .i32⟩
  | .hbm, ⟨30, _⟩ => ⟨S_, .f32⟩
  | .hbm, ⟨31, _⟩ => ⟨S4x128, .f32⟩
  | .hbm, ⟨32, _⟩ => ⟨S_, .i32⟩
  | .hbm, ⟨33, _⟩ => ⟨S_, .f32⟩
  | .hbm, ⟨34, _⟩ => ⟨S4x128, .f32⟩
  | .hbm, ⟨35, _⟩ => ⟨S4x1x128, .f32⟩
  | .hbm, ⟨36, _⟩ => ⟨S4x1x128, .f32⟩
  | .hbm, ⟨37, _⟩ => ⟨S4x1x128, .f32⟩
  | .hbm, ⟨38, _⟩ => ⟨S4x3x128, .f32⟩
  | .hbm, ⟨39, _⟩ => ⟨S_, .i32⟩
  | .hbm, ⟨40, _⟩ => ⟨S_, .f32⟩
  | .hbm, ⟨41, _⟩ => ⟨S4x8x128, .f32⟩
  | .hbm, ⟨42, _⟩ => ⟨S4096x3200, .bf16⟩
  | .hbm, ⟨43, _⟩ => ⟨S8x512, .f32⟩
  | .hbm, ⟨44, _⟩ => ⟨S4x128x128, .f32⟩
  | .hbm, ⟨45, _⟩ => ⟨S128x128, .f32⟩
  | .hbm, ⟨46, _⟩ => ⟨S8x1536, .f32⟩
  | .hbm, ⟨47, _⟩ => ⟨S8x128, .f32⟩
  | .hbm, ⟨48, _⟩ => ⟨S1x128, .f32⟩
  | .hbm, ⟨49, _⟩ => ⟨S128, .f32⟩
  | .local _ .vmem, ⟨0, _⟩ => ⟨S128x3200, .f32⟩
  | .local _ .vmem, ⟨1, _⟩ => ⟨S128x3200, .f32⟩
  | .local _ .vmem, ⟨2, _⟩ => ⟨S128x1024, .bf16⟩
  | .local _ .vmem, ⟨3, _⟩ => ⟨S128x1024, .bf16⟩
  | .local _ .vmem, ⟨4, _⟩ => ⟨S1x4x128x128, .f32⟩
  | .local _ .vmem, ⟨5, _⟩ => ⟨S1x4x128x128, .f32⟩
  | .local _ .vmem, ⟨6, _⟩ => ⟨S1x4x128x128, .f32⟩
  | .local _ .vmem, ⟨7, _⟩ => ⟨S1x4x128x128, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x1536, .f32⟩
  | .local _ .vmem, ⟨15, _⟩ => ⟨S128x1536, .f32⟩
  | .local _ .vmem, ⟨16, _⟩ => ⟨S1x8x512, .f32⟩
  | .local _ .vmem, ⟨17, _⟩ => ⟨S1x4x128x128, .f32⟩
  | .local _ .vmem, ⟨18, _⟩ => ⟨S1x128x128, .f32⟩
  | .local _ .vmem, ⟨19, _⟩ => ⟨S1x8x1536, .f32⟩
  | .local _ .vmem, ⟨20, _⟩ => ⟨S1x8x128, .f32⟩
  | .local _ .vmem, ⟨21, _⟩ => ⟨S128x3200, .bf16⟩
  | .local _ .vmem, ⟨22, _⟩ => ⟨S128x3200, .bf16⟩
  | .local _ .vmem, ⟨23, _⟩ => ⟨S8x512, .f32⟩
  | .local _ .vmem, ⟨24, _⟩ => ⟨S4x128x128, .f32⟩
  | .local _ .vmem, ⟨25, _⟩ => ⟨S128x128, .f32⟩
  | .local _ .vmem, ⟨26, _⟩ => ⟨S8x1536, .f32⟩
  | .local _ .vmem, ⟨27, _⟩ => ⟨S8x128, .f32⟩
  | .local _ .vmem, ⟨28, _⟩ => ⟨S4x128x128, .f32⟩
  | .local _ .vmem, ⟨29, _⟩ => ⟨S136x1536, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_v5 : Ref sig .tc := ⟨.hbm, 25, rfl⟩
abbrev main_c_1 : Ref sig .tc := ⟨.hbm, 26, rfl⟩
abbrev main_call2_v0 : Ref sig .tc := ⟨.hbm, 27, rfl⟩
abbrev main_v6 : Ref sig .tc := ⟨.hbm, 28, rfl⟩
abbrev main_c_2 : Ref sig .tc := ⟨.hbm, 29, rfl⟩
abbrev main_call3_v0 : Ref sig .tc := ⟨.hbm, 30, rfl⟩
abbrev main_v7 : Ref sig .tc := ⟨.hbm, 31, rfl⟩
abbrev main_c_3 : Ref sig .tc := ⟨.hbm, 32, rfl⟩
abbrev main_call4_v0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_4 : Ref sig .tc := ⟨.hbm, 39, rfl⟩
abbrev main_call5_v0 : Ref sig .tc := ⟨.hbm, 40, rfl⟩
abbrev main_v13 : Ref sig .tc := ⟨.hbm, 41, rfl⟩
abbrev main_v14_0 : Ref sig .tc := ⟨.hbm, 42, rfl⟩
abbrev main_v14_1 : Ref sig .tc := ⟨.hbm, 43, rfl⟩
abbrev main_v14_2 : Ref sig .tc := ⟨.hbm, 44, rfl⟩
abbrev main_v14_3 : Ref sig .tc := ⟨.hbm, 45, rfl⟩
abbrev main_v14_4 : Ref sig .tc := ⟨.hbm, 46, rfl⟩
abbrev main_v14_5 : Ref sig .tc := ⟨.hbm, 47, rfl⟩
abbrev main_v15 : Ref sig .tc := ⟨.hbm, 48, rfl⟩
abbrev main_v16 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x3200 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference21Ideal.lean ====
abbrev S4096x3200 : Shape := ⟨2, ![4096, 3200]⟩
abbrev S4096x1024 : Shape := ⟨2, ![4096, 1024]⟩
abbrev S32x4x128x128 : Shape := ⟨4, ![32, 4, 128, 128]⟩
abbrev S4096x512 : Shape := ⟨2, ![4096, 512]⟩
abbrev S4096x1536 : Shape := ⟨2, ![4096, 1536]⟩
abbrev S4x512 : Shape := ⟨2, ![4, 512]⟩
abbrev S4x4x128x128 : Shape := ⟨4, ![4, 4, 128, 128]⟩
abbrev S4x4x128 : Shape := ⟨3, ![4, 4, 128]⟩
abbrev S4x4x1536 : Shape := ⟨3, ![4, 4, 1536]⟩
abbrev S4x4 : Shape := ⟨2, ![4, 4]⟩
abbrev S4x128 : Shape := ⟨2, ![4, 128]⟩
abbrev S1x128 : Shape := ⟨2, ![1, 128]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 58
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S4096x1024, .bf16⟩
  | .hbm, ⟨2, _⟩ => ⟨S32x4x128x128, .f32⟩
  | .hbm, ⟨3, _⟩ => ⟨S32x4x128x128, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1536, .f32⟩
  | .hbm, ⟨8, _⟩ => ⟨S4x512, .f32⟩
  | .hbm, ⟨9, _⟩ => ⟨S4x512, .f32⟩
  | .hbm, ⟨10, _⟩ => ⟨S4x4x128x128, .f32⟩
  | .hbm, ⟨11, _⟩ => ⟨S4x4x128, .f32⟩
  | .hbm, ⟨12, _⟩ => ⟨S4x4x1536, .f32⟩
  | .hbm, ⟨13, _⟩ => ⟨S4x4, .f32⟩
  | .hbm, ⟨14, _⟩ => ⟨S4x4, .f32⟩
  | .hbm, ⟨15, _⟩ => ⟨S4x128, .f32⟩
  | .hbm, ⟨16, _⟩ => ⟨S4096x512, .bf16⟩
  | .hbm, ⟨17, _⟩ => ⟨S4096x512, .f32⟩
  | .hbm, ⟨18, _⟩ => ⟨S1x128, .f32⟩
  | .hbm, ⟨19, _⟩ => ⟨S128, .f32⟩
  | .hbm, ⟨20, _⟩ => ⟨S4096x512, .f32⟩
  | .hbm, ⟨21, _⟩ => ⟨S4096x4x128, .f32⟩
  | .hbm, ⟨22, _⟩ => ⟨S4096x4x128, .f32⟩
  | .hbm, ⟨23, _⟩ => ⟨S_, .f32⟩
  | .hbm, ⟨24, _⟩ => ⟨S4096x4, .f32⟩
  | .hbm, ⟨25, _⟩ => ⟨S4096x4x1, .f32⟩
  | .hbm, ⟨26, _⟩ => ⟨S_, .f32⟩
  | .hbm, ⟨27, _⟩ => ⟨S4096x4x1, .f32⟩
  | .hbm, ⟨28, _⟩ => ⟨S4096x4x1, .f32⟩
  | .hbm, ⟨29, _⟩ => ⟨S_, .f32⟩
  | .hbm, ⟨30, _⟩ => ⟨S4096x4x1, .f32⟩
  | .hbm, ⟨31, _⟩ => ⟨S4096x4x1, .f32⟩
  | .hbm, ⟨32, _⟩ => ⟨S4096x4x1, .f32⟩
  | .hbm, ⟨33, _⟩ => ⟨S4096x4x128, .f32⟩
  | .hbm, ⟨34, _⟩ => ⟨S4096x4x128, .f32⟩
  | .hbm, ⟨35, _⟩ => ⟨S1x1x128, .f32⟩
  | .hbm, ⟨36, _⟩ => ⟨S4096x4x128, .f32⟩
  | .hbm, ⟨37, _⟩ => ⟨S4096x4x128, .f32⟩
  | .hbm, ⟨38, _⟩ => ⟨S4096x4x128, .f32⟩
  | .hbm, ⟨39, _⟩ => ⟨S4096x4x128, .f32⟩
  | .hbm, ⟨40, _⟩ => ⟨S4096x4x128, .f32⟩
  | .hbm, ⟨41, _⟩ => ⟨S_, .f32⟩
  | .hbm, ⟨42, _⟩ => ⟨S4096x4x128, .f32⟩
  | .hbm, ⟨43, _⟩ => ⟨S4096x4x128, .f32⟩
  | .hbm, ⟨44, _⟩ => ⟨S_, .f32⟩
  | .hbm, ⟨45, _⟩ => ⟨S4096x4x128, .f32⟩
  | .hbm, ⟨46, _⟩ => ⟨S4096x4x128, .f32⟩
  | .hbm, ⟨47, _⟩ => ⟨S4096x4x128, .f32⟩
  | .hbm, ⟨48, _⟩ => ⟨S4096x4x128, .f32⟩
  | .hbm, ⟨49, _⟩ => ⟨S4096x512, .f32⟩
  | .hbm, ⟨50, _⟩ => ⟨S4096x4x128, .f32⟩
  | .hbm, ⟨51, _⟩ => ⟨S4096x4x128, .f32⟩
  | .hbm, ⟨52, _⟩ => ⟨S4096x4x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S_, .f32⟩
  | .hbm, ⟨57, _⟩ => ⟨S128, .f32⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩

abbrev nD : Nat := 1
abbrev τ : Topo := Topo.v7x

variable {F : FTy → Type} [FloatOps F]
-- ==== Proof.Spec.lean ====
/-
  The mathematics of the gated mixing's parameter gradients, with no program in sight: the tanh gelu, the layer norm of
  one row, and what one chunk of 128 rows adds to the gradients of the norm's gain and bias, of the mixing weights and of
  the mixing bias.  Everything is over the extended reals; a literal is the rational number its float word is.
-/
module

public import Idealize.ShloMosaic.PureOps.Ideal
public import Idealize.ShloMosaic.Lib.Pointwise

@[expose] public section

noncomputable section

namespace Cert.Spec

open Idealize.ShloMosaic

/-- The literal `0.044715` of the gelu. -/
abbrev c3 : EReal := Ideal.ofBits .f32 0x3D372713#32
/-- The literal `sqrt (2 / π)` of the gelu. -/
abbrev c1 : EReal := Ideal.ofBits .f32 0x3F4C422A#32
/-- The literal one half. -/
abbrev half : EReal := Ideal.ofBits .f32 0x3F000000#32

/-- The literal `512`, the width of the norm. -/
abbrev width : EReal := Ideal.ofBits .f32 0x44000000#32
/-- The literal `1e-5` of the norm. -/
abbrev eps : EReal := Ideal.ofBits .f32 0x3727C5AC#32

/-- The tanh form of gelu. -/
def gel (x : EReal) : EReal := half * x * (1 + Ideal.tanh (c1 * (x + c3 * x * x * x)))

/-- The mean of a row. -/
def mean (v : Fin 512 → EReal) : EReal := Ideal.div (∑ k, v k) width

/-- The reciprocal root of a row's variance. -/
def rstd (v : Fin 512 → EReal) : EReal :=
  Ideal.rsqrt (Ideal.div (∑ k, (v k - mean v) * (v k - mean v)) width + eps)

/-- The normalised row. -/
def vhat (v : Fin 512 → EReal) (k : Fin 512) : EReal := (v k - mean v) * rstd v

/-- The normalised row with its gain and bias. -/
def vnorm (v g b : Fin 512 → EReal) (k : Fin 512) : EReal := vhat v k * g k + b k

/-- Lane `e` of head `h`. -/
def lane (h : Fin 4) (e : Fin 128) : Fin 512 := ⟨h.val * 128 + e.val, by omega⟩

/-- Row `r` of chunk `n`. -/
def row (n : Fin 32) (r : Fin 128) : Fin 4096 := ⟨n.val * 128 + r.val, by omega⟩

/-- The gradient reaching the mixed values: the incoming gradient times the gate. -/
def dmix (u ct : Fin 128 → Fin 512 → EReal) (i : Fin 128) (k : Fin 512) : EReal := ct i k * gel (u i k)

/-- One chunk's share of the gradient of the mixing weight `w h i j` (zero above the diagonal). -/
def incW (u v ct : Fin 128 → Fin 512 → EReal) (g b : Fin 512 → EReal) (h : Fin 4) (i j : Fin 128) : EReal :=
  if j ≤ i then ∑ e : Fin 128, dmix u ct i (lane h e) * vnorm (fun k => gel (v j k)) g b (lane h e) else 0

/-- One chunk's share of the gradient of the mixing bias of head `h` at row `i`. -/
def incB (u ct : Fin 128 → Fin 512 → EReal) (i : Fin 128) (h : Fin 4) : EReal :=
  ∑ e : Fin 128, dmix u ct i (lane h e)

/-- The gradient reaching the norm's result at row `j`, lane `e` of head `h`: the causal weights' transpose. -/
def dvn (u ct : Fin 128 → Fin 512 → EReal) (w : Fin 4 → Fin 128 → Fin 128 → EReal) (j : Fin 128) (h : Fin 4) (e : Fin 128) :
    EReal :=
  ∑ i : Fin 128, (if j ≤ i then w h i j else 0) * dmix u ct i (lane h e)

/-- One chunk's share of the gradient of the norm's gain. -/
def incG (u v ct : Fin 128 → Fin 512 → EReal) (w : Fin 4 → Fin 128 → Fin 128 → EReal) (h : Fin 4) (e : Fin 128) : EReal :=
  ∑ j : Fin 128, dvn u ct w j h e * vhat (fun k => gel (v j k)) (lane h e)

/-- One chunk's share of the gradient of the norm's bias. -/
def incS (u ct : Fin 128 → Fin 512 → EReal) (w : Fin 4 → Fin 128 → Fin 128 → EReal) (h : Fin 4) (e : Fin 128) : EReal :=
  ∑ j : Fin 128, dvn u ct w j h e

/-- What one point adds to the bias's gradient: head `h` in column `h`, nothing in the other columns. -/
def termB (u ct : Fin 128 → Fin 512 → EReal) (i j : Fin 128) : EReal :=
  if h : j.val < 4 then incB u ct i ⟨j.val, h⟩ else 0

/-- What one point adds to row 0 (the gain) and row 1 (the bias) of the norm's gradient. -/
def termL (u v ct : Fin 128 → Fin 512 → EReal) (w : Fin 4 → Fin 128 → Fin 128 → EReal) (r : Fin 8) (k : Fin 512) : EReal :=
  if r.val = 0 then incG u v ct w ⟨k.val / 128, by omega⟩ ⟨k.val % 128, by omega⟩
  else if r.val = 1 then incS u ct w ⟨k.val / 128, by omega⟩ ⟨k.val % 128, by omega⟩
  else 0

theorem termL_zero (u v ct : Fin 128 → Fin 512 → EReal) (w : Fin 4 → Fin 128 → Fin 128 → EReal) (h : Fin 4) (e : Fin 128) :
    termL u v ct w 0 (lane h e) = incG u v ct w h e := by
  rw [termL, if_pos (show (0 : Fin 8).val = 0 from rfl)]
  congr 1
  · exact Fin.ext (by simp only [lane]; omega)
  · exact Fin.ext (by simp only [lane]; omega)
theorem termL_one (u v ct : Fin 128 → Fin 512 → EReal) (w : Fin 4 → Fin 128 → Fin 128 → EReal) (h : Fin 4) (e : Fin 128) :
    termL u v ct w 1 (lane h e) = incS u ct w h e := by
  rw [termL, if_neg (show ¬(1 : Fin 8).val = 0 by decide), if_pos (show (1 : Fin 8).val = 1 from rfl)]
  congr 1
  · exact Fin.ext (by simp only [lane]; omega)
  · exact Fin.ext (by simp only [lane]; omega)

/-- The first half of the projection in chunk `n`: the gate's input. -/
def gU (x : (⟨2, ![4096, 3200]⟩ : Shape).Idx → EReal) (n : Fin 32) (r : Fin 128) (k : Fin 512) : EReal :=
  x (ix2 (row n r) (⟨k.val, by omega⟩ : Fin 3200))

/-- The second half of the projection in chunk `n`: the mixed values' input. -/
def gV (x : (⟨2, ![4096, 3200]⟩ : Shape).Idx → EReal) (n : Fin 32) (r : Fin 128) (k : Fin 512) : EReal :=
  x (ix2 (row n r) (⟨512 + k.val, by omega⟩ : Fin 3200))

/-- The incoming gradient of the gated mixing in chunk `n`. -/
def gC (y : (⟨2, ![4096, 1024]⟩ : Shape).Idx → EReal) (n : Fin 32) (r : Fin 128) (k : Fin 512) : EReal :=
  y (ix2 (row n r) (⟨k.val, by omega⟩ : Fin 1024))

/-- Layer 0 of a stack of rows of 512. -/
def gR (g : (⟨2, ![4, 512]⟩ : Shape).Idx → EReal) (k : Fin 512) : EReal := g (ix2 (0 : Fin 4) k)

/-- Layer 0 of the mixing weights. -/
def gW (w : (⟨4, ![4, 4, 128, 128]⟩ : Shape).Idx → EReal) (h : Fin 4) (i j : Fin 128) : EReal := w (ix4 (0 : Fin 4) h i j)

theorem exists_lane (k : Fin 512) : ∃ (h : Fin 4) (e : Fin 128), k = lane h e :=
  ⟨⟨k.val / 128, by omega⟩, ⟨k.val % 128, by omega⟩, Fin.ext (by simp only [lane]; omega)⟩

end Cert.Spec

end
-- ==== Proof.Pay.lean ====
/-
  The kernel's arithmetic at a point, read at an index: each stored value of the gated mixing's backward as the expression
  of Spec.lean.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Pay

open Idealize.ShloMosaic Cert.KernelIdeal Cert.KernelIdeal.Gen Cert.Spec

/-- Selecting by "row at least column" is the causal `if`. -/
theorem select_sge {α : Type} (i j : Fin 128) (a b : α) :
    Scalar.select (IntOp.cmpi .sge (BitVec.ofNat 32 i.val) (BitVec.ofNat 32 j.val)) a b = if j ≤ i then a else b := by
  have h : ∀ i j : Fin 128, IntOp.cmpi .sge (BitVec.ofNat 32 i.val) (BitVec.ofNat 32 j.val) = if j ≤ i then 1#1 else 0#1 := by
    decide +kernel
  rw [h]
  by_cases hij : j ≤ i
  · rw [if_pos hij, if_pos hij]; rfl
  · rw [if_neg hij, if_neg hij]; rfl

/-- Selecting by "the column is `c`" is an `if`. -/
theorem select_col {α : Type} (c : Fin 4) (j : Fin 128) (a b : α) :
    Scalar.select (IntOp.cmpi .eq (BitVec.ofNat 32 j.val) (BitVec.ofNat 32 c.val)) a b = if j.val = c.val then a else b := by
  have h : ∀ (c : Fin 4) (j : Fin 128), IntOp.cmpi .eq (BitVec.ofNat 32 j.val) (BitVec.ofNat 32 c.val) = if j.val = c.val then 1#1 else 0#1 := by
    decide +kernel
  rw [h]
  by_cases hij : j.val = c.val
  · rw [if_pos hij, if_pos hij]; rfl
  · rw [if_neg hij, if_neg hij]; rfl

/-- The gate: the gelu of the first half, element by element. -/
theorem gate_apply (x : Vec Ideal S128x512 .f32) (r : Fin 128) (k : Fin 512) :
    k0_pay12 (F := Ideal) x (ix2 r k) = gel (x (ix2 r k)) := by
  pointwise [k0_pay12, gel]

theorem act_apply (x : Vec Ideal S128x512 .f32) (r : Fin 128) (k : Fin 512) :
    k0_pay13 (F := Ideal) x (ix2 r k) = gel (x (ix2 r k)) := by
  pointwise [k0_pay13, gel]

/-- The row's mean of the activated second half. -/
theorem mean_apply (x : Vec Ideal S128x512 .f32) (r : Fin 128) :
    k0_pay14 (F := Ideal) x (ix2 r 0) = mean (fun k => gel (x (ix2 r k))) := by
  pointwise [k0_pay14]
  simp only [act_apply, mean]

/-- The normalised second half. -/
theorem vhat_apply (x : Vec Ideal S128x512 .f32) (r : Fin 128) (k : Fin 512) :
    k0_pay17 (F := Ideal) (k0_pay13 x) (k0_pay14 x) (ix2 r k) = vhat (fun k => gel (x (ix2 r k))) k := by
  pointwise [k0_pay17, k0_pay16, k0_pay15]
  simp only [act_apply, mean_apply, vhat, rstd]

/-- The normalised second half with its gain and bias. -/
theorem vn_apply (x : Vec Ideal S128x512 .f32) (g b : Vec Ideal S1x1x512 .f32) (r : Fin 128) (k : Fin 512) :
    k0_pay18 (F := Ideal) (k0_pay13 x) (k0_pay14 x) g b (ix2 r k)
      = vnorm (fun k => gel (x (ix2 r k))) (fun k => g (ix3 0 0 k)) (fun k => b (ix3 0 0 k)) k := by
  pointwise [k0_pay18]
  simp only [vhat_apply, vnorm]

/-- The causal weights of each head. -/
theorem wm0_apply (w : Vec Ideal S1x1x128x128 .f32) (i j : Fin 128) :
    k0_pay20 (F := Ideal) k0_pay11 w (ix2 i j) = if j ≤ i then w (ix4 0 0 i j) else 0 := by
  pointwise [k0_pay20, k0_pay11]; exact select_sge i j _ _
theorem wm1_apply (w : Vec Ideal S1x1x128x128 .f32) (i j : Fin 128) :
    k0_pay22 (F := Ideal) k0_pay11 w (ix2 i j) = if j ≤ i then w (ix4 0 0 i j) else 0 := by
  pointwise [k0_pay22, k0_pay11]; exact select_sge i j _ _
theorem wm2_apply (w : Vec Ideal S1x1x128x128 .f32) (i j : Fin 128) :
    k0_pay24 (F := Ideal) k0_pay11 w (ix2 i j) = if j ≤ i then w (ix4 0 0 i j) else 0 := by
  pointwise [k0_pay24, k0_pay11]; exact select_sge i j _ _
theorem wm3_apply (w : Vec Ideal S1x1x128x128 .f32) (i j : Fin 128) :
    k0_pay28 (F := Ideal) k0_pay11 (k0_pay26 w) k0_pay27 (ix2 i j) = if j ≤ i then w (ix4 0 0 i j) else 0 := by
  pointwise [k0_pay28, k0_pay27, k0_pay26, k0_pay11]; exact select_sge i j _ _

/-- The gradient reaching the mixed values, head by head. -/
theorem dm0_apply (ug : Vec Ideal S128x512 .f32) (dy : Vec Ideal S128x128 .bf16) (i e : Fin 128) :
    k0_pay32 (F := Ideal) ug dy (ix2 i e) = dy (ix2 i e) * ug (ix2 i (lane 0 e)) := by
  pointwise [k0_pay32, k0_pay31]; congr 3; exact Fin.ext (by simp [lane])
theorem dm1_apply (ug : Vec Ideal S128x512 .f32) (dy : Vec Ideal S128x128 .bf16) (i e : Fin 128) :
    k0_pay38 (F := Ideal) ug dy (ix2 i e) = dy (ix2 i e) * ug (ix2 i (lane 1 e)) := by
  pointwise [k0_pay38, k0_pay37]; rfl
theorem dm2_apply (ug : Vec Ideal S128x512 .f32) (dy : Vec Ideal S128x128 .bf16) (i e : Fin 128) :
    k0_pay44 (F := Ideal) ug dy (ix2 i e) = dy (ix2 i e) * ug (ix2 i (lane 2 e)) := by
  pointwise [k0_pay44, k0_pay43]; rfl
theorem dm3_apply (ug : Vec Ideal S128x512 .f32) (dy : Vec Ideal S128x128 .bf16) (i e : Fin 128) :
    k0_pay50 (F := Ideal) ug dy (ix2 i e) = dy (ix2 i e) * ug (ix2 i (lane 3 e)) := by
  pointwise [k0_pay50, k0_pay49]; rfl

/-- What each head adds to its block of the weights' gradient. -/
theorem dw0_apply (ug vn : Vec Ideal S128x512 .f32) (dy : Vec Ideal S128x128 .bf16) (a : Vec Ideal S1x128x128 .f32) (i j : Fin 128) :
    k0_pay34 (F := Ideal) k0_pay9 ug vn dy a (ix3 0 i j) = a (ix3 0 i j) +
      if j ≤ i then ∑ e : Fin 128, k0_pay32 (F := Ideal) ug dy (ix2 i e) * vn (ix2 j (lane 0 e)) else 0 := by
  pointwise [k0_pay34, k0_pay9]
  rw [select_sge]
  congr 1
theorem dw1_apply (ug vn : Vec Ideal S128x512 .f32) (dy : Vec Ideal S128x128 .bf16) (a : Vec Ideal S1x128x128 .f32) (i j : Fin 128) :
    k0_pay40 (F := Ideal) k0_pay9 ug vn dy a (ix3 0 i j) = a (ix3 0 i j) +
      if j ≤ i then ∑ e : Fin 128, k0_pay38 (F := Ideal) ug dy (ix2 i e) * vn (ix2 j (lane 1 e)) else 0 := by
  pointwise [k0_pay40, k0_pay9]
  rw [select_sge]; rfl
theorem dw2_apply (vn : Vec Ideal S128x512 .f32) (dm : Vec Ideal S128x128 .f32) (a : Vec Ideal S1x128x128 .f32) (i j : Fin 128) :
    k0_pay46 (F := Ideal) k0_pay9 vn dm a (ix3 0 i j) = a (ix3 0 i j) +
      if j ≤ i then ∑ e : Fin 128, dm (ix2 i e) * vn (ix2 j (lane 2 e)) else 0 := by
  pointwise [k0_pay46, k0_pay9]
  rw [select_sge]; rfl
theorem dw3_apply (ug vn : Vec Ideal S128x512 .f32) (dy : Vec Ideal S128x128 .bf16) (a : Vec Ideal S1x128x128 .f32) (i j : Fin 128) :
    k0_pay53 (F := Ideal) (k0_pay52 k0_pay9 ug vn dy a) (ix3 0 i j) = a (ix3 0 i j) +
      if j ≤ i then ∑ e : Fin 128, k0_pay50 (F := Ideal) ug dy (ix2 i e) * vn (ix2 j (lane 3 e)) else 0 := by
  pointwise [k0_pay53, k0_pay52, k0_pay9]
  rw [select_sge]; rfl

/-- The bias's gradient: each head's row sums in its own column. -/
theorem db0_apply (ug : Vec Ideal S128x512 .f32) (dy : Vec Ideal S128x128 .bf16) (i j : Fin 128) :
    k0_pay35 (F := Ideal) ug dy (ix2 i j) =
      if j.val = 0 then ∑ e : Fin 128, k0_pay32 (F := Ideal) ug dy (ix2 i e) else 0 := by
  pointwise [k0_pay35]
  exact select_col 0 j _ _
theorem db1_apply (ug : Vec Ideal S128x512 .f32) (z a : Vec Ideal S128x128 .f32) (dy : Vec Ideal S128x128 .bf16) (i j : Fin 128) :
    k0_pay41 (F := Ideal) ug z a dy (ix2 i j) = z (ix2 i j) + a (ix2 i j) +
      if j.val = 1 then ∑ e : Fin 128, k0_pay38 (F := Ideal) ug dy (ix2 i e) else 0 := by
  pointwise [k0_pay41]
  exact congrArg (_ + ·) (select_col 1 j _ _)
theorem db2_apply (a dm : Vec Ideal S128x128 .f32) (i j : Fin 128) :
    k0_pay47 (F := Ideal) a dm (ix2 i j) = a (ix2 i j) +
      if j.val = 2 then ∑ e : Fin 128, dm (ix2 i e) else 0 := by
  pointwise [k0_pay47]
  exact congrArg (_ + ·) (select_col 2 j _ _)
theorem db3_apply (a dm acc : Vec Ideal S128x128 .f32) (i j : Fin 128) :
    k0_pay54 (F := Ideal) a dm acc (ix2 i j) = acc (ix2 i j) + (a (ix2 i j) +
      if j.val = 3 then ∑ e : Fin 128, dm (ix2 i e) else 0) := by
  pointwise [k0_pay54]
  exact congrArg (fun t => _ + (_ + t)) (select_col 3 j _ _)
theorem zero_apply (i j : Fin 128) : k0_pay30 (F := Ideal) (ix2 i j) = 0 := by
  pointwise [k0_pay30]

/-- The gradient reaching the norm's result, head by head. -/
theorem dv0_apply (wm dm : Vec Ideal S128x128 .f32) (j e : Fin 128) :
    k0_pay36 (F := Ideal) wm dm (ix2 j e) = ∑ i : Fin 128, wm (ix2 i j) * dm (ix2 i e) := by
  pointwise [k0_pay36]
theorem dv1_apply (ug : Vec Ideal S128x512 .f32) (wm : Vec Ideal S128x128 .f32) (dy : Vec Ideal S128x128 .bf16) (j e : Fin 128) :
    k0_pay42 (F := Ideal) ug wm dy (ix2 j e) = ∑ i : Fin 128, wm (ix2 i j) * k0_pay38 (F := Ideal) ug dy (ix2 i e) := by
  pointwise [k0_pay42]
theorem dv2_apply (wm dm : Vec Ideal S128x128 .f32) (j e : Fin 128) :
    k0_pay48 (F := Ideal) wm dm (ix2 j e) = ∑ i : Fin 128, wm (ix2 i j) * dm (ix2 i e) := by
  pointwise [k0_pay48]

/-- The four heads side by side: lane `e` of head `h` is that head's block at `e`. -/
theorem dv_apply (wm a b c dm : Vec Ideal S128x128 .f32) (j : Fin 128) (h : Fin 4) (e : Fin 128) :
    k0_pay55 (F := Ideal) wm a b c dm (ix2 j (lane h e)) =
      match h with
      | 0 => a (ix2 j e)
      | 1 => b (ix2 j e)
      | 2 => c (ix2 j e)
      | 3 => ∑ i : Fin 128, wm (ix2 i j) * dm (ix2 i e) := by
  have he := e.isLt
  match h with
  | 0 =>
    pointwise [k0_pay55, lane]
  | 1 =>
    pointwise [k0_pay55, lane]
  | 2 =>
    pointwise [k0_pay55, lane]
    rw [dif_neg (by omega), dif_neg (by omega), dif_pos (by omega)]
    congr 2; exact Fin.ext (by simp; omega)
  | 3 =>
    pointwise [k0_pay55, lane]
    rw [dif_neg (by omega), dif_neg (by omega), dif_neg (by omega)]
    refine Finset.sum_congr rfl fun i _ => ?_
    congr 3; exact Fin.ext (by simp; omega)

/-- The norm's gain and bias: the sums over the chunk's rows. -/
theorem dg_apply (vh : Vec Ideal S128x512 .f32) (wm a b c dm : Vec Ideal S128x128 .f32) (acc : Vec Ideal S1x512 .f32) (k : Fin 512) :
    k0_pay57 (F := Ideal) vh wm a b c dm acc (ix2 0 k) = acc (ix2 0 k) +
      ∑ j : Fin 128, k0_pay55 (F := Ideal) wm a b c dm (ix2 j k) * vh (ix2 j k) := by
  pointwise [k0_pay57]
theorem ds_apply (wm a b c dm : Vec Ideal S128x128 .f32) (acc : Vec Ideal S1x512 .f32) (k : Fin 512) :
    k0_pay58 (F := Ideal) wm a b c dm acc (ix2 0 k) = acc (ix2 0 k) +
      ∑ j : Fin 128, k0_pay55 (F := Ideal) wm a b c dm (ix2 j k) := by
  pointwise [k0_pay58]

end Cert.KernelIdeal.Pay

end
-- ==== Proof.Fold.lean ====
/-
  The kernel's accumulators, read at an index: what one grid point adds to the gradients of the gated mixing's parameters,
  and the sum over the 32 points.  Point `t` works on chunk `31 - t`.
-/
module

public import proofs.«01_k».proof.Proof.Gen.KernelIdeal.Value
public import proofs.«01_k».proof.Proof.Pay
public import Idealize.ShloMosaic.Lib.Pipeline.ValueKit
public import Idealize.ShloMosaic.Lib.WritesUnit
public import Idealize.ShloMosaic.Lib.Claim

@[expose] public section

set_option maxRecDepth 16384

noncomputable section

namespace Cert.KernelIdeal.Fold

open Idealize.ShloMosaic Idealize.ShloMosaic.TcCoe Idealize.SL.Sem Cert.KernelIdeal Cert.KernelIdeal.Gen Cert.KernelIdeal.Pay Cert.Spec
open Idealize.ShloMosaic.Pipeline (Dat)

/-! ## Stores over a buffer, read at an index -/

section Stores

variable {Val : EltTy → Type} [∀ e, Nonempty (Val e)] {s : Shape} {e : EltTy}

/-- An index inside the newest store reads its payload. -/
theorem canon_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- An index outside the newest store reads what the earlier ones left. -/
theorem canon_not_mem {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L fun hmem => ?_
  have hm : y ∈ (Rect.unit off size inb).set := hmem
  have := Rect.mem_set_unit.mp hm a
  omega

/-- A load of a rectangle after stores that cover it reads the stores at the rectangle's index. -/
theorem readCov_at {sig : RefSig} {κ : Kind} {sp : Space} (v : View sig κ sp s e) (L : List (View.Piece Val s e))
    {off size : Fin s.rank → ℕ} (inb : ∀ a, off a + size a ≤ s.size a) (x : (Rect.unit off size inb).shape.Idx) (y : s.Idx)
    (hx : ∀ a, (y a).val = off a + (x a).val) :
    v.readCov L (Rect.unit off size inb).toLoadRect x = View.canon L y := by
  have hy : (Rect.unit off size inb).emb x = y := funext fun a => Fin.ext (by
    show off a + 1 * (x a).val = (y a).val
    rw [hx a, Nat.one_mul])
  rw [← hy]
  exact congrFun (View.readCov_eq_canon' v L _) x

end Stores

variable (m : (ℓ : Loc nD τ sig) → Buf (Elt Ideal) ℓ) (c : Dev nD)

/-! ## The windows' blocks -/

theorem idx0 : ∀ t : Fin cfg0.N, win0_0.index t = ![31 - t.val, 0] := by decide +kernel
theorem idx1 : ∀ t : Fin cfg0.N, win0_1.index t = ![31 - t.val, 0] := by decide +kernel
theorem idx8 : ∀ t : Fin cfg0.N, win0_8.index t = ![0, 0, 0] := by decide +kernel
theorem idx9 : ∀ t : Fin cfg0.N, win0_9.index t = ![0, 0, 0, 0] := by decide +kernel

/-- The chunk point `t` works on. -/
def blk (t : Fin cfg0.N) : Fin 32 := ⟨31 - t.val, by omega⟩

/-- The padded stack of the norm's gain and bias, as the host hands it to the kernel. -/
theorem V_v3 : V m c main_v3 = pad S4x8x512 ![0, 0, 0] ![0, 6, 0] ![0, 0, 0]
    (concatenate S4x2x512 1
      [⟨S4x1x512, broadcastInDim S4x1x512 ![0, 2] bcast_S4x512_S4x1x512_0_2 (m ((c : Thread nD τ).loc main_arg8) : Vec Ideal S4x512 .f32)⟩,
       ⟨S4x1x512, broadcastInDim S4x1x512 ![0, 2] bcast_S4x512_S4x1x512_0_2 (m ((c : Thread nD τ).loc main_arg9) : Vec Ideal S4x512 .f32)⟩]
      concatenates_S4x1x512_S4x1x512_S4x2x512_d1)
    (sitofp (F := Ideal) .f32 (constantI S_ 32 0#32)) pads_S4x2x512_S4x8x512_000_060_000 h_S_ := by
  simp only [V, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  rfl

/-- The kernel's arguments, as arrays. -/
abbrev x0 : Vec Ideal S4096x3200 .f32 := m ((c : Thread nD τ).loc main_arg0)
abbrev x1 : Vec Ideal S4096x1024 .bf16 := m ((c : Thread nD τ).loc main_arg1)
abbrev x8 : Vec Ideal S4x512 .f32 := m ((c : Thread nD τ).loc main_arg8)
abbrev x9 : Vec Ideal S4x512 .f32 := m ((c : Thread nD τ).loc main_arg9)
abbrev x10 : Vec Ideal S4x4x128x128 .f32 := m ((c : Thread nD τ).loc main_arg10)

/-- The blocks' parts that the body loads. -/
abbrev lU (t : Fin cfg0.N) : Vec Ideal S128x512 .f32 :=
  View.ld (iblk m c 0 t) (Rect.unit ![0, 0] ![128, 512] inb_S128x3200_S128x512_0_0)
abbrev lV (t : Fin cfg0.N) : Vec Ideal S128x512 .f32 :=
  View.ld (iblk m c 0 t) (Rect.unit ![0, 512] ![128, 512] inb_S128x3200_S128x512_0_512)
abbrev lG (t : Fin cfg0.N) : Vec Ideal S1x1x512 .f32 :=
  View.ld (iblk m c 8 t) (Rect.unit ![0, 0, 0] ![1, 1, 512] inb_S1x8x512_S1x1x512_0_0_0)
abbrev lB (t : Fin cfg0.N) : Vec Ideal S1x1x512 .f32 :=
  View.ld (iblk m c 8 t) (Rect.unit ![0, 1, 0] ![1, 1, 512] inb_S1x8x512_S1x1x512_0_1_0)

abbrev lC0 (t : Fin cfg0.N) : Vec Ideal S128x128 .bf16 :=
  View.ld (iblk m c 1 t) (Rect.unit ![0, 0] ![128, 128] inb_S128x1024_S128x128_0_0)
abbrev lW0 (t : Fin cfg0.N) : Vec Ideal S1x1x128x128 .f32 :=
  View.ld (iblk m c 9 t) (Rect.unit ![0, 0, 0, 0] ![1, 1, 128, 128] inb_S1x4x128x128_S1x1x128x128_0_0_0_0)

abbrev lC1 (t : Fin cfg0.N) : Vec Ideal S128x128 .bf16 :=
  View.ld (iblk m c 1 t) (Rect.unit ![0, 128] ![128, 128] inb_S128x1024_S128x128_0_128)
abbrev lW1 (t : Fin cfg0.N) : Vec Ideal S1x1x128x128 .f32 :=
  View.ld (iblk m c 9 t) (Rect.unit ![0, 1, 0, 0] ![1, 1, 128, 128] inb_S1x4x128x128_S1x1x128x128_0_1_0_0)

abbrev lC2 (t : Fin cfg0.N) : Vec Ideal S128x128 .bf16 :=
  View.ld (iblk m c 1 t) (Rect.unit ![0, 256] ![128, 128] inb_S128x1024_S128x128_0_256)
abbrev lW2 (t : Fin cfg0.N) : Vec Ideal S1x1x128x128 .f32 :=
  View.ld (iblk m c 9 t) (Rect.unit ![0, 2, 0, 0] ![1, 1, 128, 128] inb_S1x4x128x128_S1x1x128x128_0_2_0_0)

abbrev lC3 (t : Fin cfg0.N) : Vec Ideal S128x128 .bf16 :=
  View.ld (iblk m c 1 t) (Rect.unit ![0, 384] ![128, 128] inb_S128x1024_S128x128_0_384)
abbrev lW3 (t : Fin cfg0.N) : Vec Ideal S1x1x128x128 .f32 :=
  View.ld (iblk m c 9 t) (Rect.unit ![0, 3, 0, 0] ![1, 1, 128, 128] inb_S1x4x128x128_S1x1x128x128_0_3_0_0)

theorem lU_apply (t : Fin cfg0.N) (r : Fin 128) (k : Fin 512) : lU m c t (ix2 r k) = gU (x0 m c) (blk t) r k := by
  unfold lU gU row blk; pointwise; blk_ext! [iblk, V, idx0 t]
theorem lV_apply (t : Fin cfg0.N) (r : Fin 128) (k : Fin 512) : lV m c t (ix2 r k) = gV (x0 m c) (blk t) r k := by
  unfold lV gV row blk; pointwise; blk_ext! [iblk, V, idx0 t]
theorem lG_apply (t : Fin cfg0.N) (k : Fin 512) : lG m c t (ix3 0 0 k) = gR (x8 m c) k := by
  unfold lG gR; pointwise; blk_simp [iblk]; rw [V_v3]
  have e : (win0_8.blk t).view.emb (ix3 (0 : Fin 1) (0 : Fin 8) k) = ix3 (0 : Fin 4) (0 : Fin 8) k := by blk_ext [idx8 t]
  rw [e]; pointwise
theorem lB_apply (t : Fin cfg0.N) (k : Fin 512) : lB m c t (ix3 0 0 k) = gR (x9 m c) k := by
  unfold lB gR; pointwise; blk_simp [iblk]; rw [V_v3]
  have e : (win0_8.blk t).view.emb (ix3 (0 : Fin 1) (1 : Fin 8) k) = ix3 (0 : Fin 4) (1 : Fin 8) k := by blk_ext [idx8 t]
  rw [e]; pointwise

theorem lC0_apply (t : Fin cfg0.N) (r e : Fin 128) : lC0 m c t (ix2 r e) = gC (x1 m c) (blk t) r (lane 0 e) := by
  unfold lC0 gC row blk lane; pointwise; blk_ext! [iblk, V, idx1 t]
theorem lW0_apply (t : Fin cfg0.N) (i j : Fin 128) : lW0 m c t (ix4 0 0 i j) = gW (x10 m c) 0 i j := by
  unfold lW0 gW; pointwise; blk_ext! [iblk, V, idx9 t]

theorem lC1_apply (t : Fin cfg0.N) (r e : Fin 128) : lC1 m c t (ix2 r e) = gC (x1 m c) (blk t) r (lane 1 e) := by
  unfold lC1 gC row blk lane; pointwise; blk_ext! [iblk, V, idx1 t]
theorem lW1_apply (t : Fin cfg0.N) (i j : Fin 128) : lW1 m c t (ix4 0 0 i j) = gW (x10 m c) 1 i j := by
  unfold lW1 gW; pointwise; blk_ext! [iblk, V, idx9 t]

theorem lC2_apply (t : Fin cfg0.N) (r e : Fin 128) : lC2 m c t (ix2 r e) = gC (x1 m c) (blk t) r (lane 2 e) := by
  unfold lC2 gC row blk lane; pointwise; blk_ext! [iblk, V, idx1 t]
theorem lW2_apply (t : Fin cfg0.N) (i j : Fin 128) : lW2 m c t (ix4 0 0 i j) = gW (x10 m c) 2 i j := by
  unfold lW2 gW; pointwise; blk_ext! [iblk, V, idx9 t]

theorem lC3_apply (t : Fin cfg0.N) (r e : Fin 128) : lC3 m c t (ix2 r e) = gC (x1 m c) (blk t) r (lane 3 e) := by
  unfold lC3 gC row blk lane; pointwise; blk_ext! [iblk, V, idx1 t]
theorem lW3_apply (t : Fin cfg0.N) (i j : Fin 128) : lW3 m c t (ix4 0 0 i j) = gW (x10 m c) 3 i j := by
  unfold lW3 gW; pointwise; blk_ext! [iblk, V, idx9 t]

/-! ## One point -/

/-- The gate and the normalised mixed values at point `t`. -/
abbrev ug (t : Fin cfg0.N) : Vec Ideal S128x512 .f32 := k0_pay12 (lU m c t)
abbrev vh (t : Fin cfg0.N) : Vec Ideal S128x512 .f32 := k0_pay17 (k0_pay13 (lV m c t)) (k0_pay14 (lV m c t))
abbrev vn (t : Fin cfg0.N) : Vec Ideal S128x512 .f32 := k0_pay18 (k0_pay13 (lV m c t)) (k0_pay14 (lV m c t)) (lG m c t) (lB m c t)
/-- The gradient reaching the norm's result at point `t`. -/
abbrev dv (t : Fin cfg0.N) : Vec Ideal S128x512 .f32 :=
  k0_pay55 (k0_pay28 k0_pay11 (k0_pay26 (lW3 m c t)) k0_pay27)
    (k0_pay36 (k0_pay20 k0_pay11 (lW0 m c t)) (k0_pay32 (ug m c t) (lC0 m c t)))
    (k0_pay42 (ug m c t) (k0_pay22 k0_pay11 (lW1 m c t)) (lC1 m c t))
    (k0_pay48 (k0_pay24 k0_pay11 (lW2 m c t)) (k0_pay44 (ug m c t) (lC2 m c t)))
    (k0_pay50 (ug m c t) (lC3 m c t))

/-- The chunk's data, as functions of row and lane. -/
abbrev cU (t : Fin cfg0.N) := gU (x0 m c) (blk t)
abbrev cV (t : Fin cfg0.N) := gV (x0 m c) (blk t)
abbrev cC (t : Fin cfg0.N) := gC (x1 m c) (blk t)

theorem ug_apply (t : Fin cfg0.N) (r : Fin 128) (k : Fin 512) : ug m c t (ix2 r k) = gel (cU m c t r k) := by
  refine (gate_apply _ r k).trans ?_
  rw [lU_apply]
theorem vh_apply (t : Fin cfg0.N) (r : Fin 128) (k : Fin 512) : vh m c t (ix2 r k) = vhat (fun k => gel (cV m c t r k)) k := by
  refine (vhat_apply _ r k).trans ?_
  simp only [lV_apply]
theorem vn_apply' (t : Fin cfg0.N) (r : Fin 128) (k : Fin 512) :
    vn m c t (ix2 r k) = vnorm (fun k => gel (cV m c t r k)) (gR (x8 m c)) (gR (x9 m c)) k := by
  refine (vn_apply _ _ _ r k).trans ?_
  simp only [lV_apply, lG_apply, lB_apply]

theorem dm0 (t : Fin cfg0.N) (i e : Fin 128) :
    k0_pay32 (F := Ideal) (ug m c t) (lC0 m c t) (ix2 i e) = dmix (cU m c t) (cC m c t) i (lane 0 e) := by
  rw [dm0_apply, ug_apply, lC0_apply]; rfl

theorem dm1 (t : Fin cfg0.N) (i e : Fin 128) :
    k0_pay38 (F := Ideal) (ug m c t) (lC1 m c t) (ix2 i e) = dmix (cU m c t) (cC m c t) i (lane 1 e) := by
  rw [dm1_apply, ug_apply, lC1_apply]; rfl

theorem dm2 (t : Fin cfg0.N) (i e : Fin 128) :
    k0_pay44 (F := Ideal) (ug m c t) (lC2 m c t) (ix2 i e) = dmix (cU m c t) (cC m c t) i (lane 2 e) := by
  rw [dm2_apply, ug_apply, lC2_apply]; rfl

theorem dm3 (t : Fin cfg0.N) (i e : Fin 128) :
    k0_pay50 (F := Ideal) (ug m c t) (lC3 m c t) (ix2 i e) = dmix (cU m c t) (cC m c t) i (lane 3 e) := by
  rw [dm3_apply, ug_apply, lC3_apply]; rfl

theorem dw0 (t : Fin cfg0.N) (a : Vec Ideal S1x128x128 .f32) (i j : Fin 128) :
    k0_pay34 (F := Ideal) k0_pay9 (ug m c t) (vn m c t) (lC0 m c t) a (ix3 0 i j)
      = a (ix3 0 i j) + incW (cU m c t) (cV m c t) (cC m c t) (gR (x8 m c)) (gR (x9 m c)) 0 i j := by
  rw [dw0_apply]; simp only [dm0, vn_apply', incW]

theorem dw1 (t : Fin cfg0.N) (a : Vec Ideal S1x128x128 .f32) (i j : Fin 128) :
    k0_pay40 (F := Ideal) k0_pay9 (ug m c t) (vn m c t) (lC1 m c t) a (ix3 0 i j)
      = a (ix3 0 i j) + incW (cU m c t) (cV m c t) (cC m c t) (gR (x8 m c)) (gR (x9 m c)) 1 i j := by
  rw [dw1_apply]; simp only [dm1, vn_apply', incW]

theorem dw2 (t : Fin cfg0.N) (a : Vec Ideal S1x128x128 .f32) (i j : Fin 128) :
    k0_pay46 (F := Ideal) k0_pay9 (vn m c t) (k0_pay44 (ug m c t) (lC2 m c t)) a (ix3 0 i j)
      = a (ix3 0 i j) + incW (cU m c t) (cV m c t) (cC m c t) (gR (x8 m c)) (gR (x9 m c)) 2 i j := by
  rw [dw2_apply]; simp only [dm2, vn_apply', incW]

theorem dw3 (t : Fin cfg0.N) (a : Vec Ideal S1x128x128 .f32) (i j : Fin 128) :
    k0_pay53 (F := Ideal) (k0_pay52 k0_pay9 (ug m c t) (vn m c t) (lC3 m c t) a) (ix3 0 i j)
      = a (ix3 0 i j) + incW (cU m c t) (cV m c t) (cC m c t) (gR (x8 m c)) (gR (x9 m c)) 3 i j := by
  rw [dw3_apply]; simp only [dm3, vn_apply', incW]

theorem db (t : Fin cfg0.N) (acc : Vec Ideal S128x128 .f32) (i j : Fin 128) :
    k0_pay54 (F := Ideal) (k0_pay47 (k0_pay41 (ug m c t) k0_pay30 (k0_pay35 (ug m c t) (lC0 m c t)) (lC1 m c t)) (k0_pay44 (ug m c t) (lC2 m c t)))
        (k0_pay50 (ug m c t) (lC3 m c t)) acc (ix2 i j)
      = acc (ix2 i j) + termB (cU m c t) (cC m c t) i j := by
  rw [db3_apply, db2_apply, db1_apply, db0_apply, zero_apply]
  simp only [dm0, dm1, dm2, dm3, termB, incB, zero_add]
  congr 1
  by_cases h0 : j.val = 0
  · simp [h0]
  by_cases h1 : j.val = 1
  · simp [h1]
  by_cases h2 : j.val = 2
  · simp [h2]
  by_cases h3 : j.val = 3
  · simp [h3]
  rw [if_neg h0, if_neg h1, if_neg h2, if_neg h3, dif_neg (by omega)]
  simp

theorem dv_apply' (t : Fin cfg0.N) (j : Fin 128) (h : Fin 4) (e : Fin 128) :
    dv m c t (ix2 j (lane h e)) = dvn (cU m c t) (cC m c t) (gW (x10 m c)) j h e := by
  refine (dv_apply _ _ _ _ _ j h e).trans ?_
  match h with
  | 0 => simp only [dv0_apply, wm0_apply, lW0_apply, dm0, dvn]
  | 1 => simp only [dv1_apply, wm1_apply, lW1_apply, dm1, dvn]
  | 2 => simp only [dv2_apply, wm2_apply, lW2_apply, dm2, dvn]
  | 3 => simp only [wm3_apply, lW3_apply, dm3, dvn]

theorem dl0 (t : Fin cfg0.N) (acc : Vec Ideal S1x512 .f32) (k : Fin 512) :
    k0_pay57 (F := Ideal) (vh m c t) (k0_pay28 k0_pay11 (k0_pay26 (lW3 m c t)) k0_pay27)
      (k0_pay36 (k0_pay20 k0_pay11 (lW0 m c t)) (k0_pay32 (ug m c t) (lC0 m c t)))
      (k0_pay42 (ug m c t) (k0_pay22 k0_pay11 (lW1 m c t)) (lC1 m c t))
      (k0_pay48 (k0_pay24 k0_pay11 (lW2 m c t)) (k0_pay44 (ug m c t) (lC2 m c t)))
      (k0_pay50 (ug m c t) (lC3 m c t)) acc (ix2 0 k)
      = acc (ix2 0 k) + termL (cU m c t) (cV m c t) (cC m c t) (gW (x10 m c)) 0 k := by
  obtain ⟨h, e, rfl⟩ := exists_lane k
  rw [dg_apply, termL_zero]
  simp only [dv_apply', vh_apply, incG]

theorem dl1 (t : Fin cfg0.N) (acc : Vec Ideal S1x512 .f32) (k : Fin 512) :
    k0_pay58 (F := Ideal) (k0_pay28 k0_pay11 (k0_pay26 (lW3 m c t)) k0_pay27)
      (k0_pay36 (k0_pay20 k0_pay11 (lW0 m c t)) (k0_pay32 (ug m c t) (lC0 m c t)))
      (k0_pay42 (ug m c t) (k0_pay22 k0_pay11 (lW1 m c t)) (lC1 m c t))
      (k0_pay48 (k0_pay24 k0_pay11 (lW2 m c t)) (k0_pay44 (ug m c t) (lC2 m c t)))
      (k0_pay50 (ug m c t) (lC3 m c t)) acc (ix2 0 k)
      = acc (ix2 0 k) + termL (cU m c t) (cV m c t) (cC m c t) (gW (x10 m c)) 1 k := by
  obtain ⟨h, e, rfl⟩ := exists_lane k
  rw [ds_apply, termL_one]
  simp only [dv_apply', incS]

/-! ## The accumulators after a point -/

theorem zeroL (r : Fin 8) (k : Fin 512) : k0_pay4 (F := Ideal) (ix2 r k) = 0 := by pointwise [k0_pay4]
theorem zeroW (h : Fin 4) (i j : Fin 128) : k0_pay5 (F := Ideal) (ix3 h i j) = 0 := by pointwise [k0_pay5]
theorem zeroB (i j : Fin 128) : k0_pay6 (F := Ideal) (ix2 i j) = 0 := by pointwise [k0_pay6]

theorem b_A (t : Fin cfg0.N) (h : t.val % 32 = 0) (i j : Fin 128) :
    (outsAt0 m c t.val t.isLt).2.2.2.1 (ix2 i j) = 0 + termB (cU m c t) (cC m c t) i j := by
  rw [outsAt0_A m c t h]
  frame_out
  refine (db m c t _ i j).trans ?_
  rw [zeroB]

theorem b_B (t : Fin cfg0.N) (h : ¬ t.val % 32 = 0) (i j : Fin 128) :
    (outsAt0 m c t.val t.isLt).2.2.2.1 (ix2 i j)
      = (outsAt0 m c (t.val - 1) (Nat.lt_of_le_of_lt (Nat.sub_le _ _) t.isLt)).2.2.2.1 (ix2 i j) + termB (cU m c t) (cC m c t) i j := by
  rw [outsAt0_B m c t h]
  frame_out
  exact db m c t _ i j

/-- What one point adds to the weights' gradient. -/
abbrev termW (t : Fin cfg0.N) (h : Fin 4) (i j : Fin 128) : EReal :=
  incW (cU m c t) (cV m c t) (cC m c t) (gR (x8 m c)) (gR (x9 m c)) h i j

theorem w_B (t : Fin cfg0.N) (hn : ¬ t.val % 32 = 0) (h : Fin 4) (i j : Fin 128) :
    (outsAt0 m c t.val t.isLt).2.2.1 (ix3 h i j)
      = (outsAt0 m c (t.val - 1) (Nat.lt_of_le_of_lt (Nat.sub_le _ _) t.isLt)).2.2.1 (ix3 h i j) + termW m c t h i j := by
  rw [outsAt0_B m c t hn]
  frame_out
  match h with
  | 3 =>
    rw [canon_mem _ _ _ _ (ix3 0 i j) (by intro a; fin_cases a <;> simp)]
    refine (dw3 m c t _ i j).trans ?_
    pointwise
  | 2 =>
    rw [canon_not_mem _ _ _ _ 0 (by simp), canon_mem _ _ _ _ (ix3 0 i j) (by intro a; fin_cases a <;> simp)]
    refine (dw2 m c t _ i j).trans ?_
    pointwise
  | 1 =>
    rw [canon_not_mem _ _ _ _ 0 (by simp), canon_not_mem _ _ _ _ 0 (by simp), canon_mem _ _ _ _ (ix3 0 i j) (by intro a; fin_cases a <;> simp)]
    refine (dw1 m c t _ i j).trans ?_
    pointwise
  | 0 =>
    rw [canon_not_mem _ _ _ _ 0 (by simp), canon_not_mem _ _ _ _ 0 (by simp), canon_not_mem _ _ _ _ 0 (by simp), canon_mem _ _ _ _ (ix3 0 i j) (by intro a; fin_cases a <;> simp)]
    refine (dw0 m c t _ i j).trans ?_
    pointwise

theorem w_A (t : Fin cfg0.N) (hn : t.val % 32 = 0) (h : Fin 4) (i j : Fin 128) :
    (outsAt0 m c t.val t.isLt).2.2.1 (ix3 h i j) = 0 + termW m c t h i j := by
  rw [outsAt0_A m c t hn]
  frame_out
  match h with
  | 3 =>
    rw [canon_mem _ _ _ _ (ix3 0 i j) (by intro a; fin_cases a <;> simp)]
    refine (dw3 m c t _ i j).trans ?_
    rw [readCov_at _ _ _ _ (ix3 3 i j) (by intro a; fin_cases a <;> simp), canon_not_mem _ _ _ _ 0 (by simp), canon_not_mem _ _ _ _ 0 (by simp), canon_not_mem _ _ _ _ 0 (by simp), canon_mem _ _ _ _ (ix3 3 i j) (by intro a; fin_cases a <;> simp), zeroW]
  | 2 =>
    rw [canon_not_mem _ _ _ _ 0 (by simp), canon_mem _ _ _ _ (ix3 0 i j) (by intro a; fin_cases a <;> simp)]
    refine (dw2 m c t _ i j).trans ?_
    rw [readCov_at _ _ _ _ (ix3 2 i j) (by intro a; fin_cases a <;> simp), canon_not_mem _ _ _ _ 0 (by simp), canon_not_mem _ _ _ _ 0 (by simp), canon_mem _ _ _ _ (ix3 2 i j) (by intro a; fin_cases a <;> simp), zeroW]
  | 1 =>
    rw [canon_not_mem _ _ _ _ 0 (by simp), canon_not_mem _ _ _ _ 0 (by simp), canon_mem _ _ _ _ (ix3 0 i j) (by intro a; fin_cases a <;> simp)]
    refine (dw1 m c t _ i j).trans ?_
    rw [readCov_at _ _ _ _ (ix3 1 i j) (by intro a; fin_cases a <;> simp), canon_not_mem _ _ _ _ 0 (by simp), canon_mem _ _ _ _ (ix3 1 i j) (by intro a; fin_cases a <;> simp), zeroW]
  | 0 =>
    rw [canon_not_mem _ _ _ _ 0 (by simp), canon_not_mem _ _ _ _ 0 (by simp), canon_not_mem _ _ _ _ 0 (by simp), canon_mem _ _ _ _ (ix3 0 i j) (by intro a; fin_cases a <;> simp)]
    refine (dw0 m c t _ i j).trans ?_
    rw [readCov_at _ _ _ _ (ix3 0 i j) (by intro a; fin_cases a <;> simp), canon_mem _ _ _ _ (ix3 0 i j) (by intro a; fin_cases a <;> simp), zeroW]

/-- What one point adds to the norm's gradient. -/
abbrev tL (t : Fin cfg0.N) (r : Fin 8) (k : Fin 512) : EReal :=
  termL (cU m c t) (cV m c t) (cC m c t) (gW (x10 m c)) r k

theorem l_B (t : Fin cfg0.N) (hn : ¬ t.val % 32 = 0) (r : Fin 8) (k : Fin 512) :
    (outsAt0 m c t.val t.isLt).2.1 (ix2 r k)
      = (outsAt0 m c (t.val - 1) (Nat.lt_of_le_of_lt (Nat.sub_le _ _) t.isLt)).2.1 (ix2 r k) + tL m c t r k := by
  rw [outsAt0_B m c t hn]
  frame_out
  by_cases h1 : r.val = 1
  · obtain rfl : r = 1 := Fin.ext h1
    rw [View.read_writes_cons_unit_of_mem _ _ _ _ _ _ (ix2 0 k) rfl (by intro a; fin_cases a <;> simp)]
    refine (dl1 m c t _ k).trans ?_
    pointwise
  rw [View.read_writes_cons_unit_of_not_mem _ _ _ _ _ _ rfl 0 (by simp; omega)]
  by_cases h0 : r.val = 0
  · obtain rfl : r = 0 := Fin.ext h0
    rw [View.read_writes_cons_unit_of_mem _ _ _ _ _ _ (ix2 0 k) rfl (by intro a; fin_cases a <;> simp)]
    refine (dl0 m c t _ k).trans ?_
    pointwise
  rw [View.read_writes_cons_unit_of_not_mem _ _ _ _ _ _ rfl 0 (by simp; omega)]
  rw [tL, termL, if_neg h0, if_neg h1, add_zero]
  exact congrFun (Memref.IsWhole.read_unread _ _) _

theorem l_A (t : Fin cfg0.N) (hn : t.val % 32 = 0) (r : Fin 8) (k : Fin 512) :
    (outsAt0 m c t.val t.isLt).2.1 (ix2 r k) = 0 + tL m c t r k := by
  rw [outsAt0_A m c t hn]
  frame_out
  by_cases h1 : r.val = 1
  · obtain rfl : r = 1 := Fin.ext h1
    rw [canon_mem _ _ _ _ (ix2 0 k) (by intro a; fin_cases a <;> simp)]
    refine (dl1 m c t _ k).trans ?_
    rw [readCov_at _ _ _ _ (ix2 1 k) (by intro a; fin_cases a <;> simp), canon_not_mem _ _ _ _ 0 (by simp),
      canon_mem _ _ _ _ (ix2 1 k) (by intro a; fin_cases a <;> simp), zeroL]
  rw [canon_not_mem _ _ _ _ 0 (by simp; omega)]
  by_cases h0 : r.val = 0
  · obtain rfl : r = 0 := Fin.ext h0
    rw [canon_mem _ _ _ _ (ix2 0 k) (by intro a; fin_cases a <;> simp)]
    refine (dl0 m c t _ k).trans ?_
    rw [readCov_at _ _ _ _ (ix2 0 k) (by intro a; fin_cases a <;> simp),
      canon_mem _ _ _ _ (ix2 0 k) (by intro a; fin_cases a <;> simp), zeroL]
  rw [canon_not_mem _ _ _ _ 0 (by simp; omega), canon_mem _ _ _ _ (ix2 r k) (by intro a; fin_cases a <;> simp), zeroL,
    tL, termL, if_neg h0, if_neg h1, add_zero]

/-! ## The result arrays -/

theorem sum_blk (f : Fin 32 → EReal) : ∑ t : Fin cfg0.N, f (blk t) = ∑ n : Fin 32, f n := by
  have hN : cfg0.N = 32 := N_0
  refine Function.Bijective.sum_comp ((Fintype.bijective_iff_injective_and_card blk).mpr ⟨fun a b h => ?_, ?_⟩) f
  · have := Fin.ext_iff.mp h
    simp only [blk] at this
    exact Fin.ext (by omega)
  · simp [hN]

/-- The last point. -/
def tlast : Fin cfg0.N := ⟨31, by rw [show cfg0.N = 32 from N_0]; decide⟩

/-- The weights' gradient: the sum over the chunks. -/
theorem resW : (dats m 0 c).arrAt 15 cfg0.N = fun y : S4x128x128.Idx => ∑ n : Fin 32, incW (gU (x0 m c) n) (gV (x0 m c) n) (gC (x1 m c) n) (gR (x8 m c)) (gR (x9 m c)) (y 0) (y 1) (y 2) := by
  refine Dat.arrAt_eq_of_after_last _ 15 tlast (by decide +kernel) _ fun y => ?_
  blk_simp
  rw [after0_15]
  have hy : ∀ y : S4x128x128.Idx, (outsAt0 m c tlast.val tlast.isLt).2.2.1 y = ∑ n : Fin 32, incW (gU (x0 m c) n) (gV (x0 m c) n) (gC (x1 m c) n) (gR (x8 m c)) (gR (x9 m c)) (y 0) (y 1) (y 2) := by
    intro y
    idx_vars y
    rw [Pipeline.eq_sum_fin_of_reset_step_apply_last (fun n h (q : Fin 4 × Fin 128 × Fin 128) => (outsAt0 m c n h).2.2.1 (ix3 q.1 q.2.1 q.2.2)) 32
      (fun _ => 0) (fun t q => termW m c t q.1 q.2.1 q.2.2) (fun t h q => w_A m c t h _ _ _ ) (fun t h q => w_B m c t h _ _ _ )
      (le_of_eq N_0) tlast rfl (_, _, _), zero_add]
    exact sum_blk fun n => incW (gU (x0 m c) n) (gV (x0 m c) n) (gC (x1 m c) n) (gR (x8 m c)) (gR (x9 m c)) _ _ _
  exact hy y

/-- The bias's gradient: the sum over the chunks. -/
theorem resB : (dats m 0 c).arrAt 16 cfg0.N = fun y : S128x128.Idx => ∑ n : Fin 32, termB (gU (x0 m c) n) (gC (x1 m c) n) (y 0) (y 1) := by
  refine Dat.arrAt_eq_of_after_last _ 16 tlast (by decide +kernel) _ fun y => ?_
  blk_simp
  rw [after0_16]
  have hy : ∀ y : S128x128.Idx, (outsAt0 m c tlast.val tlast.isLt).2.2.2.1 y = ∑ n : Fin 32, termB (gU (x0 m c) n) (gC (x1 m c) n) (y 0) (y 1) := by
    intro y
    idx_vars y
    rw [Pipeline.eq_sum_fin_of_reset_step_apply_last (fun n h (q : Fin 128 × Fin 128) => (outsAt0 m c n h).2.2.2.1 (ix2 q.1 q.2)) 32
      (fun _ => 0) (fun t q => termB (cU m c t) (cC m c t) q.1 q.2) (fun t h q => b_A m c t h _ _ ) (fun t h q => b_B m c t h _ _ )
      (le_of_eq N_0) tlast rfl (_, _), zero_add]
    exact sum_blk fun n => termB (gU (x0 m c) n) (gC (x1 m c) n) _ _
  exact hy y

/-- The norm's gradient: the sum over the chunks. -/
theorem resL : (dats m 0 c).arrAt 14 cfg0.N = fun y : S8x512.Idx => ∑ n : Fin 32, termL (gU (x0 m c) n) (gV (x0 m c) n) (gC (x1 m c) n) (gW (x10 m c)) (y 0) (y 1) := by
  refine Dat.arrAt_eq_of_after_last _ 14 tlast (by decide +kernel) _ fun y => ?_
  blk_simp
  rw [after0_14]
  have hy : ∀ y : S8x512.Idx, (outsAt0 m c tlast.val tlast.isLt).2.1 y = ∑ n : Fin 32, termL (gU (x0 m c) n) (gV (x0 m c) n) (gC (x1 m c) n) (gW (x10 m c)) (y 0) (y 1) := by
    intro y
    idx_vars y
    rw [Pipeline.eq_sum_fin_of_reset_step_apply_last (fun n h (q : Fin 8 × Fin 512) => (outsAt0 m c n h).2.1 (ix2 q.1 q.2)) 32
      (fun _ => 0) (fun t q => tL m c t q.1 q.2) (fun t h q => l_A m c t h _ _ ) (fun t h q => l_B m c t h _ _ )
      (le_of_eq N_0) tlast rfl (_, _), zero_add]
    exact sum_blk fun n => termL (gU (x0 m c) n) (gV (x0 m c) n) (gC (x1 m c) n) (gW (x10 m c)) _ _
  exact hy y

end Cert.KernelIdeal.Fold

end
-- ==== Proof.Ref.lean ====
/-
  The reference's three results at an index, as the sums over the 32 chunks that `Spec` names: the mixing weights'
  gradient is one contraction over all chunks and lanes, the bias's and the norm's parameters' gradients are sums over
  all rows.
-/
module

public import proofs.«01_k».proof.Proof.Spec
public import proofs.«01_k».proof.Proof.Pay
public import proofs.«01_k».proof.Proof.Gen.ReferenceIdeal.Read
public import Idealize.ShloMosaic.Lib.Pointwise
public import Idealize.ShloMosaic.Lib.IdealHost

@[expose] public section

set_option maxRecDepth 16384

noncomputable section

namespace Cert.ReferenceIdeal.Ref

open Cert.ReferenceIdeal Cert.ReferenceIdeal.Gen Cert.ReferenceIdeal.Read
open Idealize.ShloMosaic Idealize.ShloMosaic.TcCoe
open Cert.Spec

variable (x0 : (⟨S4096x3200, .f32⟩ : BufTy).Contents (Elt Ideal)) (x1 : (⟨S4096x1024, .bf16⟩ : BufTy).Contents (Elt Ideal))
  (x8 x9 : (⟨S4x512, .f32⟩ : BufTy).Contents (Elt Ideal)) (x10 : (⟨S4x4x128x128, .f32⟩ : BufTy).Contents (Elt Ideal))

/-- The two groupings of the gelu's factors give the same number. -/
theorem gel_eq (x : EReal) : x * (half * (1 + Ideal.tanh (c1 * (x + c3 * (x * x * x))))) = gel x := by
  rw [gel, ← mul_assoc, mul_comm x half]
  simp only [mul_assoc]

/-- The gate at row `r` of chunk `n`. -/
theorem v27_apply (n : Fin 32) (r : Fin 128) (k : Fin 512) :
    val_main_v27 (F := Ideal) x0 (ix3 (0 : Fin 1) (row n r) k) = gel (gU x0 n r k) := by
  rw [← gel_eq]
  pointwise [val_main_v27, val_main_v26, val_main_v25, val_main_v24, val_main_v23, val_main_v22, val_main_v21, val_main_v20,
    val_main_v19, val_main_v18, val_main_v17, val_main_v16, val_main_v15, val_main_v12, val_main_v11, val_main_cst,
    val_main_cst_0, val_main_cst_1, val_main_cst_2, gU]

/-- The values before the norm at row `r` of chunk `n`. -/
theorem v40_apply (n : Fin 32) (r : Fin 128) (k : Fin 512) :
    val_main_v40 (F := Ideal) x0 (ix3 (0 : Fin 1) (row n r) k) = gel (gV x0 n r k) := by
  rw [← gel_eq]
  pointwise [val_main_v40, val_main_v39, val_main_v38, val_main_v37, val_main_v36, val_main_v35, val_main_v34, val_main_v33,
    val_main_v32, val_main_v31, val_main_v30, val_main_v29, val_main_v28, val_main_v14, val_main_v13, val_main_cst_3,
    val_main_cst_4, val_main_cst_5, val_main_cst_6, gV]

/-- The centred row. -/
theorem v46_apply (n : Fin 32) (r : Fin 128) (k : Fin 512) :
    val_main_v46 (F := Ideal) x0 (ix3 (0 : Fin 1) (row n r) k)
      = gel (gV x0 n r k) - mean (fun k => gel (gV x0 n r k)) := by
  pointwise [val_main_v46, val_main_v45, val_main_v44, val_main_v43, val_main_v42, val_main_v41, val_main_cst_7,
    val_main_cst_8, mean, v40_apply]

/-- The normalised row. -/
theorem v56_apply (n : Fin 32) (r : Fin 128) (k : Fin 512) :
    val_main_v56 (F := Ideal) x0 (ix3 (0 : Fin 1) (row n r) k) = vhat (fun k => gel (gV x0 n r k)) k := by
  pointwise [val_main_v56, val_main_v55, val_main_v54, val_main_v53, val_main_v52, val_main_v51, val_main_v50, val_main_v49,
    val_main_v48, val_main_v47, val_main_cst_9, val_main_cst_10, val_main_cst_11, v46_apply, vhat, rstd]

/-- Splitting the rows by chunk and the lanes by head moves no element. -/
theorem split_apply (y : S1x4096x512.Idx → EReal) (hs : S1x4096x512.ShapeCasts S1x32x128x4x128) (n : Fin 32) (r : Fin 128) (h : Fin 4) (e : Fin 128) :
    shapeCast S1x32x128x4x128 y hs (ix5 (0 : Fin 1) n r h e) = y (ix3 (0 : Fin 1) (row n r) (lane h e)) := by
  refine shapeCast_apply y hs _ _ ?_
  rewrite [Shape.rowMajor_val_three, Shape.rowMajor_val_five]
  show (0 * 4096 + (n.val * 128 + r.val)) * 512 + (h.val * 128 + e.val) = (((0 * 32 + n.val) * 128 + r.val) * 4 + h.val) * 128 + e.val
  omega

/-- Joining them again moves none either. -/
theorem join_apply (y : S1x32x128x4x128.Idx → EReal) (hs : S1x32x128x4x128.ShapeCasts S1x4096x512) (n : Fin 32) (r : Fin 128) (h : Fin 4) (e : Fin 128) :
    shapeCast S1x4096x512 y hs (ix3 (0 : Fin 1) (row n r) (lane h e)) = y (ix5 (0 : Fin 1) n r h e) := by
  refine shapeCast_apply y hs _ _ ?_
  rewrite [Shape.rowMajor_val_three, Shape.rowMajor_val_five]
  show (((0 * 32 + n.val) * 128 + r.val) * 4 + h.val) * 128 + e.val = (0 * 4096 + (n.val * 128 + r.val)) * 512 + (h.val * 128 + e.val)
  omega

/-- The normalised row with gain and bias, split by chunk and head. -/
theorem v63_apply (n : Fin 32) (r : Fin 128) (h : Fin 4) (e : Fin 128) :
    val_main_v63 (F := Ideal) x0 x8 x9 (ix5 (0 : Fin 1) n r h e)
      = vnorm (fun k => gel (gV x0 n r k)) (gR x8) (gR x9) (lane h e) := by
  have e1 : val_main_v63 (F := Ideal) x0 x8 x9 (ix5 (0 : Fin 1) n r h e)
      = val_main_v62 (F := Ideal) x0 x8 x9 (ix3 (0 : Fin 1) (row n r) (lane h e)) := by
    unfold val_main_v63
    exact split_apply _ _ n r h e
  rw [e1]
  pointwise [val_main_v62, val_main_v61, val_main_v60, val_main_v59, val_main_v58, val_main_v57, val_main_v6, val_main_v5,
    val_main_v4, val_main_v3, v56_apply, vnorm, gR]

/-- The gradient reaching the mixed values, split by chunk and head. -/
theorem v77_apply (n : Fin 32) (r : Fin 128) (h : Fin 4) (e : Fin 128) :
    val_main_v77 (F := Ideal) x0 x1 (ix5 (0 : Fin 1) n r h e) = dmix (gU x0 n) (gC x1 n) r (lane h e) := by
  have e1 : val_main_v77 (F := Ideal) x0 x1 (ix5 (0 : Fin 1) n r h e)
      = val_main_v76 (F := Ideal) x0 x1 (ix3 (0 : Fin 1) (row n r) (lane h e)) := by
    unfold val_main_v77
    exact split_apply _ _ n r h e
  rw [e1, dmix, mul_comm]
  pointwise [val_main_v76, v27_apply, val_main_v2, val_main_v1, val_main_v0, gC]

/-- Selecting by the causal mask. -/
theorem mask_apply {α : Type} (h : Fin 4) (i j : Fin 128) (a b : α) :
    Scalar.select (val_main_v67_1 (F := Ideal) (ix3 h i j)) a b = if j ≤ i then a else b := by
  have e : val_main_v67_1 (F := Ideal) (ix3 h i j) = if j ≤ i then 1#1 else 0#1 := by
    pointwise [val_main_v67_1, val_main_v66, val_main_v65, val_main_call0_v5, val_main_call0_c_0, val_main_call0_v4,
      val_main_call0_v3, val_main_call0_v2, val_main_call0_v1, val_main_call0_v0, val_main_call0_c, val_main_v64, val_main_c]
    have z : IntOp.addi (BitVec.ofNat 32 i.val) 0#32 = BitVec.ofNat 32 i.val := by simp [IntOp.addi]
    rw [z]
    exact Cert.KernelIdeal.Pay.select_sge i j _ _
  rw [e]
  by_cases hij : j ≤ i
  · rw [if_pos hij, if_pos hij]; rfl
  · rw [if_neg hij, if_neg hij]; rfl

/-- The causal weights. -/
theorem v67_0_apply (h : Fin 4) (i j : Fin 128) :
    val_main_v67_0 (F := Ideal) x10 (ix3 h i j) = if j ≤ i then gW x10 h i j else 0 := by
  rw [val_main_v67_0_apply, mask_apply]
  pointwise [val_main_v8, val_main_v7, val_main_call1_v2, val_main_call1_v0, val_main_cst_12, gW, id_eq]

/-- The contraction's indices are the chunks and the lanes. -/
def contrEquiv : Fin 32 × Fin 128 ≃ dot_S4x1x32x128x128_S1x32x128x4x128_S4x128x128_123_014_4_2_0_3.contr.Idx where
  toFun k := fun p => match p with
    | ⟨0, _⟩ => (0 : Fin 1)
    | ⟨1, _⟩ => k.1
    | ⟨2, _⟩ => k.2
  invFun kk := (kk ⟨1, by decide⟩, kk ⟨2, by decide⟩)
  left_inv _ := rfl
  right_inv kk := by
    funext p
    match p with
    | ⟨0, _⟩ => exact Subsingleton.elim (α := Fin 1) _ _
    | ⟨1, _⟩ => rfl
    | ⟨2, _⟩ => rfl

/-- The transposed gradient, chunk by chunk. -/
theorem v82_apply (h : Fin 4) (n : Fin 32) (e r : Fin 128) :
    val_main_v82 (F := Ideal) x0 x1 (ix5 h (0 : Fin 1) n e r) = dmix (gU x0 n) (gC x1 n) r (lane h e) := by
  rw [← v77_apply]
  pointwise [val_main_v82]

/-- The mixing weights' gradient before the mask: one sum over the chunks and the lanes. -/
theorem v83_apply (h : Fin 4) (i j : Fin 128) :
    val_main_v83 (F := Ideal) x0 x1 x8 x9 (ix3 h i j)
      = ∑ n : Fin 32, ∑ e : Fin 128, dmix (gU x0 n) (gC x1 n) i (lane h e)
          * vnorm (fun k => gel (gV x0 n j k)) (gR x8) (gR x9) (lane h e) := by
  unfold val_main_v83
  simp only [Host.dotGeneral]
  rw [Ideal.dotGeneral_apply, ← Equiv.sum_comp contrEquiv, Fintype.sum_prod_type]
  refine Finset.sum_congr rfl fun n _ => Finset.sum_congr rfl fun e _ => ?_
  rw [← v82_apply, ← v63_apply]
  congr 2
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

/-- The mixing weights' gradient. -/
theorem v86_val :
    val_main_v86 (F := Ideal) x0 x1 x8 x9
      = fun y : S4x128x128.Idx => ∑ n : Fin 32, incW (gU x0 n) (gV x0 n) (gC x1 n) (gR x8) (gR x9) (y 0) (y 1) (y 2) := by
  funext y
  idx_vars y
  rw [val_main_v86_apply, mask_apply, v83_apply]
  pointwise [val_main_call2_v0, val_main_call2_cst, incW]
  split
  · rfl
  · simp

/-- The gradient reaching the norm's result. -/
theorem v87_apply (n : Fin 32) (r : Fin 128) (h : Fin 4) (e : Fin 128) :
    val_main_v87 (F := Ideal) x0 x1 x10 (ix3 (0 : Fin 1) (row n r) (lane h e)) = dvn (gU x0 n) (gC x1 n) (gW x10) r h e := by
  have e1 : val_main_v87 (F := Ideal) x0 x1 x10 (ix3 (0 : Fin 1) (row n r) (lane h e))
      = val_main_v85 (F := Ideal) x0 x1 x10 (ix5 (0 : Fin 1) n r h e) := by
    unfold val_main_v87
    exact join_apply _ _ n r h e
  rw [e1]
  pointwise [val_main_v85, val_main_v84, v82_apply, v67_0_apply, dvn]
  exact Finset.sum_congr rfl fun i _ => mul_comm _ _

/-- A sum over all rows is a sum over the chunks of the sums over their rows. -/
theorem sum_row {M : Type} [AddCommMonoid M] (f : Fin 4096 → M) : ∑ k : Fin 4096, f k = ∑ n : Fin 32, ∑ r : Fin 128, f (row n r) := by
  rw [← Fintype.sum_prod_type' (f := fun n r => f (row n r))]
  refine (Fintype.sum_equiv (finProdFinEquiv (m := 32) (n := 128)) _ _ fun p => ?_).symm
  congr 1
  exact Fin.ext (by simp [row, finProdFinEquiv]; omega)

/-- Summing away two axes of one entry each. -/
theorem sum_unit3 (hs : S1x1x512.ReducesTo [0, 1] S512) (v : S1x1x512.Idx → EReal) (init : EReal) (k : Fin 512) :
    Ideal.hostReduceAdd hs v init (ix1 k) = init + v (ix3 (0 : Fin 1) (0 : Fin 1) k) := by
  refine congrArg (init + ·) ?_
  refine (Finset.sum_filter_eq_sum_of_fiber _ (fun _ : Fin 1 => ix3 (0 : Fin 1) (0 : Fin 1) k) (fun _ _ _ => Subsingleton.elim _ _) ?_ v).trans (by simp)
  intro i
  constructor
  · intro e
    refine ⟨0, ?_⟩
    have := congrFun e 0
    funext a
    match a with
    | ⟨0, _⟩ => exact Subsingleton.elim (α := Fin 1) _ _
    | ⟨1, _⟩ => exact Subsingleton.elim (α := Fin 1) _ _
    | ⟨2, _⟩ => exact this.symm
  · rintro ⟨_, rfl⟩
    funext b
    match b with
    | ⟨0, _⟩ => rfl

/-- The norm's bias gradient. -/
theorem v90_apply (h : Fin 4) (e : Fin 128) :
    val_main_v90 (F := Ideal) x0 x1 x10 (ix1 (lane h e)) = ∑ n : Fin 32, incS (gU x0 n) (gC x1 n) (gW x10) h e := by
  unfold val_main_v90
  simp only [Host.reduceAdd, Ideal.hostReduceAdd_def]
  rw [sum_unit3]
  pointwise [val_main_v89, val_main_v88, val_main_cst_15, val_main_cst_16, incS]
  rw [sum_row]
  exact Finset.sum_congr rfl fun n _ => Finset.sum_congr rfl fun r _ => v87_apply x0 x1 x10 n r h e

/-- The norm's gain gradient. -/
theorem v94_apply (h : Fin 4) (e : Fin 128) :
    val_main_v94 (F := Ideal) x0 x1 x10 (ix1 (lane h e)) = ∑ n : Fin 32, incG (gU x0 n) (gV x0 n) (gC x1 n) (gW x10) h e := by
  unfold val_main_v94
  simp only [Host.reduceAdd, Ideal.hostReduceAdd_def]
  rw [sum_unit3]
  pointwise [val_main_v93, val_main_v92, val_main_cst_17, val_main_cst_18, incG]
  rw [sum_row]
  refine Finset.sum_congr rfl fun n _ => Finset.sum_congr rfl fun r _ => ?_
  pointwise [val_main_v91]
  rw [v56_apply, v87_apply, mul_comm]

/-- The integer zero as a float. -/
theorem sitofp_zero : (FloatOps.sitofp (F := Ideal) FTy.f32 0#32) = (0 : EReal) := by
  show ((((0#32 : BitVec 32).toInt : ℤ) : ℝ) : EReal) = 0
  simp

/-- The stack of the norm's parameter gradients. -/
theorem v98_val :
    val_main_v98 (F := Ideal) x0 x1 x10
      = fun y : S8x512.Idx => ∑ n : Fin 32, termL (gU x0 n) (gV x0 n) (gC x1 n) (gW x10) (y 0) (y 1) := by
  funext y
  idx_vars y
  obtain ⟨h, e, rfl⟩ := exists_lane ‹_›
  pointwise [val_main_v98, val_main_v97, val_main_v96, val_main_v95, val_main_call3_v0, val_main_c_19]
  rw [v90_apply, v94_apply, sitofp_zero]
  by_cases h0 : y0.val = 0
  · obtain rfl : y0 = 0 := Fin.ext h0
    simp only [termL_zero]
    rfl
  by_cases h1 : y0.val = 1
  · obtain rfl : y0 = 1 := Fin.ext h1
    simp only [termL_one]
    rfl
  · rw [dif_neg (by omega)]
    simp [termL, h0, h1]

/-- The reduction's kept indices name the chunks and lanes summed. -/
theorem sum_chunks (hs : S1x32x128x4x128.ReducesTo [1, 4] S1x128x4) (v : S1x32x128x4x128.Idx → EReal) (init : EReal) (i : Fin 128) (h : Fin 4) :
    Ideal.hostReduceAdd hs v init (ix3 (0 : Fin 1) i h) = init + ∑ n : Fin 32, ∑ e : Fin 128, v (ix5 (0 : Fin 1) n i h e) := by
  refine congrArg (init + ·) ?_
  rw [← Fintype.sum_prod_type' (f := fun n e => v (ix5 (0 : Fin 1) n i h e))]
  refine Finset.sum_filter_eq_sum_of_fiber _ (fun k : Fin 32 × Fin 128 => ix5 (0 : Fin 1) k.1 i h k.2) ?_ ?_ v
  · intro a b e
    exact Prod.ext (congrFun e 1) (congrFun e 4)
  · intro x
    constructor
    · intro e
      have e1 := congrFun e 1
      have e2 := congrFun e 2
      refine ⟨(x 1, x 4), ?_⟩
      funext a
      match a with
      | ⟨0, _⟩ => exact Subsingleton.elim (α := Fin 1) _ _
      | ⟨1, _⟩ => rfl
      | ⟨2, _⟩ => exact e1.symm
      | ⟨3, _⟩ => exact e2.symm
      | ⟨4, _⟩ => rfl
    · rintro ⟨_, rfl⟩
      funext b
      match b with
      | ⟨0, _⟩ => rfl
      | ⟨1, _⟩ => rfl
      | ⟨2, _⟩ => rfl

/-- Summing away three axes of one entry each. -/
theorem sum_unit5 (hs : S1x1x128x4x1.ReducesTo [0, 1, 4] S128x4) (v : S1x1x128x4x1.Idx → EReal) (init : EReal) (i : Fin 128) (h : Fin 4) :
    Ideal.hostReduceAdd hs v init (ix2 i h) = init + v (ix5 (0 : Fin 1) (0 : Fin 1) i h (0 : Fin 1)) := by
  refine congrArg (init + ·) ?_
  refine (Finset.sum_filter_eq_sum_of_fiber _ (fun _ : Fin 1 => ix5 (0 : Fin 1) (0 : Fin 1) i h (0 : Fin 1)) (fun _ _ _ => Subsingleton.elim _ _) ?_ v).trans (by simp)
  intro x
  constructor
  · intro e
    refine ⟨0, ?_⟩
    have e1 := congrFun e 0
    have e2 := congrFun e 1
    funext a
    match a with
    | ⟨0, _⟩ => exact Subsingleton.elim (α := Fin 1) _ _
    | ⟨1, _⟩ => exact Subsingleton.elim (α := Fin 1) _ _
    | ⟨2, _⟩ => exact e1.symm
    | ⟨3, _⟩ => exact e2.symm
    | ⟨4, _⟩ => exact Subsingleton.elim (α := Fin 1) _ _
  · rintro ⟨_, rfl⟩
    funext b
    match b with
    | ⟨0, _⟩ => rfl
    | ⟨1, _⟩ => rfl

/-- The mixing bias's gradient. -/
theorem v80_apply (i : Fin 128) (h : Fin 4) :
    val_main_v80 (F := Ideal) x0 x1 (ix2 i h) = ∑ n : Fin 32, incB (gU x0 n) (gC x1 n) i h := by
  unfold val_main_v80
  simp only [Host.reduceAdd, Ideal.hostReduceAdd_def]
  rw [sum_unit5]
  pointwise [val_main_v79, val_main_cst_14]
  unfold val_main_v78
  simp only [Host.reduceAdd, Ideal.hostReduceAdd_def]
  rw [sum_chunks]
  pointwise [val_main_cst_13, incB, v77_apply]

/-- The padded stack of the mixing bias's gradients. -/
theorem v100_val :
    val_main_v100 (F := Ideal) x0 x1
      = fun y : S128x128.Idx => ∑ n : Fin 32, termB (gU x0 n) (gC x1 n) (y 0) (y 1) := by
  funext y
  idx_vars y
  pointwise [val_main_v100, val_main_v99, val_main_v81, val_main_call4_v0, val_main_c_20]
  rw [sitofp_zero]
  by_cases h : y1.val < 4
  · simp only [termB, dif_pos h, v80_apply]
  · simp [termB, h]

end Cert.ReferenceIdeal.Ref

end
-- ==== Proof.Sums.lean ====
/-
  Sums cut into blocks: 4096 terms as four sums of 1024.
-/
module

public import Idealize.ShloMosaic.Lib.Pointwise
public import Idealize.ShloMosaic.Lib.IdealHost

@[expose] public section

noncomputable section

namespace Cert.Sums

/-- A sum of 4096 terms as the sum of its four quarters, from the left. -/
theorem quarters (g : Fin 4096 → EReal) :
    (((∑ k : Fin 1024, g ⟨k.val, by omega⟩) + ∑ k : Fin 1024, g ⟨1024 + k.val, by omega⟩)
      + ∑ k : Fin 1024, g ⟨2048 + k.val, by omega⟩) + ∑ k : Fin 1024, g ⟨3072 + k.val, by omega⟩ = ∑ k, g k := by
  have h1 : ∑ k, g k = (∑ k : Fin 3072, g ⟨k.val, by omega⟩) + ∑ k : Fin 1024, g ⟨3072 + k.val, by omega⟩ :=
    Fin.sum_univ_add (a := 3072) (b := 1024) g
  have h2 : ∑ k : Fin 3072, g ⟨k.val, by omega⟩ = (∑ k : Fin 2048, g ⟨k.val, by omega⟩) + ∑ k : Fin 1024, g ⟨2048 + k.val, by omega⟩ :=
    Fin.sum_univ_add (a := 2048) (b := 1024) (fun k => g ⟨k.val, by omega⟩)
  have h3 : ∑ k : Fin 2048, g ⟨k.val, by omega⟩ = (∑ k : Fin 1024, g ⟨k.val, by omega⟩) + ∑ k : Fin 1024, g ⟨1024 + k.val, by omega⟩ :=
    Fin.sum_univ_add (a := 1024) (b := 1024) (fun k => g ⟨k.val, by omega⟩)
  rw [h1, h2, h3]

/-- A sum over 4096 places as two sums over 2048. -/
theorem halves (g : Fin 4096 → EReal) :
    (∑ k : Fin 2048, g ⟨k.val, by omega⟩) + ∑ k : Fin 2048, g ⟨2048 + k.val, by omega⟩ = ∑ k : Fin 4096, g k :=
  (Fin.sum_univ_add (a := 2048) (b := 2048) g).symm

end Cert.Sums

end
-- ==== Proof.K2.lean ====
/-
  The backward pass of the feed-forward's second product and of the squared relu: the four column blocks that a point
  stores are the reference's values there.
-/
module

public import proofs.«01_k».proof.Defs
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Sums
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel2Ideal.Fold

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![t.val, 0] := by decide +kernel

/-- The arguments, as arrays. -/
abbrev a0 : Vec Ideal S4096x1024 .f32 := m ((c : Thread nD τ).loc main_arg0)
abbrev a1 : Vec Ideal S4096x4096 .f32 := m ((c : Thread nD τ).loc main_arg1)
abbrev a2 : Vec Ideal S4x6x1024 .f32 := m ((c : Thread nD τ).loc main_arg2)
abbrev a3 : Vec Ideal S4x1024 .f32 := m ((c : Thread nD τ).loc main_arg3)
abbrev a4 : Vec Ideal S4x1024 .f32 := m ((c : Thread nD τ).loc main_arg4)
abbrev a5 : Vec Ideal S4x4096x1024 .f32 := m ((c : Thread nD τ).loc main_arg5)

/-! What the host hands to the kernel's windows, and the windows' blocks read off it. -/

theorem rd0 (A : (b : Ref sig .tc) → Buf (Elt Ideal) ((c : Thread nD τ).loc b)) (t : Fin cfg0.N) (y : S512x1024.Idx) :
    ((cfg0.win 0).blk t).view.read (Elt Ideal) (A (Pipeline.arrRef spec0 0)) y = A main_arg0 ((win0_0.blk t).view.emb y) := rfl
theorem ib0 (t : Fin cfg0.N) (y : S512x1024.Idx) : iblk m c 0 t y = (a0 m c) ((win0_0.blk t).view.emb y) :=
  (rd0 c (V m c) t y).trans (congrFun (V_main_arg0 m c) _)
theorem V_1 : V m c main_v2 = truncf (F := Ideal) .bf16 (maximumf (a1 m c) (broadcastInDim S4096x4096 ![] bcast_S_S4096x4096 ((constant (F := Ideal) S_ .f32 0x00000000#32)))) bitsLt_bf16_f32 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd1 (A : (b : Ref sig .tc) → Buf (Elt Ideal) ((c : Thread nD τ).loc b)) (t : Fin cfg0.N) (y : S512x4096.Idx) :
    ((cfg0.win 1).blk t).view.read (Elt Ideal) (A (Pipeline.arrRef spec0 1)) y = A main_v2 ((win0_1.blk t).view.emb y) := rfl
theorem ib1 (t : Fin cfg0.N) (y : S512x4096.Idx) : iblk m c 1 t y = (truncf (F := Ideal) .bf16 (maximumf (a1 m c) (broadcastInDim S4096x4096 ![] bcast_S_S4096x4096 ((constant (F := Ideal) S_ .f32 0x00000000#32)))) bitsLt_bf16_f32) ((win0_1.blk t).view.emb y) :=
  (rd1 c (V m c) t y).trans (congrFun (V_1 m c) _)
theorem V_2 : V m c main_v5 = concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd2 (A : (b : Ref sig .tc) → Buf (Elt Ideal) ((c : Thread nD τ).loc b)) (t : Fin cfg0.N) (y : S1x8x1024.Idx) :
    ((cfg0.win 2).blk t).view.read (Elt Ideal) (A (Pipeline.arrRef spec0 2)) y = A main_v5 ((win0_2.blk t).view.emb y) := rfl
theorem ib2 (t : Fin cfg0.N) (y : S1x8x1024.Idx) : iblk m c 2 t y = (concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1) ((win0_2.blk t).view.emb y) :=
  (rd2 c (V m c) t y).trans (congrFun (V_2 m c) _)
theorem V_3 : V m c main_v9 = truncf (F := Ideal) .bf16 (shapeCast S4x1024x1024 (shapeCast S4096x1024 (extractStridedSlice S1x4096x1024 ![0, 0, 0] (a5 m c) slices_S4x4096x1024_S1x4096x1024_0_0_0) shapeCasts_S1x4096x1024_S4096x1024) shapeCasts_S4096x1024_S4x1024x1024) bitsLt_bf16_f32 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd3 (A : (b : Ref sig .tc) → Buf (Elt Ideal) ((c : Thread nD τ).loc b)) (t : Fin cfg0.N) (y : S4x1024x1024.Idx) :
    ((cfg0.win 3).blk t).view.read (Elt Ideal) (A (Pipeline.arrRef spec0 3)) y = A main_v9 ((win0_3.blk t).view.emb y) := rfl
theorem ib3 (t : Fin cfg0.N) (y : S4x1024x1024.Idx) : iblk m c 3 t y = (truncf (F := Ideal) .bf16 (shapeCast S4x1024x1024 (shapeCast S4096x1024 (extractStridedSlice S1x4096x1024 ![0, 0, 0] (a5 m c) slices_S4x4096x1024_S1x4096x1024_0_0_0) shapeCasts_S1x4096x1024_S4096x1024) shapeCasts_S4096x1024_S4x1024x1024) bitsLt_bf16_f32) ((win0_3.blk t).view.emb y) :=
  (rd3 c (V m c) t y).trans (congrFun (V_3 m c) _)

/-- The gradient at the pre-activation, element by element. -/
def G (x : Vec Ideal S4096x1024 .f32) (f : Vec Ideal S4096x4096 .f32) (g : Vec Ideal S4x6x1024 .f32) (w : Vec Ideal S4x4096x1024 .f32) :
    Vec Ideal S4096x4096 .bf16 := fun y =>
  (∑ k : Fin 1024, x (ix2 (y 0) k) * g (ix3 0 5 k) * w (ix3 0 (y 1) k)) * Ideal.ofBits .f32 0x40000000#32 * max (f y) 0

/-- What the body stores, element by element: one expression for the four stores. -/
def P (x : Vec Ideal S512x1024 .f32) (g : Vec Ideal S1x1x1024 .f32) (w : Vec Ideal S1x1024x1024 .bf16) (r : Vec Ideal S512x1024 .bf16)
    (i : Fin 512) (j : Fin 1024) : EReal :=
  (∑ k : Fin 1024, x (ix2 i k) * g (ix3 0 0 k) * w (ix3 0 j k)) * Ideal.ofBits .f32 0x40000000#32 * r (ix2 i j)

theorem pay1_apply (x : Vec Ideal S512x1024 .f32) (g : Vec Ideal S1x1x1024 .f32) (w : Vec Ideal S1x1024x1024 .bf16) (r : Vec Ideal S512x1024 .bf16)
    (i : Fin 512) (j : Fin 1024) :
    k0_pay1 (F := Ideal) (k0_pay3 x g) (k0_pay6 w) (constant S512x1024 .f32 0x00000000#32) r (ix2 i j) = P x g w r i j := by
  unfold P; pointwise [k0_pay1, k0_pay3, k0_pay6]
theorem pay2_apply (x : Vec Ideal S512x1024 .f32) (g : Vec Ideal S1x1x1024 .f32) (w : Vec Ideal S1x1024x1024 .bf16) (r : Vec Ideal S512x1024 .bf16)
    (i : Fin 512) (j : Fin 1024) : k0_pay2 (F := Ideal) (k0_pay3 x g) w r (ix2 i j) = P x g w r i j := by
  unfold P; pointwise [k0_pay2, k0_pay3]
theorem pay4_apply (x : Vec Ideal S512x1024 .f32) (g : Vec Ideal S1x1x1024 .f32) (w : Vec Ideal S1x1024x1024 .bf16) (r : Vec Ideal S512x1024 .bf16)
    (i : Fin 512) (j : Fin 1024) : k0_pay4 (F := Ideal) x g w r (ix2 i j) = P x g w r i j := by
  unfold P; pointwise [k0_pay4, k0_pay3]
theorem pay5_apply (x : Vec Ideal S512x1024 .f32) (g : Vec Ideal S1x1x1024 .f32) (w : Vec Ideal S1x1024x1024 .bf16) (r : Vec Ideal S512x1024 .bf16)
    (i : Fin 512) (j : Fin 1024) : k0_pay5 (F := Ideal) x g w r (ix2 i j) = P x g w r i j := by
  unfold P; pointwise [k0_pay5, k0_pay3]

/-- Row `i` of block `t`. -/
def row (t : Fin cfg0.N) (i : Fin 512) : Fin 4096 := ⟨512 * t.val + i.val, by have : t.val < 8 := t.isLt; omega⟩

theorem blk0 (t : Fin cfg0.N) (i : Fin 512) (j : Fin 1024) : iblk m c 0 t (ix2 i j) = a0 m c (ix2 (row t i) j) :=
  (ib0 m c t _).trans (congrArg (a0 m c) (by unfold row; blk_ext [idx0 t]))
theorem blk1 (t : Fin cfg0.N) (i : Fin 512) (j : Fin 4096) : iblk m c 1 t (ix2 i j) = max (a1 m c (ix2 (row t i) j)) 0 := by
  have e : (win0_1.blk t).view.emb (ix2 i j) = ix2 (row t i) j := by unfold row; blk_ext [idx1 t]
  refine (ib1 m c t _).trans ((congrArg _ e).trans ?_)
  pointwise
theorem blk2 (t : Fin cfg0.N) (j : Fin 1024) : iblk m c 2 t (ix3 (0 : Fin 1) (5 : Fin 8) j) = a2 m c (ix3 (0 : Fin 4) (5 : Fin 6) j) := by
  have e : (win0_2.blk t).view.emb (ix3 (0 : Fin 1) (5 : Fin 8) j) = ix3 (0 : Fin 4) (5 : Fin 8) j := by blk_ext [idx2 t]
  refine (ib2 m c t _).trans ((congrArg _ e).trans ?_)
  pointwise
theorem blk3 (t : Fin cfg0.N) (q : Fin 4) (k j : Fin 1024) :
    iblk m c 3 t (ix3 q k j) = a5 m c (ix3 (0 : Fin 4) ⟨1024 * q.val + k.val, by omega⟩ j) := by
  have e : (win0_3.blk t).view.emb (ix3 q k j) = ix3 q k j := by blk_ext [idx3 t]
  refine (ib3 m c t _).trans ((congrArg _ e).trans ?_)
  pointwise; blk_ext

/-- One stored block is the gradient at its place. -/
theorem piece (t : Fin cfg0.N) (x : Vec Ideal S512x1024 .f32) (g : Vec Ideal S1x1x1024 .f32) (w : Vec Ideal S1x1024x1024 .bf16)
    (r : Vec Ideal S512x1024 .bf16) (q : Fin 4) (i : Fin 512) (j : Fin 1024) (y : S512x4096.Idx)
    (h0 : (y 0).val = i.val) (h1 : (y 1).val = 1024 * q.val + j.val)
    (hx : ∀ k, x (ix2 i k) = iblk m c 0 t (ix2 i k)) (hg : ∀ k, g (ix3 0 0 k) = iblk m c 2 t (ix3 0 5 k))
    (hw : ∀ k, w (ix3 0 j k) = iblk m c 3 t (ix3 q j k)) (hr : r (ix2 i j) = iblk m c 1 t (ix2 i ⟨1024 * q.val + j.val, by omega⟩)) :
    P x g w r i j = G (a0 m c) (a1 m c) (a2 m c) (a5 m c) ((win0_4.blk t).view.emb y) := by
  have e : (win0_4.blk t).view.emb y = ix2 (row t i) ⟨1024 * q.val + j.val, by omega⟩ := by unfold row; blk_ext [idx4 t]
  refine Eq.trans ?_ (congrArg _ e.symm)
  unfold P G
  refine congrArg₂ _ (congrArg₂ _ (Finset.sum_congr rfl fun k _ => ?_) rfl) (hr.trans (blk1 m c t _ _))
  rw [hx, hg, hw, blk0, blk2, blk3]
  rfl

theorem final : (dats m 0 c).arrAt 4 cfg0.N = G (m ((c : Thread nD τ).loc main_arg0)) (m ((c : Thread nD τ).loc main_arg1))
    (m ((c : Thread nD τ).loc main_arg2)) (m ((c : Thread nD τ).loc main_arg5)) := by
  refine (dats m 0 c).arrAt_eq_of_covers 4 _ (by decide +kernel) fun t hf y => ?_
  blk_simp
  rw [after0_4]
  unfold_out out0_4
  canon_tiles x h
  · idx_vars x
    refine (pay2_apply _ _ _ _ x0 x1).trans (piece m c t _ _ _ _ 3 x0 x1 y (by omega) (by show (y 1).val = 1024 * 3 + x1.val; omega) ?_ ?_ ?_ ?_)
    · intro k; pointwise
    · intro k; pointwise
    · intro k; pointwise
    · pointwise; try blk_ext
  · idx_vars x
    refine (pay1_apply _ _ _ _ x0 x1).trans (piece m c t _ _ _ _ 2 x0 x1 y (by omega) (by show (y 1).val = 1024 * 2 + x1.val; omega) ?_ ?_ ?_ ?_)
    · intro k; pointwise
    · intro k; pointwise
    · intro k; pointwise
    · pointwise; try blk_ext
  · idx_vars x
    refine (pay5_apply _ _ _ _ x0 x1).trans (piece m c t _ _ _ _ 1 x0 x1 y (by omega) (by show (y 1).val = 1024 * 1 + x1.val; omega) ?_ ?_ ?_ ?_)
    · intro k; pointwise
    · intro k; pointwise
    · intro k; pointwise
    · pointwise; try blk_ext
  · idx_vars x
    refine (pay4_apply _ _ _ _ x0 x1).trans (piece m c t _ _ _ _ 0 x0 x1 y (by omega) (by show (y 1).val = 1024 * 0 + x1.val; omega) ?_ ?_ ?_ ?_)
    · intro k; pointwise
    · intro k; pointwise
    · intro k; pointwise
    · pointwise; try blk_ext

end Cert.Kernel2Ideal.Fold

namespace Cert.Reference2Ideal.Ref

open Idealize.ShloMosaic Idealize.ShloMosaic.TcCoe Cert.Reference2Ideal Cert.Reference2Ideal.Gen Cert.Reference2Ideal.Read

theorem value (x0 : Vec Ideal S4096x1024 .f32) (x1 : Vec Ideal S4096x4096 .f32) (x2 : Vec Ideal S4x6x1024 .f32) (x5 : Vec Ideal S4x4096x1024 .f32) :
    val_main_v20 (F := Ideal) x0 x1 x2 x5 = Cert.Kernel2Ideal.Fold.G x0 x1 x2 x5 := by
  funext y; idx_vars y
  unfold Cert.Kernel2Ideal.Fold.G
  pointwise [val_main_v20, val_main_v19, val_main_v18, val_main_cst_2, val_main_v17, val_main_v16, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_call0_v0, val_main_call0_cst, val_main_v1, val_main_v0]
  rcases le_or_gt (x1 (ix2 y0 y1)) 0 with h | h
  · rw [if_neg (not_lt.mpr h), max_eq_right h, mul_zero]
  · rw [if_pos h]
    refine Eq.trans ?_ (mul_assoc _ _ _).symm
    refine congrArg₂ (fun a b : EReal => a * b) (Finset.sum_congr rfl fun k _ => ?_) rfl
    rw [mul_comm (x2 _) (x0 _)]

end Cert.Reference2Ideal.Ref

namespace Cert.Proof.K2

open Idealize.ShloMosaic Idealize.SL.Sem

/-- The reference runs to its end, keeps its arguments and has no semaphores. -/
theorem reference_frame : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run m ρ)

/-- The kernel's results are the reference's, of arguments that agree. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => (Cert.Kernel2Ideal.Gen.dats m 0 c).arrAt 4 Cert.Kernel2Ideal.cfg0.N, ?_, ?_⟩
  · refine (θ_run Cert.Kernel2Ideal.defs _ _).mono (fun r h c => ?_) (Cert.Kernel2Ideal.Value.run_blocks m ρ)
    exact h c
  · refine (θ_run Cert.Reference2Ideal.defs _ _).mono (fun r h c => ?_) (Cert.Reference2Ideal.Value.run (F := Ideal) m' ρ')
    obtain ⟨h0, hk⟩ := h c
    obtain ⟨g0, g1, g2, g3, g4, g5⟩ := hagree c
    refine ⟨h0.trans ?_, hk⟩
    · rw [Cert.Reference2Ideal.Read.val_main_v20_eq, Cert.Reference2Ideal.Ref.value, g0, g1, g2, g5]
      exact (Cert.Kernel2Ideal.Fold.final m c).symm

end Cert.Proof.K2

end
-- ==== Proof.K3.lean ====
/-
  A weight gradient: the kernel sums the products of its two row blocks in a scratch, which its second point writes
  back; the two halves make the whole sum over the rows.
-/
module

public import proofs.«01_k».proof.Defs
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Sums
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel3Ideal.Fold

open Idealize.ShloMosaic Idealize.ShloMosaic.TcCoe Idealize.SL.Sem Cert.Kernel3Ideal Cert.Kernel3Ideal.Gen
open Idealize.ShloMosaic.Pipeline (Dat)

variable (m : (ℓ : Loc nD τ sig) → Buf (Elt Ideal) ℓ) (c : Dev nD)

theorem idx0 : ∀ t : Fin cfg0.N, win0_0.index t = ![t.val % 2, 0] := by decide +kernel
theorem idx1 : ∀ t : Fin cfg0.N, win0_1.index t = ![t.val % 2, t.val / 2] := by decide +kernel
theorem idx3 : ∀ t : Fin cfg0.N, win0_3.index t = ![t.val / 2, 0, 0] := by decide +kernel

/-- The arguments, as arrays. -/
abbrev a0 : Vec Ideal S4096x1024 .bf16 := m ((c : Thread nD τ).loc main_arg0)
abbrev a1 : Vec Ideal S4096x4096 .bf16 := m ((c : Thread nD τ).loc main_arg1)
abbrev a2 : Vec Ideal S4x6x1024 .f32 := m ((c : Thread nD τ).loc main_arg2)
abbrev a3 : Vec Ideal S4x1024 .f32 := m ((c : Thread nD τ).loc main_arg3)
abbrev a4 : Vec Ideal S4x1024 .f32 := m ((c : Thread nD τ).loc main_arg4)

/-! What the host hands to the kernel's windows, and the windows' blocks read off it. -/

theorem rd0 (A : (b : Ref sig .tc) → Buf (Elt Ideal) ((c : Thread nD τ).loc b)) (t : Fin cfg0.N) (y : S2048x1024.Idx) :
    ((cfg0.win 0).blk t).view.read (Elt Ideal) (A (Pipeline.arrRef spec0 0)) y = A main_arg0 ((win0_0.blk t).view.emb y) := rfl
theorem ib0 (t : Fin cfg0.N) (y : S2048x1024.Idx) : iblk m c 0 t y = (a0 m c) ((win0_0.blk t).view.emb y) :=
  (rd0 c (V m c) t y).trans (congrFun (V_main_arg0 m c) _)
theorem rd1 (A : (b : Ref sig .tc) → Buf (Elt Ideal) ((c : Thread nD τ).loc b)) (t : Fin cfg0.N) (y : S2048x1024.Idx) :
    ((cfg0.win 1).blk t).view.read (Elt Ideal) (A (Pipeline.arrRef spec0 1)) y = A main_arg1 ((win0_1.blk t).view.emb y) := rfl
theorem ib1 (t : Fin cfg0.N) (y : S2048x1024.Idx) : iblk m c 1 t y = (a1 m c) ((win0_1.blk t).view.emb y) :=
  (rd1 c (V m c) t y).trans (congrFun (V_main_arg1 m c) _)
theorem V_2 : V m c main_v2 = concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd2 (A : (b : Ref sig .tc) → Buf (Elt Ideal) ((c : Thread nD τ).loc b)) (t : Fin cfg0.N) (y : S1x8x1024.Idx) :
    ((cfg0.win 2).blk t).view.read (Elt Ideal) (A (Pipeline.arrRef spec0 2)) y = A main_v2 ((win0_2.blk t).view.emb y) := rfl
theorem ib2 (t : Fin cfg0.N) (y : S1x8x1024.Idx) : iblk m c 2 t y = (concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1) ((win0_2.blk t).view.emb y) :=
  (rd2 c (V m c) t y).trans (congrFun (V_2 m c) _)

/-- The gradient: element by element, the sum over the rows of the products. -/
def G (h : Vec Ideal S4096x1024 .bf16) (d : Vec Ideal S4096x4096 .bf16) : Vec Ideal S4x1024x1024 .bf16 := fun y =>
  ∑ k : Fin 4096, h (ix2 k (y 1)) * d (ix2 k (⟨1024 * (y 0).val + (y 2).val, by have := (y 0).isLt; have := (y 2).isLt; simp at *; omega⟩ : Fin 4096))

/-- What one point adds to the scratch. -/
theorem pay2_apply (a : Vec Ideal S2048x1024 .bf16) (acc : Vec Ideal S1024x1024 .f32) (b : Vec Ideal S2048x1024 .bf16) (i : Fin 1024) (j : Fin 1024) :
    k0_pay2 (F := Ideal) a acc b (ix2 i j) = acc (ix2 i j) + ∑ k : Fin 2048, a (ix2 k i) * b (ix2 k j) := by
  pointwise [k0_pay2]

/-- Row `k` of the half that point `t` reads. -/
def row (t : Fin cfg0.N) (k : Fin 2048) : Fin 4096 := ⟨2048 * (t.val % 2) + k.val, by omega⟩
/-- Column `j` of the block that point `t` reads. -/
def col (t : Fin cfg0.N) (j : Fin 1024) : Fin 4096 := ⟨1024 * (t.val / 2) + j.val, by have : t.val < 8 := t.isLt; omega⟩

theorem blk0 (t : Fin cfg0.N) (k : Fin 2048) (i : Fin 1024) : iblk m c 0 t (ix2 k i) = a0 m c (ix2 (row t k) i) :=
  (ib0 m c t _).trans (congrArg (a0 m c) (by unfold row; blk_ext [idx0 t]))
theorem blk1 (t : Fin cfg0.N) (k : Fin 2048) (j : Fin 1024) : iblk m c 1 t (ix2 k j) = a1 m c (ix2 (row t k) (col t j)) :=
  (ib1 m c t _).trans (congrArg (a1 m c) (by unfold row col; blk_ext [idx1 t]))

/-- The scratch after the first point of a block. -/
theorem scratch (t : Fin cfg0.N) (h : t.val % 2 = 0) (i : Fin 1024) (j : Fin 1024) :
    (outsAt0 m c t.val t.isLt).2 (ix2 i j) = 0 + ∑ k : Fin 2048, a0 m c (ix2 (row t k) i) * a1 m c (ix2 (row t k) (col t j)) := by
  rw [outsAt0_A m c t h (by omega)]
  dsimp only
  frame_out
  refine (pay2_apply _ _ _ i j).trans ?_
  refine congrArg₂ _ ?_ (Finset.sum_congr rfl fun k _ => ?_)
  · pointwise [k0_pay1]
  · rw [blk0, blk1]

/-- What the second point of a block writes back. -/
theorem written (t : Fin cfg0.N) (h : t.val % 2 = 1) (i : Fin 1024) (j : Fin 1024) :
    (outsAt0 m c t.val t.isLt).1 (ix3 0 i j) = ∑ k : Fin 4096, a0 m c (ix2 k i) * a1 m c (ix2 k (col t j)) := by
  have hs := scratch m c ⟨t.val - 1, Nat.lt_of_le_of_lt (Nat.sub_le _ _) t.isLt⟩ (by show (t.val - 1) % 2 = 0; omega) i j
  rw [outsAt0_B m c t (by omega) h]
  dsimp only
  frame_out
  simp only [read_unread_whole]
  have hp : ∀ v : FVec Ideal S1024x1024 .f32, k0_pay3 (F := Ideal) v (ix3 0 i j) = v (ix2 i j) := fun v => by pointwise [k0_pay3]
  refine (hp _).trans ((pay2_apply _ _ _ i j).trans ?_)
  refine (congrArg₂ (fun x y : EReal => x + y) hs (Finset.sum_congr rfl fun k _ =>
    congrArg₂ (fun x y : EReal => x * y) (blk0 m c t k i) (blk1 m c t k j))).trans ?_
  show (0 + _ : EReal) + _ = _
  rw [zero_add, ← Cert.Sums.halves (fun k => a0 m c (ix2 k i) * a1 m c (ix2 k (col t j)))]
  refine congrArg₂ (fun x y : EReal => x + y) (Finset.sum_congr rfl fun k _ => ?_) (Finset.sum_congr rfl fun k _ => ?_)
  · have e1 : row ⟨t.val - 1, Nat.lt_of_le_of_lt (Nat.sub_le _ _) t.isLt⟩ k = ⟨k.val, by omega⟩ := by unfold row; ext; show 2048 * ((t.val - 1) % 2) + k.val = k.val; omega
    have e2 : col ⟨t.val - 1, Nat.lt_of_le_of_lt (Nat.sub_le _ _) t.isLt⟩ j = col t j := by unfold col; ext; show 1024 * ((t.val - 1) / 2) + j.val = 1024 * (t.val / 2) + j.val; omega
    rw [e1, e2]
  · have e1 : row t k = ⟨2048 + k.val, by omega⟩ := by unfold row; ext; show 2048 * (t.val % 2) + k.val = 2048 + k.val; omega
    rw [e1]

theorem final : (dats m 0 c).arrAt 3 cfg0.N = G (m ((c : Thread nD τ).loc main_arg0)) (m ((c : Thread nD τ).loc main_arg1)) := by
  refine (dats m 0 c).arrAt_eq_of_covers 3 _ (by decide +kernel) fun t hf y => ?_
  have ht : t.val % 2 = 1 := (flush0_3 t).mp hf
  blk_simp
  rw [after0_3]
  idx_vars y
  obtain rfl : y0 = 0 := Subsingleton.elim _ _
  refine (written m c t ht y1 y2).trans ?_
  have e : (win0_3.blk t).view.emb (ix3 0 y1 y2) = ix3 (⟨t.val / 2, by have : t.val < 8 := t.isLt; omega⟩ : Fin 4) y1 y2 := by blk_ext [idx3 t]
  refine Eq.trans ?_ (congrArg _ e.symm)
  rfl

end Cert.Kernel3Ideal.Fold

namespace Cert.Reference3Ideal.Ref

open Idealize.ShloMosaic Idealize.ShloMosaic.TcCoe Cert.Reference3Ideal Cert.Reference3Ideal.Gen Cert.Reference3Ideal.Read

theorem value (x0 : Vec Ideal S4096x1024 .bf16) (x1 : Vec Ideal S4096x4096 .bf16) :
    val_main_v8 (F := Ideal) x0 x1 = Cert.Kernel3Ideal.Fold.G x0 x1 := by
  funext y; idx_vars y
  unfold Cert.Kernel3Ideal.Fold.G
  pointwise [val_main_v8, val_main_v7, val_main_v6, val_main_v5, val_main_v4, val_main_v3, val_main_v2, val_main_cst, val_main_v1, val_main_v0]
  refine Finset.sum_congr rfl fun k _ => ?_
  rw [mul_comm]
  blk_point

end Cert.Reference3Ideal.Ref

namespace Cert.Proof.K3

open Idealize.ShloMosaic Idealize.SL.Sem

/-- The reference runs to its end, keeps its arguments and has no semaphores. -/
theorem reference_frame : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run m ρ)

/-- The kernel's results are the reference's, of arguments that agree. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 3 Cert.Kernel3Ideal.cfg0.N, ?_, ?_⟩
  · refine (θ_run Cert.Kernel3Ideal.defs _ _).mono (fun r h c => ?_) (Cert.Kernel3Ideal.Value.run_blocks m ρ)
    exact h c
  · refine (θ_run Cert.Reference3Ideal.defs _ _).mono (fun r h c => ?_) (Cert.Reference3Ideal.Value.run (F := Ideal) m' ρ')
    obtain ⟨h0, hk⟩ := h c
    obtain ⟨g0, g1, g2, g3, g4⟩ := hagree c
    refine ⟨h0.trans ?_, hk⟩
    · rw [Cert.Reference3Ideal.Read.val_main_v8_eq, Cert.Reference3Ideal.Ref.value, g0, g1]
      exact (Cert.Kernel3Ideal.Fold.final m c).symm

end Cert.Proof.K3

end
-- ==== Proof.Finite.lean ====
/-
  Finite numbers among the extended reals: what keeps a number finite, and how a factor is moved through a sum of
  finite numbers.
-/
module

public import Idealize.ShloMosaic.Lib.Pointwise
public import Idealize.ShloMosaic.Lib.IdealHost
public import Idealize.ShloMosaic.PureOps

@[expose] public section

noncomputable section

namespace Cert.Finite

open Idealize.ShloMosaic

/-- An extended real that is a real number. -/
def Re (x : EReal) : Prop := ∃ r : ℝ, x = r

theorem Re.add {x y : EReal} : Re x → Re y → Re (x + y)
  | ⟨a, ha⟩, ⟨b, hb⟩ => ⟨a + b, by rw [ha, hb, EReal.coe_add]⟩
theorem Re.sub {x y : EReal} : Re x → Re y → Re (x - y)
  | ⟨a, ha⟩, ⟨b, hb⟩ => ⟨a - b, by rw [ha, hb, EReal.coe_sub]⟩
theorem Re.mul {x y : EReal} : Re x → Re y → Re (x * y)
  | ⟨a, ha⟩, ⟨b, hb⟩ => ⟨a * b, by rw [ha, hb, EReal.coe_mul]⟩
theorem Re.max {x y : EReal} (hx : Re x) (hy : Re y) : Re (max x y) := by
  rcases max_choice x y with h | h <;> rw [h] <;> assumption
theorem Re.zero : Re 0 := ⟨0, rfl⟩
theorem Re.one : Re 1 := ⟨1, rfl⟩

/-- A sum of real numbers is the same number whichever way it is read. -/
theorem coe_sum {ι : Type} (s : Finset ι) (f : ι → ℝ) : ((∑ k ∈ s, f k : ℝ) : EReal) = ∑ k ∈ s, (f k : EReal) := by
  classical
  induction s using Finset.induction_on with
  | empty => rfl
  | insert a s h ih => rw [Finset.sum_insert h, Finset.sum_insert h, EReal.coe_add, ih]

theorem Re.sum {ι : Type} {s : Finset ι} {f : ι → EReal} (h : ∀ k, Re (f k)) : Re (∑ k ∈ s, f k) := by
  choose g hg using h
  exact ⟨∑ k ∈ s, g k, by rw [coe_sum]; exact Finset.sum_congr rfl fun k _ => hg k⟩

/-- A family of finite numbers is a family of real numbers. -/
theorem reals {ι : Type} {f : ι → EReal} (h : ∀ k, Re (f k)) : ∃ g : ι → ℝ, f = fun k => (g k : EReal) := by
  choose g hg using h
  exact ⟨g, funext hg⟩

/-- A number whose magnitude is below infinity is finite. -/
theorem re_of_lt {x b : EReal} (hb : b = ⊤) (h : Ideal.cmp .olt (max x (-x)) b = 1#1) : Re x := by
  subst hb
  have h1 : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h2 : x < ⊤ := lt_of_le_of_lt (le_max_left _ _) h1
  have h3 : -x < ⊤ := lt_of_le_of_lt (le_max_right _ _) h1
  refine ⟨x.toReal, (EReal.coe_toReal h2.ne ?_).symm⟩
  rintro rfl
  exact absurd h3 (by simp)

/-- Infinity's two patterns. -/
theorem inf32 : Ideal.ofBits .f32 0x7F800000#32 = ⊤ := by simp [Ideal.ofBits, Ideal.ieee]
theorem inf16 : Ideal.ofBits .bf16 0x7F80#16 = ⊤ := by simp [Ideal.ofBits, Ideal.ieee]

/-- A gate outside a sum of products, or on one factor of each. -/
theorem gate {ι : Type} [Fintype ι] {f d : ι → EReal} {g : EReal} (hf : ∀ k, Re (f k)) (hd : ∀ k, Re (d k)) (hg : Re g) :
    (∑ k, f k * d k) * g = ∑ k, (g * d k) * f k := by
  obtain ⟨f, rfl⟩ := reals hf
  obtain ⟨d, rfl⟩ := reals hd
  obtain ⟨g, rfl⟩ := hg
  simp only [← EReal.coe_mul, ← coe_sum]
  rw [Finset.sum_mul]
  exact congrArg _ (Finset.sum_congr rfl fun k _ => by ring)

/-- The sum of a weight times a sum of products, with the sums in the other order. -/
theorem gate_sum {ι κ : Type} [Fintype ι] [Fintype κ] {f : ι → κ → EReal} {d : ι → EReal} {w : κ → EReal}
    (hf : ∀ k i, Re (f k i)) (hd : ∀ k, Re (d k)) (hw : ∀ i, Re (w i)) :
    ∑ i, (∑ k, f k i * d k) * w i = ∑ k, d k * ∑ i, f k i * w i := by
  obtain ⟨d, rfl⟩ := reals hd
  obtain ⟨w, rfl⟩ := reals hw
  choose F hF using hf
  simp only [hF, ← EReal.coe_mul, ← coe_sum]
  refine congrArg _ ?_
  simp only [Finset.sum_mul, Finset.mul_sum]
  rw [Finset.sum_comm]
  exact Finset.sum_congr rfl fun k _ => Finset.sum_congr rfl fun i _ => by ring

end Cert.Finite

end
-- ==== Proof.K4.lean ====
/-
  The gradients of the feed-forward's second weights and of its gate: the kernel sums the products of its two row blocks
  in a scratch; the second point of each block of columns writes them back times the gate, and adds up their products
  with the weights.
-/
module

public import proofs.«01_k».proof.Defs
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Sums
public import proofs.«01_k».proof.Proof.Finite
public import Idealize.ShloMosaic.Lib.Pipeline.ValueKit
public import Idealize.ShloMosaic.Lib.Pipeline.ReadBack
public import Idealize.ShloMosaic.Lib.WritesUnit
public import proofs.«01_k».proof.Proof.Gen.Pre_finite4
public import Idealize.ShloMosaic.Lib.Claim
public import Idealize.ShloMosaic.Adequacy
public import Idealize.ShloMosaic.Init

@[expose] public section

set_option maxRecDepth 16384

noncomputable section

namespace Cert.Kernel4Ideal.Fold

open Idealize.ShloMosaic Idealize.ShloMosaic.TcCoe Idealize.SL.Sem Cert.Kernel4Ideal Cert.Kernel4Ideal.Gen
open Idealize.ShloMosaic.Pipeline (Dat)

variable (m : (ℓ : Loc nD τ sig) → Buf (Elt Ideal) ℓ) (c : Dev nD)

theorem idx0 : ∀ t : Fin cfg0.N, win0_0.index t = ![t.val % 2, t.val / 2] := by decide +kernel
theorem idx1 : ∀ t : Fin cfg0.N, win0_1.index t = ![t.val % 2, 0] := by decide +kernel
theorem idx2 : ∀ t : Fin cfg0.N, win0_2.index t = ![0,0,0] := by decide +kernel
theorem idx3 : ∀ t : Fin cfg0.N, win0_3.index t = ![t.val / 2, 0, 0] := by decide +kernel
theorem idx4 : ∀ t : Fin cfg0.N, win0_4.index t = ![t.val / 2, 0, 0] := by decide +kernel
theorem idx5 : ∀ t : Fin cfg0.N, win0_5.index t = ![0,0] := by decide +kernel

/-- The arguments, as arrays. -/
abbrev a0 : Vec Ideal S4096x1024 .f32 := m ((c : Thread nD τ).loc main_arg0)
abbrev a1 : Vec Ideal S4096x4096 .f32 := m ((c : Thread nD τ).loc main_arg1)
abbrev a2 : Vec Ideal S4x6x1024 .f32 := m ((c : Thread nD τ).loc main_arg2)
abbrev a3 : Vec Ideal S4x1024 .f32 := m ((c : Thread nD τ).loc main_arg3)
abbrev a4 : Vec Ideal S4x1024 .f32 := m ((c : Thread nD τ).loc main_arg4)
abbrev a5 : Vec Ideal S4x4096x1024 .f32 := m ((c : Thread nD τ).loc main_arg5)

/-! What the host hands to the kernel's windows, and the windows' blocks read off it. -/

theorem V_0 : V m c main_v2 = truncf (F := Ideal) .bf16 (maximumf (a1 m c) (broadcastInDim S4096x4096 ![] bcast_S_S4096x4096 ((constant (F := Ideal) S_ .f32 0x00000000#32)))) bitsLt_bf16_f32 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd0 (A : (b : Ref sig .tc) → Buf (Elt Ideal) ((c : Thread nD τ).loc b)) (t : Fin cfg0.N) (y : S2048x1024.Idx) :
    ((cfg0.win 0).blk t).view.read (Elt Ideal) (A (Pipeline.arrRef spec0 0)) y = A main_v2 ((win0_0.blk t).view.emb y) := rfl
theorem ib0 (t : Fin cfg0.N) (y : S2048x1024.Idx) : iblk m c 0 t y = (truncf (F := Ideal) .bf16 (maximumf (a1 m c) (broadcastInDim S4096x4096 ![] bcast_S_S4096x4096 ((constant (F := Ideal) S_ .f32 0x00000000#32)))) bitsLt_bf16_f32) ((win0_0.blk t).view.emb y) :=
  (rd0 c (V m c) t y).trans (congrFun (V_0 m c) _)
theorem rd1 (A : (b : Ref sig .tc) → Buf (Elt Ideal) ((c : Thread nD τ).loc b)) (t : Fin cfg0.N) (y : S2048x1024.Idx) :
    ((cfg0.win 1).blk t).view.read (Elt Ideal) (A (Pipeline.arrRef spec0 1)) y = A main_arg0 ((win0_1.blk t).view.emb y) := rfl
theorem ib1 (t : Fin cfg0.N) (y : S2048x1024.Idx) : iblk m c 1 t y = (a0 m c) ((win0_1.blk t).view.emb y) :=
  (rd1 c (V m c) t y).trans (congrFun (V_main_arg0 m c) _)
theorem V_2 : V m c main_v5 = concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd2 (A : (b : Ref sig .tc) → Buf (Elt Ideal) ((c : Thread nD τ).loc b)) (t : Fin cfg0.N) (y : S1x8x1024.Idx) :
    ((cfg0.win 2).blk t).view.read (Elt Ideal) (A (Pipeline.arrRef spec0 2)) y = A main_v5 ((win0_2.blk t).view.emb y) := rfl
theorem ib2 (t : Fin cfg0.N) (y : S1x8x1024.Idx) : iblk m c 2 t y = (concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1) ((win0_2.blk t).view.emb y) :=
  (rd2 c (V m c) t y).trans (congrFun (V_2 m c) _)
theorem V_3 : V m c main_v9 = truncf (F := Ideal) .bf16 (shapeCast S4x1024x1024 (shapeCast S4096x1024 (extractStridedSlice S1x4096x1024 ![0, 0, 0] (a5 m c) slices_S4x4096x1024_S1x4096x1024_0_0_0) shapeCasts_S1x4096x1024_S4096x1024) shapeCasts_S4096x1024_S4x1024x1024) bitsLt_bf16_f32 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd3 (A : (b : Ref sig .tc) → Buf (Elt Ideal) ((c : Thread nD τ).loc b)) (t : Fin cfg0.N) (y : S1x1024x1024.Idx) :
    ((cfg0.win 3).blk t).view.read (Elt Ideal) (A (Pipeline.arrRef spec0 3)) y = A main_v9 ((win0_3.blk t).view.emb y) := rfl
theorem ib3 (t : Fin cfg0.N) (y : S1x1024x1024.Idx) : iblk m c 3 t y = (truncf (F := Ideal) .bf16 (shapeCast S4x1024x1024 (shapeCast S4096x1024 (extractStridedSlice S1x4096x1024 ![0, 0, 0] (a5 m c) slices_S4x4096x1024_S1x4096x1024_0_0_0) shapeCasts_S1x4096x1024_S4096x1024) shapeCasts_S4096x1024_S4x1024x1024) bitsLt_bf16_f32) ((win0_3.blk t).view.emb y) :=
  (rd3 c (V m c) t y).trans (congrFun (V_3 m c) _)

/-- Row `k` of the half that point `t` reads. -/
def row (t : Fin cfg0.N) (k : Fin 2048) : Fin 4096 := ⟨2048 * (t.val % 2) + k.val, by omega⟩
/-- Column `j` of the block that point `t` reads. -/
def col (t : Fin cfg0.N) (j : Fin 1024) : Fin 4096 := ⟨1024 * (t.val / 2) + j.val, by have : t.val < 8 := t.isLt; omega⟩
/-- The rectified activation. -/
def r (f : Vec Ideal S4096x4096 .f32) (k i : Fin 4096) : EReal := max (f (ix2 k i)) 0
/-- The sum over the rows that a place of the gradient takes. -/
def raw (f : Vec Ideal S4096x4096 .f32) (d : Vec Ideal S4096x1024 .f32) (i : Fin 4096) (j : Fin 1024) : EReal :=
  ∑ k : Fin 4096, (r f k i * r f k i) * d (ix2 k j)
/-- The gradient of the weights: the sum times the gate. -/
def G (f : Vec Ideal S4096x4096 .f32) (d : Vec Ideal S4096x1024 .f32) (g : Vec Ideal S4x6x1024 .f32) : Vec Ideal S4x1024x1024 .bf16 := fun y =>
  (raw f d (⟨1024 * (y 0).val + (y 1).val, by have := (y 0).isLt; have := (y 1).isLt; simp at *; omega⟩ : Fin 4096) (y 2) * g (ix3 0 5 (y 2)) : EReal)
/-- The gradient of the gate, in the first row of eight; the others are zero. -/
def Gg (f : Vec Ideal S4096x4096 .f32) (d : Vec Ideal S4096x1024 .f32) (w : Vec Ideal S4x4096x1024 .f32) : Vec Ideal S8x1024 .f32 := fun y =>
  (if (y 0).val = 0 then ∑ n : Fin 4096, raw f d n (y 1) * w (ix3 0 n (y 1)) else 0 : EReal)

/-- What one point adds to the scratch. -/
theorem pay2_apply (a : Vec Ideal S2048x1024 .bf16) (acc : Vec Ideal S1024x1024 .f32) (b : Vec Ideal S2048x1024 .f32) (i : Fin 1024) (j : Fin 1024) :
    k0_pay2 (F := Ideal) a acc b (ix2 i j) = acc (ix2 i j) + ∑ k : Fin 2048, (a (ix2 k i) * a (ix2 k i)) * b (ix2 k j) := by
  pointwise [k0_pay2]
theorem pay4_apply (v : Vec Ideal S1024x1024 .f32) (g : Vec Ideal S1x1x1024 .f32) (i : Fin 1024) (j : Fin 1024) :
    k0_pay4 (F := Ideal) v g (ix3 0 i j) = v (ix2 i j) * g (ix3 0 0 j) := by
  pointwise [k0_pay4]
theorem pay5_apply (v : Vec Ideal S1024x1024 .f32) (p : Vec Ideal S1x1024 .f32) (w : Vec Ideal S1x1024x1024 .bf16) (j : Fin 1024) :
    k0_pay5 (F := Ideal) v p w (ix2 0 j) = p (ix2 0 j) + ∑ i : Fin 1024, v (ix2 i j) * w (ix3 0 i j) := by
  pointwise [k0_pay5]

theorem blk0 (t : Fin cfg0.N) (k : Fin 2048) (i : Fin 1024) : iblk m c 0 t (ix2 k i) = r (a1 m c) (row t k) (col t i) := by
  have e : (win0_0.blk t).view.emb (ix2 k i) = ix2 (row t k) (col t i) := by unfold row col; blk_ext [idx0 t]
  refine (ib0 m c t _).trans ((congrArg _ e).trans ?_)
  unfold r
  pointwise
theorem blk1 (t : Fin cfg0.N) (k : Fin 2048) (j : Fin 1024) : iblk m c 1 t (ix2 k j) = a0 m c (ix2 (row t k) j) :=
  (ib1 m c t _).trans (congrArg (a0 m c) (by unfold row; blk_ext [idx1 t]))
theorem blk2 (t : Fin cfg0.N) (j : Fin 1024) : iblk m c 2 t (ix3 0 5 j) = a2 m c (ix3 0 5 j) := by
  have e : (win0_2.blk t).view.emb (ix3 0 5 j) = ix3 0 5 j := by blk_ext [idx2 t]
  refine (ib2 m c t _).trans ((congrArg _ e).trans ?_)
  pointwise
theorem blk3 (t : Fin cfg0.N) (i : Fin 1024) (j : Fin 1024) : iblk m c 3 t (ix3 0 i j) = a5 m c (ix3 0 (col t i) j) := by
  have e : (win0_3.blk t).view.emb (ix3 0 i j) = ix3 (⟨t.val / 2, by have : t.val < 8 := t.isLt; omega⟩ : Fin 4) i j := by blk_ext [idx3 t]
  refine (ib3 m c t _).trans ((congrArg _ e).trans ?_)
  pointwise
  unfold col
  blk_point

/-- The scratch after the first point of a block. -/
theorem scratch (t : Fin cfg0.N) (h : t.val % 2 = 0) (i : Fin 1024) (j : Fin 1024) :
    (outsAt0 m c t.val t.isLt).2.2 (ix2 i j)
      = 0 + ∑ k : Fin 2048, (r (a1 m c) (row t k) (col t i) * r (a1 m c) (row t k) (col t i)) * a0 m c (ix2 (row t k) j) := by
  by_cases h8 : t.val % 8 = 0
  · rw [outsAt0_A m c t h h8 (by omega)]
    dsimp only
    frame_out
    refine (pay2_apply _ _ _ i j).trans ?_
    refine congrArg₂ _ ?_ (Finset.sum_congr rfl fun k _ => ?_)
    · pointwise [k0_pay1]
    · rw [blk0, blk1]
  · rw [outsAt0_C m c t h h8 (by omega)]
    dsimp only
    frame_out
    refine (pay2_apply _ _ _ i j).trans ?_
    refine congrArg₂ _ ?_ (Finset.sum_congr rfl fun k _ => ?_)
    · pointwise [k0_pay1]
    · rw [blk0, blk1]

/-- The two halves of the rows together. -/
theorem both (t : Fin cfg0.N) (h : t.val % 2 = 1) (i : Fin 1024) (j : Fin 1024) :
    k0_pay2 (F := Ideal) (iblk m c 0 t) (outsAt0 m c (t.val - 1) (Nat.lt_of_le_of_lt (Nat.sub_le _ _) t.isLt)).2.2 (iblk m c 1 t) (ix2 i j)
      = raw (a1 m c) (a0 m c) (col t i) j := by
  have hs := scratch m c ⟨t.val - 1, Nat.lt_of_le_of_lt (Nat.sub_le _ _) t.isLt⟩ (by show (t.val - 1) % 2 = 0; omega) i j
  refine (pay2_apply _ _ _ i j).trans ?_
  refine (congrArg₂ (fun x y : EReal => x + y) hs (Finset.sum_congr rfl fun k _ => by rw [blk0, blk1])).trans ?_
  show (0 + _ : EReal) + _ = _
  rw [zero_add]
  unfold raw
  rw [← Cert.Sums.halves (fun k => (r (a1 m c) k (col t i) * r (a1 m c) k (col t i)) * a0 m c (ix2 k j))]
  refine congrArg₂ (fun x y : EReal => x + y) (Finset.sum_congr rfl fun k _ => ?_) (Finset.sum_congr rfl fun k _ => ?_)
  · have e1 : row ⟨t.val - 1, Nat.lt_of_le_of_lt (Nat.sub_le _ _) t.isLt⟩ k = ⟨k.val, by omega⟩ := by unfold row; ext; show 2048 * ((t.val - 1) % 2) + k.val = k.val; omega
    have e2 : col ⟨t.val - 1, Nat.lt_of_le_of_lt (Nat.sub_le _ _) t.isLt⟩ i = col t i := by unfold col; ext; show 1024 * ((t.val - 1) / 2) + i.val = 1024 * (t.val / 2) + i.val; omega
    rw [e1, e2]
  · have e1 : row t k = ⟨2048 + k.val, by omega⟩ := by unfold row; ext; show 2048 * (t.val % 2) + k.val = 2048 + k.val; omega
    rw [e1]

/-- What the second point of a block writes back. -/
theorem written (t : Fin cfg0.N) (h : t.val % 2 = 1) (i : Fin 1024) (j : Fin 1024) :
    (outsAt0 m c t.val t.isLt).1 (ix3 0 i j) = raw (a1 m c) (a0 m c) (col t i) j * a2 m c (ix3 0 5 j) := by
  rw [outsAt0_B m c t (by omega) (by omega) h]
  dsimp only
  frame_out
  simp only [read_unread_whole]
  refine (pay4_apply _ _ i j).trans ?_
  refine congrArg₂ (fun x y : EReal => x * y) (both m c t h i j) ?_
  pointwise
  exact blk2 m c t j

theorem final : (dats m 0 c).arrAt 4 cfg0.N = G (m ((c : Thread nD τ).loc main_arg1)) (m ((c : Thread nD τ).loc main_arg0)) (m ((c : Thread nD τ).loc main_arg2)) := by
  refine (dats m 0 c).arrAt_eq_of_covers 4 _ (by decide +kernel) fun t hf y => ?_
  have ht : t.val % 2 = 1 := (flush0_4 t).mp hf
  blk_simp
  rw [after0_4]
  idx_vars y
  obtain rfl : y0 = 0 := Subsingleton.elim _ _
  refine (written m c t ht y1 y2).trans ?_
  have e : (win0_4.blk t).view.emb (ix3 0 y1 y2) = ix3 (⟨t.val / 2, by have : t.val < 8 := t.isLt; omega⟩ : Fin 4) y1 y2 := by blk_ext [idx4 t]
  refine Eq.trans ?_ (congrArg _ e.symm)
  rfl

/-- The gate's gradient is zero after the first point. -/
theorem dgA (t : Fin cfg0.N) (h : t.val % 8 = 0) (p : Fin 8) (j : Fin 1024) : (outsAt0 m c t.val t.isLt).2.1 (ix2 p j) = 0 := by
  rw [outsAt0_A m c t (by omega) h (by omega)]
  dsimp only
  frame_out
  pointwise [k0_pay3]
/-- The first point of a later block leaves it as it was. -/
theorem dgC (t : Fin cfg0.N) (h : t.val % 2 = 0) (h8 : ¬ t.val % 8 = 0) :
    (outsAt0 m c t.val t.isLt).2.1 = (outsAt0 m c (t.val - 1) (Nat.lt_of_le_of_lt (Nat.sub_le _ _) t.isLt)).2.1 := by
  rw [outsAt0_C m c t h h8 (by omega)]
  rfl
/-- The first row after a store of it. -/
theorem row_mem {sp : Space} (v : View sig .tc sp S8x1024 .f32) (f : v.ty.Contents (Elt Ideal)) (w : Vec Ideal S1x1024 .f32) (j : Fin 1024) :
    v.read (Elt Ideal) (v.writes (Elt Ideal) f [⟨Rect.unit (s := S8x1024) ![0, 0] ![1, 1024] inb_S8x1024_S1x1024_0_0, w⟩]) (ix2 0 j) = w (ix2 0 j) := by
  have e : (Rect.unit (s := S8x1024) ![0, 0] ![1, 1024] inb_S8x1024_S1x1024_0_0).emb (ix2 0 j) = ix2 0 j := by
    blk_ext
  exact View.read_writes_cons_hit (Val := Elt Ideal) v f (Rect.unit (s := S8x1024) ![0, 0] ![1, 1024] inb_S8x1024_S1x1024_0_0) w [] (ix2 0 j) (ix2 0 j) e
/-- Another row after a store of the first. -/
theorem row_not_mem {sp : Space} (v : View sig .tc sp S8x1024 .f32) (f : v.ty.Contents (Elt Ideal)) (w : Vec Ideal S1x1024 .f32) (p : Fin 8) (hp : ¬ p.val = 0) (j : Fin 1024) :
    v.read (Elt Ideal) (v.writes (Elt Ideal) f [⟨Rect.unit (s := S8x1024) ![0, 0] ![1, 1024] inb_S8x1024_S1x1024_0_0, w⟩]) (ix2 p j) = v.read (Elt Ideal) f (ix2 p j) :=
  View.read_writes_cons_miss_of_axis (Val := Elt Ideal) v f ⟨Rect.unit (s := S8x1024) ![0, 0] ![1, 1024] inb_S8x1024_S1x1024_0_0, w⟩ [] (ix2 p j) (0 : Fin 2) 0 1 rfl rfl rfl (Or.inr (by show 0 + 1 ≤ p.val; omega))

/-- The second point of a block adds the block's part to the first row and leaves the others. -/
theorem dgB (t : Fin cfg0.N) (h : t.val % 2 = 1) (p : Fin 8) (j : Fin 1024) :
    (outsAt0 m c t.val t.isLt).2.1 (ix2 p j) = if p.val = 0 then
      (outsAt0 m c (t.val - 1) (Nat.lt_of_le_of_lt (Nat.sub_le _ _) t.isLt)).2.1 (ix2 p j) + ∑ i : Fin 1024, raw (a1 m c) (a0 m c) (col t i) j * a5 m c (ix3 0 (col t i) j)
      else (outsAt0 m c (t.val - 1) (Nat.lt_of_le_of_lt (Nat.sub_le _ _) t.isLt)).2.1 (ix2 p j) := by
  rw [outsAt0_B m c t (by omega) (by omega) h]
  dsimp only
  frame_out
  simp only [read_unread_whole]
  have hb := fun i => both m c t h i j
  have hw := fun i => blk3 m c t i j
  have hu := Memref.IsWhole.read_unread (Val := Elt Ideal) (hs0_5 t) (outsAt0 m c (t.val - 1) (Nat.lt_of_le_of_lt (Nat.sub_le _ _) t.isLt)).2.1
  generalize k0_pay2 (F := Ideal) (iblk m c 0 t) (outsAt0 m c (t.val - 1) (Nat.lt_of_le_of_lt (Nat.sub_le _ _) t.isLt)).2.2 (iblk m c 1 t) = V at hb ⊢
  generalize iblk m c 3 t = W at hw ⊢
  generalize (outsAt0 m c (t.val - 1) (Nat.lt_of_le_of_lt (Nat.sub_le _ _) t.isLt)).2.1 = P at hu ⊢
  by_cases hp : p.val = 0
  · obtain rfl : p = 0 := Fin.ext hp
    rw [if_pos hp]
    refine (row_mem _ _ _ j).trans ?_
    refine (pay5_apply _ _ _ j).trans ?_
    refine congrArg₂ (fun x y : EReal => x + y) ?_ (Finset.sum_congr rfl fun i _ => ?_)
    · pointwise
    · rw [hb, hw]
  · rw [if_neg hp]
    exact (row_not_mem _ _ _ p hp j).trans (congrFun hu _)

section

attribute [local irreducible] outsAt0

/-- Two points on, a block's part has been added. -/
theorem dg2 (n : ℕ) (hn : n + 2 < cfg0.N) (h : n % 2 = 1) (h8 : ¬ (n + 1) % 8 = 0) (p : Fin 8) (j : Fin 1024) :
    (outsAt0 m c (n + 2) hn).2.1 (ix2 p j) = if p.val = 0 then
      (outsAt0 m c n (by omega)).2.1 (ix2 p j) + ∑ i : Fin 1024, raw (a1 m c) (a0 m c) (col ⟨n + 2, hn⟩ i) j * a5 m c (ix3 0 (col ⟨n + 2, hn⟩ i) j)
      else (outsAt0 m c n (by omega)).2.1 (ix2 p j) := by
  have e := dgC m c ⟨n + 1, by omega⟩ (by show (n + 1) % 2 = 0; omega) h8
  have e' : (outsAt0 m c (n + 1) (by omega)).2.1 = (outsAt0 m c n (by omega)).2.1 := e
  have f := dgB m c ⟨n + 2, hn⟩ (by show (n + 2) % 2 = 1; omega) p j
  have f' : (outsAt0 m c (n + 2) hn).2.1 (ix2 p j) = if p.val = 0 then
      (outsAt0 m c (n + 1) (by omega)).2.1 (ix2 p j) + ∑ i : Fin 1024, raw (a1 m c) (a0 m c) (col ⟨n + 2, hn⟩ i) j * a5 m c (ix3 0 (col ⟨n + 2, hn⟩ i) j)
      else (outsAt0 m c (n + 1) (by omega)).2.1 (ix2 p j) := f
  rw [e'] at f'
  exact f'

/-- The gate's gradient after the last point. -/
theorem gate (p : Fin 8) (j : Fin 1024) :
    (outsAt0 m c 7 (by decide)).2.1 (ix2 p j) = Gg (a1 m c) (a0 m c) (a5 m c) (ix2 p j) := by
  have h0 : (outsAt0 m c 0 (by decide)).2.1 (ix2 p j) = 0 := dgA m c ⟨0, by decide⟩ rfl p j
  have h1 : (outsAt0 m c 1 (by decide)).2.1 (ix2 p j) = if p.val = 0 then
      (outsAt0 m c 0 (by decide)).2.1 (ix2 p j) + ∑ i : Fin 1024, raw (a1 m c) (a0 m c) (col ⟨1, by decide⟩ i) j * a5 m c (ix3 0 (col ⟨1, by decide⟩ i) j)
      else (outsAt0 m c 0 (by decide)).2.1 (ix2 p j) := dgB m c ⟨1, by decide⟩ rfl p j
  have h3 := dg2 m c 1 (by decide) rfl (by decide) p j
  have h5 := dg2 m c 3 (by decide) rfl (by decide) p j
  have h7 := dg2 m c 5 (by decide) rfl (by decide) p j
  unfold Gg
  show _ = (if p.val = 0 then _ else _ : EReal)
  rw [h7, h5, h3, h1, h0]
  by_cases hp : p.val = 0
  · simp only [if_pos hp]
    show ((((0 : EReal) + _) + _) + _) + _ = _
    rw [zero_add]
    refine Eq.trans ?_ (Cert.Sums.quarters (fun n => raw (a1 m c) (a0 m c) n j * a5 m c (ix3 0 n j)))
    have e0 : ∀ i : Fin 1024, col ⟨1, by decide⟩ i = ⟨i.val, by omega⟩ := fun i => by unfold col; ext; show 1024 * (1 / 2) + i.val = i.val; omega
    have e1 : ∀ i : Fin 1024, col ⟨1 + 2, by decide⟩ i = ⟨1024 + i.val, by omega⟩ := fun i => by unfold col; ext; show 1024 * (3 / 2) + i.val = 1024 + i.val; omega
    have e2 : ∀ i : Fin 1024, col ⟨3 + 2, by decide⟩ i = ⟨2048 + i.val, by omega⟩ := fun i => by unfold col; ext; show 1024 * (5 / 2) + i.val = 2048 + i.val; omega
    have e3 : ∀ i : Fin 1024, col ⟨5 + 2, by decide⟩ i = ⟨3072 + i.val, by omega⟩ := fun i => by unfold col; ext; show 1024 * (7 / 2) + i.val = 3072 + i.val; omega
    simp only [e0, e1, e2, e3]
  · simp only [if_neg hp]

theorem gate7 (t : Fin cfg0.N) (h : t.val % 8 = 7) (p : Fin 8) (j : Fin 1024) :
    (outsAt0 m c t.val t.isLt).2.1 (ix2 p j) = Gg (a1 m c) (a0 m c) (a5 m c) (ix2 p j) := by
  have h7 : t.val = 7 := by have : t.val < 8 := t.isLt; omega
  have e : ∀ (n : ℕ) (hn : n < cfg0.N), n = 7 → (outsAt0 m c n hn).2.1 = (outsAt0 m c 7 (by decide)).2.1 := fun n hn h => by subst h; rfl
  rw [e t.val t.isLt h7]
  exact gate m c p j

end

theorem final5 : (dats m 0 c).arrAt 5 cfg0.N = Gg (m ((c : Thread nD τ).loc main_arg1)) (m ((c : Thread nD τ).loc main_arg0)) (m ((c : Thread nD τ).loc main_arg5)) := by
  refine (dats m 0 c).arrAt_eq_of_covers 5 _ (by decide +kernel) fun t hf y => ?_
  have ht : t.val % 8 = 7 := (flush0_5 t).mp hf
  blk_simp
  rw [after0_5]
  idx_vars y
  have e : (win0_5.blk t).view.emb (ix2 y0 y1) = ix2 y0 y1 := by blk_ext [idx5 t]
  refine Eq.trans ?_ (congrArg _ e.symm)
  exact gate7 m c t ht y0 y1

end Cert.Kernel4Ideal.Fold

namespace Cert.Reference4Ideal.Ref

open Idealize.ShloMosaic Idealize.ShloMosaic.TcCoe Cert.Reference4Ideal Cert.Reference4Ideal.Gen Cert.Reference4Ideal.Read

open Cert.Finite

theorem value19 (x0 : Vec Ideal S4096x1024 .f32) (x1 : Vec Ideal S4096x4096 .f32) (x2 : Vec Ideal S4x6x1024 .f32)
    (h0 : ∀ i, Re (x0 i)) (h1 : ∀ i, Re (x1 i)) (h2 : ∀ i, Re (x2 i)) :
    val_main_v19 (F := Ideal) x0 x1 x2 = Cert.Kernel4Ideal.Fold.G x1 x0 x2 := by
  funext y; idx_vars y
  unfold Cert.Kernel4Ideal.Fold.G Cert.Kernel4Ideal.Fold.raw Cert.Kernel4Ideal.Fold.r
  pointwise [val_main_v19, val_main_v18, val_main_v17, val_main_v16, val_main_v11, val_main_v10, val_main_v7, val_main_v1, val_main_v0, val_main_v5, val_main_v4, val_main_call0_v0, val_main_call0_cst]
  have e : y0.val * 1024 + y1.val = 1024 * y0.val + y1.val := by omega
  simp only [e]
  exact (gate (fun k => ((h1 _).max Re.zero).mul ((h1 _).max Re.zero)) (fun k => h0 _) (h2 _)).symm

theorem value21 (x0 : Vec Ideal S4096x1024 .f32) (x1 : Vec Ideal S4096x4096 .f32) (x5 : Vec Ideal S4x4096x1024 .f32)
    (h0 : ∀ i, Re (x0 i)) (h1 : ∀ i, Re (x1 i)) (h5 : ∀ i, Re (x5 i)) :
    val_main_v21 (F := Ideal) x0 x1 x5 = Cert.Kernel4Ideal.Fold.Gg x1 x0 x5 := by
  funext y; idx_vars y
  unfold Cert.Kernel4Ideal.Fold.Gg Cert.Kernel4Ideal.Fold.raw Cert.Kernel4Ideal.Fold.r
  pointwise [val_main_v21, val_main_v20, val_main_v15, val_main_v14, val_main_v13, val_main_v12, val_main_v6, val_main_v5, val_main_v4, val_main_call0_v0, val_main_call0_cst, val_main_v3, val_main_v2, val_main_cst, val_main_cst_0, val_main_call1_v0, val_main_c]
  by_cases hp : y0.val = 0
  · rw [dif_pos (by omega), if_pos hp]
    simp only [Finset.univ_unique, Finset.sum_singleton]
    exact (gate_sum (fun k i => ((h1 _).max Re.zero).mul ((h1 _).max Re.zero)) (fun k => h0 _) (fun i => h5 _)).symm
  · rw [dif_neg (by omega), if_neg hp]
    show ((((0#32 : BitVec 32).toInt : ℝ)) : EReal) = 0
    simp

end Cert.Reference4Ideal.Ref

namespace Cert.Proof.K4

open Idealize.ShloMosaic Idealize.SL.Sem

/-- The reference runs to its end, keeps its arguments and has no semaphores. -/
theorem reference_frame : Cert.quiescent_Reference4Ideal (hReference4Ideal := Cert.Reference4Ideal.Gen.facts) := fun m ρ _ =>
  (θ_run Cert.Reference4Ideal.defs _ _).mono (fun r h => ⟨fun c => (h c).2.2,
      Idealize.ShloMosaic.sem_eq_zero_of_no_sems (by decide) r.2⟩)
    (Cert.Reference4Ideal.Value.run m ρ)

/-- The kernel's results are the reference's, of finite arguments that agree. -/
theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m ρ m' ρ' hpre hagree
  have f0 : ∀ (c : Dev Cert.Kernel4Ideal.nD) i, Cert.Finite.Re ((m ((c.tc : Thread Cert.Kernel4Ideal.nD Cert.Kernel4Ideal.τ).loc Cert.Kernel4Ideal.main_arg0) : _ → EReal) i) := fun c i =>
    Cert.Finite.re_of_lt Cert.Finite.inf32 (congrFun (hpre c).1 i)
  have f1 : ∀ (c : Dev Cert.Kernel4Ideal.nD) i, Cert.Finite.Re ((m ((c.tc : Thread Cert.Kernel4Ideal.nD Cert.Kernel4Ideal.τ).loc Cert.Kernel4Ideal.main_arg1) : _ → EReal) i) := fun c i =>
    Cert.Finite.re_of_lt Cert.Finite.inf32 (congrFun (hpre c).2.1 i)
  have f2 : ∀ (c : Dev Cert.Kernel4Ideal.nD) i, Cert.Finite.Re ((m ((c.tc : Thread Cert.Kernel4Ideal.nD Cert.Kernel4Ideal.τ).loc Cert.Kernel4Ideal.main_arg2) : _ → EReal) i) := fun c i =>
    Cert.Finite.re_of_lt Cert.Finite.inf32 (congrFun (hpre c).2.2.1 i)
  have f5 : ∀ (c : Dev Cert.Kernel4Ideal.nD) i, Cert.Finite.Re ((m ((c.tc : Thread Cert.Kernel4Ideal.nD Cert.Kernel4Ideal.τ).loc Cert.Kernel4Ideal.main_arg5) : _ → EReal) i) := fun c i =>
    Cert.Finite.re_of_lt Cert.Finite.inf32 (congrFun (hpre c).2.2.2 i)
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N, ?_, ?_⟩
  · refine (θ_run Cert.Kernel4Ideal.defs _ _).mono (fun r h c => ?_) (Cert.Kernel4Ideal.Value.run_blocks m ρ)
    exact h c
  · refine (θ_run Cert.Reference4Ideal.defs _ _).mono (fun r h c => ?_) (Cert.Reference4Ideal.Value.run (F := Ideal) m' ρ')
    obtain ⟨h0, h1, hk⟩ := h c
    obtain ⟨g0, g1, g2, g3, g4, g5⟩ := hagree c
    refine ⟨h0.trans ?_, h1.trans ?_, hk⟩
    · rw [Cert.Reference4Ideal.Read.val_main_v19_eq, g0, g1, g2]
      exact (Cert.Reference4Ideal.Ref.value19 _ _ _ (f0 c) (f1 c) (f2 c)).trans (Cert.Kernel4Ideal.Fold.final m c).symm
    · rw [Cert.Reference4Ideal.Read.val_main_v21_eq, g0, g1, g5]
      exact (Cert.Reference4Ideal.Ref.value21 _ _ _ (f0 c) (f1 c) (f5 c)).trans (Cert.Kernel4Ideal.Fold.final5 m c).symm

end Cert.Proof.K4

end
-- ==== Proof.K5.lean ====
/-
  The gradients of the output projection's weights and of its gate: the kernel sums the products of its two row blocks in a
  scratch; its second point writes them back times the gate, and adds up their products with the weights.
-/
module

public import proofs.«01_k».proof.Defs
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Sums
public import proofs.«01_k».proof.Proof.Finite
public import Idealize.ShloMosaic.Lib.Pipeline.ValueKit
public import Idealize.ShloMosaic.Lib.Pipeline.ReadBack
public import Idealize.ShloMosaic.Lib.WritesUnit
public import proofs.«01_k».proof.Proof.Gen.Pre_finite5
public import Idealize.ShloMosaic.Lib.Claim
public import Idealize.ShloMosaic.Adequacy
public import Idealize.ShloMosaic.Init

@[expose] public section

set_option maxRecDepth 16384

noncomputable section

namespace Cert.Kernel5Ideal.Fold

open Idealize.ShloMosaic Idealize.ShloMosaic.TcCoe Idealize.SL.Sem Cert.Kernel5Ideal Cert.Kernel5Ideal.Gen
open Idealize.ShloMosaic.Pipeline (Dat)

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0,0,0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0,0] := by decide +kernel

/-- The arguments, as arrays. -/
abbrev a0 : Vec Ideal S4096x1024 .f32 := m ((c : Thread nD τ).loc main_arg0)
abbrev a1 : Vec Ideal S4096x1024 .bf16 := m ((c : Thread nD τ).loc main_arg1)
abbrev a2 : Vec Ideal S4x6x1024 .f32 := m ((c : Thread nD τ).loc main_arg2)
abbrev a3 : Vec Ideal S4x1024 .f32 := m ((c : Thread nD τ).loc main_arg3)
abbrev a4 : Vec Ideal S4x1024 .f32 := m ((c : Thread nD τ).loc main_arg4)
abbrev a5 : Vec Ideal S4x1024x1024 .f32 := m ((c : Thread nD τ).loc main_arg5)

/-! What the host hands to the kernel's windows, and the windows' blocks read off it. -/

theorem rd0 (A : (b : Ref sig .tc) → Buf (Elt Ideal) ((c : Thread nD τ).loc b)) (t : Fin cfg0.N) (y : S2048x1024.Idx) :
    ((cfg0.win 0).blk t).view.read (Elt Ideal) (A (Pipeline.arrRef spec0 0)) y = A main_arg1 ((win0_0.blk t).view.emb y) := rfl
theorem ib0 (t : Fin cfg0.N) (y : S2048x1024.Idx) : iblk m c 0 t y = (a1 m c) ((win0_0.blk t).view.emb y) :=
  (rd0 c (V m c) t y).trans (congrFun (V_main_arg1 m c) _)
theorem rd1 (A : (b : Ref sig .tc) → Buf (Elt Ideal) ((c : Thread nD τ).loc b)) (t : Fin cfg0.N) (y : S2048x1024.Idx) :
    ((cfg0.win 1).blk t).view.read (Elt Ideal) (A (Pipeline.arrRef spec0 1)) y = A main_arg0 ((win0_1.blk t).view.emb y) := rfl
theorem ib1 (t : Fin cfg0.N) (y : S2048x1024.Idx) : iblk m c 1 t y = (a0 m c) ((win0_1.blk t).view.emb y) :=
  (rd1 c (V m c) t y).trans (congrFun (V_main_arg0 m c) _)
theorem V_2 : V m c main_v2 = concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd2 (A : (b : Ref sig .tc) → Buf (Elt Ideal) ((c : Thread nD τ).loc b)) (t : Fin cfg0.N) (y : S1x8x1024.Idx) :
    ((cfg0.win 2).blk t).view.read (Elt Ideal) (A (Pipeline.arrRef spec0 2)) y = A main_v2 ((win0_2.blk t).view.emb y) := rfl
theorem ib2 (t : Fin cfg0.N) (y : S1x8x1024.Idx) : iblk m c 2 t y = (concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1) ((win0_2.blk t).view.emb y) :=
  (rd2 c (V m c) t y).trans (congrFun (V_2 m c) _)
theorem V_3 : V m c main_v7 = shapeCast S1024x1024 (truncf (F := Ideal) .bf16 (shapeCast S4x256x1024 (shapeCast S1024x1024 (extractStridedSlice S1x1024x1024 ![0, 0, 0] (a5 m c) slices_S4x1024x1024_S1x1024x1024_0_0_0) shapeCasts_S1x1024x1024_S1024x1024) shapeCasts_S1024x1024_S4x256x1024) bitsLt_bf16_f32) shapeCasts_S4x256x1024_S1024x1024 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd3 (A : (b : Ref sig .tc) → Buf (Elt Ideal) ((c : Thread nD τ).loc b)) (t : Fin cfg0.N) (y : S1024x1024.Idx) :
    ((cfg0.win 3).blk t).view.read (Elt Ideal) (A (Pipeline.arrRef spec0 3)) y = A main_v7 ((win0_3.blk t).view.emb y) := rfl
theorem ib3 (t : Fin cfg0.N) (y : S1024x1024.Idx) : iblk m c 3 t y = (shapeCast S1024x1024 (truncf (F := Ideal) .bf16 (shapeCast S4x256x1024 (shapeCast S1024x1024 (extractStridedSlice S1x1024x1024 ![0, 0, 0] (a5 m c) slices_S4x1024x1024_S1x1024x1024_0_0_0) shapeCasts_S1x1024x1024_S1024x1024) shapeCasts_S1024x1024_S4x256x1024) bitsLt_bf16_f32) shapeCasts_S4x256x1024_S1024x1024) ((win0_3.blk t).view.emb y) :=
  (rd3 c (V m c) t y).trans (congrFun (V_3 m c) _)

/-- The sum over the rows that a place of the gradient takes. -/
def raw (h : Vec Ideal S4096x1024 .bf16) (d : Vec Ideal S4096x1024 .f32) (i : Fin 1024) (j : Fin 1024) : EReal :=
  ∑ k : Fin 4096, h (ix2 k i) * d (ix2 k j)
/-- The gradient of the weights: the sum times the gate. -/
def G (h : Vec Ideal S4096x1024 .bf16) (d : Vec Ideal S4096x1024 .f32) (g : Vec Ideal S4x6x1024 .f32) : Vec Ideal S1024x1024 .bf16 := fun y =>
  (raw h d (y 0) (y 1) * g (ix3 0 2 (y 1)) : EReal)
/-- The gradient of the gate, in the first row of eight; the others are zero. -/
def Gg (h : Vec Ideal S4096x1024 .bf16) (d : Vec Ideal S4096x1024 .f32) (w : Vec Ideal S4x1024x1024 .f32) : Vec Ideal S8x1024 .f32 := fun y =>
  (if (y 0).val = 0 then ∑ n : Fin 1024, raw h d n (y 1) * w (ix3 0 n (y 1)) else 0 : EReal)

/-- What one point adds to the scratch. -/
theorem pay2_apply (a : Vec Ideal S2048x1024 .bf16) (acc : Vec Ideal S1024x1024 .f32) (b : Vec Ideal S2048x1024 .f32) (i : Fin 1024) (j : Fin 1024) :
    k0_pay2 (F := Ideal) a acc b (ix2 i j) = acc (ix2 i j) + ∑ k : Fin 2048, a (ix2 k i) * b (ix2 k j) := by
  pointwise [k0_pay2]
theorem pay4_apply (v : Vec Ideal S1024x1024 .f32) (g : Vec Ideal S1x1x1024 .f32) (i : Fin 1024) (j : Fin 1024) :
    k0_pay4 (F := Ideal) v g (ix2 i j) = v (ix2 i j) * g (ix3 0 0 j) := by
  pointwise [k0_pay4]
theorem pay5_apply (v : Vec Ideal S1024x1024 .f32) (p : Vec Ideal S1x1024 .f32) (w : Vec Ideal S1024x1024 .bf16) (j : Fin 1024) :
    k0_pay5 (F := Ideal) v p w (ix2 0 j) = p (ix2 0 j) + ∑ i : Fin 1024, v (ix2 i j) * w (ix2 i j) := by
  pointwise [k0_pay5]

/-- Row `k` of the half that point `t` reads. -/
def row (t : Fin cfg0.N) (k : Fin 2048) : Fin 4096 := ⟨2048 * t.val + k.val, by have : t.val < 2 := t.isLt; omega⟩

theorem blk0 (t : Fin cfg0.N) (k : Fin 2048) (i : Fin 1024) : iblk m c 0 t (ix2 k i) = a1 m c (ix2 (row t k) i) :=
  (ib0 m c t _).trans (congrArg (a1 m c) (by unfold row; blk_ext [idx0 t]))
theorem blk1 (t : Fin cfg0.N) (k : Fin 2048) (j : Fin 1024) : iblk m c 1 t (ix2 k j) = a0 m c (ix2 (row t k) j) :=
  (ib1 m c t _).trans (congrArg (a0 m c) (by unfold row; blk_ext [idx1 t]))
theorem blk2 (t : Fin cfg0.N) (j : Fin 1024) : iblk m c 2 t (ix3 0 2 j) = a2 m c (ix3 0 2 j) := by
  have e : (win0_2.blk t).view.emb (ix3 0 2 j) = ix3 0 2 j := by blk_ext [idx2 t]
  refine (ib2 m c t _).trans ((congrArg _ e).trans ?_)
  pointwise
theorem blk3 (t : Fin cfg0.N) (i : Fin 1024) (j : Fin 1024) : iblk m c 3 t (ix2 i j) = a5 m c (ix3 0 i j) := by
  have e : (win0_3.blk t).view.emb (ix2 i j) = ix2 i j := by blk_ext [idx3 t]
  refine (ib3 m c t _).trans ((congrArg _ e).trans ?_)
  pointwise

/-- The scratch after the first point. -/
theorem scratch (t : Fin cfg0.N) (h : t.val % 2 = 0) (i : Fin 1024) (j : Fin 1024) :
    (outsAt0 m c t.val t.isLt).2.2 (ix2 i j) = 0 + ∑ k : Fin 2048, a1 m c (ix2 (row t k) i) * a0 m c (ix2 (row t k) j) := by
  rw [outsAt0_A m c t h h (by omega)]
  dsimp only
  frame_out
  refine (pay2_apply _ _ _ i j).trans ?_
  refine congrArg₂ _ ?_ (Finset.sum_congr rfl fun k _ => ?_)
  · pointwise [k0_pay1]
  · rw [blk0, blk1]

/-- The two halves of the rows together. -/
theorem both (t : Fin cfg0.N) (h : t.val % 2 = 1) (i : Fin 1024) (j : Fin 1024) :
    k0_pay2 (F := Ideal) (iblk m c 0 t) (outsAt0 m c (t.val - 1) (Nat.lt_of_le_of_lt (Nat.sub_le _ _) t.isLt)).2.2 (iblk m c 1 t) (ix2 i j)
      = raw (a1 m c) (a0 m c) i j := by
  have ht : t.val < 2 := t.isLt
  have hs := scratch m c ⟨t.val - 1, Nat.lt_of_le_of_lt (Nat.sub_le _ _) t.isLt⟩ (by show (t.val - 1) % 2 = 0; omega) i j
  refine (pay2_apply _ _ _ i j).trans ?_
  refine (congrArg₂ (fun x y : EReal => x + y) hs (Finset.sum_congr rfl fun k _ =>
    congrArg₂ (fun x y : EReal => x * y) (blk0 m c t k i) (blk1 m c t k j))).trans ?_
  show (0 + _ : EReal) + _ = _
  rw [zero_add]
  unfold raw
  rw [← Cert.Sums.halves (fun k => a1 m c (ix2 k i) * a0 m c (ix2 k j))]
  refine congrArg₂ (fun x y : EReal => x + y) (Finset.sum_congr rfl fun k _ => ?_) (Finset.sum_congr rfl fun k _ => ?_)
  · have e1 : row ⟨t.val - 1, Nat.lt_of_le_of_lt (Nat.sub_le _ _) t.isLt⟩ k = ⟨k.val, by omega⟩ := by unfold row; ext; show 2048 * (t.val - 1) + k.val = k.val; omega
    rw [e1]
  · have e1 : row t k = ⟨2048 + k.val, by omega⟩ := by unfold row; ext; show 2048 * t.val + k.val = 2048 + k.val; omega
    rw [e1]

/-- What the second point writes back. -/
theorem written (t : Fin cfg0.N) (h : t.val % 2 = 1) (i : Fin 1024) (j : Fin 1024) :
    (outsAt0 m c t.val t.isLt).1 (ix2 i j) = raw (a1 m c) (a0 m c) i j * a2 m c (ix3 0 2 j) := by
  rw [outsAt0_B m c t (by omega) (by omega) h]
  dsimp only
  frame_out
  simp only [read_unread_whole]
  refine (pay4_apply _ _ i j).trans ?_
  refine congrArg₂ (fun x y : EReal => x * y) (both m c t h i j) ?_
  pointwise
  exact blk2 m c t j

theorem final : (dats m 0 c).arrAt 4 cfg0.N = G (m ((c : Thread nD τ).loc main_arg1)) (m ((c : Thread nD τ).loc main_arg0)) (m ((c : Thread nD τ).loc main_arg2)) := by
  refine (dats m 0 c).arrAt_eq_of_covers 4 _ (by decide +kernel) fun t hf y => ?_
  have ht : t.val % 2 = 1 := (flush0_4 t).mp hf
  blk_simp
  rw [after0_4]
  idx_vars y
  refine (written m c t ht y0 y1).trans ?_
  have e : (win0_4.blk t).view.emb (ix2 y0 y1) = ix2 y0 y1 := by blk_ext [idx4 t]
  refine Eq.trans ?_ (congrArg _ e.symm)
  rfl

/-- The gate's gradient is zero after the first point. -/
theorem dgA (t : Fin cfg0.N) (h : t.val % 2 = 0) (p : Fin 8) (j : Fin 1024) : (outsAt0 m c t.val t.isLt).2.1 (ix2 p j) = 0 := by
  rw [outsAt0_A m c t h h (by omega)]
  dsimp only
  frame_out
  pointwise [k0_pay3]
/-- The first row after a store of it. -/
theorem row_mem {sp : Space} (v : View sig .tc sp S8x1024 .f32) (f : v.ty.Contents (Elt Ideal)) (w : Vec Ideal S1x1024 .f32) (j : Fin 1024) :
    v.read (Elt Ideal) (v.writes (Elt Ideal) f [⟨Rect.unit (s := S8x1024) ![0, 0] ![1, 1024] inb_S8x1024_S1x1024_0_0, w⟩]) (ix2 0 j) = w (ix2 0 j) := by
  have e : (Rect.unit (s := S8x1024) ![0, 0] ![1, 1024] inb_S8x1024_S1x1024_0_0).emb (ix2 0 j) = ix2 0 j := by
    blk_ext
  exact View.read_writes_cons_hit (Val := Elt Ideal) v f (Rect.unit (s := S8x1024) ![0, 0] ![1, 1024] inb_S8x1024_S1x1024_0_0) w [] (ix2 0 j) (ix2 0 j) e
/-- Another row after a store of the first. -/
theorem row_not_mem {sp : Space} (v : View sig .tc sp S8x1024 .f32) (f : v.ty.Contents (Elt Ideal)) (w : Vec Ideal S1x1024 .f32) (p : Fin 8) (hp : ¬ p.val = 0) (j : Fin 1024) :
    v.read (Elt Ideal) (v.writes (Elt Ideal) f [⟨Rect.unit (s := S8x1024) ![0, 0] ![1, 1024] inb_S8x1024_S1x1024_0_0, w⟩]) (ix2 p j) = v.read (Elt Ideal) f (ix2 p j) :=
  View.read_writes_cons_miss_of_axis (Val := Elt Ideal) v f ⟨Rect.unit (s := S8x1024) ![0, 0] ![1, 1024] inb_S8x1024_S1x1024_0_0, w⟩ [] (ix2 p j) (0 : Fin 2) 0 1 rfl rfl rfl (Or.inr (by show 0 + 1 ≤ p.val; omega))

/-- The second point adds the sum to the first row and leaves the others. -/
theorem dgB (t : Fin cfg0.N) (h : t.val % 2 = 1) (p : Fin 8) (j : Fin 1024) :
    (outsAt0 m c t.val t.isLt).2.1 (ix2 p j) = Gg (a1 m c) (a0 m c) (a5 m c) (ix2 p j) := by
  have hz := fun q => dgA m c ⟨t.val - 1, Nat.lt_of_le_of_lt (Nat.sub_le _ _) t.isLt⟩ (by show (t.val - 1) % 2 = 0; omega) q j
  rw [outsAt0_B m c t (by omega) (by omega) h]
  dsimp only
  frame_out
  simp only [read_unread_whole]
  dsimp only at hz
  have hb := fun i => both m c t h i j
  have hw := fun i => blk3 m c t i j
  have hu := Memref.IsWhole.read_unread (Val := Elt Ideal) (hs0_5 t) (outsAt0 m c (t.val - 1) (Nat.lt_of_le_of_lt (Nat.sub_le _ _) t.isLt)).2.1
  generalize k0_pay2 (F := Ideal) (iblk m c 0 t) (outsAt0 m c (t.val - 1) (Nat.lt_of_le_of_lt (Nat.sub_le _ _) t.isLt)).2.2 (iblk m c 1 t) = V at hb ⊢
  generalize iblk m c 3 t = W at hw ⊢
  generalize (outsAt0 m c (t.val - 1) (Nat.lt_of_le_of_lt (Nat.sub_le _ _) t.isLt)).2.1 = P at hu hz ⊢
  unfold Gg
  show _ = (if p.val = 0 then _ else _ : EReal)
  by_cases hp : p.val = 0
  · obtain rfl : p = 0 := Fin.ext hp
    rw [if_pos hp]
    refine (row_mem _ _ _ j).trans ?_
    refine (pay5_apply _ _ _ j).trans ?_
    refine (congrArg₂ (fun x y : EReal => x + y) (?_ : _ = (0 : EReal)) (Finset.sum_congr rfl fun i _ => ?_)).trans (zero_add _)
    · pointwise
      exact hz 0
    · rw [hb, hw]
      rfl
  · rw [if_neg hp]
    exact ((row_not_mem _ _ _ p hp j).trans (congrFun hu _)).trans (hz p)

theorem final5 : (dats m 0 c).arrAt 5 cfg0.N = Gg (m ((c : Thread nD τ).loc main_arg1)) (m ((c : Thread nD τ).loc main_arg0)) (m ((c : Thread nD τ).loc main_arg5)) := by
  refine (dats m 0 c).arrAt_eq_of_covers 5 _ (by decide +kernel) fun t hf y => ?_
  have ht : t.val % 2 = 1 := (flush0_5 t).mp hf
  blk_simp
  rw [after0_5]
  idx_vars y
  have e : (win0_5.blk t).view.emb (ix2 y0 y1) = ix2 y0 y1 := by blk_ext [idx5 t]
  refine Eq.trans ?_ (congrArg _ e.symm)
  exact dgB m c t ht y0 y1

end Cert.Kernel5Ideal.Fold

namespace Cert.Reference5Ideal.Ref

open Idealize.ShloMosaic Idealize.ShloMosaic.TcCoe Cert.Reference5Ideal Cert.Reference5Ideal.Gen Cert.Reference5Ideal.Read

open Cert.Finite

theorem value17 (x0 : Vec Ideal S4096x1024 .f32) (x1 : Vec Ideal S4096x1024 .bf16) (x2 : Vec Ideal S4x6x1024 .f32)
    (h0 : ∀ i, Re (x0 i)) (h1 : ∀ i, Re (x1 i)) (h2 : ∀ i, Re (x2 i)) :
    val_main_v17 (F := Ideal) x0 x1 x2 = Cert.Kernel5Ideal.Fold.G x1 x0 x2 := by
  funext y; idx_vars y
  unfold Cert.Kernel5Ideal.Fold.G Cert.Kernel5Ideal.Fold.raw
  pointwise [val_main_v17, val_main_v16, val_main_v15, val_main_v10, val_main_v9, val_main_v6, val_main_v2, val_main_v1, val_main_v0]
  exact (gate (fun k => h1 _) (fun k => h0 _) (h2 _)).symm

theorem value19 (x0 : Vec Ideal S4096x1024 .f32) (x1 : Vec Ideal S4096x1024 .bf16) (x5 : Vec Ideal S4x1024x1024 .f32)
    (h0 : ∀ i, Re (x0 i)) (h1 : ∀ i, Re (x1 i)) (h5 : ∀ i, Re (x5 i)) :
    val_main_v19 (F := Ideal) x0 x1 x5 = Cert.Kernel5Ideal.Fold.Gg x1 x0 x5 := by
  funext y; idx_vars y
  unfold Cert.Kernel5Ideal.Fold.Gg Cert.Kernel5Ideal.Fold.raw
  pointwise [val_main_v19, val_main_v18, val_main_v14, val_main_v13, val_main_v12, val_main_v11, val_main_v5, val_main_v0, val_main_v4, val_main_v3, val_main_cst, val_main_cst_0, val_main_call0_v0, val_main_c]
  by_cases hp : y0.val = 0
  · rw [dif_pos (by omega), if_pos hp]
    simp only [Finset.univ_unique, Finset.sum_singleton]
    exact (gate_sum (fun k i => h1 _) (fun k => h0 _) (fun i => h5 _)).symm
  · rw [dif_neg (by omega), if_neg hp]
    show ((((0#32 : BitVec 32).toInt : ℝ)) : EReal) = 0
    simp

end Cert.Reference5Ideal.Ref

namespace Cert.Proof.K5

open Idealize.ShloMosaic Idealize.SL.Sem

/-- The reference runs to its end, keeps its arguments and has no semaphores. -/
theorem reference_frame : Cert.quiescent_Reference5Ideal (hReference5Ideal := Cert.Reference5Ideal.Gen.facts) := fun m ρ _ =>
  (θ_run Cert.Reference5Ideal.defs _ _).mono (fun r h => ⟨fun c => (h c).2.2,
      Idealize.ShloMosaic.sem_eq_zero_of_no_sems (by decide) r.2⟩)
    (Cert.Reference5Ideal.Value.run m ρ)

/-- The kernel's results are the reference's, of finite arguments that agree. -/
theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m ρ m' ρ' hpre hagree
  have f0 : ∀ (c : Dev Cert.Kernel5Ideal.nD) i, Cert.Finite.Re ((m ((c.tc : Thread Cert.Kernel5Ideal.nD Cert.Kernel5Ideal.τ).loc Cert.Kernel5Ideal.main_arg0) : _ → EReal) i)   := fun c i =>
    Cert.Finite.re_of_lt Cert.Finite.inf32 (congrFun (hpre c).1 i)
  have f1 : ∀ (c : Dev Cert.Kernel5Ideal.nD) i, Cert.Finite.Re ((m ((c.tc : Thread Cert.Kernel5Ideal.nD Cert.Kernel5Ideal.τ).loc Cert.Kernel5Ideal.main_arg1) : _ → EReal) i)   := fun c i =>
    Cert.Finite.re_of_lt Cert.Finite.inf16 (congrFun (hpre c).2.1 i)
  have f2 : ∀ (c : Dev Cert.Kernel5Ideal.nD) i, Cert.Finite.Re ((m ((c.tc : Thread Cert.Kernel5Ideal.nD Cert.Kernel5Ideal.τ).loc Cert.Kernel5Ideal.main_arg2) : _ → EReal) i)   := fun c i =>
    Cert.Finite.re_of_lt Cert.Finite.inf32 (congrFun (hpre c).2.2.1 i)
  have f5 : ∀ (c : Dev Cert.Kernel5Ideal.nD) i, Cert.Finite.Re ((m ((c.tc : Thread Cert.Kernel5Ideal.nD Cert.Kernel5Ideal.τ).loc Cert.Kernel5Ideal.main_arg5) : _ → EReal) i)   := fun c i =>
    Cert.Finite.re_of_lt Cert.Finite.inf32 (congrFun (hpre c).2.2.2 i)
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N, ?_, ?_⟩
  · refine (θ_run Cert.Kernel5Ideal.defs _ _).mono (fun r h c => ?_) (Cert.Kernel5Ideal.Value.run_blocks m ρ)
    exact h c
  · refine (θ_run Cert.Reference5Ideal.defs _ _).mono (fun r h c => ?_) (Cert.Reference5Ideal.Value.run (F := Ideal) m' ρ')
    obtain ⟨h0, h1, hk⟩ := h c
    obtain ⟨g0, g1, g2, g3, g4, g5⟩ := hagree c
    refine ⟨h0.trans ?_, h1.trans ?_, hk⟩
    · rw [Cert.Reference5Ideal.Read.val_main_v17_eq, g0, g1, g2]
      exact (Cert.Reference5Ideal.Ref.value17 _ _ _ (f0 c) (f1 c) (f2 c)).trans (Cert.Kernel5Ideal.Fold.final m c).symm
    · rw [Cert.Reference5Ideal.Read.val_main_v19_eq, g0, g1, g5]
      exact (Cert.Reference5Ideal.Ref.value19 _ _ _ (f0 c) (f1 c) (f5 c)).trans (Cert.Kernel5Ideal.Fold.final5 m c).symm

end Cert.Proof.K5

end
-- ==== Proof.K6.lean ====
/-
  A weight gradient: the kernel sums the products of its two row blocks in a scratch, which its second point writes
  back; the two halves make the whole sum over the rows.
-/
module

public import proofs.«01_k».proof.Defs
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Sums
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

set_option maxRecDepth 16384

noncomputable section

namespace Cert.Kernel6Ideal.Fold

open Idealize.ShloMosaic Idealize.ShloMosaic.TcCoe Idealize.SL.Sem Cert.Kernel6Ideal Cert.Kernel6Ideal.Gen
open Idealize.ShloMosaic.Pipeline (Dat)

variable (m : (ℓ : Loc nD τ sig) → Buf (Elt Ideal) ℓ) (c : Dev nD)

theorem idx0 : ∀ t : Fin cfg0.N, win0_0.index t = ![t.val % 2, 0] := by decide +kernel
theorem idx1 : ∀ t : Fin cfg0.N, win0_1.index t = ![t.val % 2, t.val / 2] := by decide +kernel
theorem idx3 : ∀ t : Fin cfg0.N, win0_3.index t = ![0, t.val / 2] := by decide +kernel

/-- The arguments, as arrays. -/
abbrev a0 : Vec Ideal S4096x1024 .bf16 := m ((c : Thread nD τ).loc main_arg0)
abbrev a1 : Vec Ideal S4096x3200 .bf16 := m ((c : Thread nD τ).loc main_arg1)
abbrev a2 : Vec Ideal S4x6x1024 .f32 := m ((c : Thread nD τ).loc main_arg2)
abbrev a3 : Vec Ideal S4x1024 .f32 := m ((c : Thread nD τ).loc main_arg3)
abbrev a4 : Vec Ideal S4x1024 .f32 := m ((c : Thread nD τ).loc main_arg4)

/-! What the host hands to the kernel's windows, and the windows' blocks read off it. -/

theorem rd0 (A : (b : Ref sig .tc) → Buf (Elt Ideal) ((c : Thread nD τ).loc b)) (t : Fin cfg0.N) (y : S2048x1024.Idx) :
    ((cfg0.win 0).blk t).view.read (Elt Ideal) (A (Pipeline.arrRef spec0 0)) y = A main_arg0 ((win0_0.blk t).view.emb y) := rfl
theorem ib0 (t : Fin cfg0.N) (y : S2048x1024.Idx) : iblk m c 0 t y = (a0 m c) ((win0_0.blk t).view.emb y) :=
  (rd0 c (V m c) t y).trans (congrFun (V_main_arg0 m c) _)
theorem rd1 (A : (b : Ref sig .tc) → Buf (Elt Ideal) ((c : Thread nD τ).loc b)) (t : Fin cfg0.N) (y : S2048x640.Idx) :
    ((cfg0.win 1).blk t).view.read (Elt Ideal) (A (Pipeline.arrRef spec0 1)) y = A main_arg1 ((win0_1.blk t).view.emb y) := rfl
theorem ib1 (t : Fin cfg0.N) (y : S2048x640.Idx) : iblk m c 1 t y = (a1 m c) ((win0_1.blk t).view.emb y) :=
  (rd1 c (V m c) t y).trans (congrFun (V_main_arg1 m c) _)
theorem V_2 : V m c main_v2 = concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd2 (A : (b : Ref sig .tc) → Buf (Elt Ideal) ((c : Thread nD τ).loc b)) (t : Fin cfg0.N) (y : S1x8x1024.Idx) :
    ((cfg0.win 2).blk t).view.read (Elt Ideal) (A (Pipeline.arrRef spec0 2)) y = A main_v2 ((win0_2.blk t).view.emb y) := rfl
theorem ib2 (t : Fin cfg0.N) (y : S1x8x1024.Idx) : iblk m c 2 t y = (concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1) ((win0_2.blk t).view.emb y) :=
  (rd2 c (V m c) t y).trans (congrFun (V_2 m c) _)

/-- The gradient: element by element, the sum over the rows of the products. -/
def G (h : Vec Ideal S4096x1024 .bf16) (d : Vec Ideal S4096x3200 .bf16) : Vec Ideal S1024x3200 .bf16 := fun y =>
  ∑ k : Fin 4096, h (ix2 k (y 0)) * d (ix2 k (y 1))

/-- What one point adds to the scratch. -/
theorem pay2_apply (a : Vec Ideal S2048x1024 .bf16) (acc : Vec Ideal S1024x640 .f32) (b : Vec Ideal S2048x640 .bf16) (i : Fin 1024) (j : Fin 640) :
    k0_pay2 (F := Ideal) a acc b (ix2 i j) = acc (ix2 i j) + ∑ k : Fin 2048, a (ix2 k i) * b (ix2 k j) := by
  pointwise [k0_pay2]

/-- Row `k` of the half that point `t` reads. -/
def row (t : Fin cfg0.N) (k : Fin 2048) : Fin 4096 := ⟨2048 * (t.val % 2) + k.val, by omega⟩
/-- Column `j` of the block that point `t` reads. -/
def col (t : Fin cfg0.N) (j : Fin 640) : Fin 3200 := ⟨640 * (t.val / 2) + j.val, by have : t.val < 10 := t.isLt; omega⟩

theorem blk0 (t : Fin cfg0.N) (k : Fin 2048) (i : Fin 1024) : iblk m c 0 t (ix2 k i) = a0 m c (ix2 (row t k) i) :=
  (ib0 m c t _).trans (congrArg (a0 m c) (by unfold row; blk_ext [idx0 t]))
theorem blk1 (t : Fin cfg0.N) (k : Fin 2048) (j : Fin 640) : iblk m c 1 t (ix2 k j) = a1 m c (ix2 (row t k) (col t j)) :=
  (ib1 m c t _).trans (congrArg (a1 m c) (by unfold row col; blk_ext [idx1 t]))

/-- The scratch after the first point of a block. -/
theorem scratch (t : Fin cfg0.N) (h : t.val % 2 = 0) (i : Fin 1024) (j : Fin 640) :
    (outsAt0 m c t.val t.isLt).2 (ix2 i j) = 0 + ∑ k : Fin 2048, a0 m c (ix2 (row t k) i) * a1 m c (ix2 (row t k) (col t j)) := by
  rw [outsAt0_A m c t h (by omega)]
  dsimp only
  frame_out
  refine (pay2_apply _ _ _ i j).trans ?_
  refine congrArg₂ _ ?_ (Finset.sum_congr rfl fun k _ => ?_)
  · pointwise [k0_pay1]
  · rw [blk0, blk1]

/-- What the second point of a block writes back. -/
theorem written (t : Fin cfg0.N) (h : t.val % 2 = 1) (i : Fin 1024) (j : Fin 640) :
    (outsAt0 m c t.val t.isLt).1 (ix2 i j) = ∑ k : Fin 4096, a0 m c (ix2 k i) * a1 m c (ix2 k (col t j)) := by
  have hs := scratch m c ⟨t.val - 1, Nat.lt_of_le_of_lt (Nat.sub_le _ _) t.isLt⟩ (by show (t.val - 1) % 2 = 0; omega) i j
  rw [outsAt0_B m c t (by omega) h]
  dsimp only
  frame_out
  simp only [read_unread_whole]
  have hp : ∀ v : FVec Ideal S1024x640 .f32, k0_pay3 (F := Ideal) v (ix2 i j) = v (ix2 i j) := fun v => by pointwise [k0_pay3]
  refine (hp _).trans ((pay2_apply _ _ _ i j).trans ?_)
  refine (congrArg₂ (fun x y : EReal => x + y) hs (Finset.sum_congr rfl fun k _ =>
    congrArg₂ (fun x y : EReal => x * y) (blk0 m c t k i) (blk1 m c t k j))).trans ?_
  show (0 + _ : EReal) + _ = _
  rw [zero_add, ← Cert.Sums.halves (fun k => a0 m c (ix2 k i) * a1 m c (ix2 k (col t j)))]
  refine congrArg₂ (fun x y : EReal => x + y) (Finset.sum_congr rfl fun k _ => ?_) (Finset.sum_congr rfl fun k _ => ?_)
  · have e1 : row ⟨t.val - 1, Nat.lt_of_le_of_lt (Nat.sub_le _ _) t.isLt⟩ k = ⟨k.val, by omega⟩ := by unfold row; ext; show 2048 * ((t.val - 1) % 2) + k.val = k.val; omega
    have e2 : col ⟨t.val - 1, Nat.lt_of_le_of_lt (Nat.sub_le _ _) t.isLt⟩ j = col t j := by unfold col; ext; show 640 * ((t.val - 1) / 2) + j.val = 640 * (t.val / 2) + j.val; omega
    rw [e1, e2]
  · have e1 : row t k = ⟨2048 + k.val, by omega⟩ := by unfold row; ext; show 2048 * (t.val % 2) + k.val = 2048 + k.val; omega
    rw [e1]

theorem final : (dats m 0 c).arrAt 3 cfg0.N = G (m ((c : Thread nD τ).loc main_arg0)) (m ((c : Thread nD τ).loc main_arg1)) := by
  refine (dats m 0 c).arrAt_eq_of_covers 3 _ (by decide +kernel) fun t hf y => ?_
  have ht : t.val % 2 = 1 := (flush0_3 t).mp hf
  blk_simp
  rw [after0_3]
  idx_vars y
  refine (written m c t ht y0 y1).trans ?_
  have e : (win0_3.blk t).view.emb (ix2 y0 y1) = ix2 y0 (col t y1) := by unfold col; blk_ext [idx3 t]
  refine Eq.trans ?_ (congrArg _ e.symm)
  rfl

end Cert.Kernel6Ideal.Fold

namespace Cert.Reference6Ideal.Ref

open Idealize.ShloMosaic Idealize.ShloMosaic.TcCoe Cert.Reference6Ideal Cert.Reference6Ideal.Gen Cert.Reference6Ideal.Read

theorem value (x0 : Vec Ideal S4096x1024 .bf16) (x1 : Vec Ideal S4096x3200 .bf16) :
    val_main_v6 (F := Ideal) x0 x1 = Cert.Kernel6Ideal.Fold.G x0 x1 := by
  funext y; idx_vars y
  unfold Cert.Kernel6Ideal.Fold.G
  pointwise [val_main_v6, val_main_v5, val_main_v4, val_main_v3, val_main_v2, val_main_cst, val_main_v1, val_main_v0]
  refine Finset.sum_congr rfl fun k _ => ?_
  exact mul_comm _ _

end Cert.Reference6Ideal.Ref

namespace Cert.Proof.K6

open Idealize.ShloMosaic Idealize.SL.Sem

/-- The reference runs to its end, keeps its arguments and has no semaphores. -/
theorem reference_frame : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run m ρ)

/-- The kernel's results are the reference's, of arguments that agree. -/
theorem algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => (Cert.Kernel6Ideal.Gen.dats m 0 c).arrAt 3 Cert.Kernel6Ideal.cfg0.N, ?_, ?_⟩
  · refine (θ_run Cert.Kernel6Ideal.defs _ _).mono (fun r h c => ?_) (Cert.Kernel6Ideal.Value.run_blocks m ρ)
    exact h c
  · refine (θ_run Cert.Reference6Ideal.defs _ _).mono (fun r h c => ?_) (Cert.Reference6Ideal.Value.run (F := Ideal) m' ρ')
    obtain ⟨h0, hk⟩ := h c
    obtain ⟨g0, g1, g2, g3, g4⟩ := hagree c
    refine ⟨h0.trans ?_, hk⟩
    · rw [Cert.Reference6Ideal.Read.val_main_v6_eq, Cert.Reference6Ideal.Ref.value, g0, g1]
      exact (Cert.Kernel6Ideal.Fold.final m c).symm

end Cert.Proof.K6

end
-- ==== Proof.Norm.lean ====
/-
  The gradient through a root-mean-square norm with its weight, scale and shift: the form that is taken
  over blocks of rows, with the mean of the products taken out, and the form of the chain rule, factor by factor.
-/
module

public import proofs.«01_k».proof.Proof.Finite

@[expose] public section

noncomputable section

namespace Cert.Norm

open Idealize.ShloMosaic Cert.Finite

/-- The number of columns, and the number that keeps the root away from zero. -/
abbrev width : EReal := Ideal.ofBits .f32 0x44800000#32
abbrev tiny : EReal := Ideal.ofBits .f32 0x358637BD#32
/-- Minus one half. -/
abbrev half : EReal := Ideal.ofBits .f32 0xBF000000#32

theorem width_eq : width = ((1024 : ℝ) : EReal) := by
  simp [width, Ideal.ofBits, Ideal.ieee]
  rw [← EReal.coe_mul]
  norm_num
theorem half_eq : half = ((-(1 / 2) : ℝ) : EReal) := by
  simp [half, Ideal.ofBits, Ideal.ieee]
  rw [← EReal.coe_mul]
  norm_num
theorem tiny_pos : ∃ e : ℝ, 0 < e ∧ tiny = (e : EReal) := by
  refine ⟨_, ?_, by simp [tiny, Ideal.ofBits, Ideal.ieee]; rfl⟩
  norm_num

/-- The mean square of a row, and one over its root. -/
def var (x : Fin 1024 → EReal) : EReal := Ideal.div (∑ a, x a * x a) width + tiny
def rr (x : Fin 1024 → EReal) : EReal := Ideal.rsqrt (var x)

theorem div_real (a b : ℝ) (hb : b ≠ 0) : Ideal.div (a : EReal) (b : EReal) = ((a / b : ℝ) : EReal) := by
  unfold Ideal.div
  rw [if_neg (by rwa [← EReal.coe_zero, EReal.coe_eq_coe_iff]), ← EReal.coe_inv, ← EReal.coe_mul]
  rfl

/-- The root of a row of real numbers. -/
theorem rr_real (x : Fin 1024 → ℝ) : ∃ v r : ℝ, 0 < v ∧ 0 < r ∧ r * r * v = 1 ∧ var (fun a => (x a : EReal)) = (v : EReal)
    ∧ rr (fun a => (x a : EReal)) = (r : EReal) := by
  obtain ⟨e, he, hE⟩ := tiny_pos
  have hv : 0 < (∑ a, x a * x a) / 1024 + e := by
    have : 0 ≤ ∑ a, x a * x a := Finset.sum_nonneg fun a _ => mul_self_nonneg _
    positivity
  have hV : var (fun a => (x a : EReal)) = (((∑ a, x a * x a) / 1024 + e : ℝ) : EReal) := by
    unfold var
    rw [hE, width_eq]
    simp only [← EReal.coe_mul, ← coe_sum]
    rw [div_real _ _ (by norm_num), EReal.coe_add]
  refine ⟨_, (Real.sqrt ((∑ a, x a * x a) / 1024 + e))⁻¹, hv, by positivity, ?_, hV, ?_⟩
  · rw [← mul_inv, Real.mul_self_sqrt hv.le, inv_mul_cancel₀ hv.ne']
  · unfold rr
    rw [hV]
    show (if _ then _ else if _ then _ else _ : EReal) = _
    rw [if_neg hv.not_gt, if_neg hv.ne']

/-- The gradient at the norm's argument, as the blocks take it: `d` the gradient at the norm's result, `g` its weight, `s`
    its scale. -/
def through (x d g s : Fin 1024 → EReal) (k : Fin 1024) : EReal :=
  rr x * (d k * (g k * (1 + s k))
    - x k * rr x * Ideal.div (∑ a, d a * (g a * (1 + s a)) * (x a * rr x)) width)

/-- The gradient at the mean square, by the chain rule. -/
def mean (x d g s : Fin 1024 → EReal) : EReal :=
  Ideal.div ((∑ a, x a * (d a * (1 + s a) * g a)) * (half * Ideal.div (rr x) (var x))) width

/-- A row of real numbers, or one whose root is zero: an infinite number makes the mean square infinite. -/
theorem real_or_zero (x : Fin 1024 → EReal) : (∀ k, Re (x k)) ∨ (rr x = 0 ∧ var x = ⊤) := by
  by_cases h : ∀ k, Re (x k)
  · exact Or.inl h
  refine Or.inr ?_
  obtain ⟨k, hk⟩ := not_forall.mp h
  have sq : ∀ a : EReal, a * a ≠ ⊥ := fun a => by
    induction a with
    | bot => simp
    | top => simp
    | coe a => rw [← EReal.coe_mul]; exact EReal.coe_ne_bot _
  have top : x k * x k = ⊤ := by
    induction hx : x k with
    | bot => simp
    | top => simp
    | coe a => exact absurd ⟨a, hx⟩ hk
  have hs : ∀ s : Finset (Fin 1024), ∑ a ∈ s, x a * x a ≠ ⊥ := fun s => by
    induction s using Finset.induction_on with
    | empty => simp
    | insert a s ha ih =>
      rw [Finset.sum_insert ha, Ne, EReal.add_eq_bot_iff]
      exact not_or.mpr ⟨sq _, ih⟩
  have sum : ∑ a, x a * x a = ⊤ := by
    rw [← Finset.add_sum_erase _ _ (Finset.mem_univ k), top]
    exact EReal.top_add_of_ne_bot (hs _)
  have hv : var x = ⊤ := by
    obtain ⟨e, -, hE⟩ := tiny_pos
    unfold var Ideal.div
    rw [sum, hE, width_eq, if_neg (by rw [← EReal.coe_zero, EReal.coe_eq_coe_iff]; norm_num), ← EReal.coe_inv,
      EReal.top_mul_coe_of_pos (by norm_num)]
    exact EReal.top_add_coe e
  exact ⟨by unfold rr; rw [hv]; rfl, hv⟩

theorem coe_nonneg {q : ℝ} (hq : 0 < q) : (0 : EReal) ≤ q := EReal.coe_nonneg.mpr hq.le
/-- A positive real factor may be taken out of any sum. -/
theorem sum_mul_pos {ι : Type*} [Fintype ι] (f : ι → EReal) {q : ℝ} (hq : 0 < q) :
    ∑ a, f a * (q : EReal) = (∑ a, f a) * q := by
  classical
  have h : ∀ s : Finset ι, ∑ a ∈ s, f a * (q : EReal) = (∑ a ∈ s, f a) * q := fun s => by
    induction s using Finset.induction_on with
    | empty => simp
    | insert a s ha ih =>
      rw [Finset.sum_insert ha, Finset.sum_insert ha, ih,
        EReal.right_distrib_of_nonneg_of_ne_top (coe_nonneg hq) (EReal.coe_ne_top q)]
  exact h _
theorem div_width (a : EReal) : Ideal.div a width = a * ((1 / 1024 : ℝ) : EReal) := by
  unfold Ideal.div
  rw [width_eq, if_neg (by rw [← EReal.coe_zero, EReal.coe_eq_coe_iff]; norm_num), ← EReal.coe_inv]
  norm_num
theorem add_self (y : EReal) : y + y = ((2 : ℝ) : EReal) * y := by
  have h : ((2 : ℝ) : EReal) = 1 + 1 := by
    rw [← EReal.coe_one, ← EReal.coe_add]
    norm_num
  rw [h, EReal.right_distrib_of_nonneg zero_le_one zero_le_one, one_mul]

/-- The two forms agree on any numbers. -/
theorem through_eq {x d g s : Fin 1024 → EReal} (r : EReal) (k : Fin 1024) :
    r + through x d g s k
      = r + d k * (1 + s k) * g k * rr x + x k * mean x d g s + mean x d g s * x k := by
  rw [add_assoc, add_assoc]
  refine congrArg (r + ·) ?_
  obtain hx | ⟨hx, hv⟩ := real_or_zero x
  swap
  · have hw : width ≠ 0 := by
      rw [width_eq, ← EReal.coe_zero, Ne, EReal.coe_eq_coe_iff]
      norm_num
    unfold through mean Ideal.div
    rw [hx, hv]
    simp [hw]
  obtain ⟨x, rfl⟩ := reals hx
  obtain ⟨v, q, hv, hq, hqv, hV, hQ⟩ := rr_real x
  have e2 : q / v = q * q * q := by
    rw [div_eq_iff hv.ne']
    linear_combination (-q) * hqv
  have e1 : ∑ a, d a * (g a * (1 + s a)) * ((x a : EReal) * q) = (∑ a, (x a : EReal) * (d a * (1 + s a) * g a)) * q := by
    rw [← sum_mul_pos _ hq]
    refine Finset.sum_congr rfl fun a _ => ?_
    rw [← mul_assoc, mul_comm _ (x a : EReal), mul_comm (g a), mul_assoc (d a)]
  have e3 : d k * (g k * (1 + s k)) = d k * (1 + s k) * g k := by
    rw [mul_comm (g k), mul_assoc]
  unfold mean through
  rw [hV, hQ, half_eq, div_real _ _ hv.ne', e2, e1, e3, div_width, div_width]
  generalize (∑ a, (x a : EReal) * (d a * (1 + s a) * g a)) = S
  generalize d k * (1 + s k) * g k = u
  generalize hw : (1 / 1024 : ℝ) = w
  have e4 : (q : EReal) * ((x k : EReal) * q * (S * q * w)) = S * ((x k * q * q * q * w : ℝ) : EReal) := by
    simp only [EReal.coe_mul]
    ac_rfl
  have e5 : (2 : ℝ) * ((x k : EReal) * (S * (((-(1 / 2) : ℝ) : EReal) * ((q * q * q : ℝ) : EReal)) * w))
      = S * ((2 * x k * (-(1 / 2)) * (q * q * q) * w : ℝ) : EReal) := by
    generalize (-(1 / 2) : ℝ) = h
    generalize (2 : ℝ) = b
    simp only [EReal.coe_mul]
    ac_rfl
  have e6 : 2 * x k * (-(1 / 2)) * (q * q * q) * w = -(x k * q * q * q * w) := by ring
  rw [EReal.mul_sub_of_nonneg_of_ne_top (coe_nonneg hq) (EReal.coe_ne_top q), mul_comm (q : EReal) u, e4,
    mul_comm _ (x k : EReal), add_self, e5, e6, EReal.coe_neg, mul_neg, sub_eq_add_neg]

/-- Row `i` of block `t`. -/
def row (t : Fin 8) (i : Fin 512) : Fin 4096 := ⟨512 * t.val + i.val, by omega⟩

/-- A sum over the rows, block by block. -/
theorem blocks (f : Fin 4096 → EReal) : ∑ t : Fin 8, ∑ i : Fin 512, f (row t i) = ∑ i, f i := by
  rw [← Finset.sum_product', Finset.univ_product_univ]
  refine Fintype.sum_bijective (fun p : Fin 8 × Fin 512 => row p.1 p.2)
    ((Fintype.bijective_iff_injective_and_card _).mpr ⟨fun p q h => ?_, by simp⟩) _ _ fun _ => rfl
  have h := Fin.ext_iff.mp h
  simp only [row] at h
  exact Prod.ext (Fin.ext (by omega)) (Fin.ext (by omega))

/-- The same with a factor on every block's sum. -/
theorem blocks_mul {f : Fin 4096 → EReal} {w : EReal} (hf : ∀ i, Re (f i)) (hw : Re w) :
    ∑ t : Fin 8, (∑ i : Fin 512, f (row t i)) * w = ∑ i, f i * w := by
  rw [← blocks fun i => f i * w]
  obtain ⟨f, rfl⟩ := reals hf
  obtain ⟨w, rfl⟩ := hw
  refine Finset.sum_congr rfl fun t _ => ?_
  simp only [← EReal.coe_mul, ← coe_sum]
  rw [Finset.sum_mul]

theorem re_width : Re width := ⟨_, width_eq⟩
/-- A normalised number is finite. -/
theorem re_mul_rr (x : Fin 1024 → EReal) (k : Fin 1024) : Re (x k * rr x) := by
  obtain hx | ⟨hx, -⟩ := real_or_zero x
  · obtain ⟨x, rfl⟩ := reals hx
    obtain ⟨v, q, -, -, -, -, h⟩ := rr_real x
    exact Re.mul ⟨_, rfl⟩ ⟨q, h⟩
  · rw [hx, mul_zero]
    exact ⟨0, rfl⟩

/-- What block `t` adds to row `p` of the small gradients: the shift's, the scale's, the weight's. -/
def part (x d : Fin 4096 → Fin 1024 → EReal) (g s : Fin 1024 → EReal) (t : Fin 8) (p : Fin 8) (j : Fin 1024) : EReal :=
  if p.val = 0 then ∑ i : Fin 512, d (row t i) j
  else if p.val = 1 then (∑ i : Fin 512, d (row t i) j * (x (row t i) j * rr (x (row t i)))) * g j
  else if p.val = 2 then (∑ i : Fin 512, d (row t i) j * (x (row t i) j * rr (x (row t i)))) * (1 + s j)
  else 0

/-- The small gradients, by the chain rule. -/
def small (x d : Fin 4096 → Fin 1024 → EReal) (g s : Fin 1024 → EReal) (p : Fin 8) (j : Fin 1024) : EReal :=
  if p.val = 0 then ∑ i, d i j
  else if p.val = 1 then ∑ i, x i j * rr (x i) * g j * d i j
  else if p.val = 2 then ∑ i, x i j * rr (x i) * (d i j * (1 + s j))
  else 0

theorem small_eq {x d : Fin 4096 → Fin 1024 → EReal} {g s : Fin 1024 → EReal} (hd : ∀ i k, Re (d i k))
    (hg : ∀ k, Re (g k)) (hs : ∀ k, Re (s k)) (p : Fin 8) (j : Fin 1024) :
    ∑ t : Fin 8, part x d g s t p j = small x d g s p j := by
  unfold part small
  have hf : ∀ i, Re (d i j * (x i j * rr (x i))) := fun i => (hd i j).mul (re_mul_rr (x i) j)
  by_cases h0 : p.val = 0
  · simp only [if_pos h0]
    exact blocks fun i => d i j
  simp only [if_neg h0]
  by_cases h1 : p.val = 1
  · simp only [if_pos h1]
    exact (blocks_mul hf (hg j)).trans (Finset.sum_congr rfl fun i _ => by
      rw [mul_comm (d i j), mul_assoc, mul_assoc (x i j * _), mul_comm (d i j)])
  simp only [if_neg h1]
  by_cases h2 : p.val = 2
  · simp only [if_pos h2]
    exact (blocks_mul hf (Re.one.add (hs j))).trans (Finset.sum_congr rfl fun i _ => by
      rw [mul_comm (d i j), mul_assoc])
  simp only [if_neg h2, Finset.sum_const_zero]

/-- One half. -/
abbrev plus : EReal := Ideal.ofBits .f32 0x3F000000#32
theorem plus_eq : plus = ((1 / 2 : ℝ) : EReal) := by
  simp [plus, Ideal.ofBits, Ideal.ieee]
  rw [← EReal.coe_mul]
  norm_num
/-- The gradient of half the mean of the squares, and the number times one over the width. -/
theorem err_scale (e : EReal) :
    Ideal.div (plus * Ideal.ofBits .f32 0x3F800000#32) width * (Ideal.ofBits .f32 0x40000000#32 * e)
      = e * Ideal.ofBits .f32 0x3A800000#32 := by
  have h1 : Ideal.ofBits .f32 0x3F800000#32 = ((1 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have h3 : Ideal.ofBits .f32 0x3A800000#32 = ((1 / 1024 : ℝ) : EReal) := by
    simp [Ideal.ofBits, Ideal.ieee]
    rw [← EReal.coe_mul]
    norm_num
  rw [h1, h2, h3, plus_eq, ← EReal.coe_mul, div_width, ← mul_assoc, ← EReal.coe_mul, ← EReal.coe_mul, mul_comm]
  norm_num
/-- A sum over the rows, block by block, with one half on every block's sum. -/
theorem blocks_half (f : Fin 4096 → EReal) :
    ∑ t : Fin 8, plus * ∑ i : Fin 512, f (row t i) = plus * ∑ i, f i := by
  rw [← blocks f, plus_eq, mul_comm, ← sum_mul_pos _ (by norm_num)]
  exact Finset.sum_congr rfl fun t _ => mul_comm _ _

end Cert.Norm

end
-- ==== Proof.K7.lean ====
/-
  The gradient through the first product of the feed-forward part and the norm before it: each block of rows of the first and
  third results is the reference's, and the small gradients are summed over the eight blocks.
-/
module

public import proofs.«01_k».proof.Defs
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Sums
public import proofs.«01_k».proof.Proof.Norm
public import proofs.«01_k».proof.Proof.Fold
public import Idealize.ShloMosaic.Lib.Pipeline.ValueKit
public import Idealize.ShloMosaic.Lib.WritesUnit
public import proofs.«01_k».proof.Proof.Gen.Pre_finite7
public import Idealize.ShloMosaic.Lib.Claim
public import Idealize.ShloMosaic.Adequacy
public import Idealize.ShloMosaic.Init

@[expose] public section

set_option maxRecDepth 16384

noncomputable section

namespace Cert.Kernel7Ideal.Fold

open Idealize.ShloMosaic Idealize.ShloMosaic.TcCoe Idealize.SL.Sem Cert.Kernel7Ideal Cert.Kernel7Ideal.Gen
open Idealize.ShloMosaic.Pipeline (Dat)
open Cert.Norm (rr through part)
open Cert.KernelIdeal.Fold (canon_mem canon_not_mem readCov_at)

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![t.val, 0] := by decide +kernel
theorem idx7 : ∀ t : Fin cfg0.N, win0_7.index t = ![0, 0] := by decide +kernel
theorem idx8 : ∀ t : Fin cfg0.N, win0_8.index t = ![t.val, 0] := by decide +kernel

/-- The arguments, as arrays. -/
abbrev a0 : Vec Ideal S4096x4096 .bf16 := m ((c : Thread nD τ).loc main_arg0)
abbrev a1 : Vec Ideal S4096x1024 .f32 := m ((c : Thread nD τ).loc main_arg1)
abbrev a2 : Vec Ideal S4096x1024 .f32 := m ((c : Thread nD τ).loc main_arg2)
abbrev a3 : Vec Ideal S4x6x1024 .f32 := m ((c : Thread nD τ).loc main_arg3)
abbrev a4 : Vec Ideal S4x1024 .f32 := m ((c : Thread nD τ).loc main_arg4)
abbrev a5 : Vec Ideal S4x1024 .f32 := m ((c : Thread nD τ).loc main_arg5)
abbrev a6 : Vec Ideal S4x1024x4096 .f32 := m ((c : Thread nD τ).loc main_arg6)
abbrev a7 : Vec Ideal S4x1024x1024 .f32 := m ((c : Thread nD τ).loc main_arg7)

/-! What the host hands to the kernel's windows, and the windows' blocks read off it. -/

theorem rd0 (A : (b : Ref sig .tc) → Buf (Elt Ideal) ((c : Thread nD τ).loc b)) (t : Fin cfg0.N) (y : S512x4096.Idx) :
    ((cfg0.win 0).blk t).view.read (Elt Ideal) (A (Pipeline.arrRef spec0 0)) y = A main_arg0 ((win0_0.blk t).view.emb y) := rfl
theorem ib0 (t : Fin cfg0.N) (y : S512x4096.Idx) : iblk m c 0 t y = (a0 m c) ((win0_0.blk t).view.emb y) :=
  (rd0 c (V m c) t y).trans (congrFun (V_main_arg0 m c) _)
theorem V_1 : V m c main_v4 = truncf (F := Ideal) .bf16 (transpose S4x1024x1024 [1, 0, 2] (shapeCast S1024x4x1024 (shapeCast S1024x4096 (extractStridedSlice S1x1024x4096 ![0, 0, 0] (a6 m c) slices_S4x1024x4096_S1x1024x4096_0_0_0) shapeCasts_S1x1024x4096_S1024x4096) shapeCasts_S1024x4096_S1024x4x1024) transposes_S1024x4x1024_S4x1024x1024_1_0_2) bitsLt_bf16_f32 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd1 (A : (b : Ref sig .tc) → Buf (Elt Ideal) ((c : Thread nD τ).loc b)) (t : Fin cfg0.N) (y : S4x1024x1024.Idx) :
    ((cfg0.win 1).blk t).view.read (Elt Ideal) (A (Pipeline.arrRef spec0 1)) y = A main_v4 ((win0_1.blk t).view.emb y) := rfl
theorem ib1 (t : Fin cfg0.N) (y : S4x1024x1024.Idx) : iblk m c 1 t y = (truncf (F := Ideal) .bf16 (transpose S4x1024x1024 [1, 0, 2] (shapeCast S1024x4x1024 (shapeCast S1024x4096 (extractStridedSlice S1x1024x4096 ![0, 0, 0] (a6 m c) slices_S4x1024x4096_S1x1024x4096_0_0_0) shapeCasts_S1x1024x4096_S1024x4096) shapeCasts_S1024x4096_S1024x4x1024) transposes_S1024x4x1024_S4x1024x1024_1_0_2) bitsLt_bf16_f32) ((win0_1.blk t).view.emb y) :=
  (rd1 c (V m c) t y).trans (congrFun (V_1 m c) _)
theorem rd2 (A : (b : Ref sig .tc) → Buf (Elt Ideal) ((c : Thread nD τ).loc b)) (t : Fin cfg0.N) (y : S512x1024.Idx) :
    ((cfg0.win 2).blk t).view.read (Elt Ideal) (A (Pipeline.arrRef spec0 2)) y = A main_arg1 ((win0_2.blk t).view.emb y) := rfl
theorem ib2 (t : Fin cfg0.N) (y : S512x1024.Idx) : iblk m c 2 t y = (a1 m c) ((win0_2.blk t).view.emb y) :=
  (rd2 c (V m c) t y).trans (congrFun (V_main_arg1 m c) _)
theorem rd3 (A : (b : Ref sig .tc) → Buf (Elt Ideal) ((c : Thread nD τ).loc b)) (t : Fin cfg0.N) (y : S512x1024.Idx) :
    ((cfg0.win 3).blk t).view.read (Elt Ideal) (A (Pipeline.arrRef spec0 3)) y = A main_arg2 ((win0_3.blk t).view.emb y) := rfl
theorem ib3 (t : Fin cfg0.N) (y : S512x1024.Idx) : iblk m c 3 t y = (a2 m c) ((win0_3.blk t).view.emb y) :=
  (rd3 c (V m c) t y).trans (congrFun (V_main_arg2 m c) _)
theorem V_4 : V m c main_v7 = concatenate S4x8x1024 1 [⟨S4x6x1024, (a3 m c)⟩, ⟨S4x1x1024, (broadcastInDim S4x1x1024 ![0, 2] bcast_S4x1024_S4x1x1024_0_2 (a4 m c))⟩, ⟨S4x1x1024, (broadcastInDim S4x1x1024 ![0, 2] bcast_S4x1024_S4x1x1024_0_2 (a5 m c))⟩] concatenates_S4x6x1024_S4x1x1024_S4x1x1024_S4x8x1024_d1 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd4 (A : (b : Ref sig .tc) → Buf (Elt Ideal) ((c : Thread nD τ).loc b)) (t : Fin cfg0.N) (y : S1x8x1024.Idx) :
    ((cfg0.win 4).blk t).view.read (Elt Ideal) (A (Pipeline.arrRef spec0 4)) y = A main_v7 ((win0_4.blk t).view.emb y) := rfl
theorem ib4 (t : Fin cfg0.N) (y : S1x8x1024.Idx) : iblk m c 4 t y = (concatenate S4x8x1024 1 [⟨S4x6x1024, (a3 m c)⟩, ⟨S4x1x1024, (broadcastInDim S4x1x1024 ![0, 2] bcast_S4x1024_S4x1x1024_0_2 (a4 m c))⟩, ⟨S4x1x1024, (broadcastInDim S4x1x1024 ![0, 2] bcast_S4x1024_S4x1x1024_0_2 (a5 m c))⟩] concatenates_S4x6x1024_S4x1x1024_S4x1x1024_S4x8x1024_d1) ((win0_4.blk t).view.emb y) :=
  (rd4 c (V m c) t y).trans (congrFun (V_4 m c) _)
theorem V_5 : V m c main_v11 = truncf (F := Ideal) .bf16 (shapeCast S4x256x1024 (shapeCast S1024x1024 (extractStridedSlice S1x1024x1024 ![0, 0, 0] (a7 m c) slices_S4x1024x1024_S1x1024x1024_0_0_0) shapeCasts_S1x1024x1024_S1024x1024) shapeCasts_S1024x1024_S4x256x1024) bitsLt_bf16_f32 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd5 (A : (b : Ref sig .tc) → Buf (Elt Ideal) ((c : Thread nD τ).loc b)) (t : Fin cfg0.N) (y : S4x256x1024.Idx) :
    ((cfg0.win 5).blk t).view.read (Elt Ideal) (A (Pipeline.arrRef spec0 5)) y = A main_v11 ((win0_5.blk t).view.emb y) := rfl
theorem ib5 (t : Fin cfg0.N) (y : S4x256x1024.Idx) : iblk m c 5 t y = (truncf (F := Ideal) .bf16 (shapeCast S4x256x1024 (shapeCast S1024x1024 (extractStridedSlice S1x1024x1024 ![0, 0, 0] (a7 m c) slices_S4x1024x1024_S1x1024x1024_0_0_0) shapeCasts_S1x1024x1024_S1024x1024) shapeCasts_S1024x1024_S4x256x1024) bitsLt_bf16_f32) ((win0_5.blk t).view.emb y) :=
  (rd5 c (V m c) t y).trans (congrFun (V_5 m c) _)

/-- Row `i` of the block of point `t`. -/
def row (t : Fin cfg0.N) (i : Fin 512) : Fin 4096 := ⟨512 * t.val + i.val, by have : t.val < 8 := t.isLt; omega⟩

theorem blk0 (t : Fin cfg0.N) (i : Fin 512) (j : Fin 4096) : iblk m c 0 t (ix2 i j) = a0 m c (ix2 (row t i) j) :=
  (ib0 m c t _).trans (congrArg (a0 m c) (by unfold row; blk_ext [idx0 t]))
theorem blk2 (t : Fin cfg0.N) (i : Fin 512) (j : Fin 1024) : iblk m c 2 t (ix2 i j) = a1 m c (ix2 (row t i) j) :=
  (ib2 m c t _).trans (congrArg (a1 m c) (by unfold row; blk_ext [idx2 t]))
theorem blk3 (t : Fin cfg0.N) (i : Fin 512) (j : Fin 1024) : iblk m c 3 t (ix2 i j) = a2 m c (ix2 (row t i) j) :=
  (ib3 m c t _).trans (congrArg (a2 m c) (by unfold row; blk_ext [idx3 t]))
theorem blk4_2 (t : Fin cfg0.N) (j : Fin 1024) : iblk m c 4 t (ix3 (0 : Fin 1) (2 : Fin 8) j) = a3 m c (ix3 (0 : Fin 4) (2 : Fin 6) j) := by
  have e : (win0_4.blk t).view.emb (ix3 (0 : Fin 1) (2 : Fin 8) j) = ix3 (0 : Fin 4) (2 : Fin 8) j := by blk_ext [idx4 t]
  refine (ib4 m c t _).trans ((congrArg _ e).trans ?_)
  pointwise
theorem blk4_4 (t : Fin cfg0.N) (j : Fin 1024) : iblk m c 4 t (ix3 (0 : Fin 1) (4 : Fin 8) j) = a3 m c (ix3 (0 : Fin 4) (4 : Fin 6) j) := by
  have e : (win0_4.blk t).view.emb (ix3 (0 : Fin 1) (4 : Fin 8) j) = ix3 (0 : Fin 4) (4 : Fin 8) j := by blk_ext [idx4 t]
  refine (ib4 m c t _).trans ((congrArg _ e).trans ?_)
  pointwise
theorem blk4_7 (t : Fin cfg0.N) (j : Fin 1024) : iblk m c 4 t (ix3 (0 : Fin 1) (7 : Fin 8) j) = a5 m c (ix2 (0 : Fin 4) j) := by
  have e : (win0_4.blk t).view.emb (ix3 (0 : Fin 1) (7 : Fin 8) j) = ix3 (0 : Fin 4) (7 : Fin 8) j := by blk_ext [idx4 t]
  refine (ib4 m c t _).trans ((congrArg _ e).trans ?_)
  pointwise
theorem blk1 (t : Fin cfg0.N) (q : Fin 4) (k j : Fin 1024) :
    iblk m c 1 t (ix3 q k j) = a6 m c (ix3 (0 : Fin 4) k ⟨1024 * q.val + j.val, by omega⟩) := by
  have e : (win0_1.blk t).view.emb (ix3 q k j) = ix3 q k j := by blk_ext [idx1 t]
  refine (ib1 m c t _).trans ((congrArg _ e).trans ?_)
  pointwise; blk_ext
/-- The weight that the kernel takes in four blocks of rows, row by row. -/
def wrow (w : Vec Ideal S4x256x1024 .bf16) (a k : Fin 1024) : EReal := w (ix3 ⟨a.val / 256, by omega⟩ ⟨a.val % 256, by omega⟩ k)
theorem blk5 (t : Fin cfg0.N) (a k : Fin 1024) : wrow (iblk m c 5 t) a k = a7 m c (ix3 (0 : Fin 4) a k) := by
  unfold wrow
  have e : (win0_5.blk t).view.emb (ix3 (⟨a.val / 256, by omega⟩ : Fin 4) (⟨a.val % 256, by omega⟩ : Fin 256) k)
      = ix3 (⟨a.val / 256, by omega⟩ : Fin 4) (⟨a.val % 256, by omega⟩ : Fin 256) k := by blk_ext [idx5 t]
  refine (ib5 m c t _).trans ((congrArg _ e).trans ?_)
  pointwise; blk_ext

/-- The gradient at the norm's result. -/
def dh (df : Vec Ideal S4096x4096 .bf16) (w : Vec Ideal S4x1024x4096 .f32) (i : Fin 4096) (k : Fin 1024) : EReal :=
  ∑ j : Fin 4096, df (ix2 i j) * w (ix3 0 k j)
/-- The first result. -/
def G6 (df : Vec Ideal S4096x4096 .bf16) (x r : Vec Ideal S4096x1024 .f32) (md : Vec Ideal S4x6x1024 .f32) (n2 : Vec Ideal S4x1024 .f32)
    (w : Vec Ideal S4x1024x4096 .f32) : Vec Ideal S4096x1024 .f32 := fun y =>
  (r (ix2 (y 0) (y 1)) + through (fun a => x (ix2 (y 0) a)) (dh df w (y 0)) (fun a => n2 (ix2 0 a)) (fun a => md (ix3 0 4 a)) (y 1) : EReal)
/-- The small gradients, block by block. -/
def G7 (df : Vec Ideal S4096x4096 .bf16) (x : Vec Ideal S4096x1024 .f32) (md : Vec Ideal S4x6x1024 .f32) (n2 : Vec Ideal S4x1024 .f32)
    (w : Vec Ideal S4x1024x4096 .f32) : Vec Ideal S8x1024 .f32 := fun y =>
  (∑ t : Fin 8, part (fun i a => x (ix2 i a)) (dh df w) (fun a => n2 (ix2 0 a)) (fun a => md (ix3 0 4 a)) t (y 0) (y 1) : EReal)
/-- The third result: the gradient before the output projection. -/
def G8 (df : Vec Ideal S4096x4096 .bf16) (x r : Vec Ideal S4096x1024 .f32) (md : Vec Ideal S4x6x1024 .f32) (n2 : Vec Ideal S4x1024 .f32)
    (w : Vec Ideal S4x1024x4096 .f32) (wo : Vec Ideal S4x1024x1024 .f32) : Vec Ideal S4096x1024 .bf16 := fun y =>
  (∑ a : Fin 1024, G6 df x r md n2 w (ix2 (y 0) a) * md (ix3 0 2 a) * wo (ix3 0 (y 1) a) : EReal)

theorem pay6_apply (u0 : Vec Ideal S512x1024 .bf16) (v0 : Vec Ideal S1x1024x1024 .bf16) (u1 : Vec Ideal S512x1024 .bf16) (v1 : Vec Ideal S1x1024x1024 .bf16)
    (u2 : Vec Ideal S512x1024 .bf16) (v2 : Vec Ideal S1x1024x1024 .bf16) (u3 : Vec Ideal S512x1024 .bf16) (v3 : Vec Ideal S1x1024x1024 .bf16)
    (i : Fin 512) (k : Fin 1024) :
    k0_pay6 (F := Ideal) u0 v0 u1 v1 u2 v2 u3 v3 (ix2 i k) = 0 + (∑ a : Fin 1024, u0 (ix2 i a) * v0 (ix3 0 k a)) + (∑ a : Fin 1024, u1 (ix2 i a) * v1 (ix3 0 k a))
      + (∑ a : Fin 1024, u2 (ix2 i a) * v2 (ix3 0 k a)) + ∑ a : Fin 1024, u3 (ix2 i a) * v3 (ix3 0 k a) := by
  pointwise [k0_pay6]
/-- The gradient at the norm's result, of one block. -/
theorem dh_blk (t : Fin cfg0.N) (u0 : Vec Ideal S512x1024 .bf16) (v0 : Vec Ideal S1x1024x1024 .bf16) (u1 : Vec Ideal S512x1024 .bf16) (v1 : Vec Ideal S1x1024x1024 .bf16)
    (u2 : Vec Ideal S512x1024 .bf16) (v2 : Vec Ideal S1x1024x1024 .bf16) (u3 : Vec Ideal S512x1024 .bf16) (v3 : Vec Ideal S1x1024x1024 .bf16)
    (hu0 : ∀ i a, u0 (ix2 i a) = iblk m c 0 t (ix2 i ⟨a.val, by omega⟩)) (hv0 : ∀ k a, v0 (ix3 0 k a) = iblk m c 1 t (ix3 0 k a))
    (hu1 : ∀ i a, u1 (ix2 i a) = iblk m c 0 t (ix2 i ⟨1024 + a.val, by omega⟩)) (hv1 : ∀ k a, v1 (ix3 0 k a) = iblk m c 1 t (ix3 1 k a))
    (hu2 : ∀ i a, u2 (ix2 i a) = iblk m c 0 t (ix2 i ⟨2048 + a.val, by omega⟩)) (hv2 : ∀ k a, v2 (ix3 0 k a) = iblk m c 1 t (ix3 2 k a))
    (hu3 : ∀ i a, u3 (ix2 i a) = iblk m c 0 t (ix2 i ⟨3072 + a.val, by omega⟩)) (hv3 : ∀ k a, v3 (ix3 0 k a) = iblk m c 1 t (ix3 3 k a))
    (i : Fin 512) (k : Fin 1024) :
    k0_pay6 (F := Ideal) u0 v0 u1 v1 u2 v2 u3 v3 (ix2 i k) = dh (a0 m c) (a6 m c) (row t i) k := by
  rw [pay6_apply, zero_add]
  simp only [hu0, hv0, hu1, hv1, hu2, hv2, hu3, hv3, blk0, blk1]
  refine Eq.trans ?_ (Cert.Sums.quarters fun j => a0 m c (ix2 (row t i) j) * a6 m c (ix3 0 k j))
  refine congrArg₂ (fun a b : EReal => a + b) (congrArg₂ (fun a b : EReal => a + b) (congrArg₂ (fun a b : EReal => a + b) ?_ ?_) ?_) ?_ <;>
    refine Finset.sum_congr rfl fun a _ => congrArg₂ (fun a b : EReal => a * b) rfl (congrArg (a6 m c) (congrArg (ix3 0 k) (Fin.ext ?_)))
  · show 1024 * 0 + a.val = a.val; omega
  · show 1024 * 1 + a.val = 1024 + a.val; omega
  · show 1024 * 2 + a.val = 2048 + a.val; omega
  · show 1024 * 3 + a.val = 3072 + a.val; omega

theorem pay9_apply (x : Vec Ideal S512x1024 .f32) (i : Fin 512) :
    k0_pay9 (F := Ideal) x (ix2 i 0) = rr (fun a => x (ix2 i a)) := by
  unfold rr Cert.Norm.var
  pointwise [k0_pay9]
theorem pay10_apply (x : Vec Ideal S512x1024 .f32) (i : Fin 512) (k : Fin 1024) :
    k0_pay10 (F := Ideal) x (ix2 i k) = x (ix2 i k) * rr (fun a => x (ix2 i a)) := by
  unfold rr Cert.Norm.var
  pointwise [k0_pay10, k0_pay9]
theorem pay14_apply (d x r : Vec Ideal S512x1024 .f32) (g : Vec Ideal S1x1024 .f32) (s : Vec Ideal S1x1x1024 .f32) (i : Fin 512) (k : Fin 1024) :
    k0_pay14 (F := Ideal) d g s x r (ix2 i k) = r (ix2 i k) + k0_pay9 (F := Ideal) x (ix2 i 0) * (d (ix2 i k) * (g (ix2 0 k) * (1 + s (ix3 0 0 k)))
      - k0_pay10 (F := Ideal) x (ix2 i k) * Ideal.div (∑ a : Fin 1024, d (ix2 i a) * (g (ix2 0 a) * (1 + s (ix3 0 0 a))) * k0_pay10 (F := Ideal) x (ix2 i a)) Cert.Norm.width) := by
  unfold k0_pay14
  generalize k0_pay10 (F := Ideal) x = xh
  generalize k0_pay9 (F := Ideal) x = q
  pointwise [k0_pay8]
theorem pay4_apply (d : Vec Ideal S512x1024 .f32) (g : Vec Ideal S1x1x1024 .f32) (w : Vec Ideal S4x256x1024 .bf16) (i : Fin 512) (k : Fin 1024) :
    k0_pay4 (F := Ideal) d g w (ix2 i k) = ∑ a : Fin 1024, d (ix2 i a) * g (ix3 0 0 a) * wrow w k a := by
  unfold wrow
  pointwise [k0_pay4]
/-- What the loads of a block are: the block's rows, the scale and the weight of the norm. -/
structure Reads (t : Fin cfg0.N) (d x : Vec Ideal S512x1024 .f32) (g s : Vec Ideal S1x1x1024 .f32) : Prop where
  d : ∀ i k, d (ix2 i k) = dh (a0 m c) (a6 m c) (row t i) k
  x : ∀ i k, x (ix2 i k) = iblk m c 2 t (ix2 i k)
  g : ∀ j, g (ix3 0 0 j) = iblk m c 4 t (ix3 0 7 j)
  s : ∀ j, s (ix3 0 0 j) = iblk m c 4 t (ix3 0 4 j)

theorem rows_blk (t : Fin cfg0.N) (d x : Vec Ideal S512x1024 .f32) (g s : Vec Ideal S1x1x1024 .f32) (h : Reads m c t d x g s)
    (r : Vec Ideal S512x1024 .f32) (hr : ∀ i k, r (ix2 i k) = iblk m c 3 t (ix2 i k)) (i : Fin 512) (k : Fin 1024) :
    k0_pay14 (F := Ideal) d (k0_pay7 g) s x r (ix2 i k)
      = G6 (a0 m c) (a1 m c) (a2 m c) (a3 m c) (a5 m c) (a6 m c) (ix2 (row t i) k) := by
  have hg' : ∀ j, k0_pay7 (F := Ideal) g (ix2 0 j) = g (ix3 0 0 j) := fun j => by
    pointwise [k0_pay7]
  refine (pay14_apply _ _ _ _ _ i k).trans ?_
  simp only [h.d, pay10_apply, pay9_apply, hg', h.x, h.g, h.s, hr, blk2, blk3, blk4_4, blk4_7]
  rfl

theorem mix_blk (t : Fin cfg0.N) (d x : Vec Ideal S512x1024 .f32) (g s : Vec Ideal S1x1x1024 .f32) (h : Reads m c t d x g s)
    (r : Vec Ideal S512x1024 .f32) (hr : ∀ i k, r (ix2 i k) = iblk m c 3 t (ix2 i k)) (b : Vec Ideal S1x1x1024 .f32)
    (hb : ∀ k, b (ix3 0 0 k) = iblk m c 4 t (ix3 0 2 k)) (w : Vec Ideal S4x256x1024 .bf16) (hw : ∀ a k, wrow w a k = wrow (iblk m c 5 t) a k)
    (i : Fin 512) (k : Fin 1024) :
    k0_pay4 (F := Ideal) (k0_pay14 d (k0_pay7 g) s x r) b w (ix2 i k)
      = G8 (a0 m c) (a1 m c) (a2 m c) (a3 m c) (a5 m c) (a6 m c) (a7 m c) (ix2 (row t i) k) := by
  rw [pay4_apply]
  simp only [rows_blk m c t d x g s h r hr, hb, hw, blk4_2, blk5]
  rfl

theorem final6 : (dats m 0 c).arrAt 6 cfg0.N = G6 (a0 m c) (a1 m c) (a2 m c) (a3 m c) (a5 m c) (a6 m c) := by
  refine (dats m 0 c).arrAt_eq_of_covers 6 _ (by decide +kernel) fun t hf y => ?_
  blk_simp
  rw [after0_6]
  idx_vars y
  have e : (win0_6.blk t).view.emb (ix2 y0 y1) = ix2 (row t y0) y1 := by unfold row; blk_ext [idx6 t]
  refine Eq.trans ?_ (congrArg _ e.symm)
  by_cases h : t.val % 8 = 0
  · rw [outsAt0_A m c t h]
    frame_out
    refine rows_blk m c t _ _ _ _ ⟨?_, ?_, ?_, ?_⟩ _ ?_ y0 y1
    · exact dh_blk m c t _ _ _ _ _ _ _ _ (fun i a => by pointwise) (fun k a => by pointwise) (fun i a => by pointwise) (fun k a => by pointwise)
          (fun i a => by pointwise) (fun k a => by pointwise) (fun i a => by pointwise) (fun k a => by pointwise)
    · intro i k; pointwise
    · intro j; pointwise
    · intro j; pointwise
    · intro i k; pointwise
  · rw [outsAt0_B m c t h]
    frame_out
    refine rows_blk m c t _ _ _ _ ⟨?_, ?_, ?_, ?_⟩ _ ?_ y0 y1
    · exact dh_blk m c t _ _ _ _ _ _ _ _ (fun i a => by pointwise) (fun k a => by pointwise) (fun i a => by pointwise) (fun k a => by pointwise)
          (fun i a => by pointwise) (fun k a => by pointwise) (fun i a => by pointwise) (fun k a => by pointwise)
    · intro i k; pointwise
    · intro j; pointwise
    · intro j; pointwise
    · intro i k; pointwise
theorem final8 : (dats m 0 c).arrAt 8 cfg0.N = G8 (a0 m c) (a1 m c) (a2 m c) (a3 m c) (a5 m c) (a6 m c) (a7 m c) := by
  refine (dats m 0 c).arrAt_eq_of_covers 8 _ (by decide +kernel) fun t hf y => ?_
  blk_simp
  rw [after0_8]
  idx_vars y
  have e : (win0_8.blk t).view.emb (ix2 y0 y1) = ix2 (row t y0) y1 := by unfold row; blk_ext [idx8 t]
  refine Eq.trans ?_ (congrArg _ e.symm)
  by_cases h : t.val % 8 = 0
  · rw [outsAt0_A m c t h]
    frame_out
    refine mix_blk m c t _ _ _ _ ⟨?_, ?_, ?_, ?_⟩ _ ?_ _ ?_ _ ?_ y0 y1
    · exact dh_blk m c t _ _ _ _ _ _ _ _ (fun i a => by pointwise) (fun k a => by pointwise) (fun i a => by pointwise) (fun k a => by pointwise)
          (fun i a => by pointwise) (fun k a => by pointwise) (fun i a => by pointwise) (fun k a => by pointwise)
    · intro i k; pointwise
    · intro j; pointwise
    · intro j; pointwise
    · intro i k; pointwise
    · intro k; pointwise
    · intro a k; unfold wrow; pointwise
  · rw [outsAt0_B m c t h]
    frame_out
    refine mix_blk m c t _ _ _ _ ⟨?_, ?_, ?_, ?_⟩ _ ?_ _ ?_ _ ?_ y0 y1
    · exact dh_blk m c t _ _ _ _ _ _ _ _ (fun i a => by pointwise) (fun k a => by pointwise) (fun i a => by pointwise) (fun k a => by pointwise)
          (fun i a => by pointwise) (fun k a => by pointwise) (fun i a => by pointwise) (fun k a => by pointwise)
    · intro i k; pointwise
    · intro j; pointwise
    · intro j; pointwise
    · intro i k; pointwise
    · intro k; pointwise
    · intro a k; unfold wrow; pointwise

/-- The point as a number of a block. -/
def blk (t : Fin cfg0.N) : Fin 8 := ⟨t.val, t.isLt⟩
/-- What one point adds. -/
abbrev term (t : Fin cfg0.N) (p : Fin 8) (j : Fin 1024) : EReal :=
  part (fun i a => a1 m c (ix2 i a)) (dh (a0 m c) (a6 m c)) (fun a => a5 m c (ix2 0 a)) (fun a => a3 m c (ix3 0 4 a)) (blk t) p j

theorem dsh (t : Fin cfg0.N) (d : Vec Ideal S512x1024 .f32) (hd : ∀ i k, d (ix2 i k) = dh (a0 m c) (a6 m c) (row t i) k)
    (u : Vec Ideal S1x1024 .f32) (j : Fin 1024) :
    k0_pay1 (F := Ideal) (k0_pay11 d) u (ix2 0 j) = u (ix2 0 j) + term m c t 0 j := by
  have h : k0_pay1 (F := Ideal) (k0_pay11 d) u (ix2 0 j) = u (ix2 0 j) + ∑ i : Fin 512, d (ix2 i j) := by
    pointwise [k0_pay1, k0_pay11]
  rw [h]
  simp only [hd]
  rfl
theorem dsc (t : Fin cfg0.N) (d x : Vec Ideal S512x1024 .f32) (g : Vec Ideal S1x1x1024 .f32)
    (hd : ∀ i k, d (ix2 i k) = dh (a0 m c) (a6 m c) (row t i) k) (hx : ∀ i k, x (ix2 i k) = iblk m c 2 t (ix2 i k))
    (hg : ∀ j, g (ix3 0 0 j) = iblk m c 4 t (ix3 0 7 j))
    (u : Vec Ideal S1x1024 .f32) (j : Fin 1024) :
    k0_pay2 (F := Ideal) (k0_pay12 d (k0_pay7 g) x) u (ix2 0 j) = u (ix2 0 j) + term m c t 1 j := by
  have e : k0_pay2 (F := Ideal) (k0_pay12 d (k0_pay7 g) x) u (ix2 0 j)
      = u (ix2 0 j) + (∑ i : Fin 512, d (ix2 i j) * k0_pay10 (F := Ideal) x (ix2 i j)) * g (ix3 0 0 j) := by
    unfold k0_pay12
    generalize k0_pay10 (F := Ideal) x = xh
    pointwise [k0_pay2, k0_pay7]
  rw [e, hg, blk4_7]
  simp only [hd, pay10_apply, hx, blk2]
  rfl
theorem dng (t : Fin cfg0.N) (d x : Vec Ideal S512x1024 .f32) (s : Vec Ideal S1x1x1024 .f32)
    (hd : ∀ i k, d (ix2 i k) = dh (a0 m c) (a6 m c) (row t i) k) (hx : ∀ i k, x (ix2 i k) = iblk m c 2 t (ix2 i k))
    (hs : ∀ j, s (ix3 0 0 j) = iblk m c 4 t (ix3 0 4 j))
    (u : Vec Ideal S1x1024 .f32) (j : Fin 1024) :
    k0_pay3 (F := Ideal) (k0_pay13 d s x) u (ix2 0 j) = u (ix2 0 j) + term m c t 2 j := by
  have e : k0_pay3 (F := Ideal) (k0_pay13 d s x) u (ix2 0 j)
      = u (ix2 0 j) + (∑ i : Fin 512, d (ix2 i j) * k0_pay10 (F := Ideal) x (ix2 i j)) * (1 + s (ix3 0 0 j)) := by
    unfold k0_pay13
    generalize k0_pay10 (F := Ideal) x = xh
    pointwise [k0_pay3, k0_pay8]
  rw [e, hs, blk4_4]
  simp only [hd, pay10_apply, hx, blk2]
  rfl
theorem zeros (p : Fin 8) (j : Fin 1024) : k0_pay5 (F := Ideal) (ix2 p j) = 0 := by
  pointwise [k0_pay5]

theorem acc_B (t : Fin cfg0.N) (h : ¬ t.val % 8 = 0) (p : Fin 8) (j : Fin 1024) :
    (outsAt0 m c t.val t.isLt).2.1 (ix2 p j)
      = (outsAt0 m c (t.val - 1) (Nat.lt_of_le_of_lt (Nat.sub_le _ _) t.isLt)).2.1 (ix2 p j) + term m c t p j := by
  rw [outsAt0_B m c t h]
  frame_out
  by_cases h2 : p.val = 2
  · obtain rfl : p = 2 := Fin.ext h2
    rw [View.read_writes_cons_unit_of_mem _ _ _ _ _ _ (ix2 0 j) rfl (by intro a; fin_cases a <;> simp)]
    refine (dng m c t _ _ _ ?_ ?_ ?_ _ j).trans ?_
    · exact dh_blk m c t _ _ _ _ _ _ _ _ (fun i a => by pointwise) (fun k a => by pointwise) (fun i a => by pointwise) (fun k a => by pointwise)
          (fun i a => by pointwise) (fun k a => by pointwise) (fun i a => by pointwise) (fun k a => by pointwise)
    · intro i k; pointwise
    · intro j; pointwise
    pointwise
  rw [View.read_writes_cons_unit_of_not_mem _ _ _ _ _ _ rfl 0 (by simp; omega)]
  by_cases h1 : p.val = 1
  · obtain rfl : p = 1 := Fin.ext h1
    rw [View.read_writes_cons_unit_of_mem _ _ _ _ _ _ (ix2 0 j) rfl (by intro a; fin_cases a <;> simp)]
    refine (dsc m c t _ _ _ ?_ ?_ ?_ _ j).trans ?_
    · exact dh_blk m c t _ _ _ _ _ _ _ _ (fun i a => by pointwise) (fun k a => by pointwise) (fun i a => by pointwise) (fun k a => by pointwise)
          (fun i a => by pointwise) (fun k a => by pointwise) (fun i a => by pointwise) (fun k a => by pointwise)
    · intro i k; pointwise
    · intro j; pointwise
    pointwise
  rw [View.read_writes_cons_unit_of_not_mem _ _ _ _ _ _ rfl 0 (by simp; omega)]
  by_cases h0 : p.val = 0
  · obtain rfl : p = 0 := Fin.ext h0
    rw [View.read_writes_cons_unit_of_mem _ _ _ _ _ _ (ix2 0 j) rfl (by intro a; fin_cases a <;> simp)]
    refine (dsh m c t _ ?_ _ j).trans ?_
    · exact dh_blk m c t _ _ _ _ _ _ _ _ (fun i a => by pointwise) (fun k a => by pointwise) (fun i a => by pointwise) (fun k a => by pointwise)
          (fun i a => by pointwise) (fun k a => by pointwise) (fun i a => by pointwise) (fun k a => by pointwise)
    pointwise
  rw [View.read_writes_cons_unit_of_not_mem _ _ _ _ _ _ rfl 0 (by simp; omega)]
  rw [term, part, if_neg h0, if_neg h1, if_neg h2, add_zero]
  exact congrFun (Memref.IsWhole.read_unread _ _) _

theorem acc_A (t : Fin cfg0.N) (h : t.val % 8 = 0) (p : Fin 8) (j : Fin 1024) :
    (outsAt0 m c t.val t.isLt).2.1 (ix2 p j) = 0 + term m c t p j := by
  rw [outsAt0_A m c t h]
  frame_out
  by_cases h2 : p.val = 2
  · obtain rfl : p = 2 := Fin.ext h2
    rw [canon_mem _ _ _ _ (ix2 0 j) (by intro a; fin_cases a <;> simp)]
    refine (dng m c t _ _ _ ?_ ?_ ?_ _ j).trans ?_
    · exact dh_blk m c t _ _ _ _ _ _ _ _ (fun i a => by pointwise) (fun k a => by pointwise) (fun i a => by pointwise) (fun k a => by pointwise)
          (fun i a => by pointwise) (fun k a => by pointwise) (fun i a => by pointwise) (fun k a => by pointwise)
    · intro i k; pointwise
    · intro j; pointwise
    rw [readCov_at _ _ _ _ (ix2 2 j) (by intro a; fin_cases a <;> simp), canon_not_mem _ _ _ _ 0 (by simp), canon_not_mem _ _ _ _ 0 (by simp),
      canon_mem _ _ _ _ (ix2 2 j) (by intro a; fin_cases a <;> simp), zeros]
  rw [canon_not_mem _ _ _ _ 0 (by simp; omega)]
  by_cases h1 : p.val = 1
  · obtain rfl : p = 1 := Fin.ext h1
    rw [canon_mem _ _ _ _ (ix2 0 j) (by intro a; fin_cases a <;> simp)]
    refine (dsc m c t _ _ _ ?_ ?_ ?_ _ j).trans ?_
    · exact dh_blk m c t _ _ _ _ _ _ _ _ (fun i a => by pointwise) (fun k a => by pointwise) (fun i a => by pointwise) (fun k a => by pointwise)
          (fun i a => by pointwise) (fun k a => by pointwise) (fun i a => by pointwise) (fun k a => by pointwise)
    · intro i k; pointwise
    · intro j; pointwise
    rw [readCov_at _ _ _ _ (ix2 1 j) (by intro a; fin_cases a <;> simp), canon_not_mem _ _ _ _ 0 (by simp),
      canon_mem _ _ _ _ (ix2 1 j) (by intro a; fin_cases a <;> simp), zeros]
  rw [canon_not_mem _ _ _ _ 0 (by simp; omega)]
  by_cases h0 : p.val = 0
  · obtain rfl : p = 0 := Fin.ext h0
    rw [canon_mem _ _ _ _ (ix2 0 j) (by intro a; fin_cases a <;> simp)]
    refine (dsh m c t _ ?_ _ j).trans ?_
    · exact dh_blk m c t _ _ _ _ _ _ _ _ (fun i a => by pointwise) (fun k a => by pointwise) (fun i a => by pointwise) (fun k a => by pointwise)
          (fun i a => by pointwise) (fun k a => by pointwise) (fun i a => by pointwise) (fun k a => by pointwise)
    rw [readCov_at _ _ _ _ (ix2 0 j) (by intro a; fin_cases a <;> simp),
      canon_mem _ _ _ _ (ix2 0 j) (by intro a; fin_cases a <;> simp), zeros]
  rw [canon_not_mem _ _ _ _ 0 (by simp; omega), canon_mem _ _ _ _ (ix2 p j) (by intro a; fin_cases a <;> simp), zeros,
    term, part, if_neg h0, if_neg h1, if_neg h2, add_zero]

theorem sum_blk (f : Fin 8 → EReal) : ∑ t : Fin cfg0.N, f (blk t) = ∑ n : Fin 8, f n := by
  have hN : cfg0.N = 8 := N_0
  refine Function.Bijective.sum_comp ((Fintype.bijective_iff_injective_and_card blk).mpr ⟨fun a b h => ?_, ?_⟩) f
  · have := Fin.ext_iff.mp h
    simp only [blk] at this
    exact Fin.ext (by omega)
  · simp [hN]

/-- The last point. -/
def tlast : Fin cfg0.N := ⟨7, by rw [show cfg0.N = 8 from N_0]; decide⟩

theorem final7 : (dats m 0 c).arrAt 7 cfg0.N = G7 (a0 m c) (a1 m c) (a3 m c) (a5 m c) (a6 m c) := by
  refine Dat.arrAt_eq_of_after_last _ 7 tlast (by decide +kernel) _ fun y => ?_
  blk_simp
  rw [after0_7]
  have hy : ∀ y : S8x1024.Idx, (outsAt0 m c tlast.val tlast.isLt).2.1 y = G7 (a0 m c) (a1 m c) (a3 m c) (a5 m c) (a6 m c) y := by
    intro y
    idx_vars y
    rw [Pipeline.eq_sum_fin_of_reset_step_apply_last (fun n h (q : Fin 8 × Fin 1024) => (outsAt0 m c n h).2.1 (ix2 q.1 q.2)) 8
      (fun _ => 0) (fun t q => term m c t q.1 q.2) (fun t h q => acc_A m c t h _ _ ) (fun t h q => acc_B m c t h _ _ )
      (le_of_eq N_0) tlast rfl (_, _), zero_add]
    exact sum_blk fun n => part (fun i a => a1 m c (ix2 i a)) (dh (a0 m c) (a6 m c)) (fun a => a5 m c (ix2 0 a)) (fun a => a3 m c (ix3 0 4 a)) n _ _
  exact hy y

end Cert.Kernel7Ideal.Fold

namespace Cert.Reference7Ideal.Ref

open Idealize.ShloMosaic Idealize.ShloMosaic.TcCoe Cert.Reference7Ideal Cert.Reference7Ideal.Gen Cert.Reference7Ideal.Read

open Cert.Finite
open Cert.Norm (rr through part mean small through_eq small_eq)

section
variable (x0 : Vec Ideal S4096x4096 .bf16) (x1 x2 : Vec Ideal S4096x1024 .f32) (x3 : Vec Ideal S4x6x1024 .f32) (x5 : Vec Ideal S4x1024 .f32)
    (x6 : Vec Ideal S4x1024x4096 .f32) (x7 : Vec Ideal S4x1024x1024 .f32)

theorem value64 :
    val_main_v64 (F := Ideal) x0 x1 x2 x3 x5 x6 = Cert.Kernel7Ideal.Fold.G6 x0 x1 x2 x3 x5 x6 := by
  funext y; idx_vars y
  refine Eq.trans ?_ (through_eq _ y1).symm
  unfold mean rr Cert.Norm.var Cert.Kernel7Ideal.Fold.dh
  pointwise [val_main_v64, val_main_v62, val_main_v55, val_main_v54, val_main_v48, val_main_v42, val_main_v34, val_main_v33, val_main_v31, val_main_v30, val_main_v41, val_main_v24, val_main_v23, val_main_v22, val_main_cst_3, val_main_v3, val_main_v2, val_main_v47, val_main_v19, val_main_v5, val_main_v4, val_main_v53, val_main_v13, val_main_v12, val_main_v10, val_main_v8, val_main_v7, val_main_v6, val_main_cst, val_main_v9, val_main_cst_0, val_main_v11, val_main_cst_1, val_main_v61, val_main_v60, val_main_v59, val_main_v58, val_main_v56, val_main_v52, val_main_v51, val_main_v50, val_main_cst_10, val_main_v16, val_main_v15, val_main_cst_2, val_main_v14, val_main_v57, val_main_cst_11, val_main_cst_12, val_main_v63]
  simp only [Finset.univ_unique, Finset.sum_singleton]

theorem value80 (h0 : ∀ i, Re (x0 i)) (h3 : ∀ i, Re (x3 i)) (h5 : ∀ i, Re (x5 i)) (h6 : ∀ i, Re (x6 i)) :
    val_main_v80 (F := Ideal) x0 x1 x3 x5 x6 = Cert.Kernel7Ideal.Fold.G7 x0 x1 x3 x5 x6 := by
  funext y; idx_vars y
  refine Eq.trans ?_ (small_eq (fun i k => Re.sum fun j => (h0 _).mul (h6 _)) (fun k => h5 _) (fun k => h3 _) y0 y1).symm
  unfold small rr Cert.Norm.var
  pointwise [val_main_v80, val_main_v79, val_main_v76, val_main_v37, val_main_v36, val_main_v35, val_main_v34, val_main_v33, val_main_v31, val_main_v30, val_main_cst_4, val_main_cst_5, val_main_v77, val_main_v43, val_main_v40, val_main_v39, val_main_v38, val_main_v21, val_main_v18, val_main_v17, val_main_v13, val_main_v12, val_main_v10, val_main_v8, val_main_v7, val_main_v6, val_main_cst, val_main_v9, val_main_cst_0, val_main_v11, val_main_cst_1, val_main_v20, val_main_v19, val_main_v5, val_main_v4, val_main_cst_6, val_main_cst_7, val_main_v78, val_main_v49, val_main_v46, val_main_v45, val_main_v44, val_main_v42, val_main_v41, val_main_v24, val_main_v23, val_main_v22, val_main_cst_3, val_main_v3, val_main_v2, val_main_cst_8, val_main_cst_9, val_main_call0_v0, val_main_c]
  simp only [Finset.univ_unique, Finset.sum_singleton]
  by_cases e0 : y0.val = 0
  · rw [dif_pos (by omega), dif_pos (by omega), if_pos e0]
  rw [if_neg e0]
  by_cases e1 : y0.val = 1
  · rw [dif_pos (by omega), dif_neg (by omega), dif_pos (by omega), if_pos e1]
  rw [if_neg e1]
  by_cases e2 : y0.val = 2
  · rw [dif_pos (by omega), dif_neg (by omega), dif_neg (by omega), if_pos e2]
  rw [if_neg e2, dif_neg (by omega)]
  show ((((0#32 : BitVec 32).toInt : ℝ)) : EReal) = 0
  simp

theorem value81 :
    val_main_v81 (F := Ideal) x0 x1 x2 x3 x5 x6 x7 = Cert.Kernel7Ideal.Fold.G8 x0 x1 x2 x3 x5 x6 x7 := by
  have e := value64 x0 x1 x2 x3 x5 x6
  funext y; idx_vars y
  pointwise [val_main_v81, val_main_v75, val_main_v74, val_main_v73, val_main_v67, val_main_v66, val_main_v69, val_main_v68]
  simp only [Finset.univ_unique, Finset.sum_singleton, e]
  exact Finset.sum_congr rfl fun a _ => congrArg₂ (fun a b : EReal => a * b) (mul_comm _ _) rfl
end

end Cert.Reference7Ideal.Ref

namespace Cert.Proof.K7

open Idealize.ShloMosaic Idealize.SL.Sem

/-- The reference runs to its end, keeps its arguments and has no semaphores. -/
theorem reference_frame : Cert.quiescent_Reference7Ideal (hReference7Ideal := Cert.Reference7Ideal.Gen.facts) := fun m ρ _ =>
  (θ_run Cert.Reference7Ideal.defs _ _).mono (fun r h => ⟨fun c => (h c).2.2.2,
      Idealize.ShloMosaic.sem_eq_zero_of_no_sems (by decide) r.2⟩)
    (Cert.Reference7Ideal.Value.run m ρ)

/-- The kernel's results are the reference's, of finite arguments that agree. -/
theorem algebraic : Cert.algebraic_Kernel7Ideal_Reference7Ideal_pre_finite7 (hKernel7Ideal := Cert.Kernel7Ideal.Gen.facts)
    (hReference7Ideal := Cert.Reference7Ideal.Gen.facts) (hPre_finite7 := Cert.Pre_finite7.Gen.facts) := by
  intro m ρ m' ρ' hpre hagree
  have f0 : ∀ (c : Dev Cert.Kernel7Ideal.nD) i, Cert.Finite.Re ((m ((c.tc : Thread Cert.Kernel7Ideal.nD Cert.Kernel7Ideal.τ).loc Cert.Kernel7Ideal.main_arg0) : _ → EReal) i)   := fun c i =>
    Cert.Finite.re_of_lt Cert.Finite.inf16 (congrFun (hpre c).1 i)
  have f3 : ∀ (c : Dev Cert.Kernel7Ideal.nD) i, Cert.Finite.Re ((m ((c.tc : Thread Cert.Kernel7Ideal.nD Cert.Kernel7Ideal.τ).loc Cert.Kernel7Ideal.main_arg3) : _ → EReal) i)   := fun c i =>
    Cert.Finite.re_of_lt Cert.Finite.inf32 (congrFun (hpre c).2.1 i)
  have f5 : ∀ (c : Dev Cert.Kernel7Ideal.nD) i, Cert.Finite.Re ((m ((c.tc : Thread Cert.Kernel7Ideal.nD Cert.Kernel7Ideal.τ).loc Cert.Kernel7Ideal.main_arg5) : _ → EReal) i)   := fun c i =>
    Cert.Finite.re_of_lt Cert.Finite.inf32 (congrFun (hpre c).2.2.1 i)
  have f6 : ∀ (c : Dev Cert.Kernel7Ideal.nD) i, Cert.Finite.Re ((m ((c.tc : Thread Cert.Kernel7Ideal.nD Cert.Kernel7Ideal.τ).loc Cert.Kernel7Ideal.main_arg6) : _ → EReal) i)   := fun c i =>
    Cert.Finite.re_of_lt Cert.Finite.inf32 (congrFun (hpre c).2.2.2 i)
  refine ⟨fun c => (Cert.Kernel7Ideal.Gen.dats m 0 c).arrAt 6 Cert.Kernel7Ideal.cfg0.N, fun c => (Cert.Kernel7Ideal.Gen.dats m 0 c).arrAt 7 Cert.Kernel7Ideal.cfg0.N, fun c => (Cert.Kernel7Ideal.Gen.dats m 0 c).arrAt 8 Cert.Kernel7Ideal.cfg0.N, ?_, ?_⟩
  · refine (θ_run Cert.Kernel7Ideal.defs _ _).mono (fun r h c => ?_) (Cert.Kernel7Ideal.Value.run_blocks m ρ)
    exact h c
  · refine (θ_run Cert.Reference7Ideal.defs _ _).mono (fun r h c => ?_) (Cert.Reference7Ideal.Value.run (F := Ideal) m' ρ')
    obtain ⟨h0, h1, h2, hk⟩ := h c
    obtain ⟨g0, g1, g2, g3, g4, g5, g6, g7⟩ := hagree c
    refine ⟨h0.trans ?_, h1.trans ?_, h2.trans ?_, hk⟩
    · rw [Cert.Reference7Ideal.Read.val_main_v64_eq, g0, g1, g2, g3, g5, g6]
      exact (Cert.Reference7Ideal.Ref.value64 _ _ _ _ _ _).trans (Cert.Kernel7Ideal.Fold.final6 m c).symm
    · refine (Cert.Reference7Ideal.Read.val_main_v80_eq _ _ _ _ _).trans ?_
      rw [g0, g1, g3, g5, g6]
      exact (Cert.Reference7Ideal.Ref.value80 _ _ _ _ _ (f0 c) (f3 c) (f5 c) (f6 c)).trans (Cert.Kernel7Ideal.Fold.final7 m c).symm
    · rw [Cert.Reference7Ideal.Read.val_main_v81_eq, g0, g1, g2, g3, g5, g6, g7]
      exact (Cert.Reference7Ideal.Ref.value81 _ _ _ _ _ _ _).trans (Cert.Kernel7Ideal.Fold.final8 m c).symm

end Cert.Proof.K7

end
-- ==== Proof.K8.lean ====
/-
  The gradient through the input projection and the norm before it: each block of rows of the first result is the
  reference's, and the small gradients are summed over the eight blocks.
-/
module

public import proofs.«01_k».proof.Defs
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Sums
public import proofs.«01_k».proof.Proof.Norm
public import proofs.«01_k».proof.Proof.Fold
public import Idealize.ShloMosaic.Lib.Pipeline.ValueKit
public import Idealize.ShloMosaic.Lib.WritesUnit
public import proofs.«01_k».proof.Proof.Gen.Pre_finite8
public import Idealize.ShloMosaic.Lib.Claim
public import Idealize.ShloMosaic.Adequacy
public import Idealize.ShloMosaic.Init

@[expose] public section

set_option maxRecDepth 16384

noncomputable section

namespace Cert.Kernel8Ideal.Fold

open Idealize.ShloMosaic Idealize.ShloMosaic.TcCoe Idealize.SL.Sem Cert.Kernel8Ideal Cert.Kernel8Ideal.Gen
open Idealize.ShloMosaic.Pipeline (Dat)
open Cert.Norm (rr through part)
open Cert.KernelIdeal.Fold (canon_mem canon_not_mem readCov_at)

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0, 0] := by decide +kernel
theorem idx5 : ∀ t : Fin cfg0.N, win0_5.index t = ![t.val, 0] := by decide +kernel
theorem idx6 : ∀ t : Fin cfg0.N, win0_6.index t = ![0, 0] := by decide +kernel

/-- The arguments, as arrays. -/
abbrev a0 : Vec Ideal S4096x3200 .bf16 := m ((c : Thread nD τ).loc main_arg0)
abbrev a1 : Vec Ideal S4096x1024 .f32 := m ((c : Thread nD τ).loc main_arg1)
abbrev a2 : Vec Ideal S4096x1024 .f32 := m ((c : Thread nD τ).loc main_arg2)
abbrev a3 : Vec Ideal S4x6x1024 .f32 := m ((c : Thread nD τ).loc main_arg3)
abbrev a4 : Vec Ideal S4x1024 .f32 := m ((c : Thread nD τ).loc main_arg4)
abbrev a5 : Vec Ideal S4x1024 .f32 := m ((c : Thread nD τ).loc main_arg5)
abbrev a6 : Vec Ideal S4x1024x3080 .f32 := m ((c : Thread nD τ).loc main_arg6)

/-! What the host hands to the kernel's windows, and the windows' blocks read off it. -/

theorem rd0 (A : (b : Ref sig .tc) → Buf (Elt Ideal) ((c : Thread nD τ).loc b)) (t : Fin cfg0.N) (y : S512x3200.Idx) :
    ((cfg0.win 0).blk t).view.read (Elt Ideal) (A (Pipeline.arrRef spec0 0)) y = A main_arg0 ((win0_0.blk t).view.emb y) := rfl
theorem ib0 (t : Fin cfg0.N) (y : S512x3200.Idx) : iblk m c 0 t y = (a0 m c) ((win0_0.blk t).view.emb y) :=
  (rd0 c (V m c) t y).trans (congrFun (V_main_arg0 m c) _)
theorem V_1 : V m c main_v3 = truncf (F := Ideal) .bf16 (pad S1024x3200 ![0, 0] ![0, 120] ![0, 0] (shapeCast S1024x3080 (extractStridedSlice S1x1024x3080 ![0, 0, 0] (a6 m c) slices_S4x1024x3080_S1x1024x3080_0_0_0) shapeCasts_S1x1024x3080_S1024x3080) (sitofp (F := Ideal) .f32 (constantI S_ 32 0#32)) pads_S1024x3080_S1024x3200_000_01200 h_S_) bitsLt_bf16_f32 := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd1 (A : (b : Ref sig .tc) → Buf (Elt Ideal) ((c : Thread nD τ).loc b)) (t : Fin cfg0.N) (y : S1024x3200.Idx) :
    ((cfg0.win 1).blk t).view.read (Elt Ideal) (A (Pipeline.arrRef spec0 1)) y = A main_v3 ((win0_1.blk t).view.emb y) := rfl
theorem ib1 (t : Fin cfg0.N) (y : S1024x3200.Idx) : iblk m c 1 t y = (truncf (F := Ideal) .bf16 (pad S1024x3200 ![0, 0] ![0, 120] ![0, 0] (shapeCast S1024x3080 (extractStridedSlice S1x1024x3080 ![0, 0, 0] (a6 m c) slices_S4x1024x3080_S1x1024x3080_0_0_0) shapeCasts_S1x1024x3080_S1024x3080) (sitofp (F := Ideal) .f32 (constantI S_ 32 0#32)) pads_S1024x3080_S1024x3200_000_01200 h_S_) bitsLt_bf16_f32) ((win0_1.blk t).view.emb y) :=
  (rd1 c (V m c) t y).trans (congrFun (V_1 m c) _)
theorem rd2 (A : (b : Ref sig .tc) → Buf (Elt Ideal) ((c : Thread nD τ).loc b)) (t : Fin cfg0.N) (y : S512x1024.Idx) :
    ((cfg0.win 2).blk t).view.read (Elt Ideal) (A (Pipeline.arrRef spec0 2)) y = A main_arg1 ((win0_2.blk t).view.emb y) := rfl
theorem ib2 (t : Fin cfg0.N) (y : S512x1024.Idx) : iblk m c 2 t y = (a1 m c) ((win0_2.blk t).view.emb y) :=
  (rd2 c (V m c) t y).trans (congrFun (V_main_arg1 m c) _)
theorem rd3 (A : (b : Ref sig .tc) → Buf (Elt Ideal) ((c : Thread nD τ).loc b)) (t : Fin cfg0.N) (y : S512x1024.Idx) :
    ((cfg0.win 3).blk t).view.read (Elt Ideal) (A (Pipeline.arrRef spec0 3)) y = A main_arg2 ((win0_3.blk t).view.emb y) := rfl
theorem ib3 (t : Fin cfg0.N) (y : S512x1024.Idx) : iblk m c 3 t y = (a2 m c) ((win0_3.blk t).view.emb y) :=
  (rd3 c (V m c) t y).trans (congrFun (V_main_arg2 m c) _)
theorem V_4 : V m c main_v6 = concatenate S4x8x1024 1 [⟨S4x6x1024, (a3 m c)⟩, ⟨S4x1x1024, (broadcastInDim S4x1x1024 ![0, 2] bcast_S4x1024_S4x1x1024_0_2 (a4 m c))⟩, ⟨S4x1x1024, (broadcastInDim S4x1x1024 ![0, 2] bcast_S4x1024_S4x1x1024_0_2 (a5 m c))⟩] concatenates_S4x6x1024_S4x1x1024_S4x1x1024_S4x8x1024_d1 := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd4 (A : (b : Ref sig .tc) → Buf (Elt Ideal) ((c : Thread nD τ).loc b)) (t : Fin cfg0.N) (y : S1x8x1024.Idx) :
    ((cfg0.win 4).blk t).view.read (Elt Ideal) (A (Pipeline.arrRef spec0 4)) y = A main_v6 ((win0_4.blk t).view.emb y) := rfl
theorem ib4 (t : Fin cfg0.N) (y : S1x8x1024.Idx) : iblk m c 4 t y = (concatenate S4x8x1024 1 [⟨S4x6x1024, (a3 m c)⟩, ⟨S4x1x1024, (broadcastInDim S4x1x1024 ![0, 2] bcast_S4x1024_S4x1x1024_0_2 (a4 m c))⟩, ⟨S4x1x1024, (broadcastInDim S4x1x1024 ![0, 2] bcast_S4x1024_S4x1x1024_0_2 (a5 m c))⟩] concatenates_S4x6x1024_S4x1x1024_S4x1x1024_S4x8x1024_d1) ((win0_4.blk t).view.emb y) :=
  (rd4 c (V m c) t y).trans (congrFun (V_4 m c) _)

/-- Row `i` of the block of point `t`. -/
def row (t : Fin cfg0.N) (i : Fin 512) : Fin 4096 := ⟨512 * t.val + i.val, by have : t.val < 8 := t.isLt; omega⟩

theorem blk0 (t : Fin cfg0.N) (i : Fin 512) (j : Fin 3200) : iblk m c 0 t (ix2 i j) = a0 m c (ix2 (row t i) j) :=
  (ib0 m c t _).trans (congrArg (a0 m c) (by unfold row; blk_ext [idx0 t]))
theorem blk2 (t : Fin cfg0.N) (i : Fin 512) (j : Fin 1024) : iblk m c 2 t (ix2 i j) = a1 m c (ix2 (row t i) j) :=
  (ib2 m c t _).trans (congrArg (a1 m c) (by unfold row; blk_ext [idx2 t]))
theorem blk3 (t : Fin cfg0.N) (i : Fin 512) (j : Fin 1024) : iblk m c 3 t (ix2 i j) = a2 m c (ix2 (row t i) j) :=
  (ib3 m c t _).trans (congrArg (a2 m c) (by unfold row; blk_ext [idx3 t]))
theorem blk4_1 (t : Fin cfg0.N) (j : Fin 1024) : iblk m c 4 t (ix3 (0 : Fin 1) (1 : Fin 8) j) = a3 m c (ix3 (0 : Fin 4) (1 : Fin 6) j) := by
  have e : (win0_4.blk t).view.emb (ix3 (0 : Fin 1) (1 : Fin 8) j) = ix3 (0 : Fin 4) (1 : Fin 8) j := by blk_ext [idx4 t]
  refine (ib4 m c t _).trans ((congrArg _ e).trans ?_)
  pointwise
theorem blk4_6 (t : Fin cfg0.N) (j : Fin 1024) : iblk m c 4 t (ix3 (0 : Fin 1) (6 : Fin 8) j) = a4 m c (ix2 (0 : Fin 4) j) := by
  have e : (win0_4.blk t).view.emb (ix3 (0 : Fin 1) (6 : Fin 8) j) = ix3 (0 : Fin 4) (6 : Fin 8) j := by blk_ext [idx4 t]
  refine (ib4 m c t _).trans ((congrArg _ e).trans ?_)
  pointwise
/-- The value that fills the columns up. -/
theorem zero : FloatOps.sitofp (F := Ideal) FTy.f32 (0#32) = (0 : EReal) := by
  show ((((0#32 : BitVec 32).toInt : ℝ)) : EReal) = 0
  simp
theorem blk1 (t : Fin cfg0.N) (k : Fin 1024) (j : Fin 3200) :
    iblk m c 1 t (ix2 k j) = if h : j.val < 3080 then a6 m c (ix3 (0 : Fin 4) k ⟨j.val, h⟩) else 0 := by
  have e : (win0_1.blk t).view.emb (ix2 k j) = ix2 k j := by blk_ext [idx1 t]
  refine (ib1 m c t _).trans ((congrArg _ e).trans ?_)
  pointwise
  rw [zero]

/-- The columns that fill up add nothing. -/
theorem filled (f : Fin 3200 → EReal) (w : Fin 3080 → EReal) :
    ∑ j : Fin 3200, f j * (if h : j.val < 3080 then w ⟨j.val, h⟩ else 0) = ∑ j : Fin 3080, f ⟨j.val, by omega⟩ * w j := by
  refine (Fin.sum_univ_add (a := 3080) (b := 120) (fun j => f j * (if h : j.val < 3080 then w ⟨j.val, h⟩ else 0))).trans ?_
  refine (congrArg₂ (fun x y : EReal => x + y) (Finset.sum_congr rfl fun j _ => ?_)
    (Finset.sum_eq_zero fun j _ => ?_ : _ = (0 : EReal))).trans (add_zero _)
  · exact congrArg (f _ * ·) (dif_pos j.isLt)
  · exact (congrArg (f _ * ·) (dif_neg (by show ¬ 3080 + j.val < 3080; omega))).trans (mul_zero _)

/-- The gradient at the norm's result. -/
def dh (dp : Vec Ideal S4096x3200 .bf16) (w : Vec Ideal S4x1024x3080 .f32) (i : Fin 4096) (k : Fin 1024) : EReal :=
  ∑ j : Fin 3080, dp (ix2 i ⟨j.val, by omega⟩) * w (ix3 0 k j)
/-- The first result. -/
def G5 (dp : Vec Ideal S4096x3200 .bf16) (x r : Vec Ideal S4096x1024 .f32) (md : Vec Ideal S4x6x1024 .f32) (n1 : Vec Ideal S4x1024 .f32)
    (w : Vec Ideal S4x1024x3080 .f32) : Vec Ideal S4096x1024 .f32 := fun y =>
  (r (ix2 (y 0) (y 1)) + through (fun a => x (ix2 (y 0) a)) (dh dp w (y 0)) (fun a => n1 (ix2 0 a)) (fun a => md (ix3 0 1 a)) (y 1) : EReal)
/-- The small gradients, block by block. -/
def G6 (dp : Vec Ideal S4096x3200 .bf16) (x : Vec Ideal S4096x1024 .f32) (md : Vec Ideal S4x6x1024 .f32) (n1 : Vec Ideal S4x1024 .f32)
    (w : Vec Ideal S4x1024x3080 .f32) : Vec Ideal S8x1024 .f32 := fun y =>
  (∑ t : Fin 8, part (fun i a => x (ix2 i a)) (dh dp w) (fun a => n1 (ix2 0 a)) (fun a => md (ix3 0 1 a)) t (y 0) (y 1) : EReal)

theorem pay6_apply (u : Vec Ideal S512x3200 .bf16) (v : Vec Ideal S1024x3200 .bf16) (i : Fin 512) (k : Fin 1024) :
    k0_pay6 (F := Ideal) u v (ix2 i k) = ∑ j : Fin 3200, u (ix2 i j) * v (ix2 k j) := by
  pointwise [k0_pay6]
/-- The gradient at the norm's result, of one block. -/
theorem dh_blk (t : Fin cfg0.N) (i : Fin 512) (k : Fin 1024) :
    k0_pay6 (F := Ideal) (iblk m c 0 t) (iblk m c 1 t) (ix2 i k) = dh (a0 m c) (a6 m c) (row t i) k := by
  rw [pay6_apply]
  simp only [blk0, blk1]
  exact filled (fun j => a0 m c (ix2 (row t i) j)) (fun j => a6 m c (ix3 0 k j))
theorem pay10_apply (x : Vec Ideal S512x1024 .f32) (i : Fin 512) (k : Fin 1024) :
    k0_pay10 (F := Ideal) x (ix2 i k) = x (ix2 i k) * rr (fun a => x (ix2 i a)) := by
  unfold rr Cert.Norm.var
  pointwise [k0_pay10, k0_pay9]
/-- The block's rows, normalised. -/
theorem xh_blk (t : Fin cfg0.N) (i : Fin 512) (k : Fin 1024) :
    k0_pay10 (F := Ideal) (iblk m c 2 t) (ix2 i k) = a1 m c (ix2 (row t i) k) * rr (fun a => a1 m c (ix2 (row t i) a)) := by
  rw [pay10_apply]
  simp only [blk2]
theorem pay1_apply (d : Vec Ideal S512x1024 .f32) (g s : Vec Ideal S1x1024 .f32) (q : Vec Ideal S512x1 .f32) (xh : Vec Ideal S512x1024 .f32)
    (r : Vec Ideal S512x1024 .f32) (i : Fin 512) (k : Fin 1024) :
    k0_pay1 (F := Ideal) d g s q xh k0_pay14 r (ix2 i k) = r (ix2 i k) + q (ix2 i 0) * (d (ix2 i k) * (g (ix2 0 k) * (1 + s (ix2 0 k)))
      - xh (ix2 i k) * Ideal.div (∑ a : Fin 1024, d (ix2 i a) * (g (ix2 0 a) * (1 + s (ix2 0 a))) * xh (ix2 i a)) Cert.Norm.width) := by
  pointwise [k0_pay1, k0_pay14]
theorem pay9_apply (x : Vec Ideal S512x1024 .f32) (i : Fin 512) :
    k0_pay9 (F := Ideal) x (ix2 i 0) = rr (fun a => x (ix2 i a)) := by
  unfold rr Cert.Norm.var
  pointwise [k0_pay9]
theorem rows_blk (t : Fin cfg0.N) (g s : Vec Ideal S1x1x1024 .f32) (hg : ∀ j, g (ix3 0 0 j) = a4 m c (ix2 0 j))
    (hs : ∀ j, s (ix3 0 0 j) = a3 m c (ix3 0 1 j)) (i : Fin 512) (k : Fin 1024) :
    k0_pay1 (F := Ideal) (k0_pay6 (iblk m c 0 t) (iblk m c 1 t)) (k0_pay7 g) (k0_pay8 s) (k0_pay9 (iblk m c 2 t)) (k0_pay10 (iblk m c 2 t)) k0_pay14 (iblk m c 3 t) (ix2 i k)
      = G5 (a0 m c) (a1 m c) (a2 m c) (a3 m c) (a4 m c) (a6 m c) (ix2 (row t i) k) := by
  have hg' : ∀ j, k0_pay7 (F := Ideal) g (ix2 0 j) = a4 m c (ix2 0 j) := fun j => by
    rw [← hg]; pointwise [k0_pay7]
  have hs' : ∀ j, k0_pay8 (F := Ideal) s (ix2 0 j) = a3 m c (ix3 0 1 j) := fun j => by
    rw [← hs]; pointwise [k0_pay8]
  refine (pay1_apply _ _ _ _ _ _ i k).trans ?_
  simp only [dh_blk, xh_blk, pay9_apply, hg', hs', blk2, blk3]
  rfl

theorem final5 : (dats m 0 c).arrAt 5 cfg0.N = G5 (a0 m c) (a1 m c) (a2 m c) (a3 m c) (a4 m c) (a6 m c) := by
  refine (dats m 0 c).arrAt_eq_of_covers 5 _ (by decide +kernel) fun t hf y => ?_
  blk_simp
  rw [after0_5]
  idx_vars y
  have e : (win0_5.blk t).view.emb (ix2 y0 y1) = ix2 (row t y0) y1 := by unfold row; blk_ext [idx5 t]
  refine Eq.trans ?_ (congrArg _ e.symm)
  by_cases h : t.val % 8 = 0
  · rw [outsAt0_A m c t h]
    frame_out
    exact rows_blk m c t _ _ (fun j => by pointwise; exact blk4_6 m c t j) (fun j => by pointwise; exact blk4_1 m c t j) y0 y1
  · rw [outsAt0_B m c t h]
    frame_out
    exact rows_blk m c t _ _ (fun j => by pointwise; exact blk4_6 m c t j) (fun j => by pointwise; exact blk4_1 m c t j) y0 y1

/-- The point as a number of a block. -/
def blk (t : Fin cfg0.N) : Fin 8 := ⟨t.val, t.isLt⟩
/-- What one point adds. -/
abbrev term (t : Fin cfg0.N) (p : Fin 8) (j : Fin 1024) : EReal :=
  part (fun i a => a1 m c (ix2 i a)) (dh (a0 m c) (a6 m c)) (fun a => a4 m c (ix2 0 a)) (fun a => a3 m c (ix3 0 1 a)) (blk t) p j

theorem dsh (t : Fin cfg0.N) (u : Vec Ideal S1x1024 .f32) (j : Fin 1024) :
    k0_pay2 (F := Ideal) (k0_pay11 (iblk m c 0 t) (iblk m c 1 t)) u (ix2 0 j) = u (ix2 0 j) + term m c t 0 j := by
  have h : k0_pay2 (F := Ideal) (k0_pay11 (iblk m c 0 t) (iblk m c 1 t)) u (ix2 0 j)
      = u (ix2 0 j) + ∑ i : Fin 512, k0_pay6 (F := Ideal) (iblk m c 0 t) (iblk m c 1 t) (ix2 i j) := by
    unfold k0_pay11
    generalize k0_pay6 (F := Ideal) (iblk m c 0 t) (iblk m c 1 t) = d
    pointwise [k0_pay2]
  rw [h]
  simp only [dh_blk]
  rfl
theorem dsc (t : Fin cfg0.N) (g : Vec Ideal S1x1x1024 .f32) (hg : ∀ j, g (ix3 0 0 j) = a4 m c (ix2 0 j)) (u : Vec Ideal S1x1024 .f32) (j : Fin 1024) :
    k0_pay3 (F := Ideal) (k0_pay12 (iblk m c 0 t) (iblk m c 1 t) g (iblk m c 2 t)) u (ix2 0 j) = u (ix2 0 j) + term m c t 1 j := by
  have h : k0_pay3 (F := Ideal) (k0_pay12 (iblk m c 0 t) (iblk m c 1 t) g (iblk m c 2 t)) u (ix2 0 j)
      = u (ix2 0 j) + (∑ i : Fin 512, k0_pay6 (F := Ideal) (iblk m c 0 t) (iblk m c 1 t) (ix2 i j) * k0_pay10 (F := Ideal) (iblk m c 2 t) (ix2 i j)) * g (ix3 0 0 j) := by
    unfold k0_pay12
    generalize k0_pay6 (F := Ideal) (iblk m c 0 t) (iblk m c 1 t) = d
    generalize k0_pay10 (F := Ideal) (iblk m c 2 t) = x
    pointwise [k0_pay3, k0_pay7]
  rw [h, hg]
  simp only [dh_blk, xh_blk]
  rfl
theorem dng (t : Fin cfg0.N) (s : Vec Ideal S1x1x1024 .f32) (hs : ∀ j, s (ix3 0 0 j) = a3 m c (ix3 0 1 j)) (u : Vec Ideal S1x1024 .f32) (j : Fin 1024) :
    k0_pay4 (F := Ideal) (k0_pay13 (iblk m c 0 t) (iblk m c 1 t) s (iblk m c 2 t)) u (ix2 0 j) = u (ix2 0 j) + term m c t 2 j := by
  have h : k0_pay4 (F := Ideal) (k0_pay13 (iblk m c 0 t) (iblk m c 1 t) s (iblk m c 2 t)) u (ix2 0 j)
      = u (ix2 0 j) + (∑ i : Fin 512, k0_pay6 (F := Ideal) (iblk m c 0 t) (iblk m c 1 t) (ix2 i j) * k0_pay10 (F := Ideal) (iblk m c 2 t) (ix2 i j)) * (1 + s (ix3 0 0 j)) := by
    unfold k0_pay13
    generalize k0_pay6 (F := Ideal) (iblk m c 0 t) (iblk m c 1 t) = d
    generalize k0_pay10 (F := Ideal) (iblk m c 2 t) = x
    pointwise [k0_pay4, k0_pay8]
  rw [h, hs]
  simp only [dh_blk, xh_blk]
  rfl
theorem zeros (p : Fin 8) (j : Fin 1024) : k0_pay5 (F := Ideal) (ix2 p j) = 0 := by
  pointwise [k0_pay5]

theorem acc_B (t : Fin cfg0.N) (h : ¬ t.val % 8 = 0) (p : Fin 8) (j : Fin 1024) :
    (outsAt0 m c t.val t.isLt).2 (ix2 p j)
      = (outsAt0 m c (t.val - 1) (Nat.lt_of_le_of_lt (Nat.sub_le _ _) t.isLt)).2 (ix2 p j) + term m c t p j := by
  rw [outsAt0_B m c t h]
  frame_out
  by_cases h2 : p.val = 2
  · obtain rfl : p = 2 := Fin.ext h2
    rw [View.read_writes_cons_unit_of_mem _ _ _ _ _ _ (ix2 0 j) rfl (by intro a; fin_cases a <;> simp)]
    refine (dng m c t _ (fun j => by pointwise; exact blk4_1 m c t j) _ j).trans ?_
    pointwise
  rw [View.read_writes_cons_unit_of_not_mem _ _ _ _ _ _ rfl 0 (by simp; omega)]
  by_cases h1 : p.val = 1
  · obtain rfl : p = 1 := Fin.ext h1
    rw [View.read_writes_cons_unit_of_mem _ _ _ _ _ _ (ix2 0 j) rfl (by intro a; fin_cases a <;> simp)]
    refine (dsc m c t _ (fun j => by pointwise; exact blk4_6 m c t j) _ j).trans ?_
    pointwise
  rw [View.read_writes_cons_unit_of_not_mem _ _ _ _ _ _ rfl 0 (by simp; omega)]
  by_cases h0 : p.val = 0
  · obtain rfl : p = 0 := Fin.ext h0
    rw [View.read_writes_cons_unit_of_mem _ _ _ _ _ _ (ix2 0 j) rfl (by intro a; fin_cases a <;> simp)]
    refine (dsh m c t _ j).trans ?_
    pointwise
  rw [View.read_writes_cons_unit_of_not_mem _ _ _ _ _ _ rfl 0 (by simp; omega)]
  rw [term, part, if_neg h0, if_neg h1, if_neg h2, add_zero]
  exact congrFun (Memref.IsWhole.read_unread _ _) _

theorem acc_A (t : Fin cfg0.N) (h : t.val % 8 = 0) (p : Fin 8) (j : Fin 1024) :
    (outsAt0 m c t.val t.isLt).2 (ix2 p j) = 0 + term m c t p j := by
  rw [outsAt0_A m c t h]
  frame_out
  by_cases h2 : p.val = 2
  · obtain rfl : p = 2 := Fin.ext h2
    rw [canon_mem _ _ _ _ (ix2 0 j) (by intro a; fin_cases a <;> simp)]
    refine (dng m c t _ (fun j => by pointwise; exact blk4_1 m c t j) _ j).trans ?_
    rw [readCov_at _ _ _ _ (ix2 2 j) (by intro a; fin_cases a <;> simp), canon_not_mem _ _ _ _ 0 (by simp), canon_not_mem _ _ _ _ 0 (by simp),
      canon_mem _ _ _ _ (ix2 2 j) (by intro a; fin_cases a <;> simp), zeros]
  rw [canon_not_mem _ _ _ _ 0 (by simp; omega)]
  by_cases h1 : p.val = 1
  · obtain rfl : p = 1 := Fin.ext h1
    rw [canon_mem _ _ _ _ (ix2 0 j) (by intro a; fin_cases a <;> simp)]
    refine (dsc m c t _ (fun j => by pointwise; exact blk4_6 m c t j) _ j).trans ?_
    rw [readCov_at _ _ _ _ (ix2 1 j) (by intro a; fin_cases a <;> simp), canon_not_mem _ _ _ _ 0 (by simp),
      canon_mem _ _ _ _ (ix2 1 j) (by intro a; fin_cases a <;> simp), zeros]
  rw [canon_not_mem _ _ _ _ 0 (by simp; omega)]
  by_cases h0 : p.val = 0
  · obtain rfl : p = 0 := Fin.ext h0
    rw [canon_mem _ _ _ _ (ix2 0 j) (by intro a; fin_cases a <;> simp)]
    refine (dsh m c t _ j).trans ?_
    rw [readCov_at _ _ _ _ (ix2 0 j) (by intro a; fin_cases a <;> simp),
      canon_mem _ _ _ _ (ix2 0 j) (by intro a; fin_cases a <;> simp), zeros]
  rw [canon_not_mem _ _ _ _ 0 (by simp; omega), canon_mem _ _ _ _ (ix2 p j) (by intro a; fin_cases a <;> simp), zeros,
    term, part, if_neg h0, if_neg h1, if_neg h2, add_zero]

theorem sum_blk (f : Fin 8 → EReal) : ∑ t : Fin cfg0.N, f (blk t) = ∑ n : Fin 8, f n := by
  have hN : cfg0.N = 8 := N_0
  refine Function.Bijective.sum_comp ((Fintype.bijective_iff_injective_and_card blk).mpr ⟨fun a b h => ?_, ?_⟩) f
  · have := Fin.ext_iff.mp h
    simp only [blk] at this
    exact Fin.ext (by omega)
  · simp [hN]

/-- The last point. -/
def tlast : Fin cfg0.N := ⟨7, by rw [show cfg0.N = 8 from N_0]; decide⟩

theorem final6 : (dats m 0 c).arrAt 6 cfg0.N = G6 (a0 m c) (a1 m c) (a3 m c) (a4 m c) (a6 m c) := by
  refine Dat.arrAt_eq_of_after_last _ 6 tlast (by decide +kernel) _ fun y => ?_
  blk_simp
  rw [after0_6]
  have hy : ∀ y : S8x1024.Idx, (outsAt0 m c tlast.val tlast.isLt).2 y = G6 (a0 m c) (a1 m c) (a3 m c) (a4 m c) (a6 m c) y := by
    intro y
    idx_vars y
    rw [Pipeline.eq_sum_fin_of_reset_step_apply_last (fun n h (q : Fin 8 × Fin 1024) => (outsAt0 m c n h).2 (ix2 q.1 q.2)) 8
      (fun _ => 0) (fun t q => term m c t q.1 q.2) (fun t h q => acc_A m c t h _ _ ) (fun t h q => acc_B m c t h _ _ )
      (le_of_eq N_0) tlast rfl (_, _), zero_add]
    exact sum_blk fun n => part (fun i a => a1 m c (ix2 i a)) (dh (a0 m c) (a6 m c)) (fun a => a4 m c (ix2 0 a)) (fun a => a3 m c (ix3 0 1 a)) n _ _
  exact hy y

end Cert.Kernel8Ideal.Fold

namespace Cert.Reference8Ideal.Ref

open Idealize.ShloMosaic Idealize.ShloMosaic.TcCoe Cert.Reference8Ideal Cert.Reference8Ideal.Gen Cert.Reference8Ideal.Read

open Cert.Finite
open Cert.Norm (rr through part mean small through_eq small_eq)

theorem value65 (x0 : Vec Ideal S4096x3200 .bf16) (x1 x2 : Vec Ideal S4096x1024 .f32) (x3 : Vec Ideal S4x6x1024 .f32) (x4 : Vec Ideal S4x1024 .f32)
    (x6 : Vec Ideal S4x1024x3080 .f32) :
    val_main_v65 (F := Ideal) x0 x1 x2 x3 x4 x6 = Cert.Kernel8Ideal.Fold.G5 x0 x1 x2 x3 x4 x6 := by
  funext y; idx_vars y
  refine Eq.trans ?_ (through_eq _ y1).symm
  unfold mean rr Cert.Norm.var Cert.Kernel8Ideal.Fold.dh
  pointwise [val_main_v65, val_main_v63, val_main_v56, val_main_v55, val_main_v49, val_main_v43, val_main_v35, val_main_v34, val_main_v33, val_main_v31, val_main_v30, val_main_v42, val_main_v24, val_main_v23, val_main_v22, val_main_cst_3, val_main_v3, val_main_v2, val_main_v48, val_main_v19, val_main_v5, val_main_v4, val_main_v54, val_main_v13, val_main_v12, val_main_v10, val_main_v8, val_main_v7, val_main_v6, val_main_cst, val_main_v9, val_main_cst_0, val_main_v11, val_main_cst_1, val_main_v62, val_main_v61, val_main_v60, val_main_v59, val_main_v57, val_main_v53, val_main_v52, val_main_v51, val_main_cst_10, val_main_v16, val_main_v15, val_main_cst_2, val_main_v14, val_main_v58, val_main_cst_11, val_main_cst_12, val_main_v64]
  simp only [Finset.univ_unique, Finset.sum_singleton]

theorem value70 (x0 : Vec Ideal S4096x3200 .bf16) (x1 : Vec Ideal S4096x1024 .f32) (x3 : Vec Ideal S4x6x1024 .f32) (x4 : Vec Ideal S4x1024 .f32)
    (x6 : Vec Ideal S4x1024x3080 .f32) (h0 : ∀ i, Re (x0 i)) (h3 : ∀ i, Re (x3 i))
    (h4 : ∀ i, Re (x4 i)) (h6 : ∀ i, Re (x6 i)) :
    val_main_v70 (F := Ideal) x0 x1 x3 x4 x6 = Cert.Kernel8Ideal.Fold.G6 x0 x1 x3 x4 x6 := by
  funext y; idx_vars y
  refine Eq.trans ?_ (small_eq (fun i k => Re.sum fun j => (h0 _).mul (h6 _)) (fun k => h4 _) (fun k => h3 _) y0 y1).symm
  unfold small rr Cert.Norm.var
  pointwise [val_main_v70, val_main_v69, val_main_v66, val_main_v38, val_main_v37, val_main_v36, val_main_v35, val_main_v34, val_main_v33, val_main_v31, val_main_v30, val_main_cst_4, val_main_cst_5, val_main_v67, val_main_v44, val_main_v41, val_main_v40, val_main_v39, val_main_v21, val_main_v18, val_main_v17, val_main_v13, val_main_v12, val_main_v10, val_main_v8, val_main_v7, val_main_v6, val_main_cst, val_main_v9, val_main_cst_0, val_main_v11, val_main_cst_1, val_main_v20, val_main_v19, val_main_v5, val_main_v4, val_main_cst_6, val_main_cst_7, val_main_v68, val_main_v50, val_main_v47, val_main_v46, val_main_v45, val_main_v43, val_main_v42, val_main_v24, val_main_v23, val_main_v22, val_main_cst_3, val_main_v3, val_main_v2, val_main_cst_8, val_main_cst_9, val_main_call0_v0, val_main_c]
  simp only [Finset.univ_unique, Finset.sum_singleton]
  by_cases e0 : y0.val = 0
  · rw [dif_pos (by omega), dif_pos (by omega), if_pos e0]
  rw [if_neg e0]
  by_cases e1 : y0.val = 1
  · rw [dif_pos (by omega), dif_neg (by omega), dif_pos (by omega), if_pos e1]
  rw [if_neg e1]
  by_cases e2 : y0.val = 2
  · rw [dif_pos (by omega), dif_neg (by omega), dif_neg (by omega), if_pos e2]
  rw [if_neg e2, dif_neg (by omega)]
  exact Cert.Kernel8Ideal.Fold.zero

end Cert.Reference8Ideal.Ref

namespace Cert.Proof.K8

open Idealize.ShloMosaic Idealize.SL.Sem

/-- The reference runs to its end, keeps its arguments and has no semaphores. -/
theorem reference_frame : Cert.quiescent_Reference8Ideal (hReference8Ideal := Cert.Reference8Ideal.Gen.facts) := fun m ρ _ =>
  (θ_run Cert.Reference8Ideal.defs _ _).mono (fun r h => ⟨fun c => (h c).2.2,
      Idealize.ShloMosaic.sem_eq_zero_of_no_sems (by decide) r.2⟩)
    (Cert.Reference8Ideal.Value.run m ρ)

/-- The kernel's results are the reference's, of finite arguments that agree. -/
theorem algebraic : Cert.algebraic_Kernel8Ideal_Reference8Ideal_pre_finite8 (hKernel8Ideal := Cert.Kernel8Ideal.Gen.facts)
    (hReference8Ideal := Cert.Reference8Ideal.Gen.facts) (hPre_finite8 := Cert.Pre_finite8.Gen.facts) := by
  intro m ρ m' ρ' hpre hagree
  have f0 : ∀ (c : Dev Cert.Kernel8Ideal.nD) i, Cert.Finite.Re ((m ((c.tc : Thread Cert.Kernel8Ideal.nD Cert.Kernel8Ideal.τ).loc Cert.Kernel8Ideal.main_arg0) : _ → EReal) i)   := fun c i =>
    Cert.Finite.re_of_lt Cert.Finite.inf16 (congrFun (hpre c).1 i)
  have f3 : ∀ (c : Dev Cert.Kernel8Ideal.nD) i, Cert.Finite.Re ((m ((c.tc : Thread Cert.Kernel8Ideal.nD Cert.Kernel8Ideal.τ).loc Cert.Kernel8Ideal.main_arg3) : _ → EReal) i)   := fun c i =>
    Cert.Finite.re_of_lt Cert.Finite.inf32 (congrFun (hpre c).2.1 i)
  have f4 : ∀ (c : Dev Cert.Kernel8Ideal.nD) i, Cert.Finite.Re ((m ((c.tc : Thread Cert.Kernel8Ideal.nD Cert.Kernel8Ideal.τ).loc Cert.Kernel8Ideal.main_arg4) : _ → EReal) i)   := fun c i =>
    Cert.Finite.re_of_lt Cert.Finite.inf32 (congrFun (hpre c).2.2.1 i)
  have f6 : ∀ (c : Dev Cert.Kernel8Ideal.nD) i, Cert.Finite.Re ((m ((c.tc : Thread Cert.Kernel8Ideal.nD Cert.Kernel8Ideal.τ).loc Cert.Kernel8Ideal.main_arg6) : _ → EReal) i)   := fun c i =>
    Cert.Finite.re_of_lt Cert.Finite.inf32 (congrFun (hpre c).2.2.2 i)
  refine ⟨fun c => (Cert.Kernel8Ideal.Gen.dats m 0 c).arrAt 5 Cert.Kernel8Ideal.cfg0.N, fun c => (Cert.Kernel8Ideal.Gen.dats m 0 c).arrAt 6 Cert.Kernel8Ideal.cfg0.N, ?_, ?_⟩
  · refine (θ_run Cert.Kernel8Ideal.defs _ _).mono (fun r h c => ?_) (Cert.Kernel8Ideal.Value.run_blocks m ρ)
    exact h c
  · refine (θ_run Cert.Reference8Ideal.defs _ _).mono (fun r h c => ?_) (Cert.Reference8Ideal.Value.run (F := Ideal) m' ρ')
    obtain ⟨h0, h1, hk⟩ := h c
    obtain ⟨g0, g1, g2, g3, g4, g5, g6⟩ := hagree c
    refine ⟨h0.trans ?_, h1.trans ?_, hk⟩
    · rw [Cert.Reference8Ideal.Read.val_main_v65_eq, g0, g1, g2, g3, g4, g6]
      exact (Cert.Reference8Ideal.Ref.value65 _ _ _ _ _ _).trans (Cert.Kernel8Ideal.Fold.final5 m c).symm
    · rw [Cert.Reference8Ideal.Read.val_main_v70_eq, g0, g1, g3, g4, g6]
      exact (Cert.Reference8Ideal.Ref.value70 _ _ _ _ _ (f0 c) (f3 c) (f4 c) (f6 c)).trans (Cert.Kernel8Ideal.Fold.final6 m c).symm

end Cert.Proof.K8

end
-- ==== Proof.K9.lean ====
/-
  The first norm and the projection into the mixer: each row block of the two results is the reference's, the columns
  that fill the projection up being zero.
-/
module

public import proofs.«01_k».proof.Defs
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel9Ideal.Fold

open Idealize.ShloMosaic Idealize.ShloMosaic.TcCoe Idealize.SL.Sem Cert.Kernel9Ideal Cert.Kernel9Ideal.Gen
open Idealize.ShloMosaic.Pipeline (Dat)

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel

/-- The arguments, as arrays. -/
abbrev a0 : Vec Ideal S4096x1024 .f32 := m ((c : Thread nD τ).loc main_arg0)
abbrev a1 : Vec Ideal S4x6x1024 .f32 := m ((c : Thread nD τ).loc main_arg1)
abbrev a2 : Vec Ideal S4x1024 .f32 := m ((c : Thread nD τ).loc main_arg2)
abbrev a3 : Vec Ideal S4x1024 .f32 := m ((c : Thread nD τ).loc main_arg3)
abbrev a4 : Vec Ideal S4x1024x3080 .f32 := m ((c : Thread nD τ).loc main_arg4)

/-! What the host hands to the kernel's windows, and the windows' blocks read off it. -/

theorem rd0 (A : (b : Ref sig .tc) → Buf (Elt Ideal) ((c : Thread nD τ).loc b)) (t : Fin cfg0.N) (y : S512x1024.Idx) :
    ((cfg0.win 0).blk t).view.read (Elt Ideal) (A (Pipeline.arrRef spec0 0)) y = A main_arg0 ((win0_0.blk t).view.emb y) := rfl
theorem ib0 (t : Fin cfg0.N) (y : S512x1024.Idx) : iblk m c 0 t y = (a0 m c) ((win0_0.blk t).view.emb y) :=
  (rd0 c (V m c) t y).trans (congrFun (V_main_arg0 m c) _)
theorem V_1 : V m c main_v2 = concatenate S4x8x1024 1 [⟨S4x6x1024, (a1 m c)⟩, ⟨S4x1x1024, (broadcastInDim S4x1x1024 ![0, 2] bcast_S4x1024_S4x1x1024_0_2 (a2 m c))⟩, ⟨S4x1x1024, (broadcastInDim S4x1x1024 ![0, 2] bcast_S4x1024_S4x1x1024_0_2 (a3 m c))⟩] concatenates_S4x6x1024_S4x1x1024_S4x1x1024_S4x8x1024_d1 := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd1 (A : (b : Ref sig .tc) → Buf (Elt Ideal) ((c : Thread nD τ).loc b)) (t : Fin cfg0.N) (y : S1x8x1024.Idx) :
    ((cfg0.win 1).blk t).view.read (Elt Ideal) (A (Pipeline.arrRef spec0 1)) y = A main_v2 ((win0_1.blk t).view.emb y) := rfl
theorem ib1 (t : Fin cfg0.N) (y : S1x8x1024.Idx) : iblk m c 1 t y = (concatenate S4x8x1024 1 [⟨S4x6x1024, (a1 m c)⟩, ⟨S4x1x1024, (broadcastInDim S4x1x1024 ![0, 2] bcast_S4x1024_S4x1x1024_0_2 (a2 m c))⟩, ⟨S4x1x1024, (broadcastInDim S4x1x1024 ![0, 2] bcast_S4x1024_S4x1x1024_0_2 (a3 m c))⟩] concatenates_S4x6x1024_S4x1x1024_S4x1x1024_S4x8x1024_d1) ((win0_1.blk t).view.emb y) :=
  (rd1 c (V m c) t y).trans (congrFun (V_1 m c) _)
theorem V_2 : V m c main_v6 = truncf (F := Ideal) .bf16 (pad S1024x3200 ![0, 0] ![0, 120] ![0, 0] (shapeCast S1024x3080 (extractStridedSlice S1x1024x3080 ![0, 0, 0] (a4 m c) slices_S4x1024x3080_S1x1024x3080_0_0_0) shapeCasts_S1x1024x3080_S1024x3080) (sitofp (F := Ideal) .f32 (constantI S_ 32 0#32)) pads_S1024x3080_S1024x3200_000_01200 h_S_) bitsLt_bf16_f32 := by
  simp only [V, hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd2 (A : (b : Ref sig .tc) → Buf (Elt Ideal) ((c : Thread nD τ).loc b)) (t : Fin cfg0.N) (y : S1024x3200.Idx) :
    ((cfg0.win 2).blk t).view.read (Elt Ideal) (A (Pipeline.arrRef spec0 2)) y = A main_v6 ((win0_2.blk t).view.emb y) := rfl
theorem ib2 (t : Fin cfg0.N) (y : S1024x3200.Idx) : iblk m c 2 t y = (truncf (F := Ideal) .bf16 (pad S1024x3200 ![0, 0] ![0, 120] ![0, 0] (shapeCast S1024x3080 (extractStridedSlice S1x1024x3080 ![0, 0, 0] (a4 m c) slices_S4x1024x3080_S1x1024x3080_0_0_0) shapeCasts_S1x1024x3080_S1024x3080) (sitofp (F := Ideal) .f32 (constantI S_ 32 0#32)) pads_S1024x3080_S1024x3200_000_01200 h_S_) bitsLt_bf16_f32) ((win0_2.blk t).view.emb y) :=
  (rd2 c (V m c) t y).trans (congrFun (V_2 m c) _)

/-- The normalised, scaled and shifted row at place `k`. -/
def nrm (x g s h : Fin 1024 → EReal) (k : Fin 1024) : EReal :=
  x k * Ideal.rsqrt (Ideal.div (∑ a : Fin 1024, x a * x a) (Ideal.ofBits .f32 0x44800000#32) + Ideal.ofBits .f32 0x358637BD#32) * g k
    * (1 + s k) + h k

/-- The normalised rows, element by element. -/
def H (x : Vec Ideal S4096x1024 .f32) (md : Vec Ideal S4x6x1024 .f32) (n1 : Vec Ideal S4x1024 .f32) (i : Fin 4096) (k : Fin 1024) : EReal :=
  nrm (fun a => x (ix2 i a)) (fun a => n1 (ix2 0 a)) (fun a => md (ix3 0 1 a)) (fun a => md (ix3 0 0 a)) k
def G4 (x : Vec Ideal S4096x1024 .f32) (md : Vec Ideal S4x6x1024 .f32) (n1 : Vec Ideal S4x1024 .f32) : Vec Ideal S4096x1024 .bf16 := fun y =>
  H x md n1 (y 0) (y 1)
/-- The projection, element by element. -/
def G3 (x : Vec Ideal S4096x1024 .f32) (md : Vec Ideal S4x6x1024 .f32) (n1 : Vec Ideal S4x1024 .f32) (w : Vec Ideal S4x1024x3080 .f32) :
    Vec Ideal S4096x3200 .f32 := fun y =>
  if h : (y 1).val < 3080 then ∑ k : Fin 1024, H x md n1 (y 0) k * w (ix3 0 k ⟨(y 1).val, h⟩) else 0

theorem pay1_apply (x : Vec Ideal S512x1024 .f32) (g s h : Vec Ideal S1x1x1024 .f32) (i : Fin 512) (k : Fin 1024) :
    k0_pay1 (F := Ideal) x g s h (ix2 i k) =
      nrm (fun a => x (ix2 i a)) (fun a => g (ix3 0 0 a)) (fun a => s (ix3 0 0 a)) (fun a => h (ix3 0 0 a)) k := by
  unfold nrm; pointwise [k0_pay1]; rw [mul_assoc, mul_assoc, mul_assoc]
theorem pay2_apply (x : Vec Ideal S512x1024 .f32) (g s h : Vec Ideal S1x1x1024 .f32) (w : Vec Ideal S1024x3200 .bf16) (i : Fin 512) (j : Fin 3200) :
    k0_pay2 (F := Ideal) x g s h w (ix2 i j) =
      ∑ k : Fin 1024, nrm (fun a => x (ix2 i a)) (fun a => g (ix3 0 0 a)) (fun a => s (ix3 0 0 a)) (fun a => h (ix3 0 0 a)) k * w (ix2 k j) := by
  have e : ∀ k, k0_pay1 (F := Ideal) x g s h (ix2 i k) = _ := fun k => pay1_apply x g s h i k
  unfold k0_pay2
  pointwise
  exact Finset.sum_congr rfl fun k _ => by rw [e k]

/-- The value that fills the columns up. -/
theorem zero : FloatOps.sitofp (F := Ideal) FTy.f32 (0#32) = (0 : EReal) := by
  show ((((0#32 : BitVec 32).toInt : ℝ)) : EReal) = 0
  simp

/-- Row `i` of block `t`. -/
def row (t : Fin cfg0.N) (i : Fin 512) : Fin 4096 := ⟨512 * t.val + i.val, by have : t.val < 8 := t.isLt; omega⟩

theorem blk0 (t : Fin cfg0.N) (i : Fin 512) (j : Fin 1024) : iblk m c 0 t (ix2 i j) = a0 m c (ix2 (row t i) j) :=
  (ib0 m c t _).trans (congrArg (a0 m c) (by unfold row; blk_ext [idx0 t]))
theorem blk1_0 (t : Fin cfg0.N) (j : Fin 1024) : iblk m c 1 t (ix3 (0 : Fin 1) (0 : Fin 8) j) = a1 m c (ix3 (0 : Fin 4) (0 : Fin 6) j) := by
  have e : (win0_1.blk t).view.emb (ix3 (0 : Fin 1) (0 : Fin 8) j) = ix3 (0 : Fin 4) (0 : Fin 8) j := by blk_ext [idx1 t]
  refine (ib1 m c t _).trans ((congrArg _ e).trans ?_)
  pointwise
theorem blk1_1 (t : Fin cfg0.N) (j : Fin 1024) : iblk m c 1 t (ix3 (0 : Fin 1) (1 : Fin 8) j) = a1 m c (ix3 (0 : Fin 4) (1 : Fin 6) j) := by
  have e : (win0_1.blk t).view.emb (ix3 (0 : Fin 1) (1 : Fin 8) j) = ix3 (0 : Fin 4) (1 : Fin 8) j := by blk_ext [idx1 t]
  refine (ib1 m c t _).trans ((congrArg _ e).trans ?_)
  pointwise
theorem blk1_6 (t : Fin cfg0.N) (j : Fin 1024) : iblk m c 1 t (ix3 (0 : Fin 1) (6 : Fin 8) j) = a2 m c (ix2 (0 : Fin 4) j) := by
  have e : (win0_1.blk t).view.emb (ix3 (0 : Fin 1) (6 : Fin 8) j) = ix3 (0 : Fin 4) (6 : Fin 8) j := by blk_ext [idx1 t]
  refine (ib1 m c t _).trans ((congrArg _ e).trans ?_)
  pointwise
theorem blk2 (t : Fin cfg0.N) (k : Fin 1024) (j : Fin 3200) :
    iblk m c 2 t (ix2 k j) = if h : j.val < 3080 then a4 m c (ix3 (0 : Fin 4) k ⟨j.val, h⟩) else 0 := by
  have e : (win0_2.blk t).view.emb (ix2 k j) = ix2 k j := by blk_ext [idx2 t]
  refine (ib2 m c t _).trans ((congrArg _ e).trans ?_)
  pointwise
  rw [zero]

theorem final4 : (dats m 0 c).arrAt 4 cfg0.N = G4 (a0 m c) (a1 m c) (a2 m c) := by
  refine (dats m 0 c).arrAt_eq_of_covers 4 _ (by decide +kernel) fun t hf y => ?_
  blk_simp
  rw [after0_4]
  frame_out
  idx_vars y
  have e : (win0_4.blk t).view.emb (ix2 y0 y1) = ix2 (row t y0) y1 := by unfold row; blk_ext [idx4 t]
  refine Eq.trans ?_ (congrArg _ e.symm)
  refine (pay1_apply _ _ _ _ y0 y1).trans ?_
  unfold G4 H
  pointwise
  simp only [blk0, blk1_0, blk1_1, blk1_6]

theorem final3 : (dats m 0 c).arrAt 3 cfg0.N = G3 (a0 m c) (a1 m c) (a2 m c) (a4 m c) := by
  refine (dats m 0 c).arrAt_eq_of_covers 3 _ (by decide +kernel) fun t hf y => ?_
  blk_simp
  rw [after0_3]
  frame_out
  idx_vars y
  have e : (win0_3.blk t).view.emb (ix2 y0 y1) = ix2 (row t y0) y1 := by unfold row; blk_ext [idx3 t]
  refine Eq.trans ?_ (congrArg _ e.symm)
  refine (pay2_apply _ _ _ _ _ y0 y1).trans ?_
  unfold G3 H
  pointwise
  simp only [blk0, blk1_0, blk1_1, blk1_6, blk2]
  by_cases h : y1.val < 3080
  · simp only [h, dif_pos]
  · simp only [h, dif_neg, not_false_eq_true, mul_zero, Finset.sum_const_zero]

end Cert.Kernel9Ideal.Fold

namespace Cert.Reference9Ideal.Ref

open Idealize.ShloMosaic Idealize.ShloMosaic.TcCoe Cert.Reference9Ideal Cert.Reference9Ideal.Gen Cert.Reference9Ideal.Read

open Cert.Kernel9Ideal.Fold (G3 G4 H nrm zero)

/-- The reference's normalised rows, element by element. -/
theorem ref_h (x0 : Vec Ideal S4096x1024 .f32) (x1 : Vec Ideal S4x6x1024 .f32) (x2 : Vec Ideal S4x1024 .f32) (i : Fin 4096) (k : Fin 1024) :
    val_main_v24 (F := Ideal) x0 x1 x2 (ix2 i k) = H x0 x1 x2 i k := by
  unfold H nrm
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_cst_2, val_main_v17, val_main_v18, val_main_v19, val_main_v20, val_main_v21, val_main_v22, val_main_v23, val_main_v24, val_main_v25, val_main_v26, val_main_v27, val_main_c, val_main_call0_v0, val_main_v28, val_main_v29]
theorem value4 (x0 : Vec Ideal S4096x1024 .f32) (x1 : Vec Ideal S4x6x1024 .f32) (x2 : Vec Ideal S4x1024 .f32) :
    val_main_v29 (F := Ideal) x0 x1 x2 = G4 x0 x1 x2 := by
  funext y
  idx_vars y
  unfold val_main_v29 G4
  pointwise
  exact ref_h x0 x1 x2 y0 y1
theorem value3 (x0 : Vec Ideal S4096x1024 .f32) (x1 : Vec Ideal S4x6x1024 .f32) (x2 : Vec Ideal S4x1024 .f32) (x4 : Vec Ideal S4x1024x3080 .f32) :
    val_main_v28 (F := Ideal) x0 x1 x2 x4 = G3 x0 x1 x2 x4 := by
  funext y
  idx_vars y
  unfold G3
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_cst_2, val_main_v17, val_main_v18, val_main_v19, val_main_v20, val_main_v21, val_main_v22, val_main_v23, val_main_v25, val_main_v26, val_main_v27, val_main_c, val_main_call0_v0, val_main_v28, val_main_v29]
  simp only [ref_h, zero]

end Cert.Reference9Ideal.Ref

namespace Cert.Proof.K9

open Idealize.ShloMosaic Idealize.SL.Sem

/-- The reference runs to its end, keeps its arguments and has no semaphores. -/
theorem reference_frame : Cert.quiescent_Reference9Ideal (hReference9Ideal := Cert.Reference9Ideal.Gen.facts) := fun m ρ _ =>
  (θ_run Cert.Reference9Ideal.defs _ _).mono (fun r h => ⟨fun c => (h c).2.2,
      Idealize.ShloMosaic.sem_eq_zero_of_no_sems (by decide) r.2⟩)
    (Cert.Reference9Ideal.Value.run m ρ)

/-- The kernel's results are the reference's, of arguments that agree. -/
theorem algebraic : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => (Cert.Kernel9Ideal.Gen.dats m 0 c).arrAt 3 Cert.Kernel9Ideal.cfg0.N, fun c => (Cert.Kernel9Ideal.Gen.dats m 0 c).arrAt 4 Cert.Kernel9Ideal.cfg0.N, ?_, ?_⟩
  · refine (θ_run Cert.Kernel9Ideal.defs _ _).mono (fun r h c => ?_) (Cert.Kernel9Ideal.Value.run_blocks m ρ)
    exact h c
  · refine (θ_run Cert.Reference9Ideal.defs _ _).mono (fun r h c => ?_) (Cert.Reference9Ideal.Value.run (F := Ideal) m' ρ')
    obtain ⟨h0, h1, hk⟩ := h c
    obtain ⟨g0, g1, g2, g3, g4⟩ := hagree c
    refine ⟨h0.trans ?_, h1.trans ?_, hk⟩
    · rw [Cert.Reference9Ideal.Read.val_main_v28_eq, Cert.Reference9Ideal.Ref.value3, g0, g1, g2, g4]
      exact (Cert.Kernel9Ideal.Fold.final3 m c).symm
    · rw [Cert.Reference9Ideal.Read.val_main_v29_eq, Cert.Reference9Ideal.Ref.value4, g0, g1, g2]
      exact (Cert.Kernel9Ideal.Fold.final4 m c).symm

end Cert.Proof.K9

end
-- ==== Proof.K10.lean ====
/-
  The projection out of the mixer, the second norm and the feed-forward's first product: the blocks that a point stores
  are the reference's values there.
-/
module

public import proofs.«01_k».proof.Defs
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel10Ideal.Fold

open Idealize.ShloMosaic Idealize.ShloMosaic.TcCoe Idealize.SL.Sem Cert.Kernel10Ideal Cert.Kernel10Ideal.Gen
open Idealize.ShloMosaic.Pipeline (Dat)

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel

/-- The arguments, as arrays. -/
abbrev a0 : Vec Ideal S4096x1024 .f32 := m ((c : Thread nD τ).loc main_arg0)
abbrev a1 : Vec Ideal S4096x1024 .bf16 := m ((c : Thread nD τ).loc main_arg1)
abbrev a2 : Vec Ideal S4x6x1024 .f32 := m ((c : Thread nD τ).loc main_arg2)
abbrev a3 : Vec Ideal S4x1024 .f32 := m ((c : Thread nD τ).loc main_arg3)
abbrev a4 : Vec Ideal S4x1024 .f32 := m ((c : Thread nD τ).loc main_arg4)
abbrev a5 : Vec Ideal S4x1024x1024 .f32 := m ((c : Thread nD τ).loc main_arg5)
abbrev a6 : Vec Ideal S4x1024x4096 .f32 := m ((c : Thread nD τ).loc main_arg6)

/-! What the host hands to the kernel's windows, and the windows' blocks read off it. -/

theorem rd0 (A : (b : Ref sig .tc) → Buf (Elt Ideal) ((c : Thread nD τ).loc b)) (t : Fin cfg0.N) (y : S512x1024.Idx) :
    ((cfg0.win 0).blk t).view.read (Elt Ideal) (A (Pipeline.arrRef spec0 0)) y = A main_arg0 ((win0_0.blk t).view.emb y) := rfl
theorem ib0 (t : Fin cfg0.N) (y : S512x1024.Idx) : iblk m c 0 t y = (a0 m c) ((win0_0.blk t).view.emb y) :=
  (rd0 c (V m c) t y).trans (congrFun (V_main_arg0 m c) _)
theorem rd1 (A : (b : Ref sig .tc) → Buf (Elt Ideal) ((c : Thread nD τ).loc b)) (t : Fin cfg0.N) (y : S512x1024.Idx) :
    ((cfg0.win 1).blk t).view.read (Elt Ideal) (A (Pipeline.arrRef spec0 1)) y = A main_arg1 ((win0_1.blk t).view.emb y) := rfl
theorem ib1 (t : Fin cfg0.N) (y : S512x1024.Idx) : iblk m c 1 t y = (a1 m c) ((win0_1.blk t).view.emb y) :=
  (rd1 c (V m c) t y).trans (congrFun (V_main_arg1 m c) _)
theorem V_2 : V m c main_v2 = concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd2 (A : (b : Ref sig .tc) → Buf (Elt Ideal) ((c : Thread nD τ).loc b)) (t : Fin cfg0.N) (y : S1x8x1024.Idx) :
    ((cfg0.win 2).blk t).view.read (Elt Ideal) (A (Pipeline.arrRef spec0 2)) y = A main_v2 ((win0_2.blk t).view.emb y) := rfl
theorem ib2 (t : Fin cfg0.N) (y : S1x8x1024.Idx) : iblk m c 2 t y = (concatenate S4x8x1024 1 [⟨S4x6x1024, (a2 m c)⟩, ⟨S4x1x1024, (broadcastInDim S4x1x1024 ![0, 2] bcast_S4x1024_S4x1x1024_0_2 (a3 m c))⟩, ⟨S4x1x1024, (broadcastInDim S4x1x1024 ![0, 2] bcast_S4x1024_S4x1x1024_0_2 (a4 m c))⟩] concatenates_S4x6x1024_S4x1x1024_S4x1x1024_S4x8x1024_d1) ((win0_2.blk t).view.emb y) :=
  (rd2 c (V m c) t y).trans (congrFun (V_2 m c) _)
theorem V_3 : V m c main_v6 = truncf (F := Ideal) .bf16 (shapeCast S4x256x1024 (shapeCast S1024x1024 (extractStridedSlice S1x1024x1024 ![0, 0, 0] (a5 m c) slices_S4x1024x1024_S1x1024x1024_0_0_0) shapeCasts_S1x1024x1024_S1024x1024) shapeCasts_S1024x1024_S4x256x1024) bitsLt_bf16_f32 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd3 (A : (b : Ref sig .tc) → Buf (Elt Ideal) ((c : Thread nD τ).loc b)) (t : Fin cfg0.N) (y : S4x256x1024.Idx) :
    ((cfg0.win 3).blk t).view.read (Elt Ideal) (A (Pipeline.arrRef spec0 3)) y = A main_v6 ((win0_3.blk t).view.emb y) := rfl
theorem ib3 (t : Fin cfg0.N) (y : S4x256x1024.Idx) : iblk m c 3 t y = (truncf (F := Ideal) .bf16 (shapeCast S4x256x1024 (shapeCast S1024x1024 (extractStridedSlice S1x1024x1024 ![0, 0, 0] (a5 m c) slices_S4x1024x1024_S1x1024x1024_0_0_0) shapeCasts_S1x1024x1024_S1024x1024) shapeCasts_S1024x1024_S4x256x1024) bitsLt_bf16_f32) ((win0_3.blk t).view.emb y) :=
  (rd3 c (V m c) t y).trans (congrFun (V_3 m c) _)
theorem V_4 : V m c main_v11 = truncf (F := Ideal) .bf16 (transpose S4x1024x1024 [1, 0, 2] (shapeCast S1024x4x1024 (shapeCast S1024x4096 (extractStridedSlice S1x1024x4096 ![0, 0, 0] (a6 m c) slices_S4x1024x4096_S1x1024x4096_0_0_0) shapeCasts_S1x1024x4096_S1024x4096) shapeCasts_S1024x4096_S1024x4x1024) transposes_S1024x4x1024_S4x1024x1024_1_0_2) bitsLt_bf16_f32 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd4 (A : (b : Ref sig .tc) → Buf (Elt Ideal) ((c : Thread nD τ).loc b)) (t : Fin cfg0.N) (y : S4x1024x1024.Idx) :
    ((cfg0.win 4).blk t).view.read (Elt Ideal) (A (Pipeline.arrRef spec0 4)) y = A main_v11 ((win0_4.blk t).view.emb y) := rfl
theorem ib4 (t : Fin cfg0.N) (y : S4x1024x1024.Idx) : iblk m c 4 t y = (truncf (F := Ideal) .bf16 (transpose S4x1024x1024 [1, 0, 2] (shapeCast S1024x4x1024 (shapeCast S1024x4096 (extractStridedSlice S1x1024x4096 ![0, 0, 0] (a6 m c) slices_S4x1024x4096_S1x1024x4096_0_0_0) shapeCasts_S1x1024x4096_S1024x4096) shapeCasts_S1024x4096_S1024x4x1024) transposes_S1024x4x1024_S4x1024x1024_1_0_2) bitsLt_bf16_f32) ((win0_4.blk t).view.emb y) :=
  (rd4 c (V m c) t y).trans (congrFun (V_4 m c) _)

/-- The normalised, scaled and shifted row at place `k`. -/
def nrm (x g s h : Fin 1024 → EReal) (k : Fin 1024) : EReal :=
  x k * Ideal.rsqrt (Ideal.div (∑ a : Fin 1024, x a * x a) (Ideal.ofBits .f32 0x44800000#32) + Ideal.ofBits .f32 0x358637BD#32) * g k
    * (1 + s k) + h k

/-- The stream after the mixer, element by element. -/
def X1 (x : Vec Ideal S4096x1024 .f32) (mix : Vec Ideal S4096x1024 .bf16) (md : Vec Ideal S4x6x1024 .f32) (wo : Vec Ideal S4x1024x1024 .f32)
    (i : Fin 4096) (k : Fin 1024) : EReal :=
  x (ix2 i k) + md (ix3 0 2 k) * ∑ a : Fin 1024, mix (ix2 i a) * wo (ix3 0 a k)
/-- The normalised rows, element by element. -/
def H (x : Vec Ideal S4096x1024 .f32) (mix : Vec Ideal S4096x1024 .bf16) (md : Vec Ideal S4x6x1024 .f32) (n2 : Vec Ideal S4x1024 .f32)
    (wo : Vec Ideal S4x1024x1024 .f32) (i : Fin 4096) (k : Fin 1024) : EReal :=
  nrm (X1 x mix md wo i) (fun a => n2 (ix2 0 a)) (fun a => md (ix3 0 4 a)) (fun a => md (ix3 0 3 a)) k
/-- The three results, as arrays. -/
def G5 (x : Vec Ideal S4096x1024 .f32) (mix : Vec Ideal S4096x1024 .bf16) (md : Vec Ideal S4x6x1024 .f32) (wo : Vec Ideal S4x1024x1024 .f32) :
    Vec Ideal S4096x1024 .f32 := fun y => X1 x mix md wo (y 0) (y 1)
def G7 (x : Vec Ideal S4096x1024 .f32) (mix : Vec Ideal S4096x1024 .bf16) (md : Vec Ideal S4x6x1024 .f32) (n2 : Vec Ideal S4x1024 .f32)
    (wo : Vec Ideal S4x1024x1024 .f32) : Vec Ideal S4096x1024 .bf16 := fun y => H x mix md n2 wo (y 0) (y 1)
def G6 (x : Vec Ideal S4096x1024 .f32) (mix : Vec Ideal S4096x1024 .bf16) (md : Vec Ideal S4x6x1024 .f32) (n2 : Vec Ideal S4x1024 .f32)
    (wo : Vec Ideal S4x1024x1024 .f32) (w1 : Vec Ideal S4x1024x4096 .f32) : Vec Ideal S4096x4096 .bf16 := fun y =>
  max (∑ k : Fin 1024, H x mix md n2 wo (y 0) k * w1 (ix3 0 k (y 1))) 0

/-- The weight that the kernel takes in four blocks of rows, row by row. -/
def wrow (w : Vec Ideal S4x256x1024 .bf16) (a k : Fin 1024) : EReal := w (ix3 ⟨a.val / 256, by omega⟩ ⟨a.val % 256, by omega⟩ k)
/-- The stream after the mixer in a block. -/
def B1 (x : Vec Ideal S512x1024 .f32) (g : Vec Ideal S1x1x1024 .f32) (mix : Vec Ideal S512x1024 .bf16) (w : Vec Ideal S4x256x1024 .bf16)
    (i : Fin 512) (k : Fin 1024) : EReal := x (ix2 i k) + g (ix3 0 0 k) * ∑ a : Fin 1024, mix (ix2 i a) * wrow w a k

theorem pay2_apply (x : Vec Ideal S512x1024 .f32) (g : Vec Ideal S1x1x1024 .f32) (mix : Vec Ideal S512x1024 .bf16) (w : Vec Ideal S4x256x1024 .bf16)
    (i : Fin 512) (k : Fin 1024) : k0_pay2 (F := Ideal) x g mix w (ix2 i k) = B1 x g mix w i k := by
  unfold B1 wrow
  pointwise [k0_pay2]
theorem pay4_apply (x : Vec Ideal S512x1024 .f32) (g : Vec Ideal S1x1x1024 .f32) (mix : Vec Ideal S512x1024 .bf16) (w : Vec Ideal S4x256x1024 .bf16)
    (i : Fin 512) (k : Fin 1024) : k0_pay4 (F := Ideal) x g mix w (ix2 i k) = B1 x g mix w i k *
      Ideal.rsqrt (Ideal.div (∑ a : Fin 1024, B1 x g mix w i a * B1 x g mix w i a) (Ideal.ofBits .f32 0x44800000#32)
        + Ideal.ofBits .f32 0x358637BD#32) := by
  have e : ∀ k, k0_pay2 (F := Ideal) x g mix w (ix2 i k) = _ := fun k => pay2_apply x g mix w i k
  unfold k0_pay4
  pointwise
  simp only [e]
/-- The normalised block. -/
def BH (x : Vec Ideal S512x1024 .f32) (g : Vec Ideal S1x1x1024 .f32) (mix : Vec Ideal S512x1024 .bf16) (w : Vec Ideal S4x256x1024 .bf16)
    (n s h : Vec Ideal S1x1x1024 .f32) (i : Fin 512) (k : Fin 1024) : EReal :=
  nrm (B1 x g mix w i) (fun a => n (ix3 0 0 a)) (fun a => s (ix3 0 0 a)) (fun a => h (ix3 0 0 a)) k
theorem pay6_apply (x : Vec Ideal S512x1024 .f32) (g : Vec Ideal S1x1x1024 .f32) (mix : Vec Ideal S512x1024 .bf16) (w : Vec Ideal S4x256x1024 .bf16)
    (n s h : Vec Ideal S1x1x1024 .f32) (i : Fin 512) (k : Fin 1024) :
    k0_pay6 (F := Ideal) (k0_pay3 h) (k0_pay4 x g mix w) (k0_pay5 n s) (ix2 i k) = BH x g mix w n s h i k := by
  have e : ∀ k, k0_pay4 (F := Ideal) x g mix w (ix2 i k) = _ := fun k => pay4_apply x g mix w i k
  unfold k0_pay6 k0_pay3 k0_pay5 BH nrm
  pointwise
  rw [e, mul_assoc, mul_assoc, mul_assoc]
/-- What the body stores of the first product, element by element: one expression for the four stores. -/
def P (x : Vec Ideal S512x1024 .f32) (g : Vec Ideal S1x1x1024 .f32) (mix : Vec Ideal S512x1024 .bf16) (w : Vec Ideal S4x256x1024 .bf16)
    (n s h : Vec Ideal S1x1x1024 .f32) (v : Vec Ideal S1x1024x1024 .bf16) (i : Fin 512) (j : Fin 1024) : EReal :=
  max (∑ k : Fin 1024, BH x g mix w n s h i k * v (ix3 0 k j)) 0
theorem pay7_apply (x : Vec Ideal S512x1024 .f32) (g : Vec Ideal S1x1x1024 .f32) (mix : Vec Ideal S512x1024 .bf16) (w : Vec Ideal S4x256x1024 .bf16)
    (n s h : Vec Ideal S1x1x1024 .f32) (v : Vec Ideal S1x1024x1024 .bf16) (i : Fin 512) (j : Fin 1024) :
    k0_pay7 (F := Ideal) (k0_pay3 h) (k0_pay4 x g mix w) (k0_pay5 n s) v (ix2 i j) = P x g mix w n s h v i j := by
  have e : ∀ k, k0_pay6 (F := Ideal) (k0_pay3 h) (k0_pay4 x g mix w) (k0_pay5 n s) (ix2 i k) = _ := fun k => pay6_apply x g mix w n s h i k
  unfold k0_pay7 P
  pointwise
  simp only [e]
theorem pay8_apply (x : Vec Ideal S512x1024 .f32) (g : Vec Ideal S1x1x1024 .f32) (mix : Vec Ideal S512x1024 .bf16) (w : Vec Ideal S4x256x1024 .bf16)
    (n s h : Vec Ideal S1x1x1024 .f32) (v : Vec Ideal S1x1024x1024 .bf16) (i : Fin 512) (j : Fin 1024) :
    k0_pay8 (F := Ideal) (k0_pay3 h) (k0_pay4 x g mix w) (k0_pay5 n s) v (ix2 i j) = P x g mix w n s h v i j := by
  have e : ∀ k, k0_pay6 (F := Ideal) (k0_pay3 h) (k0_pay4 x g mix w) (k0_pay5 n s) (ix2 i k) = _ := fun k => pay6_apply x g mix w n s h i k
  unfold k0_pay8 P
  pointwise
  simp only [e]
theorem pay9_apply (x : Vec Ideal S512x1024 .f32) (g : Vec Ideal S1x1x1024 .f32) (mix : Vec Ideal S512x1024 .bf16) (w : Vec Ideal S4x256x1024 .bf16)
    (n s h : Vec Ideal S1x1x1024 .f32) (v : Vec Ideal S1x1024x1024 .bf16) (i : Fin 512) (j : Fin 1024) :
    k0_pay9 (F := Ideal) (k0_pay3 h) (k0_pay4 x g mix w) (k0_pay5 n s) v (ix2 i j) = P x g mix w n s h v i j := by
  have e : ∀ k, k0_pay6 (F := Ideal) (k0_pay3 h) (k0_pay4 x g mix w) (k0_pay5 n s) (ix2 i k) = _ := fun k => pay6_apply x g mix w n s h i k
  unfold k0_pay9 P
  pointwise
  simp only [e]
theorem pay10_apply (x : Vec Ideal S512x1024 .f32) (g : Vec Ideal S1x1x1024 .f32) (mix : Vec Ideal S512x1024 .bf16) (w : Vec Ideal S4x256x1024 .bf16)
    (n s h : Vec Ideal S1x1x1024 .f32) (v : Vec Ideal S1x1024x1024 .bf16) (i : Fin 512) (j : Fin 1024) :
    k0_pay1 (F := Ideal) (k0_pay10 (F := Ideal) (k0_pay3 h) (k0_pay4 x g mix w) (k0_pay5 n s) v) (ix2 i j) = P x g mix w n s h v i j := by
  have e : ∀ k, k0_pay6 (F := Ideal) (k0_pay3 h) (k0_pay4 x g mix w) (k0_pay5 n s) (ix2 i k) = _ := fun k => pay6_apply x g mix w n s h i k
  unfold k0_pay1 k0_pay10 P
  pointwise
  simp only [e]

/-- Row `i` of block `t`. -/
def row (t : Fin cfg0.N) (i : Fin 512) : Fin 4096 := ⟨512 * t.val + i.val, by have : t.val < 8 := t.isLt; omega⟩

theorem blk0 (t : Fin cfg0.N) (i : Fin 512) (j : Fin 1024) : iblk m c 0 t (ix2 i j) = a0 m c (ix2 (row t i) j) :=
  (ib0 m c t _).trans (congrArg (a0 m c) (by unfold row; blk_ext [idx0 t]))
theorem blk1 (t : Fin cfg0.N) (i : Fin 512) (j : Fin 1024) : iblk m c 1 t (ix2 i j) = a1 m c (ix2 (row t i) j) :=
  (ib1 m c t _).trans (congrArg (a1 m c) (by unfold row; blk_ext [idx1 t]))
theorem blk2_2 (t : Fin cfg0.N) (j : Fin 1024) : iblk m c 2 t (ix3 (0 : Fin 1) (2 : Fin 8) j) = a2 m c (ix3 (0 : Fin 4) (2 : Fin 6) j) := by
  have e : (win0_2.blk t).view.emb (ix3 (0 : Fin 1) (2 : Fin 8) j) = ix3 (0 : Fin 4) (2 : Fin 8) j := by blk_ext [idx2 t]
  refine (ib2 m c t _).trans ((congrArg _ e).trans ?_)
  pointwise
theorem blk2_3 (t : Fin cfg0.N) (j : Fin 1024) : iblk m c 2 t (ix3 (0 : Fin 1) (3 : Fin 8) j) = a2 m c (ix3 (0 : Fin 4) (3 : Fin 6) j) := by
  have e : (win0_2.blk t).view.emb (ix3 (0 : Fin 1) (3 : Fin 8) j) = ix3 (0 : Fin 4) (3 : Fin 8) j := by blk_ext [idx2 t]
  refine (ib2 m c t _).trans ((congrArg _ e).trans ?_)
  pointwise
theorem blk2_4 (t : Fin cfg0.N) (j : Fin 1024) : iblk m c 2 t (ix3 (0 : Fin 1) (4 : Fin 8) j) = a2 m c (ix3 (0 : Fin 4) (4 : Fin 6) j) := by
  have e : (win0_2.blk t).view.emb (ix3 (0 : Fin 1) (4 : Fin 8) j) = ix3 (0 : Fin 4) (4 : Fin 8) j := by blk_ext [idx2 t]
  refine (ib2 m c t _).trans ((congrArg _ e).trans ?_)
  pointwise
theorem blk2_7 (t : Fin cfg0.N) (j : Fin 1024) : iblk m c 2 t (ix3 (0 : Fin 1) (7 : Fin 8) j) = a4 m c (ix2 (0 : Fin 4) j) := by
  have e : (win0_2.blk t).view.emb (ix3 (0 : Fin 1) (7 : Fin 8) j) = ix3 (0 : Fin 4) (7 : Fin 8) j := by blk_ext [idx2 t]
  refine (ib2 m c t _).trans ((congrArg _ e).trans ?_)
  pointwise
theorem blk3 (t : Fin cfg0.N) (a k : Fin 1024) : wrow (iblk m c 3 t) a k = a5 m c (ix3 (0 : Fin 4) a k) := by
  unfold wrow
  have e : (win0_3.blk t).view.emb (ix3 (⟨a.val / 256, by omega⟩ : Fin 4) (⟨a.val % 256, by omega⟩ : Fin 256) k)
      = ix3 (⟨a.val / 256, by omega⟩ : Fin 4) (⟨a.val % 256, by omega⟩ : Fin 256) k := by blk_ext [idx3 t]
  refine (ib3 m c t _).trans ((congrArg _ e).trans ?_)
  pointwise; blk_ext
theorem blk4 (t : Fin cfg0.N) (q : Fin 4) (k j : Fin 1024) :
    iblk m c 4 t (ix3 q k j) = a6 m c (ix3 (0 : Fin 4) k ⟨1024 * q.val + j.val, by omega⟩) := by
  have e : (win0_4.blk t).view.emb (ix3 q k j) = ix3 q k j := by blk_ext [idx4 t]
  refine (ib4 m c t _).trans ((congrArg _ e).trans ?_)
  pointwise; blk_ext

/-- A block's stream after the mixer is the whole's in the block's rows. -/
theorem stream (t : Fin cfg0.N) (i : Fin 512) (x : Vec Ideal S512x1024 .f32) (g : Vec Ideal S1x1x1024 .f32) (mix : Vec Ideal S512x1024 .bf16)
    (w : Vec Ideal S4x256x1024 .bf16)
    (hx : ∀ k, x (ix2 i k) = iblk m c 0 t (ix2 i k)) (hg : ∀ k, g (ix3 0 0 k) = iblk m c 2 t (ix3 0 2 k))
    (hm : ∀ k, mix (ix2 i k) = iblk m c 1 t (ix2 i k)) (hw : ∀ a k, wrow w a k = wrow (iblk m c 3 t) a k) :
    B1 x g mix w i = X1 (a0 m c) (a1 m c) (a2 m c) (a5 m c) (row t i) := by
  funext k
  unfold B1 X1
  rw [hx, hg, blk0, blk2_2]
  refine congrArg₂ (fun a b : EReal => a + b) rfl (congrArg₂ (fun a b : EReal => a * b) rfl (Finset.sum_congr rfl fun a _ => ?_))
  rw [hm, hw, blk1, blk3]
/-- A block's normalised rows are the whole's. -/
theorem rows (t : Fin cfg0.N) (i : Fin 512) (x : Vec Ideal S512x1024 .f32) (g : Vec Ideal S1x1x1024 .f32) (mix : Vec Ideal S512x1024 .bf16)
    (w : Vec Ideal S4x256x1024 .bf16) (n s h : Vec Ideal S1x1x1024 .f32)
    (hx : ∀ k, x (ix2 i k) = iblk m c 0 t (ix2 i k)) (hg : ∀ k, g (ix3 0 0 k) = iblk m c 2 t (ix3 0 2 k))
    (hm : ∀ k, mix (ix2 i k) = iblk m c 1 t (ix2 i k)) (hw : ∀ a k, wrow w a k = wrow (iblk m c 3 t) a k)
    (hn : ∀ k, n (ix3 0 0 k) = iblk m c 2 t (ix3 0 7 k)) (hs : ∀ k, s (ix3 0 0 k) = iblk m c 2 t (ix3 0 4 k))
    (hh : ∀ k, h (ix3 0 0 k) = iblk m c 2 t (ix3 0 3 k)) (k : Fin 1024) :
    BH x g mix w n s h i k = H (a0 m c) (a1 m c) (a2 m c) (a4 m c) (a5 m c) (row t i) k := by
  unfold BH H
  rw [stream m c t i x g mix w hx hg hm hw]
  simp only [hn, hs, hh, blk2_7, blk2_4, blk2_3]
/-- One stored block of the first product is the result at its place. -/
theorem piece (t : Fin cfg0.N) (x : Vec Ideal S512x1024 .f32) (g : Vec Ideal S1x1x1024 .f32) (mix : Vec Ideal S512x1024 .bf16)
    (w : Vec Ideal S4x256x1024 .bf16) (n s h : Vec Ideal S1x1x1024 .f32) (v : Vec Ideal S1x1024x1024 .bf16)
    (q : Fin 4) (i : Fin 512) (j : Fin 1024) (y : S512x4096.Idx)
    (h0 : (y 0).val = i.val) (h1 : (y 1).val = 1024 * q.val + j.val)
    (hx : ∀ k, x (ix2 i k) = iblk m c 0 t (ix2 i k)) (hg : ∀ k, g (ix3 0 0 k) = iblk m c 2 t (ix3 0 2 k))
    (hm : ∀ k, mix (ix2 i k) = iblk m c 1 t (ix2 i k)) (hw : ∀ a k, wrow w a k = wrow (iblk m c 3 t) a k)
    (hn : ∀ k, n (ix3 0 0 k) = iblk m c 2 t (ix3 0 7 k)) (hs : ∀ k, s (ix3 0 0 k) = iblk m c 2 t (ix3 0 4 k))
    (hh : ∀ k, h (ix3 0 0 k) = iblk m c 2 t (ix3 0 3 k)) (hv : ∀ k, v (ix3 0 k j) = iblk m c 4 t (ix3 q k j)) :
    P x g mix w n s h v i j = G6 (a0 m c) (a1 m c) (a2 m c) (a4 m c) (a5 m c) (a6 m c) ((win0_6.blk t).view.emb y) := by
  have e : (win0_6.blk t).view.emb y = ix2 (row t i) ⟨1024 * q.val + j.val, by omega⟩ := by unfold row; blk_ext [idx6 t]
  refine Eq.trans ?_ (congrArg _ e.symm)
  unfold P G6
  refine congrArg (fun a : EReal => max a 0) (Finset.sum_congr rfl fun k _ => ?_)
  rw [rows m c t i x g mix w n s h hx hg hm hw hn hs hh, hv, blk4]
  rfl

theorem final5 : (dats m 0 c).arrAt 5 cfg0.N = G5 (a0 m c) (a1 m c) (a2 m c) (a5 m c) := by
  refine (dats m 0 c).arrAt_eq_of_covers 5 _ (by decide +kernel) fun t hf y => ?_
  blk_simp
  rw [after0_5]
  frame_out
  idx_vars y
  have e : (win0_5.blk t).view.emb (ix2 y0 y1) = ix2 (row t y0) y1 := by unfold row; blk_ext [idx5 t]
  refine Eq.trans ?_ (congrArg _ e.symm)
  refine (pay2_apply _ _ _ _ y0 y1).trans (congrFun (stream m c t y0 _ _ _ _ ?_ ?_ ?_ ?_) y1)
  · intro k; pointwise
  · intro k; pointwise
  · intro k; pointwise
  · intro a k; unfold wrow; pointwise
theorem final7 : (dats m 0 c).arrAt 7 cfg0.N = G7 (a0 m c) (a1 m c) (a2 m c) (a4 m c) (a5 m c) := by
  refine (dats m 0 c).arrAt_eq_of_covers 7 _ (by decide +kernel) fun t hf y => ?_
  blk_simp
  rw [after0_7]
  unfold_out out0_7
  canon_tiles x h
  idx_vars x
  have e : (win0_7.blk t).view.emb y = ix2 (row t x0) x1 := by unfold row; blk_ext [idx7 t]
  refine Eq.trans ?_ (congrArg _ e.symm)
  refine (pay6_apply _ _ _ _ _ _ _ x0 x1).trans (rows m c t x0 _ _ _ _ _ _ _ ?_ ?_ ?_ ?_ ?_ ?_ ?_ x1)
  · intro k; pointwise
  · intro k; pointwise
  · intro k; pointwise
  · intro a k; unfold wrow; pointwise
  · intro k; pointwise
  · intro k; pointwise
  · intro k; pointwise
theorem final6 : (dats m 0 c).arrAt 6 cfg0.N = G6 (a0 m c) (a1 m c) (a2 m c) (a4 m c) (a5 m c) (a6 m c) := by
  refine (dats m 0 c).arrAt_eq_of_covers 6 _ (by decide +kernel) fun t hf y => ?_
  blk_simp
  rw [after0_6]
  unfold_out out0_6
  canon_tiles x h
  · idx_vars x
    refine (pay10_apply _ _ _ _ _ _ _ _ x0 x1).trans (piece m c t _ _ _ _ _ _ _ _ 3 x0 x1 y (by omega)
      (by show (y 1).val = 1024 * 3 + x1.val; omega) ?_ ?_ ?_ ?_ ?_ ?_ ?_ ?_)
    · intro k; pointwise
    · intro k; pointwise
    · intro k; pointwise
    · intro a k; unfold wrow; pointwise
    · intro k; pointwise
    · intro k; pointwise
    · intro k; pointwise
    · intro k; pointwise
  · idx_vars x
    refine (pay9_apply _ _ _ _ _ _ _ _ x0 x1).trans (piece m c t _ _ _ _ _ _ _ _ 2 x0 x1 y (by omega)
      (by show (y 1).val = 1024 * 2 + x1.val; omega) ?_ ?_ ?_ ?_ ?_ ?_ ?_ ?_)
    · intro k; pointwise
    · intro k; pointwise
    · intro k; pointwise
    · intro a k; unfold wrow; pointwise
    · intro k; pointwise
    · intro k; pointwise
    · intro k; pointwise
    · intro k; pointwise
  · idx_vars x
    refine (pay8_apply _ _ _ _ _ _ _ _ x0 x1).trans (piece m c t _ _ _ _ _ _ _ _ 1 x0 x1 y (by omega)
      (by show (y 1).val = 1024 * 1 + x1.val; omega) ?_ ?_ ?_ ?_ ?_ ?_ ?_ ?_)
    · intro k; pointwise
    · intro k; pointwise
    · intro k; pointwise
    · intro a k; unfold wrow; pointwise
    · intro k; pointwise
    · intro k; pointwise
    · intro k; pointwise
    · intro k; pointwise
  · idx_vars x
    refine (pay7_apply _ _ _ _ _ _ _ _ x0 x1).trans (piece m c t _ _ _ _ _ _ _ _ 0 x0 x1 y (by omega)
      (by show (y 1).val = 1024 * 0 + x1.val; omega) ?_ ?_ ?_ ?_ ?_ ?_ ?_ ?_)
    · intro k; pointwise
    · intro k; pointwise
    · intro k; pointwise
    · intro a k; unfold wrow; pointwise
    · intro k; pointwise
    · intro k; pointwise
    · intro k; pointwise
    · intro k; pointwise

end Cert.Kernel10Ideal.Fold

namespace Cert.Reference10Ideal.Ref

open Idealize.ShloMosaic Idealize.ShloMosaic.TcCoe Cert.Reference10Ideal Cert.Reference10Ideal.Gen Cert.Reference10Ideal.Read

open Cert.Kernel10Ideal.Fold (G5 G6 G7 X1 H nrm)

/-- The reference's stream after the mixer, element by element. -/
theorem ref_x (x0 : Vec Ideal S4096x1024 .f32) (x1 : Vec Ideal S4096x1024 .bf16) (x2 : Vec Ideal S4x6x1024 .f32) (x5 : Vec Ideal S4x1024x1024 .f32)
    (i : Fin 4096) (k : Fin 1024) : val_main_v8 (F := Ideal) x0 x1 x2 x5 (ix2 i k) = X1 x0 x1 x2 x5 i k := by
  unfold X1
  pointwise [val_main_v0, val_main_v1, val_main_v2, val_main_v3, val_main_v4, val_main_v5, val_main_v6, val_main_v7, val_main_v8]
/-- The reference's normalised rows, element by element. -/
theorem ref_h (x0 : Vec Ideal S4096x1024 .f32) (x1 : Vec Ideal S4096x1024 .bf16) (x2 : Vec Ideal S4x6x1024 .f32) (x4 : Vec Ideal S4x1024 .f32)
    (x5 : Vec Ideal S4x1024x1024 .f32) (i : Fin 4096) (k : Fin 1024) :
    val_main_v33 (F := Ideal) x0 x1 x2 x4 x5 (ix2 i k) = H x0 x1 x2 x4 x5 i k := by
  unfold H nrm
  pointwise [val_main_v9, val_main_v10, val_main_v11, val_main_cst, val_main_v12, val_main_v13, val_main_cst_0, val_main_v14, val_main_v15, val_main_cst_1, val_main_v16, val_main_v17, val_main_v18, val_main_v19, val_main_v20, val_main_v21, val_main_v22, val_main_v23, val_main_v24, val_main_v25, val_main_cst_2, val_main_v26, val_main_v27, val_main_v28, val_main_v29, val_main_v30, val_main_v31, val_main_v32, val_main_v33]
  simp only [ref_x]
theorem value5 (x0 : Vec Ideal S4096x1024 .f32) (x1 : Vec Ideal S4096x1024 .bf16) (x2 : Vec Ideal S4x6x1024 .f32) (x5 : Vec Ideal S4x1024x1024 .f32) :
    val_main_v8 (F := Ideal) x0 x1 x2 x5 = G5 x0 x1 x2 x5 := by
  funext y
  idx_vars y
  exact ref_x x0 x1 x2 x5 y0 y1
theorem value7 (x0 : Vec Ideal S4096x1024 .f32) (x1 : Vec Ideal S4096x1024 .bf16) (x2 : Vec Ideal S4x6x1024 .f32) (x4 : Vec Ideal S4x1024 .f32)
    (x5 : Vec Ideal S4x1024x1024 .f32) : val_main_v39 (F := Ideal) x0 x1 x2 x4 x5 = G7 x0 x1 x2 x4 x5 := by
  funext y
  idx_vars y
  unfold val_main_v39
  pointwise
  exact ref_h x0 x1 x2 x4 x5 y0 y1
theorem value6 (x0 : Vec Ideal S4096x1024 .f32) (x1 : Vec Ideal S4096x1024 .bf16) (x2 : Vec Ideal S4x6x1024 .f32) (x4 : Vec Ideal S4x1024 .f32)
    (x5 : Vec Ideal S4x1024x1024 .f32) (x6 : Vec Ideal S4x1024x4096 .f32) :
    val_main_v38 (F := Ideal) x0 x1 x2 x4 x5 x6 = G6 x0 x1 x2 x4 x5 x6 := by
  funext y
  idx_vars y
  unfold G6
  pointwise [val_main_v34, val_main_v35, val_main_v36, val_main_call0_cst, val_main_call0_v0, val_main_v37, val_main_v38]
  simp only [ref_h]

end Cert.Reference10Ideal.Ref

namespace Cert.Proof.K10

open Idealize.ShloMosaic Idealize.SL.Sem

/-- The reference runs to its end, keeps its arguments and has no semaphores. -/
theorem reference_frame : Cert.quiescent_Reference10Ideal (hReference10Ideal := Cert.Reference10Ideal.Gen.facts) := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run m ρ)

/-- The kernel's results are the reference's, of arguments that agree. -/
theorem algebraic : Cert.algebraic_Kernel10Ideal_Reference10Ideal (hKernel10Ideal := Cert.Kernel10Ideal.Gen.facts)
    (hReference10Ideal := Cert.Reference10Ideal.Gen.facts) := by
  intro m ρ m' ρ' _ hagree
  refine ⟨fun c => (Cert.Kernel10Ideal.Gen.dats m 0 c).arrAt 5 Cert.Kernel10Ideal.cfg0.N, fun c => (Cert.Kernel10Ideal.Gen.dats m 0 c).arrAt 6 Cert.Kernel10Ideal.cfg0.N, fun c => (Cert.Kernel10Ideal.Gen.dats m 0 c).arrAt 7 Cert.Kernel10Ideal.cfg0.N, ?_, ?_⟩
  · refine (θ_run Cert.Kernel10Ideal.defs _ _).mono (fun r h c => ?_) (Cert.Kernel10Ideal.Value.run_blocks m ρ)
    exact h c
  · refine (θ_run Cert.Reference10Ideal.defs _ _).mono (fun r h c => ?_) (Cert.Reference10Ideal.Value.run (F := Ideal) m' ρ')
    obtain ⟨h0, h1, h2, hk⟩ := h c
    obtain ⟨g0, g1, g2, g3, g4, g5, g6⟩ := hagree c
    refine ⟨h0.trans ?_, h1.trans ?_, h2.trans ?_, hk⟩
    · rw [Cert.Reference10Ideal.Read.val_main_v8_eq, Cert.Reference10Ideal.Ref.value5, g0, g1, g2, g5]
      exact (Cert.Kernel10Ideal.Fold.final5 m c).symm
    · rw [Cert.Reference10Ideal.Read.val_main_v38_eq, Cert.Reference10Ideal.Ref.value6, g0, g1, g2, g4, g5, g6]
      exact (Cert.Kernel10Ideal.Fold.final6 m c).symm
    · rw [Cert.Reference10Ideal.Read.val_main_v39_eq, Cert.Reference10Ideal.Ref.value7, g0, g1, g2, g4, g5]
      exact (Cert.Kernel10Ideal.Fold.final7 m c).symm

end Cert.Proof.K10

end
-- ==== Proof.K11.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Sums
public import Idealize.ShloMosaic.Lib.Pipeline.ValueKit
public import Idealize.ShloMosaic.Lib.Claim

@[expose] public section

set_option maxRecDepth 16384

noncomputable section

namespace Cert.Kernel11Ideal.Fold

open Idealize.ShloMosaic Idealize.ShloMosaic.TcCoe Idealize.SL.Sem Cert.Kernel11Ideal Cert.Kernel11Ideal.Gen
open Idealize.ShloMosaic.Pipeline (Dat)

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![t.val, 0] := by decide +kernel

def G (x1 : Vec Ideal S4096x1024 .f32) (f : Vec Ideal S4096x4096 .f32) (mod : Vec Ideal S4x6x1024 .f32) (w : Vec Ideal S4x4096x1024 .f32) :
    Vec Ideal S4096x1024 .f32 := fun y =>
  x1 y + mod (ix3 (0 : Fin 4) (5 : Fin 6) (y 1)) * ∑ k : Fin 4096, max (f (ix2 (y 0) k)) 0 * max (f (ix2 (y 0) k)) 0 * w (ix3 (0 : Fin 4) k (y 1))

theorem pay_apply (a0 a1 a2 a3 : Vec Ideal S512x1024 .bf16) (w0 w1 w2 w3 : Vec Ideal S1x1024x1024 .bf16) (x : Vec Ideal S512x1024 .f32)
    (g : Vec Ideal S1x1x1024 .f32) (i : Fin 512) (j : Fin 1024) :
    k0_pay1 (F := Ideal) (k0_pay2 a0 w0 a1 w1 a2 w2) (k0_pay3 a3) (k0_pay4 w3) x g (ix2 i j)
      = x (ix2 i j) + g (ix3 0 0 j) * ((((∑ k : Fin 1024, a0 (ix2 i k) * a0 (ix2 i k) * w0 (ix3 0 k j)) + ∑ k : Fin 1024, a1 (ix2 i k) * a1 (ix2 i k) * w1 (ix3 0 k j))
          + ∑ k : Fin 1024, a2 (ix2 i k) * a2 (ix2 i k) * w2 (ix3 0 k j)) + ∑ k : Fin 1024, a3 (ix2 i k) * a3 (ix2 i k) * w3 (ix3 0 k j)) := by
  pointwise [k0_pay1, k0_pay2, k0_pay3, k0_pay4]

/-- Row `i` of block `t`. -/
def row (t : Fin cfg0.N) (i : Fin 512) : Fin 4096 := ⟨512 * t.val + i.val, by have : t.val < 8 := t.isLt; omega⟩

/-- The arguments, as arrays. -/
abbrev a0 : Vec Ideal S4096x1024 .f32 := m ((c : Thread nD τ).loc main_arg0)
abbrev a1 : Vec Ideal S4096x4096 .f32 := m ((c : Thread nD τ).loc main_arg1)
abbrev a2 : Vec Ideal S4x6x1024 .f32 := m ((c : Thread nD τ).loc main_arg2)
abbrev a3 : Vec Ideal S4x1024 .f32 := m ((c : Thread nD τ).loc main_arg3)
abbrev a4 : Vec Ideal S4x1024 .f32 := m ((c : Thread nD τ).loc main_arg4)
abbrev a5 : Vec Ideal S4x4096x1024 .f32 := m ((c : Thread nD τ).loc main_arg5)

theorem V_r : V m c main_v2 = truncf (F := Ideal) .bf16 (maximumf (a1 m c) (broadcastInDim S4096x4096 ![] bcast_S_S4096x4096 (constant (F := Ideal) S_ .f32 0x00000000#32))) bitsLt_bf16_f32 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem V_mod : V m c main_v5 = concatenate S4x8x1024 1 [⟨S4x6x1024, a2 m c⟩,
    ⟨S4x1x1024, broadcastInDim S4x1x1024 ![0, 2] bcast_S4x1024_S4x1x1024_0_2 (a3 m c)⟩,
    ⟨S4x1x1024, broadcastInDim S4x1x1024 ![0, 2] bcast_S4x1024_S4x1x1024_0_2 (a4 m c)⟩]
    concatenates_S4x6x1024_S4x1x1024_S4x1x1024_S4x8x1024_d1 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem V_w : V m c main_v9 = truncf (F := Ideal) .bf16 (shapeCast S4x1024x1024 (shapeCast S4096x1024
    (extractStridedSlice S1x4096x1024 ![0, 0, 0] (a5 m c) slices_S4x4096x1024_S1x4096x1024_0_0_0) shapeCasts_S1x4096x1024_S4096x1024)
    shapeCasts_S4096x1024_S4x1024x1024) bitsLt_bf16_f32 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl

theorem blk0 (t : Fin cfg0.N) (i : Fin 512) (j : Fin 1024) : iblk m c 0 t (ix2 i j) = a0 m c (ix2 (row t i) j) := by
  unfold row; blk_ext! [iblk, V, idx0 t]
theorem blk1 (t : Fin cfg0.N) (i : Fin 512) (j : Fin 4096) :
    iblk m c 1 t (ix2 i j) = max (a1 m c (ix2 (row t i) j)) 0 := by
  blk_simp [iblk]; rw [V_r]
  have e : (win0_1.blk t).view.emb (ix2 i j) = ix2 (row t i) j := by unfold row; blk_ext [idx1 t]
  rw [e]; pointwise
theorem blk2 (t : Fin cfg0.N) (j : Fin 1024) : iblk m c 2 t (ix3 (0 : Fin 1) (5 : Fin 8) j) = a2 m c (ix3 (0 : Fin 4) (5 : Fin 6) j) := by
  blk_simp [iblk]; rw [V_mod]
  have e : (win0_2.blk t).view.emb (ix3 (0 : Fin 1) (5 : Fin 8) j) = ix3 (0 : Fin 4) (5 : Fin 8) j := by blk_ext [idx2 t]
  rw [e]; pointwise
theorem rd3 (A : (b : Ref sig .tc) → Buf (Elt Ideal) ((c : Thread nD τ).loc b)) (t : Fin cfg0.N) (y : S4x1024x1024.Idx) :
    ((cfg0.win 3).blk t).view.read (Elt Ideal) (A (Pipeline.arrRef spec0 3)) y = A main_v9 ((win0_3.blk t).view.emb y) := rfl
theorem blk3 (t : Fin cfg0.N) (q : Fin 4) (k j : Fin 1024) :
    iblk m c 3 t (ix3 q k j) = a5 m c (ix3 (0 : Fin 4) ⟨1024 * q.val + k.val, by omega⟩ j) := by
  refine (rd3 c (V m c) t _).trans ?_
  rw [V_w]
  have e : (win0_3.blk t).view.emb (ix3 q k j) = ix3 q k j := by blk_ext [idx3 t]
  rw [e]; pointwise; blk_ext

theorem final : (dats m 0 c).arrAt 4 cfg0.N = G (m ((c : Thread nD τ).loc main_arg0)) (m ((c : Thread nD τ).loc main_arg1))
    (m ((c : Thread nD τ).loc main_arg2)) (m ((c : Thread nD τ).loc main_arg5)) := by
  refine (dats m 0 c).arrAt_eq_of_covers 4 _ (by decide +kernel) fun t hf y => ?_
  blk_simp
  rw [after0_4]
  frame_out
  idx_vars y
  refine (pay_apply _ _ _ _ _ _ _ _ _ _ _ _).trans ?_
  have e : (win0_4.blk t).view.emb (ix2 y0 y1) = ix2 (row t y0) y1 := by unfold row; blk_ext [idx4 t]
  refine Eq.trans ?_ (congrArg _ e.symm)
  simp only [G, ← Cert.Sums.quarters]
  refine congrArg₂ _ (blk0 m c t y0 y1) (congrArg₂ _ ?_ ?_)
  · pointwise; exact blk2 m c t y1
  · refine congrArg₂ _ (congrArg₂ _ (congrArg₂ _ ?_ ?_) ?_) ?_ <;> refine Finset.sum_congr rfl fun k _ => ?_ <;> pointwise
    all_goals rw [blk1, blk3]
    all_goals exact congrArg _ (congrArg (a5 m c) (by blk_ext))

end Cert.Kernel11Ideal.Fold

namespace Cert.Reference11Ideal.Ref

open Idealize.ShloMosaic Idealize.ShloMosaic.TcCoe Cert.Reference11Ideal Cert.Reference11Ideal.Gen Cert.Reference11Ideal.Read

theorem value (x0 : Vec Ideal S4096x1024 .f32) (x1 : Vec Ideal S4096x4096 .f32) (x2 : Vec Ideal S4x6x1024 .f32) (x5 : Vec Ideal S4x4096x1024 .f32) :
    val_main_v9 (F := Ideal) x0 x1 x2 x5 = Cert.Kernel11Ideal.Fold.G x0 x1 x2 x5 := by
  funext y; idx_vars y
  unfold Cert.Kernel11Ideal.Fold.G
  pointwise [val_main_v9, val_main_v8, val_main_v7, val_main_v6, val_main_v5, val_main_v4, val_main_v3, val_main_v2, val_main_v1, val_main_v0, val_main_call0_v0, val_main_call0_cst]

end Cert.Reference11Ideal.Ref

namespace Cert.Proof.K11

open Idealize.ShloMosaic Idealize.SL.Sem

/-- The reference runs to its end, keeps its arguments and has no semaphores. -/
theorem reference_frame : Cert.quiescent_Reference11Ideal (hReference11Ideal := Cert.Reference11Ideal.Gen.facts) := fun m ρ _ =>
  (θ_run Cert.Reference11Ideal.defs _ _).mono (fun r h => ⟨fun c => (h c).2,
      Idealize.ShloMosaic.sem_eq_zero_of_no_sems (by decide) r.2⟩)
    (Cert.Reference11Ideal.Value.run m ρ)

/-- The kernel's results are the reference's, of arguments that agree. -/
theorem algebraic : Cert.algebraic_Kernel11Ideal_Reference11Ideal (hKernel11Ideal := Cert.Kernel11Ideal.Gen.facts)
    (hReference11Ideal := Cert.Reference11Ideal.Gen.facts) := by
  intro m ρ m' ρ' _ hagree
  refine ⟨fun c => (Cert.Kernel11Ideal.Gen.dats m 0 c).arrAt 4 Cert.Kernel11Ideal.cfg0.N, ?_, ?_⟩
  · refine (θ_run Cert.Kernel11Ideal.defs _ _).mono (fun r h c => ?_) (Cert.Kernel11Ideal.Value.run_blocks m ρ)
    exact h c
  · refine (θ_run Cert.Reference11Ideal.defs _ _).mono (fun r h c => ?_) (Cert.Reference11Ideal.Value.run (F := Ideal) m' ρ')
    obtain ⟨h0, hk⟩ := h c
    obtain ⟨g0, g1, g2, g3, g4, g5⟩ := hagree c
    refine ⟨h0.trans ?_, hk⟩
    · rw [Cert.Reference11Ideal.Read.val_main_v9_eq, Cert.Reference11Ideal.Ref.value, g0, g1, g2, g5]
      exact (Cert.Kernel11Ideal.Fold.final m c).symm

end Cert.Proof.K11

end
-- ==== Proof.K12.lean ====
/-
  The loss and its gradient through the last norm: each block of rows of the first result is the reference's, and the
  gradient of the norm's weight and the loss are summed over the eight blocks.
-/
module

public import proofs.«01_k».proof.Defs
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Sums
public import proofs.«01_k».proof.Proof.Norm
public import proofs.«01_k».proof.Proof.Fold
public import Idealize.ShloMosaic.Lib.Pipeline.ValueKit
public import Idealize.ShloMosaic.Lib.WritesUnit
public import Idealize.ShloMosaic.Lib.Claim
public import Idealize.ShloMosaic.Adequacy
public import Idealize.ShloMosaic.Init

@[expose] public section

set_option maxRecDepth 16384

noncomputable section

namespace Cert.Kernel12Ideal.Fold

open Idealize.ShloMosaic Idealize.ShloMosaic.TcCoe Idealize.SL.Sem Cert.Kernel12Ideal Cert.Kernel12Ideal.Gen
open Idealize.ShloMosaic.Pipeline (Dat)
open Cert.Norm (rr through plus width)
open Cert.KernelIdeal.Fold (canon_mem canon_not_mem readCov_at)

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![0, 0] := by decide +kernel

/-- The arguments, as arrays. -/
abbrev a0 : Vec Ideal S4096x1024 .f32 := m ((c : Thread nD τ).loc main_arg0)
abbrev a1 : Vec Ideal S4096x1024 .f32 := m ((c : Thread nD τ).loc main_arg1)
abbrev a2 : Vec Ideal S1024 .f32 := m ((c : Thread nD τ).loc main_arg2)

/-! What the host hands to the kernel's windows, and the windows' blocks read off it. -/

theorem rd0 (A : (b : Ref sig .tc) → Buf (Elt Ideal) ((c : Thread nD τ).loc b)) (t : Fin cfg0.N) (y : S512x1024.Idx) :
    ((cfg0.win 0).blk t).view.read (Elt Ideal) (A (Pipeline.arrRef spec0 0)) y = A main_arg0 ((win0_0.blk t).view.emb y) := rfl
theorem ib0 (t : Fin cfg0.N) (y : S512x1024.Idx) : iblk m c 0 t y = (a0 m c) ((win0_0.blk t).view.emb y) :=
  (rd0 c (V m c) t y).trans (congrFun (V_main_arg0 m c) _)
theorem rd1 (A : (b : Ref sig .tc) → Buf (Elt Ideal) ((c : Thread nD τ).loc b)) (t : Fin cfg0.N) (y : S512x1024.Idx) :
    ((cfg0.win 1).blk t).view.read (Elt Ideal) (A (Pipeline.arrRef spec0 1)) y = A main_arg1 ((win0_1.blk t).view.emb y) := rfl
theorem ib1 (t : Fin cfg0.N) (y : S512x1024.Idx) : iblk m c 1 t y = (a1 m c) ((win0_1.blk t).view.emb y) :=
  (rd1 c (V m c) t y).trans (congrFun (V_main_arg1 m c) _)
theorem V_2 : V m c main_v0 = shapeCast S1x1024 (a2 m c) shapeCasts_S1024_S1x1024 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd2 (A : (b : Ref sig .tc) → Buf (Elt Ideal) ((c : Thread nD τ).loc b)) (t : Fin cfg0.N) (y : S1x1024.Idx) :
    ((cfg0.win 2).blk t).view.read (Elt Ideal) (A (Pipeline.arrRef spec0 2)) y = A main_v0 ((win0_2.blk t).view.emb y) := rfl
theorem ib2 (t : Fin cfg0.N) (y : S1x1024.Idx) : iblk m c 2 t y = (shapeCast S1x1024 (a2 m c) shapeCasts_S1024_S1x1024) ((win0_2.blk t).view.emb y) :=
  (rd2 c (V m c) t y).trans (congrFun (V_2 m c) _)

/-- Row `i` of the block of point `t`. -/
def row (t : Fin cfg0.N) (i : Fin 512) : Fin 4096 := ⟨512 * t.val + i.val, by have : t.val < 8 := t.isLt; omega⟩

theorem blk0 (t : Fin cfg0.N) (i : Fin 512) (j : Fin 1024) : iblk m c 0 t (ix2 i j) = a0 m c (ix2 (row t i) j) :=
  (ib0 m c t _).trans (congrArg (a0 m c) (by unfold row; blk_ext [idx0 t]))
theorem blk1 (t : Fin cfg0.N) (i : Fin 512) (j : Fin 1024) : iblk m c 1 t (ix2 i j) = a1 m c (ix2 (row t i) j) :=
  (ib1 m c t _).trans (congrArg (a1 m c) (by unfold row; blk_ext [idx1 t]))
theorem blk2 (t : Fin cfg0.N) (j : Fin 1024) : iblk m c 2 t (ix2 0 j) = a2 m c (ix1 j) := by
  have e : (win0_2.blk t).view.emb (ix2 0 j) = ix2 0 j := by blk_ext [idx2 t]
  refine (ib2 m c t _).trans ((congrArg _ e).trans ?_)
  pointwise

/-- The last norm's result less the target, and the gradient there. -/
def err (x tg : Vec Ideal S4096x1024 .f32) (g : Vec Ideal S1024 .f32) (i : Fin 4096) (k : Fin 1024) : EReal :=
  x (ix2 i k) * rr (fun a => x (ix2 i a)) * g (ix1 k) - tg (ix2 i k)
def dy (x tg : Vec Ideal S4096x1024 .f32) (g : Vec Ideal S1024 .f32) (i : Fin 4096) (k : Fin 1024) : EReal :=
  err x tg g i k * Ideal.ofBits .f32 0x3A800000#32
/-- The mean square of a row of differences. -/
def loss (x tg : Vec Ideal S4096x1024 .f32) (g : Vec Ideal S1024 .f32) (i : Fin 4096) : EReal :=
  Ideal.div (∑ a, err x tg g i a * err x tg g i a) width
/-- The first result. -/
def G3 (x tg : Vec Ideal S4096x1024 .f32) (g : Vec Ideal S1024 .f32) : Vec Ideal S4096x1024 .f32 := fun y =>
  (through (fun a => x (ix2 (y 0) a)) (dy x tg g (y 0)) (fun a => g (ix1 a)) (fun _ => 0) (y 1) : EReal)
/-- What block `t` adds to row `p` of the second result: the gradient of the norm's weight, the loss. -/
def part (x tg : Vec Ideal S4096x1024 .f32) (g : Vec Ideal S1024 .f32) (t p : Fin 8) (j : Fin 1024) : EReal :=
  if p.val = 0 then ∑ i : Fin 512, dy x tg g (Cert.Norm.row t i) j * (x (ix2 (Cert.Norm.row t i) j) * rr (fun a => x (ix2 (Cert.Norm.row t i) a)))
  else if p.val = 1 then plus * ∑ i : Fin 512, loss x tg g (Cert.Norm.row t i)
  else 0
/-- The second result, block by block. -/
def G4 (x tg : Vec Ideal S4096x1024 .f32) (g : Vec Ideal S1024 .f32) : Vec Ideal S8x1024 .f32 := fun y =>
  (∑ t : Fin 8, part x tg g t (y 0) (y 1) : EReal)

theorem pay4_apply (x : Vec Ideal S512x1024 .f32) (i : Fin 512) :
    k0_pay4 (F := Ideal) x (ix2 i 0) = rr (fun a => x (ix2 i a)) := by
  unfold rr Cert.Norm.var
  pointwise [k0_pay4]
theorem pay5_apply (x : Vec Ideal S512x1024 .f32) (i : Fin 512) (k : Fin 1024) :
    k0_pay5 (F := Ideal) x (ix2 i k) = x (ix2 i k) * rr (fun a => x (ix2 i a)) := by
  unfold rr Cert.Norm.var
  pointwise [k0_pay5, k0_pay4]
theorem pay7_apply (x : Vec Ideal S512x1024 .f32) (g : Vec Ideal S1x1024 .f32) (tg : Vec Ideal S512x1024 .f32) (i : Fin 512) (k : Fin 1024) :
    k0_pay7 (F := Ideal) x g tg (ix2 i k) = k0_pay5 (F := Ideal) x (ix2 i k) * g (ix2 0 k) - tg (ix2 i k) := by
  unfold k0_pay7
  generalize k0_pay5 (F := Ideal) x = xh
  pointwise [k0_pay6]
theorem err_blk (t : Fin cfg0.N) (i : Fin 512) (k : Fin 1024) :
    k0_pay7 (F := Ideal) (iblk m c 0 t) (iblk m c 2 t) (iblk m c 1 t) (ix2 i k) = err (a0 m c) (a1 m c) (a2 m c) (row t i) k := by
  refine (pay7_apply _ _ _ i k).trans ?_
  simp only [pay5_apply, blk0, blk1, blk2]
  rfl
theorem pay9_apply (x : Vec Ideal S512x1024 .f32) (g : Vec Ideal S1x1024 .f32) (tg : Vec Ideal S512x1024 .f32) (i : Fin 512) (k : Fin 1024) :
    k0_pay9 (F := Ideal) x g tg (ix2 i k) = k0_pay7 (F := Ideal) x g tg (ix2 i k) * Ideal.ofBits .f32 0x3A800000#32 := by
  unfold k0_pay9
  generalize k0_pay7 (F := Ideal) x g tg = e
  pointwise
theorem dy_blk (t : Fin cfg0.N) (i : Fin 512) (k : Fin 1024) :
    k0_pay9 (F := Ideal) (iblk m c 0 t) (iblk m c 2 t) (iblk m c 1 t) (ix2 i k) = dy (a0 m c) (a1 m c) (a2 m c) (row t i) k := by
  refine (pay9_apply _ _ _ i k).trans ?_
  rw [err_blk]
  rfl
theorem pay8_apply (x : Vec Ideal S512x1024 .f32) (g : Vec Ideal S1x1024 .f32) (tg : Vec Ideal S512x1024 .f32) :
    k0_pay8 (F := Ideal) x g tg (ix2 0 0) = plus * ∑ i : Fin 512,
      Ideal.div (∑ a : Fin 1024, k0_pay7 (F := Ideal) x g tg (ix2 i a) * k0_pay7 (F := Ideal) x g tg (ix2 i a)) width := by
  unfold k0_pay8
  generalize k0_pay7 (F := Ideal) x g tg = e
  pointwise
theorem pay10_apply (x : Vec Ideal S512x1024 .f32) (g : Vec Ideal S1x1024 .f32) (tg : Vec Ideal S512x1024 .f32) (u : Vec Ideal S1x1024 .f32) (j : Fin 1024) :
    k0_pay10 (F := Ideal) x g tg u (ix2 0 j) = u (ix2 0 j)
      + ∑ i : Fin 512, k0_pay9 (F := Ideal) x g tg (ix2 i j) * k0_pay5 (F := Ideal) x (ix2 i j) := by
  unfold k0_pay10
  generalize k0_pay9 (F := Ideal) x g tg = d
  generalize k0_pay5 (F := Ideal) x = xh
  pointwise
theorem pay1_apply (l : Vec Ideal S1x1 .f32) (u : Vec Ideal S1x1024 .f32) (j : Fin 1024) :
    k0_pay1 (F := Ideal) l u (ix2 0 j) = u (ix2 0 j) + l (ix2 0 0) := by
  pointwise [k0_pay1]
theorem pay2_apply (q : Vec Ideal S512x1 .f32) (xh : Vec Ideal S512x1024 .f32) (g : Vec Ideal S1x1024 .f32) (d : Vec Ideal S512x1024 .f32)
    (i : Fin 512) (k : Fin 1024) :
    k0_pay2 (F := Ideal) q xh (k0_pay6 g) d (ix2 i k) = q (ix2 i 0) * (d (ix2 i k) * g (ix2 0 k)
      - xh (ix2 i k) * Ideal.div (∑ a : Fin 1024, d (ix2 i a) * g (ix2 0 a) * xh (ix2 i a)) width) := by
  pointwise [k0_pay2, k0_pay6]
theorem rows_blk (t : Fin cfg0.N) (i : Fin 512) (k : Fin 1024) :
    k0_pay2 (F := Ideal) (k0_pay4 (iblk m c 0 t)) (k0_pay5 (iblk m c 0 t)) (k0_pay6 (iblk m c 2 t))
        (k0_pay9 (iblk m c 0 t) (iblk m c 2 t) (iblk m c 1 t)) (ix2 i k)
      = G3 (a0 m c) (a1 m c) (a2 m c) (ix2 (row t i) k) := by
  refine (pay2_apply _ _ _ _ i k).trans ?_
  unfold G3 through
  simp only [dy_blk, pay5_apply, pay4_apply, blk0, blk2, add_zero, mul_one]
  rfl

theorem final3 : (dats m 0 c).arrAt 3 cfg0.N = G3 (a0 m c) (a1 m c) (a2 m c) := by
  refine (dats m 0 c).arrAt_eq_of_covers 3 _ (by decide +kernel) fun t hf y => ?_
  blk_simp
  rw [after0_3]
  idx_vars y
  have e : (win0_3.blk t).view.emb (ix2 y0 y1) = ix2 (row t y0) y1 := by unfold row; blk_ext [idx3 t]
  refine Eq.trans ?_ (congrArg _ e.symm)
  by_cases h : t.val % 8 = 0
  · rw [outsAt0_A m c t h]
    frame_out
    exact rows_blk m c t y0 y1
  · rw [outsAt0_B m c t h]
    frame_out
    exact rows_blk m c t y0 y1

/-- The point as a number of a block. -/
def blk (t : Fin cfg0.N) : Fin 8 := ⟨t.val, t.isLt⟩
/-- What one point adds. -/
abbrev term (t : Fin cfg0.N) (p : Fin 8) (j : Fin 1024) : EReal := part (a0 m c) (a1 m c) (a2 m c) (blk t) p j

theorem dg (t : Fin cfg0.N) (u : Vec Ideal S1x1024 .f32) (j : Fin 1024) :
    k0_pay10 (F := Ideal) (iblk m c 0 t) (iblk m c 2 t) (iblk m c 1 t) u (ix2 0 j) = u (ix2 0 j) + term m c t 0 j := by
  rw [pay10_apply]
  simp only [dy_blk, pay5_apply, blk0]
  rfl
theorem ls (t : Fin cfg0.N) (u : Vec Ideal S1x1024 .f32) (j : Fin 1024) :
    k0_pay1 (F := Ideal) (k0_pay8 (iblk m c 0 t) (iblk m c 2 t) (iblk m c 1 t)) u (ix2 0 j) = u (ix2 0 j) + term m c t 1 j := by
  rw [pay1_apply, pay8_apply]
  simp only [err_blk]
  rfl
theorem zeros (p : Fin 8) (j : Fin 1024) : k0_pay3 (F := Ideal) (ix2 p j) = 0 := by
  pointwise [k0_pay3]

theorem acc_B (t : Fin cfg0.N) (h : ¬ t.val % 8 = 0) (p : Fin 8) (j : Fin 1024) :
    (outsAt0 m c t.val t.isLt).2 (ix2 p j)
      = (outsAt0 m c (t.val - 1) (Nat.lt_of_le_of_lt (Nat.sub_le _ _) t.isLt)).2 (ix2 p j) + term m c t p j := by
  rw [outsAt0_B m c t h]
  frame_out
  by_cases h1 : p.val = 1
  · obtain rfl : p = 1 := Fin.ext h1
    rw [View.read_writes_cons_unit_of_mem _ _ _ _ _ _ (ix2 0 j) rfl (by intro a; fin_cases a <;> simp)]
    refine (ls m c t _ j).trans ?_
    pointwise
  rw [View.read_writes_cons_unit_of_not_mem _ _ _ _ _ _ rfl 0 (by simp; omega)]
  by_cases h0 : p.val = 0
  · obtain rfl : p = 0 := Fin.ext h0
    rw [View.read_writes_cons_unit_of_mem _ _ _ _ _ _ (ix2 0 j) rfl (by intro a; fin_cases a <;> simp)]
    refine (dg m c t _ j).trans ?_
    pointwise
  rw [View.read_writes_cons_unit_of_not_mem _ _ _ _ _ _ rfl 0 (by simp; omega)]
  rw [term, part, if_neg h0, if_neg h1, add_zero]
  exact congrFun (Memref.IsWhole.read_unread _ _) _

theorem acc_A (t : Fin cfg0.N) (h : t.val % 8 = 0) (p : Fin 8) (j : Fin 1024) :
    (outsAt0 m c t.val t.isLt).2 (ix2 p j) = 0 + term m c t p j := by
  rw [outsAt0_A m c t h]
  frame_out
  by_cases h1 : p.val = 1
  · obtain rfl : p = 1 := Fin.ext h1
    rw [canon_mem _ _ _ _ (ix2 0 j) (by intro a; fin_cases a <;> simp)]
    refine (ls m c t _ j).trans ?_
    rw [readCov_at _ _ _ _ (ix2 1 j) (by intro a; fin_cases a <;> simp), canon_not_mem _ _ _ _ 0 (by simp),
      canon_mem _ _ _ _ (ix2 1 j) (by intro a; fin_cases a <;> simp), zeros]
  rw [canon_not_mem _ _ _ _ 0 (by simp; omega)]
  by_cases h0 : p.val = 0
  · obtain rfl : p = 0 := Fin.ext h0
    rw [canon_mem _ _ _ _ (ix2 0 j) (by intro a; fin_cases a <;> simp)]
    refine (dg m c t _ j).trans ?_
    rw [readCov_at _ _ _ _ (ix2 0 j) (by intro a; fin_cases a <;> simp),
      canon_mem _ _ _ _ (ix2 0 j) (by intro a; fin_cases a <;> simp), zeros]
  rw [canon_not_mem _ _ _ _ 0 (by simp; omega), canon_mem _ _ _ _ (ix2 p j) (by intro a; fin_cases a <;> simp), zeros,
    term, part, if_neg h0, if_neg h1, add_zero]

theorem sum_blk (f : Fin 8 → EReal) : ∑ t : Fin cfg0.N, f (blk t) = ∑ n : Fin 8, f n := by
  have hN : cfg0.N = 8 := N_0
  refine Function.Bijective.sum_comp ((Fintype.bijective_iff_injective_and_card blk).mpr ⟨fun a b h => ?_, ?_⟩) f
  · have := Fin.ext_iff.mp h
    simp only [blk] at this
    exact Fin.ext (by omega)
  · simp [hN]

/-- The last point. -/
def tlast : Fin cfg0.N := ⟨7, by rw [show cfg0.N = 8 from N_0]; decide⟩

theorem final4 : (dats m 0 c).arrAt 4 cfg0.N = G4 (a0 m c) (a1 m c) (a2 m c) := by
  refine Dat.arrAt_eq_of_after_last _ 4 tlast (by decide +kernel) _ fun y => ?_
  blk_simp
  rw [after0_4]
  have hy : ∀ y : S8x1024.Idx, (outsAt0 m c tlast.val tlast.isLt).2 y = G4 (a0 m c) (a1 m c) (a2 m c) y := by
    intro y
    idx_vars y
    rw [Pipeline.eq_sum_fin_of_reset_step_apply_last (fun n h (q : Fin 8 × Fin 1024) => (outsAt0 m c n h).2 (ix2 q.1 q.2)) 8
      (fun _ => 0) (fun t q => term m c t q.1 q.2) (fun t h q => acc_A m c t h _ _ ) (fun t h q => acc_B m c t h _ _ )
      (le_of_eq N_0) tlast rfl (_, _), zero_add]
    exact sum_blk fun n => part (a0 m c) (a1 m c) (a2 m c) n _ _
  exact hy y

end Cert.Kernel12Ideal.Fold

namespace Cert.Reference12Ideal.Ref

open Idealize.ShloMosaic Idealize.ShloMosaic.TcCoe Cert.Reference12Ideal Cert.Reference12Ideal.Gen Cert.Reference12Ideal.Read

open Cert.Norm (rr through mean through_eq err_scale blocks blocks_half)
open Cert.Kernel12Ideal.Fold (err dy loss part G3 G4)

variable (x0 x1 : Vec Ideal S4096x1024 .f32) (x2 : Vec Ideal S1024 .f32)

theorem norm (i : Fin 4096) (k : Fin 1024) :
    val_main_v12 (F := Ideal) x0 (ix2 i k) = x0 (ix2 i k) * rr (fun a => x0 (ix2 i a)) := by
  unfold rr Cert.Norm.var
  pointwise [val_main_v12, val_main_v11, val_main_v7, val_main_v6, val_main_v4, val_main_v2, val_main_v1, val_main_v0, val_main_cst, val_main_v3, val_main_cst_0, val_main_v5, val_main_cst_1]
theorem err_eq (i : Fin 4096) (k : Fin 1024) : val_main_v16 (F := Ideal) x0 x1 x2 (ix2 i k) = err x0 x1 x2 i k := by
  unfold err
  rw [← norm]
  unfold val_main_v16 val_main_v15
  generalize val_main_v12 (F := Ideal) x0 = h
  pointwise [val_main_v14, val_main_v13]
theorem dy_eq (i : Fin 4096) (k : Fin 1024) : val_main_v30 (F := Ideal) x0 x1 x2 (ix2 i k) = dy x0 x1 x2 i k := by
  unfold dy
  rw [← err_eq, ← err_scale]
  unfold val_main_v30 val_main_v19
  generalize val_main_v16 (F := Ideal) x0 x1 x2 = h
  pointwise [val_main_v29, val_main_v28, val_main_v26, val_main_v25, val_main_cst_8, val_main_cst_9, val_main_v27, val_main_cst_10, val_main_v18, val_main_cst_3]
theorem loss_eq : val_main_v24 (F := Ideal) x0 x1 x2 ix0 = Cert.Norm.plus * ∑ i, loss x0 x1 x2 i := by
  unfold loss
  simp only [← err_eq]
  unfold val_main_v24 val_main_v23 val_main_v22 val_main_v20 val_main_v17
  generalize val_main_v16 (F := Ideal) x0 x1 x2 = h
  pointwise [val_main_v21, val_main_cst_4, val_main_cst_5, val_main_cst_6, val_main_cst_7]
theorem dg_eq (j : Fin 1024) : val_main_v36 (F := Ideal) x0 x1 x2 (ix1 j)
    = ∑ i, dy x0 x1 x2 i j * (x0 (ix2 i j) * rr (fun a => x0 (ix2 i a))) := by
  have e : ∑ i, dy x0 x1 x2 i j * (x0 (ix2 i j) * rr (fun a => x0 (ix2 i a)))
      = ∑ i : Fin 4096, val_main_v30 (F := Ideal) x0 x1 x2 (ix2 i j) * val_main_v12 (F := Ideal) x0 (ix2 i j) :=
    Finset.sum_congr rfl fun i _ => by rw [dy_eq, norm]
  rw [e]
  unfold val_main_v36 val_main_v33 val_main_v32 val_main_v31
  generalize val_main_v30 (F := Ideal) x0 x1 x2 = d
  generalize val_main_v12 (F := Ideal) x0 = h
  pointwise [val_main_cst_11, val_main_cst_12]
  simp only [Finset.univ_unique, Finset.sum_singleton]
  exact Finset.sum_congr rfl fun i _ => mul_comm _ _

theorem value50 : val_main_v50 (F := Ideal) x0 x1 x2 = G3 x0 x1 x2 := by
  funext y; idx_vars y
  refine Eq.trans ?_ ((zero_add _).symm.trans (through_eq (x := fun a => x0 (ix2 y0 a)) (d := dy x0 x1 x2 y0) (g := fun a => x2 (ix1 a)) (s := fun _ => 0) 0 y1)).symm
  unfold mean
  simp only [add_zero, mul_one, zero_add, ← dy_eq]
  unfold rr Cert.Norm.var
  unfold val_main_v50 val_main_v49 val_main_v48 val_main_v47 val_main_v46 val_main_v45 val_main_v44 val_main_v42 val_main_v41 val_main_v39 val_main_v38 val_main_v37 val_main_v35
  generalize val_main_v30 (F := Ideal) x0 x1 x2 = d
  pointwise [val_main_v7, val_main_v6, val_main_v4, val_main_v2, val_main_v1, val_main_v0, val_main_cst, val_main_v3, val_main_cst_0, val_main_v5, val_main_cst_1, val_main_v10, val_main_v9, val_main_cst_2, val_main_v8, val_main_v7, val_main_v6, val_main_v4, val_main_v2, val_main_v1, val_main_v0, val_main_cst, val_main_v3, val_main_cst_0, val_main_v5, val_main_cst_1, val_main_v34, val_main_v13, val_main_v40, val_main_cst_13, val_main_cst_14, val_main_cst_15, val_main_v43]
  simp only [Finset.univ_unique, Finset.sum_singleton]

theorem value55 : val_main_v55 (F := Ideal) x0 x1 x2 = G4 x0 x1 x2 := by
  funext y; idx_vars y
  have e : G4 x0 x1 x2 (ix2 y0 y1) = if y0.val = 0 then val_main_v36 (F := Ideal) x0 x1 x2 (ix1 y1)
      else if y0.val = 1 then val_main_v24 (F := Ideal) x0 x1 x2 ix0 else 0 := by
    rw [dg_eq, loss_eq]
    show ∑ t : Fin 8, part x0 x1 x2 t y0 y1 = _
    unfold part
    by_cases h0 : y0.val = 0
    · simp only [if_pos h0]
      exact blocks fun i => dy x0 x1 x2 i y1 * (x0 (ix2 i y1) * rr (fun a => x0 (ix2 i a)))
    simp only [if_neg h0]
    by_cases h1 : y0.val = 1
    · simp only [if_pos h1]
      exact blocks_half (loss x0 x1 x2)
    simp only [if_neg h1, Finset.sum_const_zero]
  rw [e]
  unfold val_main_v55 val_main_v54 val_main_v53 val_main_v52 val_main_v51
  generalize val_main_v36 (F := Ideal) x0 x1 x2 = p
  generalize val_main_v24 (F := Ideal) x0 x1 x2 = q
  pointwise [val_main_call0_v0, val_main_c]
  by_cases e0 : y0.val = 0
  · rw [dif_pos (by omega), dif_pos (by omega), if_pos e0]
  rw [if_neg e0]
  by_cases e1 : y0.val = 1
  · rw [dif_pos (by omega), dif_neg (by omega), if_pos e1]
  rw [if_neg e1, dif_neg (by omega)]
  show ((((0#32 : BitVec 32).toInt : ℝ)) : EReal) = 0
  simp

end Cert.Reference12Ideal.Ref

namespace Cert.Proof.K12

open Idealize.ShloMosaic Idealize.SL.Sem

/-- The reference runs to its end, keeps its arguments and has no semaphores. -/
theorem reference_frame : Cert.quiescent_Reference12Ideal (hReference12Ideal := Cert.Reference12Ideal.Gen.facts) := fun m ρ _ =>
  (θ_run Cert.Reference12Ideal.defs _ _).mono (fun r h => ⟨fun c => (h c).2.2,
      Idealize.ShloMosaic.sem_eq_zero_of_no_sems (by decide) r.2⟩)
    (Cert.Reference12Ideal.Value.run m ρ)

/-- The kernel's results are the reference's, of arguments that agree. -/
theorem algebraic : Cert.algebraic_Kernel12Ideal_Reference12Ideal (hKernel12Ideal := Cert.Kernel12Ideal.Gen.facts)
    (hReference12Ideal := Cert.Reference12Ideal.Gen.facts) := by
  intro m ρ m' ρ' _ hagree
  refine ⟨fun c => (Cert.Kernel12Ideal.Gen.dats m 0 c).arrAt 3 Cert.Kernel12Ideal.cfg0.N, fun c => (Cert.Kernel12Ideal.Gen.dats m 0 c).arrAt 4 Cert.Kernel12Ideal.cfg0.N, ?_, ?_⟩
  · refine (θ_run Cert.Kernel12Ideal.defs _ _).mono (fun r h c => ?_) (Cert.Kernel12Ideal.Value.run_blocks m ρ)
    exact h c
  · refine (θ_run Cert.Reference12Ideal.defs _ _).mono (fun r h c => ?_) (Cert.Reference12Ideal.Value.run (F := Ideal) m' ρ')
    obtain ⟨h0, h1, hk⟩ := h c
    obtain ⟨g0, g1, g2⟩ := hagree c
    refine ⟨h0.trans ?_, h1.trans ?_, hk⟩
    · rw [Cert.Reference12Ideal.Read.val_main_v50_eq, Cert.Reference12Ideal.Ref.value50, g0, g1, g2]
      exact (Cert.Kernel12Ideal.Fold.final3 m c).symm
    · rw [Cert.Reference12Ideal.Read.val_main_v55_eq, Cert.Reference12Ideal.Ref.value55, g0, g1, g2]
      exact (Cert.Kernel12Ideal.Fold.final4 m c).symm

end Cert.Proof.K12

end
-- ==== Proof.K13.lean ====
/-
  One optimiser step of a weight on one device: every block of the three results is the reference's step at the
  block's elements.
-/
module

public import proofs.«01_k».proof.Defs
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel13Ideal.Fold

open Idealize.ShloMosaic Idealize.ShloMosaic.TcCoe Idealize.SL.Sem Cert.Kernel13Ideal Cert.Kernel13Ideal.Gen
open Cert.Reference13Ideal.Read
open Idealize.ShloMosaic.Pipeline (Dat)

variable (m : (ℓ : Loc nD τ sig) → Buf (Elt Ideal) ℓ) (c : Dev nD)

theorem idx0 : ∀ t : Fin cfg0.N, win0_0.index t = ![t.val / 2, t.val % 2, 0] := by decide +kernel
theorem idx1 : ∀ t : Fin cfg0.N, win0_1.index t = ![t.val / 2, t.val % 2, 0] := by decide +kernel
theorem idx2 : ∀ t : Fin cfg0.N, win0_2.index t = ![t.val / 2, t.val % 2, 0] := by decide +kernel
theorem idx3 : ∀ t : Fin cfg0.N, win0_3.index t = ![t.val / 2, t.val % 2, 0] := by decide +kernel
theorem idx4 : ∀ t : Fin cfg0.N, win0_4.index t = ![t.val / 2, t.val % 2, 0] := by decide +kernel
theorem idx5 : ∀ t : Fin cfg0.N, win0_5.index t = ![t.val / 2, t.val % 2, 0] := by decide +kernel
theorem idx6 : ∀ t : Fin cfg0.N, win0_6.index t = ![t.val / 2, t.val % 2, 0] := by decide +kernel

/-- The arguments, as arrays. -/
abbrev a0 : Vec Ideal S4x1024x770 .f32 := m ((c : Thread nD τ).loc main_arg0)
abbrev a1 : Vec Ideal S4x1024x770 .f32 := m ((c : Thread nD τ).loc main_arg1)
abbrev a2 : Vec Ideal S4x1024x770 .f32 := m ((c : Thread nD τ).loc main_arg2)
abbrev a3 : Vec Ideal S4x1024x770 .f32 := m ((c : Thread nD τ).loc main_arg3)

/-! What the host hands to the kernel's windows, and the windows' blocks read off it. -/

theorem rd0 (A : (b : Ref sig .tc) → Buf (Elt Ideal) ((c : Thread nD τ).loc b)) (t : Fin cfg0.N) (y : S1x512x770.Idx) :
    ((cfg0.win 0).blk t).view.read (Elt Ideal) (A (Pipeline.arrRef spec0 0)) y = A main_arg0 ((win0_0.blk t).view.emb y) := rfl
theorem ib0 (t : Fin cfg0.N) (y : S1x512x770.Idx) : iblk m c 0 t y = (a0 m c) ((win0_0.blk t).view.emb y) :=
  (rd0 c (V m c) t y).trans (congrFun (V_main_arg0 m c) _)
theorem rd1 (A : (b : Ref sig .tc) → Buf (Elt Ideal) ((c : Thread nD τ).loc b)) (t : Fin cfg0.N) (y : S1x512x770.Idx) :
    ((cfg0.win 1).blk t).view.read (Elt Ideal) (A (Pipeline.arrRef spec0 1)) y = A main_arg1 ((win0_1.blk t).view.emb y) := rfl
theorem ib1 (t : Fin cfg0.N) (y : S1x512x770.Idx) : iblk m c 1 t y = (a1 m c) ((win0_1.blk t).view.emb y) :=
  (rd1 c (V m c) t y).trans (congrFun (V_main_arg1 m c) _)
theorem rd2 (A : (b : Ref sig .tc) → Buf (Elt Ideal) ((c : Thread nD τ).loc b)) (t : Fin cfg0.N) (y : S1x512x770.Idx) :
    ((cfg0.win 2).blk t).view.read (Elt Ideal) (A (Pipeline.arrRef spec0 2)) y = A main_arg2 ((win0_2.blk t).view.emb y) := rfl
theorem ib2 (t : Fin cfg0.N) (y : S1x512x770.Idx) : iblk m c 2 t y = (a2 m c) ((win0_2.blk t).view.emb y) :=
  (rd2 c (V m c) t y).trans (congrFun (V_main_arg2 m c) _)
theorem rd3 (A : (b : Ref sig .tc) → Buf (Elt Ideal) ((c : Thread nD τ).loc b)) (t : Fin cfg0.N) (y : S1x512x770.Idx) :
    ((cfg0.win 3).blk t).view.read (Elt Ideal) (A (Pipeline.arrRef spec0 3)) y = A main_arg3 ((win0_3.blk t).view.emb y) := rfl
theorem ib3 (t : Fin cfg0.N) (y : S1x512x770.Idx) : iblk m c 3 t y = (a3 m c) ((win0_3.blk t).view.emb y) :=
  (rd3 c (V m c) t y).trans (congrFun (V_main_arg3 m c) _)

/-- The element of the array at place `(0, i, j)` of block `t`. -/
def at_ (t : Fin cfg0.N) (i : Fin 512) (j : Fin 770) : S4x1024x770.Idx :=
  ix3 (⟨t.val / 2, by have : t.val < 8 := t.isLt; omega⟩ : Fin 4) (⟨512 * (t.val % 2) + i.val, by omega⟩ : Fin 1024) j

theorem blk0 (t : Fin cfg0.N) (i : Fin 512) (j : Fin 770) : iblk m c 0 t (ix3 0 i j) = a0 m c (at_ t i j) :=
  (ib0 m c t _).trans (congrArg (a0 m c) (by unfold at_; blk_ext [idx0 t]))

theorem blk1 (t : Fin cfg0.N) (i : Fin 512) (j : Fin 770) : iblk m c 1 t (ix3 0 i j) = a1 m c (at_ t i j) :=
  (ib1 m c t _).trans (congrArg (a1 m c) (by unfold at_; blk_ext [idx1 t]))

theorem blk2 (t : Fin cfg0.N) (i : Fin 512) (j : Fin 770) : iblk m c 2 t (ix3 0 i j) = a2 m c (at_ t i j) :=
  (ib2 m c t _).trans (congrArg (a2 m c) (by unfold at_; blk_ext [idx2 t]))

theorem blk3 (t : Fin cfg0.N) (i : Fin 512) (j : Fin 770) : iblk m c 3 t (ix3 0 i j) = a3 m c (at_ t i j) :=
  (ib3 m c t _).trans (congrArg (a3 m c) (by unfold at_; blk_ext [idx3 t]))

/-- Result 0 of the kernel is the reference's. -/
theorem final4 : (dats m 0 c).arrAt 4 cfg0.N = val_main_v23 (F := Ideal) (a0 m c) (a1 m c) (a2 m c) (a3 m c) := by
  refine (dats m 0 c).arrAt_eq_of_covers 4 _ (by decide +kernel) fun t hf y => ?_
  blk_simp
  rw [after0_4]
  frame_out
  idx_vars y
  obtain rfl : y0 = 0 := Subsingleton.elim _ _
  have e : (win0_4.blk t).view.emb (ix3 0 y1 y2) = at_ t y1 y2 := by unfold at_; blk_ext [idx4 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]

/-- Result 1 of the kernel is the reference's. -/
theorem final5 : (dats m 0 c).arrAt 5 cfg0.N = val_main_v4 (F := Ideal) (a1 m c) (a2 m c) := by
  refine (dats m 0 c).arrAt_eq_of_covers 5 _ (by decide +kernel) fun t hf y => ?_
  blk_simp
  rw [after0_5]
  frame_out
  idx_vars y
  obtain rfl : y0 = 0 := Subsingleton.elim _ _
  have e : (win0_5.blk t).view.emb (ix3 0 y1 y2) = at_ t y1 y2 := by unfold at_; blk_ext [idx5 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]

/-- Result 2 of the kernel is the reference's. -/
theorem final6 : (dats m 0 c).arrAt 6 cfg0.N = val_main_v10 (F := Ideal) (a1 m c) (a3 m c) := by
  refine (dats m 0 c).arrAt_eq_of_covers 6 _ (by decide +kernel) fun t hf y => ?_
  blk_simp
  rw [after0_6]
  frame_out
  idx_vars y
  obtain rfl : y0 = 0 := Subsingleton.elim _ _
  have e : (win0_6.blk t).view.emb (ix3 0 y1 y2) = at_ t y1 y2 := by unfold at_; blk_ext [idx6 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]

end Cert.Kernel13Ideal.Fold
namespace Cert.Proof.K13

open Idealize.ShloMosaic Idealize.SL.Sem

/-- The reference runs to its end, keeps its arguments and has no semaphores. -/
theorem reference_frame : Cert.quiescent_Reference13Ideal (hReference13Ideal := Cert.Reference13Ideal.Gen.facts) := fun m ρ _ =>
  (θ_run Cert.Reference13Ideal.defs _ _).mono (fun r h => ⟨fun c => (h c).2.2.2,
      Idealize.ShloMosaic.sem_eq_zero_of_no_sems (by decide) r.2⟩)
    (Cert.Reference13Ideal.Value.run m ρ)

/-- The kernel's results are the reference's, of arguments that agree. -/
theorem algebraic : Cert.algebraic_Kernel13Ideal_Reference13Ideal (hKernel13Ideal := Cert.Kernel13Ideal.Gen.facts)
    (hReference13Ideal := Cert.Reference13Ideal.Gen.facts) := by
  intro m ρ m' ρ' _ hagree
  refine ⟨fun c => (Cert.Kernel13Ideal.Gen.dats m 0 c).arrAt 4 Cert.Kernel13Ideal.cfg0.N, fun c => (Cert.Kernel13Ideal.Gen.dats m 0 c).arrAt 5 Cert.Kernel13Ideal.cfg0.N, fun c => (Cert.Kernel13Ideal.Gen.dats m 0 c).arrAt 6 Cert.Kernel13Ideal.cfg0.N, ?_, ?_⟩
  · refine (θ_run Cert.Kernel13Ideal.defs _ _).mono (fun r h c => ?_) (Cert.Kernel13Ideal.Value.run_blocks m ρ)
    exact h c
  · refine (θ_run Cert.Reference13Ideal.defs _ _).mono (fun r h c => ?_) (Cert.Reference13Ideal.Value.run (F := Ideal) m' ρ')
    obtain ⟨h0, h1, h2, hk⟩ := h c
    obtain ⟨g0, g1, g2, g3⟩ := hagree c
    refine ⟨h0.trans ?_, h1.trans ?_, h2.trans ?_, hk⟩
    · rw [Cert.Reference13Ideal.Read.val_main_v23_eq, g0, g1, g2, g3]
      exact (Cert.Kernel13Ideal.Fold.final4 m c).symm
    · rw [Cert.Reference13Ideal.Read.val_main_v4_eq, g1, g2]
      exact (Cert.Kernel13Ideal.Fold.final5 m c).symm
    · rw [Cert.Reference13Ideal.Read.val_main_v10_eq, g1, g3]
      exact (Cert.Kernel13Ideal.Fold.final6 m c).symm

end Cert.Proof.K13

end
-- ==== Proof.K14.lean ====
/-
  One optimiser step of a weight on one device: every block of the three results is the reference's step at the
  block's elements.
-/
module

public import proofs.«01_k».proof.Defs
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel14Ideal.Fold

open Idealize.ShloMosaic Idealize.ShloMosaic.TcCoe Idealize.SL.Sem Cert.Kernel14Ideal Cert.Kernel14Ideal.Gen
open Cert.Reference14Ideal.Read
open Idealize.ShloMosaic.Pipeline (Dat)

variable (m : (ℓ : Loc nD τ sig) → Buf (Elt Ideal) ℓ) (c : Dev nD)

theorem idx0 : ∀ t : Fin cfg0.N, win0_0.index t = ![t.val, 0, 0] := by decide +kernel
theorem idx1 : ∀ t : Fin cfg0.N, win0_1.index t = ![t.val, 0, 0] := by decide +kernel
theorem idx2 : ∀ t : Fin cfg0.N, win0_2.index t = ![t.val, 0, 0] := by decide +kernel
theorem idx3 : ∀ t : Fin cfg0.N, win0_3.index t = ![t.val, 0, 0] := by decide +kernel
theorem idx4 : ∀ t : Fin cfg0.N, win0_4.index t = ![t.val, 0, 0] := by decide +kernel
theorem idx5 : ∀ t : Fin cfg0.N, win0_5.index t = ![t.val, 0, 0] := by decide +kernel
theorem idx6 : ∀ t : Fin cfg0.N, win0_6.index t = ![t.val, 0, 0] := by decide +kernel

/-- The arguments, as arrays. -/
abbrev a0 : Vec Ideal S4x256x1024 .f32 := m ((c : Thread nD τ).loc main_arg0)
abbrev a1 : Vec Ideal S4x256x1024 .f32 := m ((c : Thread nD τ).loc main_arg1)
abbrev a2 : Vec Ideal S4x256x1024 .f32 := m ((c : Thread nD τ).loc main_arg2)
abbrev a3 : Vec Ideal S4x256x1024 .f32 := m ((c : Thread nD τ).loc main_arg3)

/-! What the host hands to the kernel's windows, and the windows' blocks read off it. -/

theorem rd0 (A : (b : Ref sig .tc) → Buf (Elt Ideal) ((c : Thread nD τ).loc b)) (t : Fin cfg0.N) (y : S1x256x1024.Idx) :
    ((cfg0.win 0).blk t).view.read (Elt Ideal) (A (Pipeline.arrRef spec0 0)) y = A main_arg0 ((win0_0.blk t).view.emb y) := rfl
theorem ib0 (t : Fin cfg0.N) (y : S1x256x1024.Idx) : iblk m c 0 t y = (a0 m c) ((win0_0.blk t).view.emb y) :=
  (rd0 c (V m c) t y).trans (congrFun (V_main_arg0 m c) _)
theorem rd1 (A : (b : Ref sig .tc) → Buf (Elt Ideal) ((c : Thread nD τ).loc b)) (t : Fin cfg0.N) (y : S1x256x1024.Idx) :
    ((cfg0.win 1).blk t).view.read (Elt Ideal) (A (Pipeline.arrRef spec0 1)) y = A main_arg1 ((win0_1.blk t).view.emb y) := rfl
theorem ib1 (t : Fin cfg0.N) (y : S1x256x1024.Idx) : iblk m c 1 t y = (a1 m c) ((win0_1.blk t).view.emb y) :=
  (rd1 c (V m c) t y).trans (congrFun (V_main_arg1 m c) _)
theorem rd2 (A : (b : Ref sig .tc) → Buf (Elt Ideal) ((c : Thread nD τ).loc b)) (t : Fin cfg0.N) (y : S1x256x1024.Idx) :
    ((cfg0.win 2).blk t).view.read (Elt Ideal) (A (Pipeline.arrRef spec0 2)) y = A main_arg2 ((win0_2.blk t).view.emb y) := rfl
theorem ib2 (t : Fin cfg0.N) (y : S1x256x1024.Idx) : iblk m c 2 t y = (a2 m c) ((win0_2.blk t).view.emb y) :=
  (rd2 c (V m c) t y).trans (congrFun (V_main_arg2 m c) _)
theorem rd3 (A : (b : Ref sig .tc) → Buf (Elt Ideal) ((c : Thread nD τ).loc b)) (t : Fin cfg0.N) (y : S1x256x1024.Idx) :
    ((cfg0.win 3).blk t).view.read (Elt Ideal) (A (Pipeline.arrRef spec0 3)) y = A main_arg3 ((win0_3.blk t).view.emb y) := rfl
theorem ib3 (t : Fin cfg0.N) (y : S1x256x1024.Idx) : iblk m c 3 t y = (a3 m c) ((win0_3.blk t).view.emb y) :=
  (rd3 c (V m c) t y).trans (congrFun (V_main_arg3 m c) _)

/-- The element of the array at place `(0, i, j)` of block `t`. -/
def at_ (t : Fin cfg0.N) (i : Fin 256) (j : Fin 1024) : S4x256x1024.Idx :=
  ix3 (⟨t.val, by have : t.val < 4 := t.isLt; omega⟩ : Fin 4) i j

theorem blk0 (t : Fin cfg0.N) (i : Fin 256) (j : Fin 1024) : iblk m c 0 t (ix3 0 i j) = a0 m c (at_ t i j) :=
  (ib0 m c t _).trans (congrArg (a0 m c) (by unfold at_; blk_ext [idx0 t]))

theorem blk1 (t : Fin cfg0.N) (i : Fin 256) (j : Fin 1024) : iblk m c 1 t (ix3 0 i j) = a1 m c (at_ t i j) :=
  (ib1 m c t _).trans (congrArg (a1 m c) (by unfold at_; blk_ext [idx1 t]))

theorem blk2 (t : Fin cfg0.N) (i : Fin 256) (j : Fin 1024) : iblk m c 2 t (ix3 0 i j) = a2 m c (at_ t i j) :=
  (ib2 m c t _).trans (congrArg (a2 m c) (by unfold at_; blk_ext [idx2 t]))

theorem blk3 (t : Fin cfg0.N) (i : Fin 256) (j : Fin 1024) : iblk m c 3 t (ix3 0 i j) = a3 m c (at_ t i j) :=
  (ib3 m c t _).trans (congrArg (a3 m c) (by unfold at_; blk_ext [idx3 t]))

/-- Result 0 of the kernel is the reference's. -/
theorem final4 : (dats m 0 c).arrAt 4 cfg0.N = val_main_v23 (F := Ideal) (a0 m c) (a1 m c) (a2 m c) (a3 m c) := by
  refine (dats m 0 c).arrAt_eq_of_covers 4 _ (by decide +kernel) fun t hf y => ?_
  blk_simp
  rw [after0_4]
  frame_out
  idx_vars y
  obtain rfl : y0 = 0 := Subsingleton.elim _ _
  have e : (win0_4.blk t).view.emb (ix3 0 y1 y2) = at_ t y1 y2 := by unfold at_; blk_ext [idx4 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]
  rfl

/-- Result 1 of the kernel is the reference's. -/
theorem final5 : (dats m 0 c).arrAt 5 cfg0.N = val_main_v4 (F := Ideal) (a1 m c) (a2 m c) := by
  refine (dats m 0 c).arrAt_eq_of_covers 5 _ (by decide +kernel) fun t hf y => ?_
  blk_simp
  rw [after0_5]
  frame_out
  idx_vars y
  obtain rfl : y0 = 0 := Subsingleton.elim _ _
  have e : (win0_5.blk t).view.emb (ix3 0 y1 y2) = at_ t y1 y2 := by unfold at_; blk_ext [idx5 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]
  rfl

/-- Result 2 of the kernel is the reference's. -/
theorem final6 : (dats m 0 c).arrAt 6 cfg0.N = val_main_v10 (F := Ideal) (a1 m c) (a3 m c) := by
  refine (dats m 0 c).arrAt_eq_of_covers 6 _ (by decide +kernel) fun t hf y => ?_
  blk_simp
  rw [after0_6]
  frame_out
  idx_vars y
  obtain rfl : y0 = 0 := Subsingleton.elim _ _
  have e : (win0_6.blk t).view.emb (ix3 0 y1 y2) = at_ t y1 y2 := by unfold at_; blk_ext [idx6 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]
  rfl

end Cert.Kernel14Ideal.Fold
namespace Cert.Proof.K14

open Idealize.ShloMosaic Idealize.SL.Sem

/-- The reference runs to its end, keeps its arguments and has no semaphores. -/
theorem reference_frame : Cert.quiescent_Reference14Ideal (hReference14Ideal := Cert.Reference14Ideal.Gen.facts) := fun m ρ _ =>
  (θ_run Cert.Reference14Ideal.defs _ _).mono (fun r h => ⟨fun c => (h c).2.2.2,
      Idealize.ShloMosaic.sem_eq_zero_of_no_sems (by decide) r.2⟩)
    (Cert.Reference14Ideal.Value.run m ρ)

/-- The kernel's results are the reference's, of arguments that agree. -/
theorem algebraic : Cert.algebraic_Kernel14Ideal_Reference14Ideal (hKernel14Ideal := Cert.Kernel14Ideal.Gen.facts)
    (hReference14Ideal := Cert.Reference14Ideal.Gen.facts) := by
  intro m ρ m' ρ' _ hagree
  refine ⟨fun c => (Cert.Kernel14Ideal.Gen.dats m 0 c).arrAt 4 Cert.Kernel14Ideal.cfg0.N, fun c => (Cert.Kernel14Ideal.Gen.dats m 0 c).arrAt 5 Cert.Kernel14Ideal.cfg0.N, fun c => (Cert.Kernel14Ideal.Gen.dats m 0 c).arrAt 6 Cert.Kernel14Ideal.cfg0.N, ?_, ?_⟩
  · refine (θ_run Cert.Kernel14Ideal.defs _ _).mono (fun r h c => ?_) (Cert.Kernel14Ideal.Value.run_blocks m ρ)
    exact h c
  · refine (θ_run Cert.Reference14Ideal.defs _ _).mono (fun r h c => ?_) (Cert.Reference14Ideal.Value.run (F := Ideal) m' ρ')
    obtain ⟨h0, h1, h2, hk⟩ := h c
    obtain ⟨g0, g1, g2, g3⟩ := hagree c
    refine ⟨h0.trans ?_, h1.trans ?_, h2.trans ?_, hk⟩
    · rw [Cert.Reference14Ideal.Read.val_main_v23_eq, g0, g1, g2, g3]
      exact (Cert.Kernel14Ideal.Fold.final4 m c).symm
    · rw [Cert.Reference14Ideal.Read.val_main_v4_eq, g1, g2]
      exact (Cert.Kernel14Ideal.Fold.final5 m c).symm
    · rw [Cert.Reference14Ideal.Read.val_main_v10_eq, g1, g3]
      exact (Cert.Kernel14Ideal.Fold.final6 m c).symm

end Cert.Proof.K14

end
-- ==== Proof.K15.lean ====
/-
  One optimiser step of a weight on one device: every block of the three results is the reference's step at the
  block's elements.
-/
module

public import proofs.«01_k».proof.Defs
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel15Ideal.Fold

open Idealize.ShloMosaic Idealize.ShloMosaic.TcCoe Idealize.SL.Sem Cert.Kernel15Ideal Cert.Kernel15Ideal.Gen
open Cert.Reference15Ideal.Read
open Idealize.ShloMosaic.Pipeline (Dat)

variable (m : (ℓ : Loc nD τ sig) → Buf (Elt Ideal) ℓ) (c : Dev nD)

theorem idx0 : ∀ t : Fin cfg0.N, win0_0.index t = ![t.val / 2, t.val % 2, 0] := by decide +kernel
theorem idx1 : ∀ t : Fin cfg0.N, win0_1.index t = ![t.val / 2, t.val % 2, 0] := by decide +kernel
theorem idx2 : ∀ t : Fin cfg0.N, win0_2.index t = ![t.val / 2, t.val % 2, 0] := by decide +kernel
theorem idx3 : ∀ t : Fin cfg0.N, win0_3.index t = ![t.val / 2, t.val % 2, 0] := by decide +kernel
theorem idx4 : ∀ t : Fin cfg0.N, win0_4.index t = ![t.val / 2, t.val % 2, 0] := by decide +kernel
theorem idx5 : ∀ t : Fin cfg0.N, win0_5.index t = ![t.val / 2, t.val % 2, 0] := by decide +kernel
theorem idx6 : ∀ t : Fin cfg0.N, win0_6.index t = ![t.val / 2, t.val % 2, 0] := by decide +kernel

/-- The arguments, as arrays. -/
abbrev a0 : Vec Ideal S4x1024x1024 .f32 := m ((c : Thread nD τ).loc main_arg0)
abbrev a1 : Vec Ideal S4x1024x1024 .f32 := m ((c : Thread nD τ).loc main_arg1)
abbrev a2 : Vec Ideal S4x1024x1024 .f32 := m ((c : Thread nD τ).loc main_arg2)
abbrev a3 : Vec Ideal S4x1024x1024 .f32 := m ((c : Thread nD τ).loc main_arg3)

/-! What the host hands to the kernel's windows, and the windows' blocks read off it. -/

theorem rd0 (A : (b : Ref sig .tc) → Buf (Elt Ideal) ((c : Thread nD τ).loc b)) (t : Fin cfg0.N) (y : S1x512x1024.Idx) :
    ((cfg0.win 0).blk t).view.read (Elt Ideal) (A (Pipeline.arrRef spec0 0)) y = A main_arg0 ((win0_0.blk t).view.emb y) := rfl
theorem ib0 (t : Fin cfg0.N) (y : S1x512x1024.Idx) : iblk m c 0 t y = (a0 m c) ((win0_0.blk t).view.emb y) :=
  (rd0 c (V m c) t y).trans (congrFun (V_main_arg0 m c) _)
theorem rd1 (A : (b : Ref sig .tc) → Buf (Elt Ideal) ((c : Thread nD τ).loc b)) (t : Fin cfg0.N) (y : S1x512x1024.Idx) :
    ((cfg0.win 1).blk t).view.read (Elt Ideal) (A (Pipeline.arrRef spec0 1)) y = A main_arg1 ((win0_1.blk t).view.emb y) := rfl
theorem ib1 (t : Fin cfg0.N) (y : S1x512x1024.Idx) : iblk m c 1 t y = (a1 m c) ((win0_1.blk t).view.emb y) :=
  (rd1 c (V m c) t y).trans (congrFun (V_main_arg1 m c) _)
theorem rd2 (A : (b : Ref sig .tc) → Buf (Elt Ideal) ((c : Thread nD τ).loc b)) (t : Fin cfg0.N) (y : S1x512x1024.Idx) :
    ((cfg0.win 2).blk t).view.read (Elt Ideal) (A (Pipeline.arrRef spec0 2)) y = A main_arg2 ((win0_2.blk t).view.emb y) := rfl
theorem ib2 (t : Fin cfg0.N) (y : S1x512x1024.Idx) : iblk m c 2 t y = (a2 m c) ((win0_2.blk t).view.emb y) :=
  (rd2 c (V m c) t y).trans (congrFun (V_main_arg2 m c) _)
theorem rd3 (A : (b : Ref sig .tc) → Buf (Elt Ideal) ((c : Thread nD τ).loc b)) (t : Fin cfg0.N) (y : S1x512x1024.Idx) :
    ((cfg0.win 3).blk t).view.read (Elt Ideal) (A (Pipeline.arrRef spec0 3)) y = A main_arg3 ((win0_3.blk t).view.emb y) := rfl
theorem ib3 (t : Fin cfg0.N) (y : S1x512x1024.Idx) : iblk m c 3 t y = (a3 m c) ((win0_3.blk t).view.emb y) :=
  (rd3 c (V m c) t y).trans (congrFun (V_main_arg3 m c) _)

/-- The element of the array at place `(0, i, j)` of block `t`. -/
def at_ (t : Fin cfg0.N) (i : Fin 512) (j : Fin 1024) : S4x1024x1024.Idx :=
  ix3 (⟨t.val / 2, by have : t.val < 8 := t.isLt; omega⟩ : Fin 4) (⟨512 * (t.val % 2) + i.val, by omega⟩ : Fin 1024) j

theorem blk0 (t : Fin cfg0.N) (i : Fin 512) (j : Fin 1024) : iblk m c 0 t (ix3 0 i j) = a0 m c (at_ t i j) :=
  (ib0 m c t _).trans (congrArg (a0 m c) (by unfold at_; blk_ext [idx0 t]))

theorem blk1 (t : Fin cfg0.N) (i : Fin 512) (j : Fin 1024) : iblk m c 1 t (ix3 0 i j) = a1 m c (at_ t i j) :=
  (ib1 m c t _).trans (congrArg (a1 m c) (by unfold at_; blk_ext [idx1 t]))

theorem blk2 (t : Fin cfg0.N) (i : Fin 512) (j : Fin 1024) : iblk m c 2 t (ix3 0 i j) = a2 m c (at_ t i j) :=
  (ib2 m c t _).trans (congrArg (a2 m c) (by unfold at_; blk_ext [idx2 t]))

theorem blk3 (t : Fin cfg0.N) (i : Fin 512) (j : Fin 1024) : iblk m c 3 t (ix3 0 i j) = a3 m c (at_ t i j) :=
  (ib3 m c t _).trans (congrArg (a3 m c) (by unfold at_; blk_ext [idx3 t]))

/-- Result 0 of the kernel is the reference's. -/
theorem final4 : (dats m 0 c).arrAt 4 cfg0.N = val_main_v23 (F := Ideal) (a0 m c) (a1 m c) (a2 m c) (a3 m c) := by
  refine (dats m 0 c).arrAt_eq_of_covers 4 _ (by decide +kernel) fun t hf y => ?_
  blk_simp
  rw [after0_4]
  frame_out
  idx_vars y
  obtain rfl : y0 = 0 := Subsingleton.elim _ _
  have e : (win0_4.blk t).view.emb (ix3 0 y1 y2) = at_ t y1 y2 := by unfold at_; blk_ext [idx4 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]

/-- Result 1 of the kernel is the reference's. -/
theorem final5 : (dats m 0 c).arrAt 5 cfg0.N = val_main_v4 (F := Ideal) (a1 m c) (a2 m c) := by
  refine (dats m 0 c).arrAt_eq_of_covers 5 _ (by decide +kernel) fun t hf y => ?_
  blk_simp
  rw [after0_5]
  frame_out
  idx_vars y
  obtain rfl : y0 = 0 := Subsingleton.elim _ _
  have e : (win0_5.blk t).view.emb (ix3 0 y1 y2) = at_ t y1 y2 := by unfold at_; blk_ext [idx5 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]

/-- Result 2 of the kernel is the reference's. -/
theorem final6 : (dats m 0 c).arrAt 6 cfg0.N = val_main_v10 (F := Ideal) (a1 m c) (a3 m c) := by
  refine (dats m 0 c).arrAt_eq_of_covers 6 _ (by decide +kernel) fun t hf y => ?_
  blk_simp
  rw [after0_6]
  frame_out
  idx_vars y
  obtain rfl : y0 = 0 := Subsingleton.elim _ _
  have e : (win0_6.blk t).view.emb (ix3 0 y1 y2) = at_ t y1 y2 := by unfold at_; blk_ext [idx6 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]

end Cert.Kernel15Ideal.Fold
namespace Cert.Proof.K15

open Idealize.ShloMosaic Idealize.SL.Sem

/-- The reference runs to its end, keeps its arguments and has no semaphores. -/
theorem reference_frame : Cert.quiescent_Reference15Ideal (hReference15Ideal := Cert.Reference15Ideal.Gen.facts) := fun m ρ _ =>
  (θ_run Cert.Reference15Ideal.defs _ _).mono (fun r h => ⟨fun c => (h c).2.2.2,
      Idealize.ShloMosaic.sem_eq_zero_of_no_sems (by decide) r.2⟩)
    (Cert.Reference15Ideal.Value.run m ρ)

/-- The kernel's results are the reference's, of arguments that agree. -/
theorem algebraic : Cert.algebraic_Kernel15Ideal_Reference15Ideal (hKernel15Ideal := Cert.Kernel15Ideal.Gen.facts)
    (hReference15Ideal := Cert.Reference15Ideal.Gen.facts) := by
  intro m ρ m' ρ' _ hagree
  refine ⟨fun c => (Cert.Kernel15Ideal.Gen.dats m 0 c).arrAt 4 Cert.Kernel15Ideal.cfg0.N, fun c => (Cert.Kernel15Ideal.Gen.dats m 0 c).arrAt 5 Cert.Kernel15Ideal.cfg0.N, fun c => (Cert.Kernel15Ideal.Gen.dats m 0 c).arrAt 6 Cert.Kernel15Ideal.cfg0.N, ?_, ?_⟩
  · refine (θ_run Cert.Kernel15Ideal.defs _ _).mono (fun r h c => ?_) (Cert.Kernel15Ideal.Value.run_blocks m ρ)
    exact h c
  · refine (θ_run Cert.Reference15Ideal.defs _ _).mono (fun r h c => ?_) (Cert.Reference15Ideal.Value.run (F := Ideal) m' ρ')
    obtain ⟨h0, h1, h2, hk⟩ := h c
    obtain ⟨g0, g1, g2, g3⟩ := hagree c
    refine ⟨h0.trans ?_, h1.trans ?_, h2.trans ?_, hk⟩
    · rw [Cert.Reference15Ideal.Read.val_main_v23_eq, g0, g1, g2, g3]
      exact (Cert.Kernel15Ideal.Fold.final4 m c).symm
    · rw [Cert.Reference15Ideal.Read.val_main_v4_eq, g1, g2]
      exact (Cert.Kernel15Ideal.Fold.final5 m c).symm
    · rw [Cert.Reference15Ideal.Read.val_main_v10_eq, g1, g3]
      exact (Cert.Kernel15Ideal.Fold.final6 m c).symm

end Cert.Proof.K15

end
-- ==== Proof.K16.lean ====
/-
  One optimiser step of a weight on one device: every block of the three results is the reference's step at the
  block's elements.
-/
module

public import proofs.«01_k».proof.Defs
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel16Ideal.Fold

open Idealize.ShloMosaic Idealize.ShloMosaic.TcCoe Idealize.SL.Sem Cert.Kernel16Ideal Cert.Kernel16Ideal.Gen
open Cert.Reference16Ideal.Read
open Idealize.ShloMosaic.Pipeline (Dat)

variable (m : (ℓ : Loc nD τ sig) → Buf (Elt Ideal) ℓ) (c : Dev nD)

theorem idx0 : ∀ t : Fin cfg0.N, win0_0.index t = ![t.val / 2, t.val % 2, 0] := by decide +kernel
theorem idx1 : ∀ t : Fin cfg0.N, win0_1.index t = ![t.val / 2, t.val % 2, 0] := by decide +kernel
theorem idx2 : ∀ t : Fin cfg0.N, win0_2.index t = ![t.val / 2, t.val % 2, 0] := by decide +kernel
theorem idx3 : ∀ t : Fin cfg0.N, win0_3.index t = ![t.val / 2, t.val % 2, 0] := by decide +kernel
theorem idx4 : ∀ t : Fin cfg0.N, win0_4.index t = ![t.val / 2, t.val % 2, 0] := by decide +kernel
theorem idx5 : ∀ t : Fin cfg0.N, win0_5.index t = ![t.val / 2, t.val % 2, 0] := by decide +kernel
theorem idx6 : ∀ t : Fin cfg0.N, win0_6.index t = ![t.val / 2, t.val % 2, 0] := by decide +kernel

/-- The arguments, as arrays. -/
abbrev a0 : Vec Ideal S4x1024x1024 .f32 := m ((c : Thread nD τ).loc main_arg0)
abbrev a1 : Vec Ideal S4x1024x1024 .f32 := m ((c : Thread nD τ).loc main_arg1)
abbrev a2 : Vec Ideal S4x1024x1024 .f32 := m ((c : Thread nD τ).loc main_arg2)
abbrev a3 : Vec Ideal S4x1024x1024 .f32 := m ((c : Thread nD τ).loc main_arg3)

/-! What the host hands to the kernel's windows, and the windows' blocks read off it. -/

theorem rd0 (A : (b : Ref sig .tc) → Buf (Elt Ideal) ((c : Thread nD τ).loc b)) (t : Fin cfg0.N) (y : S1x512x1024.Idx) :
    ((cfg0.win 0).blk t).view.read (Elt Ideal) (A (Pipeline.arrRef spec0 0)) y = A main_arg0 ((win0_0.blk t).view.emb y) := rfl
theorem ib0 (t : Fin cfg0.N) (y : S1x512x1024.Idx) : iblk m c 0 t y = (a0 m c) ((win0_0.blk t).view.emb y) :=
  (rd0 c (V m c) t y).trans (congrFun (V_main_arg0 m c) _)
theorem rd1 (A : (b : Ref sig .tc) → Buf (Elt Ideal) ((c : Thread nD τ).loc b)) (t : Fin cfg0.N) (y : S1x512x1024.Idx) :
    ((cfg0.win 1).blk t).view.read (Elt Ideal) (A (Pipeline.arrRef spec0 1)) y = A main_arg1 ((win0_1.blk t).view.emb y) := rfl
theorem ib1 (t : Fin cfg0.N) (y : S1x512x1024.Idx) : iblk m c 1 t y = (a1 m c) ((win0_1.blk t).view.emb y) :=
  (rd1 c (V m c) t y).trans (congrFun (V_main_arg1 m c) _)
theorem rd2 (A : (b : Ref sig .tc) → Buf (Elt Ideal) ((c : Thread nD τ).loc b)) (t : Fin cfg0.N) (y : S1x512x1024.Idx) :
    ((cfg0.win 2).blk t).view.read (Elt Ideal) (A (Pipeline.arrRef spec0 2)) y = A main_arg2 ((win0_2.blk t).view.emb y) := rfl
theorem ib2 (t : Fin cfg0.N) (y : S1x512x1024.Idx) : iblk m c 2 t y = (a2 m c) ((win0_2.blk t).view.emb y) :=
  (rd2 c (V m c) t y).trans (congrFun (V_main_arg2 m c) _)
theorem rd3 (A : (b : Ref sig .tc) → Buf (Elt Ideal) ((c : Thread nD τ).loc b)) (t : Fin cfg0.N) (y : S1x512x1024.Idx) :
    ((cfg0.win 3).blk t).view.read (Elt Ideal) (A (Pipeline.arrRef spec0 3)) y = A main_arg3 ((win0_3.blk t).view.emb y) := rfl
theorem ib3 (t : Fin cfg0.N) (y : S1x512x1024.Idx) : iblk m c 3 t y = (a3 m c) ((win0_3.blk t).view.emb y) :=
  (rd3 c (V m c) t y).trans (congrFun (V_main_arg3 m c) _)

/-- The element of the array at place `(0, i, j)` of block `t`. -/
def at_ (t : Fin cfg0.N) (i : Fin 512) (j : Fin 1024) : S4x1024x1024.Idx :=
  ix3 (⟨t.val / 2, by have : t.val < 8 := t.isLt; omega⟩ : Fin 4) (⟨512 * (t.val % 2) + i.val, by omega⟩ : Fin 1024) j

theorem blk0 (t : Fin cfg0.N) (i : Fin 512) (j : Fin 1024) : iblk m c 0 t (ix3 0 i j) = a0 m c (at_ t i j) :=
  (ib0 m c t _).trans (congrArg (a0 m c) (by unfold at_; blk_ext [idx0 t]))

theorem blk1 (t : Fin cfg0.N) (i : Fin 512) (j : Fin 1024) : iblk m c 1 t (ix3 0 i j) = a1 m c (at_ t i j) :=
  (ib1 m c t _).trans (congrArg (a1 m c) (by unfold at_; blk_ext [idx1 t]))

theorem blk2 (t : Fin cfg0.N) (i : Fin 512) (j : Fin 1024) : iblk m c 2 t (ix3 0 i j) = a2 m c (at_ t i j) :=
  (ib2 m c t _).trans (congrArg (a2 m c) (by unfold at_; blk_ext [idx2 t]))

theorem blk3 (t : Fin cfg0.N) (i : Fin 512) (j : Fin 1024) : iblk m c 3 t (ix3 0 i j) = a3 m c (at_ t i j) :=
  (ib3 m c t _).trans (congrArg (a3 m c) (by unfold at_; blk_ext [idx3 t]))

/-- Result 0 of the kernel is the reference's. -/
theorem final4 : (dats m 0 c).arrAt 4 cfg0.N = val_main_v23 (F := Ideal) (a0 m c) (a1 m c) (a2 m c) (a3 m c) := by
  refine (dats m 0 c).arrAt_eq_of_covers 4 _ (by decide +kernel) fun t hf y => ?_
  blk_simp
  rw [after0_4]
  frame_out
  idx_vars y
  obtain rfl : y0 = 0 := Subsingleton.elim _ _
  have e : (win0_4.blk t).view.emb (ix3 0 y1 y2) = at_ t y1 y2 := by unfold at_; blk_ext [idx4 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]

/-- Result 1 of the kernel is the reference's. -/
theorem final5 : (dats m 0 c).arrAt 5 cfg0.N = val_main_v4 (F := Ideal) (a1 m c) (a2 m c) := by
  refine (dats m 0 c).arrAt_eq_of_covers 5 _ (by decide +kernel) fun t hf y => ?_
  blk_simp
  rw [after0_5]
  frame_out
  idx_vars y
  obtain rfl : y0 = 0 := Subsingleton.elim _ _
  have e : (win0_5.blk t).view.emb (ix3 0 y1 y2) = at_ t y1 y2 := by unfold at_; blk_ext [idx5 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]

/-- Result 2 of the kernel is the reference's. -/
theorem final6 : (dats m 0 c).arrAt 6 cfg0.N = val_main_v10 (F := Ideal) (a1 m c) (a3 m c) := by
  refine (dats m 0 c).arrAt_eq_of_covers 6 _ (by decide +kernel) fun t hf y => ?_
  blk_simp
  rw [after0_6]
  frame_out
  idx_vars y
  obtain rfl : y0 = 0 := Subsingleton.elim _ _
  have e : (win0_6.blk t).view.emb (ix3 0 y1 y2) = at_ t y1 y2 := by unfold at_; blk_ext [idx6 t]
  refine Eq.trans ?_ (congrArg _ e.symm)
  pointwise [k0_pay1, k0_pay2, k0_pay3, k0_pay4, k0_pay5, k0_pay6, k0_pay7, at_, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try simp only [blk0, blk1, blk2, blk3, at_]

end Cert.Kernel16Ideal.Fold
namespace Cert.Proof.K16

open Idealize.ShloMosaic Idealize.SL.Sem

/-- The reference runs to its end, keeps its arguments and has no semaphores. -/
theorem reference_frame : Cert.quiescent_Reference16Ideal (hReference16Ideal := Cert.Reference16Ideal.Gen.facts) := fun m ρ _ =>
  (θ_run Cert.Reference16Ideal.defs _ _).mono (fun r h => ⟨fun c => (h c).2.2.2,
      Idealize.ShloMosaic.sem_eq_zero_of_no_sems (by decide) r.2⟩)
    (Cert.Reference16Ideal.Value.run m ρ)

/-- The kernel's results are the reference's, of arguments that agree. -/
theorem algebraic : Cert.algebraic_Kernel16Ideal_Reference16Ideal (hKernel16Ideal := Cert.Kernel16Ideal.Gen.facts)
    (hReference16Ideal := Cert.Reference16Ideal.Gen.facts) := by
  intro m ρ m' ρ' _ hagree
  refine ⟨fun c => (Cert.Kernel16Ideal.Gen.dats m 0 c).arrAt 4 Cert.Kernel16Ideal.cfg0.N, fun c => (Cert.Kernel16Ideal.Gen.dats m 0 c).arrAt 5 Cert.Kernel16Ideal.cfg0.N, fun c => (Cert.Kernel16Ideal.Gen.dats m 0 c).arrAt 6 Cert.Kernel16Ideal.cfg0.N, ?_, ?_⟩
  · refine (θ_run Cert.Kernel16Ideal.defs _ _).mono (fun r h c => ?_) (Cert.Kernel16Ideal.Value.run_blocks m ρ)
    exact h c
  · refine (θ_run Cert.Reference16Ideal.defs _ _).mono (fun r h c => ?_) (Cert.Reference16Ideal.Value.run (F := Ideal) m' ρ')
    obtain ⟨h0, h1, h2, hk⟩ := h c
    obtain ⟨g0, g1, g2, g3⟩ := hagree c
    refine ⟨h0.trans ?_, h1.trans ?_, h2.trans ?_, hk⟩
    · rw [Cert.Reference16Ideal.Read.val_main_v23_eq, g0, g1, g2, g3]
      exact (Cert.Kernel16Ideal.Fold.final4 m c).symm
    · rw [Cert.Reference16Ideal.Read.val_main_v4_eq, g1, g2]
      exact (Cert.Kernel16Ideal.Fold.final5 m c).symm
    · rw [Cert.Reference16Ideal.Read.val_main_v10_eq, g1, g3]
      exact (Cert.Kernel16Ideal.Fold.final6 m c).symm

end Cert.Proof.K16

end
-- ==== Proof.K17.lean ====
/-
  The gradient of the conditioning weights and their optimiser step.
-/
module

public import proofs.«01_k».proof.Defs
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel17Ideal.Fold

open Idealize.ShloMosaic Idealize.ShloMosaic.TcCoe Idealize.SL.Sem Cert.Kernel17Ideal Cert.Kernel17Ideal.Gen
open Cert.Reference17Ideal.Read
open Idealize.ShloMosaic.Pipeline (Dat)

variable (m : (ℓ : Loc nD τ sig) → Buf (Elt Ideal) ℓ) (c : Dev nD)

theorem idx0 : ∀ t : Fin cfg0.N, win0_0.index t = ![0, 0] := by decide +kernel
theorem idx1 : ∀ t : Fin cfg0.N, win0_1.index t = ![t.val / 3, 0, t.val % 3] := by decide +kernel
theorem idx2 : ∀ t : Fin cfg0.N, win0_2.index t = ![t.val / 3, 0, t.val % 3] := by decide +kernel
theorem idx3 : ∀ t : Fin cfg0.N, win0_3.index t = ![t.val / 3, 0, t.val % 3] := by decide +kernel
theorem idx4 : ∀ t : Fin cfg0.N, win0_4.index t = ![t.val / 3, 0, t.val % 3] := by decide +kernel
theorem idx5 : ∀ t : Fin cfg0.N, win0_5.index t = ![t.val / 3, 0, t.val % 3] := by decide +kernel
theorem idx6 : ∀ t : Fin cfg0.N, win0_6.index t = ![t.val / 3, 0, t.val % 3] := by decide +kernel
theorem idx7 : ∀ t : Fin cfg0.N, win0_7.index t = ![t.val / 3, 0, t.val % 3] := by decide +kernel
theorem idx8 : ∀ t : Fin cfg0.N, win0_8.index t = ![t.val / 3, 0, t.val % 3] := by decide +kernel

/-- The arguments, as arrays. -/
abbrev a0 : Vec Ideal S8x1024 .f32 := m ((c : Thread nD τ).loc main_arg0)
abbrev a1 : Vec Ideal S4x8x1536 .f32 := m ((c : Thread nD τ).loc main_arg1)
abbrev a2 : Vec Ideal S4x1024x1536 .f32 := m ((c : Thread nD τ).loc main_arg2)
abbrev a3 : Vec Ideal S4x1024x1536 .f32 := m ((c : Thread nD τ).loc main_arg3)
abbrev a4 : Vec Ideal S4x1024x1536 .f32 := m ((c : Thread nD τ).loc main_arg4)

/-! What the host hands to the kernel's windows, and the windows' blocks read off it. -/

theorem rd0 (A : (b : Ref sig .tc) → Buf (Elt Ideal) ((c : Thread nD τ).loc b)) (t : Fin cfg0.N) (y : S8x1024.Idx) :
    ((cfg0.win 0).blk t).view.read (Elt Ideal) (A (Pipeline.arrRef spec0 0)) y = A main_arg0 ((win0_0.blk t).view.emb y) := rfl
theorem ib0 (t : Fin cfg0.N) (y : S8x1024.Idx) : iblk m c 0 t y = (a0 m c) ((win0_0.blk t).view.emb y) :=
  (rd0 c (V m c) t y).trans (congrFun (V_main_arg0 m c) _)
theorem rd1 (A : (b : Ref sig .tc) → Buf (Elt Ideal) ((c : Thread nD τ).loc b)) (t : Fin cfg0.N) (y : S1x8x512.Idx) :
    ((cfg0.win 1).blk t).view.read (Elt Ideal) (A (Pipeline.arrRef spec0 1)) y = A main_arg1 ((win0_1.blk t).view.emb y) := rfl
theorem ib1 (t : Fin cfg0.N) (y : S1x8x512.Idx) : iblk m c 1 t y = (a1 m c) ((win0_1.blk t).view.emb y) :=
  (rd1 c (V m c) t y).trans (congrFun (V_main_arg1 m c) _)
theorem rd2 (A : (b : Ref sig .tc) → Buf (Elt Ideal) ((c : Thread nD τ).loc b)) (t : Fin cfg0.N) (y : S1x1024x512.Idx) :
    ((cfg0.win 2).blk t).view.read (Elt Ideal) (A (Pipeline.arrRef spec0 2)) y = A main_arg2 ((win0_2.blk t).view.emb y) := rfl
theorem ib2 (t : Fin cfg0.N) (y : S1x1024x512.Idx) : iblk m c 2 t y = (a2 m c) ((win0_2.blk t).view.emb y) :=
  (rd2 c (V m c) t y).trans (congrFun (V_main_arg2 m c) _)
theorem rd3 (A : (b : Ref sig .tc) → Buf (Elt Ideal) ((c : Thread nD τ).loc b)) (t : Fin cfg0.N) (y : S1x1024x512.Idx) :
    ((cfg0.win 3).blk t).view.read (Elt Ideal) (A (Pipeline.arrRef spec0 3)) y = A main_arg3 ((win0_3.blk t).view.emb y) := rfl
theorem ib3 (t : Fin cfg0.N) (y : S1x1024x512.Idx) : iblk m c 3 t y = (a3 m c) ((win0_3.blk t).view.emb y) :=
  (rd3 c (V m c) t y).trans (congrFun (V_main_arg3 m c) _)
theorem rd4 (A : (b : Ref sig .tc) → Buf (Elt Ideal) ((c : Thread nD τ).loc b)) (t : Fin cfg0.N) (y : S1x1024x512.Idx) :
    ((cfg0.win 4).blk t).view.read (Elt Ideal) (A (Pipeline.arrRef spec0 4)) y = A main_arg4 ((win0_4.blk t).view.emb y) := rfl
theorem ib4 (t : Fin cfg0.N) (y : S1x1024x512.Idx) : iblk m c 4 t y = (a4 m c) ((win0_4.blk t).view.emb y) :=
  (rd4 c (V m c) t y).trans (congrFun (V_main_arg4 m c) _)

/-- The silu of an element. -/
def act (x : EReal) : EReal := x * Ideal.div 1 (1 + Ideal.exp (-x))

/-- Layer of block `t`. -/
def lay (t : Fin cfg0.N) : Fin 4 := ⟨t.val / 3, by have : t.val < 12 := t.isLt; omega⟩
/-- Column `j` of block `t`. -/
def col (t : Fin cfg0.N) (j : Fin 512) : Fin 1536 := ⟨512 * (t.val % 3) + j.val, by omega⟩

/-- The gradient, element by element. -/
def G (x : Vec Ideal S8x1024 .f32) (d : Vec Ideal S4x8x1536 .f32) (l : Fin 4) (i : Fin 1024) (j : Fin 1536) : EReal :=
  ∑ k : Fin 8, act (x (ix2 k i)) * d (ix3 l k j)

theorem pay4_apply (x : Vec Ideal S8x1024 .f32) (d : Vec Ideal S1x8x512 .f32) (i : Fin 1024) (j : Fin 512) :
    k0_pay4 (F := Ideal) x d (ix2 i j) = ∑ k : Fin 8, act (x (ix2 k i)) * d (ix3 0 k j) := by
  unfold act
  pointwise [k0_pay4]
  try simp only [zero_sub]

theorem blk0 (t : Fin cfg0.N) (i : Fin 8) (k : Fin 1024) : iblk m c 0 t (ix2 i k) = a0 m c (ix2 i k) :=
  (ib0 m c t _).trans (congrArg (a0 m c) (by blk_ext [idx0 t]))
theorem blk1 (t : Fin cfg0.N) (k : Fin 8) (j : Fin 512) : iblk m c 1 t (ix3 0 k j) = a1 m c (ix3 (lay t) k (col t j)) :=
  (ib1 m c t _).trans (congrArg (a1 m c) (by unfold lay col; blk_ext [idx1 t]))
theorem blk2 (t : Fin cfg0.N) (k : Fin 1024) (j : Fin 512) : iblk m c 2 t (ix3 0 k j) = a2 m c (ix3 (lay t) k (col t j)) :=
  (ib2 m c t _).trans (congrArg (a2 m c) (by unfold lay col; blk_ext [idx2 t]))
theorem blk3 (t : Fin cfg0.N) (k : Fin 1024) (j : Fin 512) : iblk m c 3 t (ix3 0 k j) = a3 m c (ix3 (lay t) k (col t j)) :=
  (ib3 m c t _).trans (congrArg (a3 m c) (by unfold lay col; blk_ext [idx3 t]))
theorem blk4 (t : Fin cfg0.N) (k : Fin 1024) (j : Fin 512) : iblk m c 4 t (ix3 0 k j) = a4 m c (ix3 (lay t) k (col t j)) :=
  (ib4 m c t _).trans (congrArg (a4 m c) (by unfold lay col; blk_ext [idx4 t]))

/-- The gradient that a point computes. -/
theorem grad (t : Fin cfg0.N) (i : Fin 1024) (j : Fin 512) :
    k0_pay4 (F := Ideal) (iblk m c 0 t) (iblk m c 1 t) (ix2 i j) = G (a0 m c) (a1 m c) (lay t) i (col t j) := by
  refine (pay4_apply _ _ i j).trans (Finset.sum_congr rfl fun k _ => ?_)
  rw [blk0, blk1]

/-- The reference's gradient, element by element. -/
theorem ref_grad (x0 : Vec Ideal S8x1024 .f32) (x1 : Vec Ideal S4x8x1536 .f32) (l : Fin 4) (r : Fin 1024) (j : Fin 1536) :
    val_main_v33 (F := Ideal) x0 x1 (ix3 l r j) = G x0 x1 l r j := by
  unfold val_main_v33 G act
  concat_tiles i h
  · idx_vars i
    obtain rfl : i1 = r := Fin.ext h1
    obtain rfl : i2 = j := Fin.ext h2
    obtain rfl : l = 0 := Fin.ext h
    pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
    exact Finset.sum_congr rfl fun k _ => mul_comm _ _
  · idx_vars i
    obtain rfl : i1 = r := Fin.ext h1
    obtain rfl : i2 = j := Fin.ext h2
    obtain rfl : l = 1 := Fin.ext h
    pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
    exact Finset.sum_congr rfl fun k _ => mul_comm _ _
  · idx_vars i
    obtain rfl : i1 = r := Fin.ext h1
    obtain rfl : i2 = j := Fin.ext h2
    obtain rfl : l = 2 := Fin.ext h
    pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
    exact Finset.sum_congr rfl fun k _ => mul_comm _ _
  · idx_vars i
    obtain rfl : i1 = r := Fin.ext h1
    obtain rfl : i2 = j := Fin.ext h2
    obtain rfl : l = 3 := Fin.ext h
    pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
    exact Finset.sum_congr rfl fun k _ => mul_comm _ _

/-- Result 0 of the kernel is the reference's. -/
theorem final5 : (dats m 0 c).arrAt 5 cfg0.N = val_main_v33 (F := Ideal) (a0 m c) (a1 m c) := by
  refine (dats m 0 c).arrAt_eq_of_covers 5 _ (by decide +kernel) fun t hf y => ?_
  blk_simp
  rw [after0_5]
  skip
  frame_out
  idx_vars y
  obtain rfl : y0 = 0 := Subsingleton.elim _ _
  have e : (win0_5.blk t).view.emb (ix3 0 y1 y2) = ix3 (lay t) y1 (col t y2) := by unfold lay col; blk_ext [idx5 t]
  refine Eq.trans ?_ (congrArg _ e.symm)
  pointwise [k0_pay1, k0_pay2, k0_pay3, k0_pay5, k0_pay6, k0_pay7, k0_pay8, k0_pay9, k0_pay10, val_main_v57, val_main_v56, val_main_cst_7, val_main_v55, val_main_v54, val_main_v53, val_main_cst_6, val_main_v52, val_main_v51, val_main_v50, val_main_cst_5, val_main_v49, val_main_v48, val_main_v47, val_main_cst_4, val_main_v46, val_main_v45, val_main_cst_3, val_main_v44, val_main_v43, val_main_v42, val_main_cst_2, val_main_v41, val_main_v40, val_main_v39, val_main_cst_1, val_main_v38, val_main_v37, val_main_v36, val_main_cst_0, val_main_v35, val_main_v34, val_main_cst]
  simp only [grad, ref_grad, blk2, blk3, blk4]

/-- Result 1 of the kernel is the reference's. -/
theorem final6 : (dats m 0 c).arrAt 6 cfg0.N = val_main_v57 (F := Ideal) (a0 m c) (a1 m c) (a2 m c) (a3 m c) (a4 m c) := by
  refine (dats m 0 c).arrAt_eq_of_covers 6 _ (by decide +kernel) fun t hf y => ?_
  blk_simp
  rw [after0_6]
  unfold_out out0_6
  frame_out
  idx_vars y
  obtain rfl : y0 = 0 := Subsingleton.elim _ _
  have e : (win0_6.blk t).view.emb (ix3 0 y1 y2) = ix3 (lay t) y1 (col t y2) := by unfold lay col; blk_ext [idx6 t]
  refine Eq.trans ?_ (congrArg _ e.symm)
  pointwise [k0_pay1, k0_pay2, k0_pay3, k0_pay5, k0_pay6, k0_pay7, k0_pay8, k0_pay9, k0_pay10, val_main_v57, val_main_v56, val_main_cst_7, val_main_v55, val_main_v54, val_main_v53, val_main_cst_6, val_main_v52, val_main_v51, val_main_v50, val_main_cst_5, val_main_v49, val_main_v48, val_main_v47, val_main_cst_4, val_main_v46, val_main_v45, val_main_cst_3, val_main_v44, val_main_v43, val_main_v42, val_main_cst_2, val_main_v41, val_main_v40, val_main_v39, val_main_cst_1, val_main_v38, val_main_v37, val_main_v36, val_main_cst_0, val_main_v35, val_main_v34, val_main_cst]
  simp only [grad, ref_grad, blk2, blk3, blk4]

/-- Result 2 of the kernel is the reference's. -/
theorem final7 : (dats m 0 c).arrAt 7 cfg0.N = val_main_v38 (F := Ideal) (a0 m c) (a1 m c) (a3 m c) := by
  refine (dats m 0 c).arrAt_eq_of_covers 7 _ (by decide +kernel) fun t hf y => ?_
  blk_simp
  rw [after0_7]
  unfold_out out0_7
  frame_out
  idx_vars y
  obtain rfl : y0 = 0 := Subsingleton.elim _ _
  have e : (win0_7.blk t).view.emb (ix3 0 y1 y2) = ix3 (lay t) y1 (col t y2) := by unfold lay col; blk_ext [idx7 t]
  refine Eq.trans ?_ (congrArg _ e.symm)
  pointwise [k0_pay1, k0_pay2, k0_pay3, k0_pay5, k0_pay6, k0_pay7, k0_pay8, k0_pay9, k0_pay10, val_main_v57, val_main_v56, val_main_cst_7, val_main_v55, val_main_v54, val_main_v53, val_main_cst_6, val_main_v52, val_main_v51, val_main_v50, val_main_cst_5, val_main_v49, val_main_v48, val_main_v47, val_main_cst_4, val_main_v46, val_main_v45, val_main_cst_3, val_main_v44, val_main_v43, val_main_v42, val_main_cst_2, val_main_v41, val_main_v40, val_main_v39, val_main_cst_1, val_main_v38, val_main_v37, val_main_v36, val_main_cst_0, val_main_v35, val_main_v34, val_main_cst]
  simp only [grad, ref_grad, blk2, blk3, blk4]

/-- Result 3 of the kernel is the reference's. -/
theorem final8 : (dats m 0 c).arrAt 8 cfg0.N = val_main_v44 (F := Ideal) (a0 m c) (a1 m c) (a4 m c) := by
  refine (dats m 0 c).arrAt_eq_of_covers 8 _ (by decide +kernel) fun t hf y => ?_
  blk_simp
  rw [after0_8]
  unfold_out out0_8
  frame_out
  idx_vars y
  obtain rfl : y0 = 0 := Subsingleton.elim _ _
  have e : (win0_8.blk t).view.emb (ix3 0 y1 y2) = ix3 (lay t) y1 (col t y2) := by unfold lay col; blk_ext [idx8 t]
  refine Eq.trans ?_ (congrArg _ e.symm)
  pointwise [k0_pay1, k0_pay2, k0_pay3, k0_pay5, k0_pay6, k0_pay7, k0_pay8, k0_pay9, k0_pay10, val_main_v57, val_main_v56, val_main_cst_7, val_main_v55, val_main_v54, val_main_v53, val_main_cst_6, val_main_v52, val_main_v51, val_main_v50, val_main_cst_5, val_main_v49, val_main_v48, val_main_v47, val_main_cst_4, val_main_v46, val_main_v45, val_main_cst_3, val_main_v44, val_main_v43, val_main_v42, val_main_cst_2, val_main_v41, val_main_v40, val_main_v39, val_main_cst_1, val_main_v38, val_main_v37, val_main_v36, val_main_cst_0, val_main_v35, val_main_v34, val_main_cst]
  simp only [grad, ref_grad, blk2, blk3, blk4]

end Cert.Kernel17Ideal.Fold
namespace Cert.Proof.K17

open Idealize.ShloMosaic Idealize.SL.Sem

/-- The reference runs to its end, keeps its arguments and has no semaphores. -/
theorem reference_frame : Cert.quiescent_Reference17Ideal (hReference17Ideal := Cert.Reference17Ideal.Gen.facts) := fun m ρ _ =>
  (θ_run Cert.Reference17Ideal.defs _ _).mono (fun r h => ⟨fun c => (h c).2.2.2.2,
      Idealize.ShloMosaic.sem_eq_zero_of_no_sems (by decide) r.2⟩)
    (Cert.Reference17Ideal.Value.run m ρ)

/-- The kernel's results are the reference's, of arguments that agree. -/
theorem algebraic : Cert.algebraic_Kernel17Ideal_Reference17Ideal (hKernel17Ideal := Cert.Kernel17Ideal.Gen.facts)
    (hReference17Ideal := Cert.Reference17Ideal.Gen.facts) := by
  intro m ρ m' ρ' _ hagree
  refine ⟨fun c => (Cert.Kernel17Ideal.Gen.dats m 0 c).arrAt 5 Cert.Kernel17Ideal.cfg0.N, fun c => (Cert.Kernel17Ideal.Gen.dats m 0 c).arrAt 6 Cert.Kernel17Ideal.cfg0.N, fun c => (Cert.Kernel17Ideal.Gen.dats m 0 c).arrAt 7 Cert.Kernel17Ideal.cfg0.N, fun c => (Cert.Kernel17Ideal.Gen.dats m 0 c).arrAt 8 Cert.Kernel17Ideal.cfg0.N, ?_, ?_⟩
  · refine (θ_run Cert.Kernel17Ideal.defs _ _).mono (fun r h c => ?_) (Cert.Kernel17Ideal.Value.run_blocks m ρ)
    exact h c
  · refine (θ_run Cert.Reference17Ideal.defs _ _).mono (fun r h c => ?_) (Cert.Reference17Ideal.Value.run (F := Ideal) m' ρ')
    obtain ⟨h0, h1, h2, h3, hk⟩ := h c
    obtain ⟨g0, g1, g2, g3, g4⟩ := hagree c
    refine ⟨h0.trans ?_, h1.trans ?_, h2.trans ?_, h3.trans ?_, hk⟩
    · rw [Cert.Reference17Ideal.Read.val_main_v33_eq, g0, g1]
      exact (Cert.Kernel17Ideal.Fold.final5 m c).symm
    · rw [Cert.Reference17Ideal.Read.val_main_v57_eq, g0, g1, g2, g3, g4]
      exact (Cert.Kernel17Ideal.Fold.final6 m c).symm
    · rw [Cert.Reference17Ideal.Read.val_main_v38_eq, g0, g1, g3]
      exact (Cert.Kernel17Ideal.Fold.final7 m c).symm
    · rw [Cert.Reference17Ideal.Read.val_main_v44_eq, g0, g1, g4]
      exact (Cert.Kernel17Ideal.Fold.final8 m c).symm

end Cert.Proof.K17

end
-- ==== Proof.K18.lean ====
/-
  The conditioning product: the silu of the conditioning, times every layer's weights, plus its bias.
-/
module

public import proofs.«01_k».proof.Defs
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel18Ideal.Fold

open Idealize.ShloMosaic Idealize.ShloMosaic.TcCoe Idealize.SL.Sem Cert.Kernel18Ideal Cert.Kernel18Ideal.Gen
open Idealize.ShloMosaic.Pipeline (Dat)

variable (m : (ℓ : Loc nD τ sig) → Buf (Elt Ideal) ℓ) (c : Dev nD)

theorem idx0 : ∀ t : Fin cfg0.N, win0_0.index t = ![0, 0] := by decide +kernel
theorem idx1 : ∀ t : Fin cfg0.N, win0_1.index t = ![t.val / 3, 0, t.val % 3] := by decide +kernel
theorem idx2 : ∀ t : Fin cfg0.N, win0_2.index t = ![t.val / 3, 0, t.val % 3] := by decide +kernel
theorem idx3 : ∀ t : Fin cfg0.N, win0_3.index t = ![t.val / 3, 0, t.val % 3] := by decide +kernel

/-- The arguments, as arrays. -/
abbrev a0 : Vec Ideal S8x1024 .f32 := m ((c : Thread nD τ).loc main_arg0)
abbrev a1 : Vec Ideal S4x1024x1536 .f32 := m ((c : Thread nD τ).loc main_arg1)
abbrev a2 : Vec Ideal S4x1536 .f32 := m ((c : Thread nD τ).loc main_arg2)

/-! What the host hands to the kernel's windows, and the windows' blocks read off it. -/

theorem rd0 (A : (b : Ref sig .tc) → Buf (Elt Ideal) ((c : Thread nD τ).loc b)) (t : Fin cfg0.N) (y : S8x1024.Idx) :
    ((cfg0.win 0).blk t).view.read (Elt Ideal) (A (Pipeline.arrRef spec0 0)) y = A main_arg0 ((win0_0.blk t).view.emb y) := rfl
theorem ib0 (t : Fin cfg0.N) (y : S8x1024.Idx) : iblk m c 0 t y = (a0 m c) ((win0_0.blk t).view.emb y) :=
  (rd0 c (V m c) t y).trans (congrFun (V_main_arg0 m c) _)
theorem rd1 (A : (b : Ref sig .tc) → Buf (Elt Ideal) ((c : Thread nD τ).loc b)) (t : Fin cfg0.N) (y : S1x1024x512.Idx) :
    ((cfg0.win 1).blk t).view.read (Elt Ideal) (A (Pipeline.arrRef spec0 1)) y = A main_arg1 ((win0_1.blk t).view.emb y) := rfl
theorem ib1 (t : Fin cfg0.N) (y : S1x1024x512.Idx) : iblk m c 1 t y = (a1 m c) ((win0_1.blk t).view.emb y) :=
  (rd1 c (V m c) t y).trans (congrFun (V_main_arg1 m c) _)
theorem V_2 : V m c main_v0 = shapeCast S4x1x1536 (a2 m c) shapeCasts_S4x1536_S4x1x1536 := by
  simp only [V, hostOps0, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd2 (A : (b : Ref sig .tc) → Buf (Elt Ideal) ((c : Thread nD τ).loc b)) (t : Fin cfg0.N) (y : S1x1x512.Idx) :
    ((cfg0.win 2).blk t).view.read (Elt Ideal) (A (Pipeline.arrRef spec0 2)) y = A main_v0 ((win0_2.blk t).view.emb y) := rfl
theorem ib2 (t : Fin cfg0.N) (y : S1x1x512.Idx) : iblk m c 2 t y = (shapeCast S4x1x1536 (a2 m c) shapeCasts_S4x1536_S4x1x1536) ((win0_2.blk t).view.emb y) :=
  (rd2 c (V m c) t y).trans (congrFun (V_2 m c) _)

/-- The silu of an element. -/
def act (x : EReal) : EReal := x * Ideal.div 1 (1 + Ideal.exp (-x))

/-- Layer of block `t`. -/
def lay (t : Fin cfg0.N) : Fin 4 := ⟨t.val / 3, by have : t.val < 12 := t.isLt; omega⟩
/-- Column `j` of block `t`. -/
def col (t : Fin cfg0.N) (j : Fin 512) : Fin 1536 := ⟨512 * (t.val % 3) + j.val, by omega⟩

/-- The result, element by element. -/
def G (x : Vec Ideal S8x1024 .f32) (w : Vec Ideal S4x1024x1536 .f32) (b : Vec Ideal S4x1536 .f32) (l : Fin 4) (i : Fin 8) (j : Fin 1536) : EReal :=
  (∑ k : Fin 1024, act (x (ix2 i k)) * w (ix3 l k j)) + b (ix2 l j)

theorem pay_apply (x : Vec Ideal S8x1024 .f32) (w : Vec Ideal S1x1024x512 .f32) (b : Vec Ideal S1x1x512 .f32) (i : Fin 8) (j : Fin 512) :
    k0_pay1 (F := Ideal) x w b (ix3 0 i j) = (∑ k : Fin 1024, act (x (ix2 i k)) * w (ix3 0 k j)) + b (ix3 0 0 j) := by
  unfold act
  pointwise [k0_pay1]
  try simp only [zero_sub]

theorem blk0 (t : Fin cfg0.N) (i : Fin 8) (k : Fin 1024) : iblk m c 0 t (ix2 i k) = a0 m c (ix2 i k) :=
  (ib0 m c t _).trans (congrArg (a0 m c) (by blk_ext [idx0 t]))
theorem blk1 (t : Fin cfg0.N) (k : Fin 1024) (j : Fin 512) : iblk m c 1 t (ix3 0 k j) = a1 m c (ix3 (lay t) k (col t j)) :=
  (ib1 m c t _).trans (congrArg (a1 m c) (by unfold lay col; blk_ext [idx1 t]))
theorem blk2 (t : Fin cfg0.N) (j : Fin 512) : iblk m c 2 t (ix3 0 0 j) = a2 m c (ix2 (lay t) (col t j)) := by
  have e : (win0_2.blk t).view.emb (ix3 (0 : Fin 1) (0 : Fin 1) j) = ix3 (lay t) (0 : Fin 1) (col t j) := by unfold lay col; blk_ext [idx2 t]
  refine (ib2 m c t _).trans ((congrArg _ e).trans ?_)
  pointwise

theorem final : (dats m 0 c).arrAt 3 cfg0.N = fun y => G (a0 m c) (a1 m c) (a2 m c) (y 0) (y 1) (y 2) := by
  refine (dats m 0 c).arrAt_eq_of_covers 3 _ (by decide +kernel) fun t hf y => ?_
  blk_simp
  rw [after0_3]
  frame_out
  idx_vars y
  obtain rfl : y0 = 0 := Subsingleton.elim _ _
  refine (pay_apply _ _ _ y1 y2).trans ?_
  have e : (win0_3.blk t).view.emb (ix3 0 y1 y2) = ix3 (lay t) y1 (col t y2) := by unfold lay col; blk_ext [idx3 t]
  refine Eq.trans ?_ (congrArg (fun y : S4x8x1536.Idx => G (a0 m c) (a1 m c) (a2 m c) (y 0) (y 1) (y 2)) e.symm)
  refine congrArg₂ (fun a b : EReal => a + b) (Finset.sum_congr rfl fun k _ => ?_) ?_
  · pointwise; rw [blk0, blk1]
  · pointwise; rw [blk2]

end Cert.Kernel18Ideal.Fold

namespace Cert.Reference18Ideal.Ref

open Idealize.ShloMosaic Idealize.ShloMosaic.TcCoe Cert.Reference18Ideal Cert.Reference18Ideal.Gen Cert.Reference18Ideal.Read

theorem value (x0 : Vec Ideal S8x1024 .f32) (x1 : Vec Ideal S4x1024x1536 .f32) (x2 : Vec Ideal S4x1536 .f32) :
    val_main_v37 (F := Ideal) x0 x1 x2 = fun y => Cert.Kernel18Ideal.Fold.G x0 x1 x2 (y 0) (y 1) (y 2) := by
  funext y; idx_vars y
  unfold val_main_v37 Cert.Kernel18Ideal.Fold.G Cert.Kernel18Ideal.Fold.act
  concat_tiles i h
  · idx_vars i
    obtain rfl : i1 = y1 := Fin.ext h1
    obtain rfl : i2 = y2 := Fin.ext h2
    obtain rfl : y0 = 0 := Fin.ext h
    pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  · idx_vars i
    obtain rfl : i1 = y1 := Fin.ext h1
    obtain rfl : i2 = y2 := Fin.ext h2
    obtain rfl : y0 = 1 := Fin.ext h
    pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  · idx_vars i
    obtain rfl : i1 = y1 := Fin.ext h1
    obtain rfl : i2 = y2 := Fin.ext h2
    obtain rfl : y0 = 2 := Fin.ext h
    pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  · idx_vars i
    obtain rfl : i1 = y1 := Fin.ext h1
    obtain rfl : i2 = y2 := Fin.ext h2
    obtain rfl : y0 = 3 := Fin.ext h
    pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]

end Cert.Reference18Ideal.Ref

namespace Cert.Proof.K18

open Idealize.ShloMosaic Idealize.SL.Sem

/-- The reference runs to its end, keeps its arguments and has no semaphores. -/
theorem reference_frame : Cert.quiescent_Reference18Ideal (hReference18Ideal := Cert.Reference18Ideal.Gen.facts) := fun m ρ _ =>
  (θ_run Cert.Reference18Ideal.defs _ _).mono (fun r h => ⟨fun c => (h c).2,
      Idealize.ShloMosaic.sem_eq_zero_of_no_sems (by decide) r.2⟩)
    (Cert.Reference18Ideal.Value.run m ρ)

/-- The kernel's results are the reference's, of arguments that agree. -/
theorem algebraic : Cert.algebraic_Kernel18Ideal_Reference18Ideal (hKernel18Ideal := Cert.Kernel18Ideal.Gen.facts)
    (hReference18Ideal := Cert.Reference18Ideal.Gen.facts) := by
  intro m ρ m' ρ' _ hagree
  refine ⟨fun c => (Cert.Kernel18Ideal.Gen.dats m 0 c).arrAt 3 Cert.Kernel18Ideal.cfg0.N, ?_, ?_⟩
  · refine (θ_run Cert.Kernel18Ideal.defs _ _).mono (fun r h c => ?_) (Cert.Kernel18Ideal.Value.run_blocks m ρ)
    exact h c
  · refine (θ_run Cert.Reference18Ideal.defs _ _).mono (fun r h c => ?_) (Cert.Reference18Ideal.Value.run (F := Ideal) m' ρ')
    obtain ⟨h0, hk⟩ := h c
    obtain ⟨g0, g1, g2⟩ := hagree c
    refine ⟨h0.trans ?_, hk⟩
    · rw [Cert.Reference18Ideal.Read.val_main_v37_eq, Cert.Reference18Ideal.Ref.value, g0, g1, g2]
      exact (Cert.Kernel18Ideal.Fold.final m c).symm

end Cert.Proof.K18

end
-- ==== Proof.K19.lean ====
/-
  The gradients of the small weights, summed over the devices, and their optimiser step.
-/
module

public import proofs.«01_k».proof.Defs
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Fold
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Kernel19Ideal.Fold

open Idealize.ShloMosaic Idealize.ShloMosaic.TcCoe Idealize.SL.Sem Cert.Kernel19Ideal Cert.Kernel19Ideal.Gen
open Cert.Reference19Ideal.Read
open Cert.KernelIdeal.Fold (canon_mem canon_not_mem readCov_at)
open Idealize.ShloMosaic.Pipeline (Dat)

variable (m : (ℓ : Loc nD τ sig) → Buf (Elt Ideal) ℓ) (c : Dev nD)

theorem idx0 : ∀ t : Fin cfg0.N, win0_0.index t = ![0, 0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel

/-- The arguments, as arrays. -/
abbrev a0 : Vec Ideal S4x432x1024 .f32 := m ((c : Thread nD τ).loc main_arg0)
abbrev a1 : Vec Ideal S376x1024 .f32 := m ((c : Thread nD τ).loc main_arg1)
abbrev a2 : Vec Ideal S376x1024 .f32 := m ((c : Thread nD τ).loc main_arg2)
abbrev a3 : Vec Ideal S376x1024 .f32 := m ((c : Thread nD τ).loc main_arg3)

/-! What the host hands to the kernel's windows, and the windows' blocks read off it. -/

theorem rd0 (A : (b : Ref sig .tc) → Buf (Elt Ideal) ((c : Thread nD τ).loc b)) (t : Fin cfg0.N) (y : S4x432x1024.Idx) :
    ((cfg0.win 0).blk t).view.read (Elt Ideal) (A (Pipeline.arrRef spec0 0)) y = A main_arg0 ((win0_0.blk t).view.emb y) := rfl
theorem ib0 (t : Fin cfg0.N) (y : S4x432x1024.Idx) : iblk m c 0 t y = (a0 m c) ((win0_0.blk t).view.emb y) :=
  (rd0 c (V m c) t y).trans (congrFun (V_main_arg0 m c) _)
theorem rd1 (A : (b : Ref sig .tc) → Buf (Elt Ideal) ((c : Thread nD τ).loc b)) (t : Fin cfg0.N) (y : S376x1024.Idx) :
    ((cfg0.win 1).blk t).view.read (Elt Ideal) (A (Pipeline.arrRef spec0 1)) y = A main_arg1 ((win0_1.blk t).view.emb y) := rfl
theorem ib1 (t : Fin cfg0.N) (y : S376x1024.Idx) : iblk m c 1 t y = (a1 m c) ((win0_1.blk t).view.emb y) :=
  (rd1 c (V m c) t y).trans (congrFun (V_main_arg1 m c) _)
theorem rd2 (A : (b : Ref sig .tc) → Buf (Elt Ideal) ((c : Thread nD τ).loc b)) (t : Fin cfg0.N) (y : S376x1024.Idx) :
    ((cfg0.win 2).blk t).view.read (Elt Ideal) (A (Pipeline.arrRef spec0 2)) y = A main_arg2 ((win0_2.blk t).view.emb y) := rfl
theorem ib2 (t : Fin cfg0.N) (y : S376x1024.Idx) : iblk m c 2 t y = (a2 m c) ((win0_2.blk t).view.emb y) :=
  (rd2 c (V m c) t y).trans (congrFun (V_main_arg2 m c) _)
theorem rd3 (A : (b : Ref sig .tc) → Buf (Elt Ideal) ((c : Thread nD τ).loc b)) (t : Fin cfg0.N) (y : S376x1024.Idx) :
    ((cfg0.win 3).blk t).view.read (Elt Ideal) (A (Pipeline.arrRef spec0 3)) y = A main_arg3 ((win0_3.blk t).view.emb y) := rfl
theorem ib3 (t : Fin cfg0.N) (y : S376x1024.Idx) : iblk m c 3 t y = (a3 m c) ((win0_3.blk t).view.emb y) :=
  (rd3 c (V m c) t y).trans (congrFun (V_main_arg3 m c) _)

theorem blk0 (t : Fin cfg0.N) (l : Fin 4) (i : Fin 432) (j : Fin 1024) : iblk m c 0 t (ix3 l i j) = a0 m c (ix3 l i j) :=
  (ib0 m c t _).trans (congrArg (a0 m c) (by blk_ext [idx0 t]))
theorem blk1 (t : Fin cfg0.N) (i : Fin 376) (j : Fin 1024) : iblk m c 1 t (ix2 i j) = a1 m c (ix2 i j) :=
  (ib1 m c t _).trans (congrArg (a1 m c) (by blk_ext [idx1 t]))
theorem blk2 (t : Fin cfg0.N) (i : Fin 376) (j : Fin 1024) : iblk m c 2 t (ix2 i j) = a2 m c (ix2 i j) :=
  (ib2 m c t _).trans (congrArg (a2 m c) (by blk_ext [idx2 t]))
theorem blk3 (t : Fin cfg0.N) (i : Fin 376) (j : Fin 1024) : iblk m c 3 t (ix2 i j) = a3 m c (ix2 i j) :=
  (ib3 m c t _).trans (congrArg (a3 m c) (by blk_ext [idx3 t]))

/-- Chip of device `k`. -/
def chip (k : Fin 8) : Fin 4 := ⟨k.val / 2, by omega⟩
/-- Row `i` of device `k` in its chip's rows. -/
def row (k : Fin 8) (i : Fin 24) : Fin 432 := ⟨24 * (k.val % 2) + i.val, by omega⟩

theorem ref_lo (x : Vec Ideal S4x432x1024 .f32) (i : Fin 24) (j : Fin 1024) :
    val_main_v4 (F := Ideal) x (ix2 i j) = ∑ k : Fin 8, x (ix3 (chip k) (row k i) j) := by
  pointwise [val_main_v4, val_main_v1, val_main_v0, val_main_cst_0]
  refine Finset.sum_congr rfl fun k _ => congrArg x ?_
  unfold chip row
  congr 1
  exact Fin.ext (by show k.val % 2 * 24 + i.val = 24 * (k.val % 2) + i.val; omega)
theorem ref_hi (x : Vec Ideal S4x432x1024 .f32) (i : Fin 352) (j : Fin 1024) :
    val_main_v5 (F := Ideal) x (ix2 i j) = ∑ k : Fin 4, x (ix3 k (⟨72 + i.val, by omega⟩ : Fin 432) j) := by
  pointwise [val_main_v5, val_main_v3, val_main_v2, val_main_cst]
  refine Finset.sum_congr rfl fun k _ => congrArg x ?_
  congr 1
  exact Fin.ext (by show 48 + (24 + i.val) = 72 + i.val; omega)

/-- What the body stores in the array of gradients, newest first. -/
def stores (x : Vec Ideal S4x432x1024 .f32) : List (View.Piece (Elt Ideal) S376x1024 .f32) :=
  [⟨Rect.unit ![24, 0] ![352, 1024] inb_S376x1024_S352x1024_24_0,
      k0_pay6 (F := Ideal)
        (k0_pay2 (View.ld x (Rect.unit ![0, 48, 0] ![1, 376, 1024] inb_S4x432x1024_S1x376x1024_0_48_0))
          (View.ld x (Rect.unit ![1, 48, 0] ![1, 376, 1024] inb_S4x432x1024_S1x376x1024_1_48_0))
          (View.ld x (Rect.unit ![2, 48, 0] ![1, 376, 1024] inb_S4x432x1024_S1x376x1024_2_48_0))
          (View.ld x (Rect.unit ![3, 48, 0] ![1, 376, 1024] inb_S4x432x1024_S1x376x1024_3_48_0)))⟩,
    ⟨Rect.unit ![0, 0] ![24, 1024] inb_S376x1024_S24x1024_0_0,
      k0_pay5 (F := Ideal)
        (k0_pay3 (View.ld x (Rect.unit ![0, 0, 0] ![1, 24, 1024] inb_S4x432x1024_S1x24x1024_0_0_0))
          (View.ld x (Rect.unit ![0, 24, 0] ![1, 24, 1024] inb_S4x432x1024_S1x24x1024_0_24_0))
          (View.ld x (Rect.unit ![1, 0, 0] ![1, 24, 1024] inb_S4x432x1024_S1x24x1024_1_0_0))
          (View.ld x (Rect.unit ![1, 24, 0] ![1, 24, 1024] inb_S4x432x1024_S1x24x1024_1_24_0))
          (View.ld x (Rect.unit ![2, 0, 0] ![1, 24, 1024] inb_S4x432x1024_S1x24x1024_2_0_0)))
        (k0_pay4 (View.ld x (Rect.unit ![2, 24, 0] ![1, 24, 1024] inb_S4x432x1024_S1x24x1024_2_24_0)))
        (View.ld x (Rect.unit ![3, 0, 0] ![1, 24, 1024] inb_S4x432x1024_S1x24x1024_3_0_0))
        (View.ld x (Rect.unit ![3, 24, 0] ![1, 24, 1024] inb_S4x432x1024_S1x24x1024_3_24_0))⟩]

/-- The sums over the devices and over the chips, row by row. -/
def G (x : Vec Ideal S4x432x1024 .f32) (i : Fin 376) (j : Fin 1024) : EReal :=
  if h : i.val < 24 then ∑ k : Fin 8, x (ix3 (chip k) (row k ⟨i.val, h⟩) j)
  else ∑ k : Fin 4, x (ix3 k (⟨48 + i.val, by omega⟩ : Fin 432) j)

theorem ref_sum (x : Vec Ideal S4x432x1024 .f32) (i : Fin 376) (j : Fin 1024) :
    val_main_v6 (F := Ideal) x (ix2 i j) = G x i j := by
  unfold val_main_v6 G
  by_cases h : i.val < 24
  · rw [dif_pos h]
    exact (concatenate_pair_apply_left (s₁ := Cert.Reference19Ideal.S24x1024) (s₂ := Cert.Reference19Ideal.S352x1024) 0 _ _ _ (ix2 i j) rfl (ix2 (⟨i.val, h⟩ : Fin 24) j)
      (by intro b; fin_cases b <;> rfl)).trans (ref_lo x ⟨i.val, h⟩ j)
  · rw [dif_neg h]
    refine (concatenate_pair_apply_right (s₁ := Cert.Reference19Ideal.S24x1024) (s₂ := Cert.Reference19Ideal.S352x1024) 0 _ _ _ (ix2 i j) rfl rfl (ix2 (⟨i.val - 24, by omega⟩ : Fin 352) j)
      (by intro b hb; fin_cases b <;> first | rfl | exact absurd rfl hb) (by show i.val - 24 + 24 = i.val; omega)).trans
      ((ref_hi x ⟨i.val - 24, by omega⟩ j).trans ?_)
    refine Finset.sum_congr rfl fun k _ => congrArg x ?_
    congr 1
    exact Fin.ext (by show 72 + (i.val - 24) = 48 + i.val; omega)

theorem at_load (x : Vec Ideal S4x432x1024 .f32) (p q n : ℕ) (inb : ∀ a, (![p, q, 0] : Fin 3 → ℕ) a + (![1, n, 1024] : Fin 3 → ℕ) a ≤ S4x432x1024.size a)
    (i : Fin n) (j : Fin 1024) (hp : p < 4) (hq : q + i.val < 432) :
    View.ld x (Rect.unit ![p, q, 0] ![1, n, 1024] inb) (ix3 0 i j) = x (ix3 (⟨p, hp⟩ : Fin 4) (⟨q + i.val, hq⟩ : Fin 432) j) := by
  pointwise

theorem lo_apply (v12 v15 v18 v21 v24 v27 v30 v33 : Vec Ideal S1x24x1024 .f32) (i : Fin 24) (j : Fin 1024) :
    k0_pay5 (F := Ideal) (k0_pay3 v12 v15 v18 v21 v24) (k0_pay4 v27) v30 v33 (ix2 i j)
      = v12 (ix3 0 i j) + v15 (ix3 0 i j) + v18 (ix3 0 i j) + v21 (ix3 0 i j) + v24 (ix3 0 i j) + v27 (ix3 0 i j) + v30 (ix3 0 i j)
        + v33 (ix3 0 i j) := by
  pointwise [k0_pay3, k0_pay4, k0_pay5]
  try simp only [zero_add]

theorem hi_apply (v0 v2 v5 v8 : Vec Ideal S1x376x1024 .f32) (i : Fin 352) (j : Fin 1024) :
    k0_pay6 (F := Ideal) (k0_pay2 v0 v2 v5 v8) (ix2 i j)
      = v0 (ix3 0 (⟨24 + i.val, by omega⟩ : Fin 376) j) + v2 (ix3 0 (⟨24 + i.val, by omega⟩ : Fin 376) j)
        + v5 (ix3 0 (⟨24 + i.val, by omega⟩ : Fin 376) j) + v8 (ix3 0 (⟨24 + i.val, by omega⟩ : Fin 376) j) := by
  pointwise [k0_pay2, k0_pay6]

/-- The stored gradients are the reference's. -/
theorem stores_apply (x : Vec Ideal S4x432x1024 .f32) (i : Fin 376) (j : Fin 1024) :
    View.canon (stores x) (ix2 i j) = val_main_v6 (F := Ideal) x (ix2 i j) := by
  rw [ref_sum]
  unfold stores G
  by_cases h : i.val < 24
  · rw [dif_pos h, canon_not_mem _ _ _ _ 0 (by simp; omega),
      canon_mem _ _ _ _ (ix2 (⟨i.val, h⟩ : Fin 24) j) (by intro a; fin_cases a <;> simp), lo_apply]
    rw [at_load x 0 0 24 _ _ j (by omega) (by show 0 + i.val < 432; omega), at_load x 0 24 24 _ _ j (by omega) (by show 24 + i.val < 432; omega),
      at_load x 1 0 24 _ _ j (by omega) (by show 0 + i.val < 432; omega), at_load x 1 24 24 _ _ j (by omega) (by show 24 + i.val < 432; omega),
      at_load x 2 0 24 _ _ j (by omega) (by show 0 + i.val < 432; omega), at_load x 2 24 24 _ _ j (by omega) (by show 24 + i.val < 432; omega),
      at_load x 3 0 24 _ _ j (by omega) (by show 0 + i.val < 432; omega), at_load x 3 24 24 _ _ j (by omega) (by show 24 + i.val < 432; omega)]
    rw [Fin.sum_univ_eight]
    rfl
  · rw [dif_neg h, canon_mem _ _ _ _ (ix2 (⟨i.val - 24, by omega⟩ : Fin 352) j) (by intro a; fin_cases a <;> simp; omega), hi_apply]
    have e : (⟨48 + (24 + (i.val - 24)), by omega⟩ : Fin 432) = ⟨48 + i.val, by omega⟩ := Fin.ext (by show 48 + (24 + (i.val - 24)) = 48 + i.val; omega)
    rw [at_load x 0 48 376 _ _ j (by omega) (by show 48 + (24 + (i.val - 24)) < 432; omega), at_load x 1 48 376 _ _ j (by omega) (by show 48 + (24 + (i.val - 24)) < 432; omega),
      at_load x 2 48 376 _ _ j (by omega) (by show 48 + (24 + (i.val - 24)) < 432; omega), at_load x 3 48 376 _ _ j (by omega) (by show 48 + (24 + (i.val - 24)) < 432; omega)]
    rw [Fin.sum_univ_four]
    simp only [e]
    rfl

theorem load_stores (v : View sig .tc .vmem S376x1024 .f32) (x : Vec Ideal S4x432x1024 .f32) :
    v.readCov (stores x) (Rect.unit ![0, 0] ![376, 1024] inb_S376x1024_S376x1024_0_0).toLoadRect = val_main_v6 (F := Ideal) x := by
  funext y
  idx_vars y
  refine (readCov_at v _ _ _ (ix2 y0 y1) (by intro a; fin_cases a <;> simp)).trans (stores_apply x y0 y1)

theorem whole0 (t : Fin cfg0.N) (h : (Memref.whole cc0_stg0_0).IsWhole) :
    View.read (Elt Ideal) (View.whole cc0_stg0_0) (h.unread (iblk m c 0 t)) = a0 m c := by
  refine (h.read_unread _).trans ?_
  funext y
  idx_vars y
  exact blk0 m c t y0 y1 y2
theorem whole1 (t : Fin cfg0.N) (h : (Memref.whole cc0_stg1_0).IsWhole) :
    View.read (Elt Ideal) (View.whole cc0_stg1_0) (h.unread (iblk m c 1 t)) = a1 m c := by
  refine (h.read_unread _).trans ?_
  funext y
  idx_vars y
  exact blk1 m c t y0 y1
theorem whole2 (t : Fin cfg0.N) (h : (Memref.whole cc0_stg2_0).IsWhole) :
    View.read (Elt Ideal) (View.whole cc0_stg2_0) (h.unread (iblk m c 2 t)) = a2 m c := by
  refine (h.read_unread _).trans ?_
  funext y
  idx_vars y
  exact blk2 m c t y0 y1
theorem whole3 (t : Fin cfg0.N) (h : (Memref.whole cc0_stg3_0).IsWhole) :
    View.read (Elt Ideal) (View.whole cc0_stg3_0) (h.unread (iblk m c 3 t)) = a3 m c := by
  refine (h.read_unread _).trans ?_
  funext y
  idx_vars y
  exact blk3 m c t y0 y1

/-- Result 0 of the kernel is the reference's. -/
theorem final4 : (dats m 0 c).arrAt 4 cfg0.N = val_main_v6 (F := Ideal) (a0 m c) := by
  refine (dats m 0 c).arrAt_eq_of_covers 4 _ (by decide +kernel) fun t hf y => ?_
  blk_simp
  rw [after0_4]
  simp only [outsAt0]
  frame_out
  simp only [whole0]
  idx_vars y
  have e : (win0_4.blk t).view.emb (ix2 y0 y1) = ix2 y0 y1 := by blk_ext [idx4 t]
  refine Eq.trans ?_ (congrArg _ e.symm)
  exact stores_apply (a0 m c) y0 y1

/-- Result 1 of the kernel is the reference's. -/
theorem final5 : (dats m 0 c).arrAt 5 cfg0.N = val_main_v30 (F := Ideal) (a0 m c) (a1 m c) (a2 m c) (a3 m c) := by
  refine (dats m 0 c).arrAt_eq_of_covers 5 _ (by decide +kernel) fun t hf y => ?_
  blk_simp
  rw [after0_5]
  simp only [outsAt0]
  frame_out
  simp only [whole0, whole1, whole2, whole3]
  rw [← stores]
  simp only [load_stores]
  idx_vars y
  have e : (win0_5.blk t).view.emb (ix2 y0 y1) = ix2 y0 y1 := by blk_ext [idx5 t]
  refine Eq.trans ?_ (congrArg _ e.symm)
  generalize hg : val_main_v6 (F := Ideal) (a0 m c) = g
  pointwise [k0_pay1, k0_pay7, k0_pay8, k0_pay9, k0_pay10, k0_pay11, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  try simp only [hg]

/-- Result 2 of the kernel is the reference's. -/
theorem final6 : (dats m 0 c).arrAt 6 cfg0.N = val_main_v11 (F := Ideal) (a0 m c) (a2 m c) := by
  refine (dats m 0 c).arrAt_eq_of_covers 6 _ (by decide +kernel) fun t hf y => ?_
  blk_simp
  rw [after0_6]
  simp only [outsAt0]
  frame_out
  simp only [whole0, whole1, whole2, whole3]
  rw [← stores]
  simp only [load_stores]
  idx_vars y
  have e : (win0_6.blk t).view.emb (ix2 y0 y1) = ix2 y0 y1 := by blk_ext [idx6 t]
  refine Eq.trans ?_ (congrArg _ e.symm)
  generalize hg : val_main_v6 (F := Ideal) (a0 m c) = g
  pointwise [k0_pay1, k0_pay7, k0_pay8, k0_pay9, k0_pay10, k0_pay11, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  try simp only [hg]

/-- Result 3 of the kernel is the reference's. -/
theorem final7 : (dats m 0 c).arrAt 7 cfg0.N = val_main_v17 (F := Ideal) (a0 m c) (a3 m c) := by
  refine (dats m 0 c).arrAt_eq_of_covers 7 _ (by decide +kernel) fun t hf y => ?_
  blk_simp
  rw [after0_7]
  simp only [outsAt0]
  frame_out
  simp only [whole0, whole1, whole2, whole3]
  rw [← stores]
  simp only [load_stores]
  idx_vars y
  have e : (win0_7.blk t).view.emb (ix2 y0 y1) = ix2 y0 y1 := by blk_ext [idx7 t]
  refine Eq.trans ?_ (congrArg _ e.symm)
  generalize hg : val_main_v6 (F := Ideal) (a0 m c) = g
  pointwise [k0_pay1, k0_pay7, k0_pay8, k0_pay9, k0_pay10, k0_pay11, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  try simp only [hg]

end Cert.Kernel19Ideal.Fold
namespace Cert.Proof.K19

open Idealize.ShloMosaic Idealize.SL.Sem

/-- The reference runs to its end, keeps its arguments and has no semaphores. -/
theorem reference_frame : Cert.quiescent_Reference19Ideal (hReference19Ideal := Cert.Reference19Ideal.Gen.facts) := fun m ρ _ =>
  (θ_run Cert.Reference19Ideal.defs _ _).mono (fun r h => ⟨fun c => (h c).2.2.2.2,
      Idealize.ShloMosaic.sem_eq_zero_of_no_sems (by decide) r.2⟩)
    (Cert.Reference19Ideal.Value.run m ρ)

/-- The kernel's results are the reference's, of arguments that agree. -/
theorem algebraic : Cert.algebraic_Kernel19Ideal_Reference19Ideal (hKernel19Ideal := Cert.Kernel19Ideal.Gen.facts)
    (hReference19Ideal := Cert.Reference19Ideal.Gen.facts) := by
  intro m ρ m' ρ' _ hagree
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, fun c => (Cert.Kernel19Ideal.Gen.dats m 0 c).arrAt 6 Cert.Kernel19Ideal.cfg0.N, fun c => (Cert.Kernel19Ideal.Gen.dats m 0 c).arrAt 7 Cert.Kernel19Ideal.cfg0.N, ?_, ?_⟩
  · refine (θ_run Cert.Kernel19Ideal.defs _ _).mono (fun r h c => ?_) (Cert.Kernel19Ideal.Value.run_blocks m ρ)
    exact h c
  · refine (θ_run Cert.Reference19Ideal.defs _ _).mono (fun r h c => ?_) (Cert.Reference19Ideal.Value.run (F := Ideal) m' ρ')
    obtain ⟨h0, h1, h2, h3, hk⟩ := h c
    obtain ⟨g0, g1, g2, g3⟩ := hagree c
    refine ⟨h0.trans ?_, h1.trans ?_, h2.trans ?_, h3.trans ?_, hk⟩
    · rw [Cert.Reference19Ideal.Read.val_main_v6_eq, g0]
      exact (Cert.Kernel19Ideal.Fold.final4 m c).symm
    · rw [Cert.Reference19Ideal.Read.val_main_v30_eq, g0, g1, g2, g3]
      exact (Cert.Kernel19Ideal.Fold.final5 m c).symm
    · rw [Cert.Reference19Ideal.Read.val_main_v11_eq, g0, g2]
      exact (Cert.Kernel19Ideal.Fold.final6 m c).symm
    · rw [Cert.Reference19Ideal.Read.val_main_v17_eq, g0, g3]
      exact (Cert.Kernel19Ideal.Fold.final7 m c).symm

end Cert.Proof.K19

end
-- ==== Proof.K20.lean ====
/-
  The depthwise convolution of the forward pass: each block of rows is the sum of four shifted rows times the weights, and
  the rows before the block are the last ones of the block before, kept in a scratch.
-/
module

public import proofs.«01_k».proof.Defs
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Sums
public import proofs.«01_k».proof.Proof.Fold
public import Idealize.ShloMosaic.Lib.Pipeline.ValueKit
public import Idealize.ShloMosaic.Lib.WritesUnit
public import Idealize.ShloMosaic.Lib.Claim
public import Idealize.ShloMosaic.Adequacy
public import Idealize.ShloMosaic.Init

@[expose] public section

set_option maxRecDepth 16384

noncomputable section

namespace Cert.Kernel20Ideal.Fold

open Idealize.ShloMosaic Idealize.ShloMosaic.TcCoe Idealize.SL.Sem Cert.Kernel20Ideal Cert.Kernel20Ideal.Gen
open Idealize.ShloMosaic.Pipeline (Dat)
open Cert.KernelIdeal.Fold (canon_mem canon_not_mem readCov_at)

variable (m : (ℓ : Loc nD τ sig) → Buf (Elt Ideal) ℓ) (c : Dev nD)

theorem idx0 : ∀ t : Fin cfg0.N, win0_0.index t = ![t.val, 0] := by decide +kernel
theorem idx4 : ∀ t : Fin cfg0.N, win0_4.index t = ![0, 0, 0] := by decide +kernel
theorem idx12 : ∀ t : Fin cfg0.N, win0_12.index t = ![t.val, 0] := by decide +kernel

/-- The projected rows and the convolution's weights. -/
abbrev a0 : Vec Ideal S4096x3200 .f32 := m ((c : Thread nD τ).loc main_arg0)
abbrev a5 : Vec Ideal S4x4x1536 .f32 := m ((c : Thread nD τ).loc main_arg5)

/-! What the host hands to the two windows, and the windows' blocks read off it. -/

theorem rd0 (A : (b : Ref sig .tc) → Buf (Elt Ideal) ((c : Thread nD τ).loc b)) (t : Fin cfg0.N) (y : S128x3200.Idx) :
    ((cfg0.win 0).blk t).view.read (Elt Ideal) (A (Pipeline.arrRef spec0 0)) y = A main_arg0 ((win0_0.blk t).view.emb y) := rfl
theorem ib0 (t : Fin cfg0.N) (y : S128x3200.Idx) : iblk m c 0 t y = a0 m c ((win0_0.blk t).view.emb y) :=
  (rd0 c (V m c) t y).trans (congrFun (V_main_arg0 m c) _)
theorem V_4 : V m c main_v6 = pad S4x8x1536 ![0, 0, 0] ![0, 4, 0] ![0, 0, 0] (a5 m c) (sitofp (F := Ideal) .f32 (constantI S_ 32 0#32)) pads_S4x4x1536_S4x8x1536_000_040_000 h_S_ := by
  simp only [V, hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append,
    StableHlo.TRef.binary, StableHlo.TRef.nullary, StableHlo.TRef.ternary, StableHlo.TRef.unary, StableHlo.TRef.toBuf,
    StableHlo.TRef.ofBuf, cast_eq]
  after_results_simp
  try rfl
theorem rd4 (A : (b : Ref sig .tc) → Buf (Elt Ideal) ((c : Thread nD τ).loc b)) (t : Fin cfg0.N) (y : S1x8x1536.Idx) :
    ((cfg0.win 4).blk t).view.read (Elt Ideal) (A (Pipeline.arrRef spec0 4)) y = A main_v6 ((win0_4.blk t).view.emb y) := rfl
theorem ib4 (t : Fin cfg0.N) (y : S1x8x1536.Idx) : iblk m c 4 t y = (pad S4x8x1536 ![0, 0, 0] ![0, 4, 0] ![0, 0, 0] (a5 m c) (sitofp (F := Ideal) .f32 (constantI S_ 32 0#32)) pads_S4x4x1536_S4x8x1536_000_040_000 h_S_) ((win0_4.blk t).view.emb y) :=
  (rd4 c (V m c) t y).trans (congrFun (V_4 m c) _)

/-- Row `i` of the block of point `t`. -/
def row (t : Fin cfg0.N) (i : Fin 128) : Fin 4096 := ⟨128 * t.val + i.val, by have : t.val < 32 := t.isLt; omega⟩
/-- The column of the projection that the convolution's column `j` reads. -/
def col (j : Fin 1536) : Fin 3200 := ⟨1024 + j.val, by omega⟩
/-- Row `r` of the rows that the convolution reads: three rows of zeros, then the projection's. -/
def past (p : Vec Ideal S4096x3200 .f32) (r : ℕ) (j : Fin 1536) : EReal :=
  if h : 3 ≤ r ∧ r - 3 < 4096 then p (ix2 ⟨r - 3, by omega⟩ (col j)) else 0
/-- The convolution. -/
def G (p : Vec Ideal S4096x3200 .f32) (w : Vec Ideal S4x4x1536 .f32) : Vec Ideal S4096x1536 .f32 := fun y =>
  (w (ix3 0 0 (y 1)) * past p (y 0).val (y 1) + w (ix3 0 1 (y 1)) * past p ((y 0).val + 1) (y 1)
    + w (ix3 0 2 (y 1)) * past p ((y 0).val + 2) (y 1) + w (ix3 0 3 (y 1)) * past p ((y 0).val + 3) (y 1) : EReal)

theorem blk0 (t : Fin cfg0.N) (i : Fin 128) (j : Fin 3200) : iblk m c 0 t (ix2 i j) = a0 m c (ix2 (row t i) j) :=
  (ib0 m c t _).trans (congrArg (a0 m c) (by unfold row; blk_ext [idx0 t]))
theorem blk4_0 (t : Fin cfg0.N) (j : Fin 1536) : iblk m c 4 t (ix3 (0 : Fin 1) (0 : Fin 8) j) = a5 m c (ix3 (0 : Fin 4) (0 : Fin 4) j) := by
  have e : (win0_4.blk t).view.emb (ix3 (0 : Fin 1) (0 : Fin 8) j) = ix3 (0 : Fin 4) (0 : Fin 8) j := by blk_ext [idx4 t]
  refine (ib4 m c t _).trans ((congrArg _ e).trans ?_)
  pointwise
theorem blk4_1 (t : Fin cfg0.N) (j : Fin 1536) : iblk m c 4 t (ix3 (0 : Fin 1) (1 : Fin 8) j) = a5 m c (ix3 (0 : Fin 4) (1 : Fin 4) j) := by
  have e : (win0_4.blk t).view.emb (ix3 (0 : Fin 1) (1 : Fin 8) j) = ix3 (0 : Fin 4) (1 : Fin 8) j := by blk_ext [idx4 t]
  refine (ib4 m c t _).trans ((congrArg _ e).trans ?_)
  pointwise
theorem blk4_2 (t : Fin cfg0.N) (j : Fin 1536) : iblk m c 4 t (ix3 (0 : Fin 1) (2 : Fin 8) j) = a5 m c (ix3 (0 : Fin 4) (2 : Fin 4) j) := by
  have e : (win0_4.blk t).view.emb (ix3 (0 : Fin 1) (2 : Fin 8) j) = ix3 (0 : Fin 4) (2 : Fin 8) j := by blk_ext [idx4 t]
  refine (ib4 m c t _).trans ((congrArg _ e).trans ?_)
  pointwise
theorem blk4_3 (t : Fin cfg0.N) (j : Fin 1536) : iblk m c 4 t (ix3 (0 : Fin 1) (3 : Fin 8) j) = a5 m c (ix3 (0 : Fin 4) (3 : Fin 4) j) := by
  have e : (win0_4.blk t).view.emb (ix3 (0 : Fin 1) (3 : Fin 8) j) = ix3 (0 : Fin 4) (3 : Fin 8) j := by blk_ext [idx4 t]
  refine (ib4 m c t _).trans ((congrArg _ e).trans ?_)
  pointwise

theorem pay3_apply (i : Fin 8) (j : Fin 1536) : k0_pay3 (F := Ideal) (ix2 i j) = (0 : EReal) := by
  pointwise [k0_pay3]
theorem pay18_apply (v : Vec Ideal S128x1536 .f32) (i : Fin 128) (j : Fin 1536) : k0_pay18 (F := Ideal) v (ix2 i j) = v (ix2 i j) := by
  pointwise [k0_pay18]
theorem pay21_apply (v : Vec Ideal S8x1536 .f32) (i : Fin 8) (j : Fin 1536) : k0_pay21 (F := Ideal) v (ix2 i j) = v (ix2 i j) := by
  pointwise [k0_pay21]
/-- The four products of one place. -/
theorem pay19_apply (w0 w1 w2 w3 : Vec Ideal S1x1x1536 .f32) (x0 x1 x2 x3 : Vec Ideal S128x1536 .f32) (i : Fin 128) (j : Fin 1536) :
    k0_pay19 (F := Ideal) w0 x0 w1 x1 w2 x2 w3 x3 (ix2 i j) = w0 (ix3 0 0 j) * x0 (ix2 i j) + w1 (ix3 0 0 j) * x1 (ix2 i j)
      + w2 (ix3 0 0 j) * x2 (ix2 i j) + w3 (ix3 0 0 j) * x3 (ix2 i j) := by
  pointwise [k0_pay19]

/-- The rows of a block that the convolution reads. -/
abbrev rows (t : Fin cfg0.N) : Vec Ideal S128x1536 .f32 :=
  k0_pay18 (F := Ideal) (View.ld (iblk m c 0 t) (Rect.unit ![0, 1024] ![128, 1536] inb_S128x3200_S128x1536_0_1024))
theorem rows_apply (t : Fin cfg0.N) (i : Fin 128) (j : Fin 1536) : rows m c t (ix2 i j) = a0 m c (ix2 (row t i) (col j)) := by
  refine (pay18_apply _ i j).trans ?_
  pointwise
  exact blk0 m c t i (col j)

theorem past_row (p : Vec Ideal S4096x3200 .f32) (t : Fin cfg0.N) (i : Fin 128) (r : ℕ) (h : r = 128 * t.val + i.val + 3) (j : Fin 1536) :
    p (ix2 (row t i) (col j)) = past p r j := by
  have ht : t.val < 32 := t.isLt
  have hi : i.val < 128 := i.isLt
  unfold past
  rw [dif_pos (by omega)]
  refine congrArg p (congrArg (fun x : Fin 4096 => ix2 x (col j)) (Fin.ext ?_))
  show 128 * t.val + i.val = r - 3
  omega
theorem past_zero (p : Vec Ideal S4096x3200 .f32) (r : ℕ) (h : r < 3) (j : Fin 1536) : past p r j = 0 := by
  unfold past
  rw [dif_neg (by omega)]

/-- The rows that a point leaves for the next one: the last eight of its block. -/
theorem scratch (t : Fin cfg0.N) (q : Fin 8) (j : Fin 1536) :
    (outsAt0 m c t.val t.isLt).2.2.2.2.2.2.2.2 (ix2 ⟨q.val, by omega⟩ j) = a0 m c (ix2 (row t ⟨120 + q.val, by omega⟩) (col j)) := by
  by_cases hn : t.val % 32 = 0
  · rw [outsAt0_A m c t hn]
    frame_out
    rw [canon_mem _ _ _ _ (ix2 q j) (by intro a; fin_cases a <;> simp)]
    refine (pay21_apply _ q j).trans ?_
    rw [readCov_at _ _ _ _ (ix2 ⟨128 + q.val, by omega⟩ j) (by intro a; fin_cases a <;> simp),
      canon_mem _ _ _ _ (ix2 ⟨120 + q.val, by omega⟩ j) (by intro a; fin_cases a <;> simp; omega)]
    exact rows_apply m c t _ j
  · rw [outsAt0_B m c t hn]
    frame_out
    rw [canon_mem _ _ _ _ (ix2 q j) (by intro a; fin_cases a <;> simp)]
    refine (pay21_apply _ q j).trans ?_
    rw [readCov_at _ _ _ _ (ix2 ⟨128 + q.val, by omega⟩ j) (by intro a; fin_cases a <;> simp),
      canon_mem _ _ _ _ (ix2 ⟨120 + q.val, by omega⟩ j) (by intro a; fin_cases a <;> simp; omega)]
    exact rows_apply m c t _ j

/-- A row that the first point reads. -/
theorem first (t : Fin cfg0.N) (ht : t.val = 0) (y : Fin 136) (i : Fin 128) (k : ℕ) (hk : k < 4) (hy : y.val = 5 + k + i.val) (j : Fin 1536) :
    View.canon [⟨Rect.unit (s := S136x1536) ![8, 0] ![128, 1536] inb_S136x1536_S128x1536_8_0, rows m c t⟩,
      ⟨Rect.unit (s := S136x1536) ![0, 0] ![8, 1536] inb_S136x1536_S8x1536_0_0, k0_pay3 (F := Ideal)⟩] (ix2 y j)
      = past (a0 m c) ((row t i).val + k) j := by
  have hr : (row t i).val = 128 * t.val + i.val := rfl
  by_cases h : y.val < 8
  · rw [canon_not_mem _ _ _ _ 0 (by simp; omega), canon_mem _ _ _ _ (ix2 ⟨y.val, h⟩ j) (by intro a; fin_cases a <;> simp)]
    exact (pay3_apply _ j).trans (past_zero _ _ (by omega) j).symm
  · rw [canon_mem _ _ _ _ (ix2 ⟨y.val - 8, by omega⟩ j) (by intro a; fin_cases a <;> simp; omega)]
    exact (rows_apply m c t _ j).trans (past_row _ t _ _ (by show _ = 128 * t.val + (y.val - 8) + 3; omega) j)

/-- A row that a later point reads. -/
theorem later (t : Fin cfg0.N) (ht : t.val ≠ 0) (y : Fin 136) (i : Fin 128) (k : ℕ) (hk : k < 4) (hy : y.val = 5 + k + i.val) (j : Fin 1536) :
    View.read (Elt Ideal) (View.whole cc0_scratch1) ((View.whole cc0_scratch1).writes (Elt Ideal)
      ((Memref.isWhole_whole cc0_scratch1).unread (outsAt0 m c (t.val - 1) (Nat.lt_of_le_of_lt (Nat.sub_le _ _) t.isLt)).2.2.2.2.2.2.2.2)
      [⟨Rect.unit (s := S136x1536) ![8, 0] ![128, 1536] inb_S136x1536_S128x1536_8_0, rows m c t⟩]) (ix2 y j)
      = past (a0 m c) ((row t i).val + k) j := by
  have hr : (row t i).val = 128 * t.val + i.val := rfl
  by_cases h : y.val < 8
  · rw [View.read_writes_cons_unit_of_not_mem _ _ _ _ _ _ rfl 0 (by simp; omega)]
    refine (congrFun (Memref.IsWhole.read_unread (Val := Elt Ideal) _ _) _).trans ?_
    refine (scratch m c ⟨t.val - 1, Nat.lt_of_le_of_lt (Nat.sub_le _ _) t.isLt⟩ ⟨y.val, h⟩ j).trans ?_
    exact past_row _ _ _ _ (by show _ = 128 * (t.val - 1) + (120 + y.val) + 3; omega) j
  · rw [View.read_writes_cons_unit_of_mem _ _ _ _ _ _ (ix2 ⟨y.val - 8, by omega⟩ j) rfl (by intro a; fin_cases a <;> simp; omega)]
    exact (rows_apply m c t _ j).trans (past_row _ t _ _ (by show _ = 128 * t.val + (y.val - 8) + 3; omega) j)

/-- Products of equal factors are equal. -/
theorem mul_of {a b x y : EReal} (h : a = b) (k : x = y) : a * x = b * y := congrArg₂ (· * ·) h k

/-- What a point writes. -/
theorem conv (t : Fin cfg0.N) (i : Fin 128) (j : Fin 1536) :
    (outsAt0 m c t.val t.isLt).2.2.2.2.2.2.1 (ix2 i j) = G (a0 m c) (a5 m c) (ix2 (row t i) j) := by
  have ht : t.val < 32 := t.isLt
  by_cases hn : t.val % 32 = 0
  · rw [outsAt0_A m c t hn]
    frame_out
    refine (pay19_apply _ _ _ _ _ _ _ _ i j).trans ?_
    refine congrArg₂ (fun x y : EReal => x + y) (congrArg₂ (fun x y : EReal => x + y) (congrArg₂ (fun x y : EReal => x + y)
      (mul_of ?_ ?_) (mul_of ?_ ?_)) (mul_of ?_ ?_)) (mul_of ?_ ?_)
    · pointwise
      exact blk4_0 m c t j
    · rw [readCov_at _ _ _ _ (ix2 ⟨5 + i.val, by omega⟩ j) (by intro a; fin_cases a <;> simp)]
      exact first m c t (by omega) _ i 0 (by omega) rfl j
    · pointwise
      exact blk4_1 m c t j
    · rw [readCov_at _ _ _ _ (ix2 ⟨6 + i.val, by omega⟩ j) (by intro a; fin_cases a <;> simp)]
      exact first m c t (by omega) _ i 1 (by omega) rfl j
    · pointwise
      exact blk4_2 m c t j
    · rw [readCov_at _ _ _ _ (ix2 ⟨7 + i.val, by omega⟩ j) (by intro a; fin_cases a <;> simp)]
      exact first m c t (by omega) _ i 2 (by omega) rfl j
    · pointwise
      exact blk4_3 m c t j
    · rw [readCov_at _ _ _ _ (ix2 ⟨8 + i.val, by omega⟩ j) (by intro a; fin_cases a <;> simp)]
      exact first m c t (by omega) _ i 3 (by omega) rfl j
  · rw [outsAt0_B m c t hn]
    frame_out
    refine (pay19_apply _ _ _ _ _ _ _ _ i j).trans ?_
    refine congrArg₂ (fun x y : EReal => x + y) (congrArg₂ (fun x y : EReal => x + y) (congrArg₂ (fun x y : EReal => x + y)
      (mul_of ?_ ?_) (mul_of ?_ ?_)) (mul_of ?_ ?_)) (mul_of ?_ ?_)
    · pointwise
      exact blk4_0 m c t j
    · refine Eq.trans ?_ (later m c t (by omega) ⟨5 + i.val, by omega⟩ i 0 (by omega) rfl j)
      pointwise
      rfl
    · pointwise
      exact blk4_1 m c t j
    · refine Eq.trans ?_ (later m c t (by omega) ⟨6 + i.val, by omega⟩ i 1 (by omega) rfl j)
      pointwise
      rfl
    · pointwise
      exact blk4_2 m c t j
    · refine Eq.trans ?_ (later m c t (by omega) ⟨7 + i.val, by omega⟩ i 2 (by omega) rfl j)
      pointwise
      rfl
    · pointwise
      exact blk4_3 m c t j
    · rw [readCov_at _ _ _ _ (ix2 ⟨8 + i.val, by omega⟩ j) (by intro a; fin_cases a <;> simp),
        canon_mem _ _ _ _ (ix2 i j) (by intro a; fin_cases a <;> simp)]
      exact (rows_apply m c t i j).trans (past_row _ t i _ rfl j)

/-- The convolution that the kernel returns. -/
theorem final : (dats m 0 c).arrAt 12 cfg0.N = G (a0 m c) (a5 m c) := by
  refine (dats m 0 c).arrAt_eq_of_covers 12 _ (by decide +kernel) fun t hf y => ?_
  blk_simp
  rw [after0_12]
  idx_vars y
  have e : (win0_12.blk t).view.emb (ix2 y0 y1) = ix2 (row t y0) y1 := by unfold row; blk_ext [idx12 t]
  refine Eq.trans ?_ (congrArg _ e.symm)
  exact conv m c t y0 y1

end Cert.Kernel20Ideal.Fold

namespace Cert.Reference20Ideal.Ref

open Idealize.ShloMosaic Cert.Reference20Ideal Cert.Reference20Ideal.Gen
open Cert.Kernel20Ideal.Fold (G past col)

open Cert.Reference20Ideal.Read

variable (x0 : Vec Ideal S4096x3200 .f32) (x5 : Vec Ideal S4x4x1536 .f32)

/-- The rows with three rows of zeros before them. -/
theorem padded (r : Fin 4099) (j : Fin 1536) : val_main_v3 (F := Ideal) x0 (ix2 r j) = past x0 r.val j := by
  have hz : FloatOps.sitofp (F := Ideal) FTy.f32 (0#32) = (0 : EReal) := by
    show ((((0#32 : BitVec 32).toInt : ℝ)) : EReal) = 0
    simp
  pointwise [val_main_v3, val_main_v0, val_main_call0_v0, val_main_c]
  rw [hz]
  rfl

/-- The convolution that the reference returns. -/
theorem value32 : val_main_v32 (F := Ideal) x0 x5 = G x0 x5 := by
  funext y
  idx_vars y
  have e : ∀ (r : Fin 4099), val_main_v3 (F := Ideal) x0 (ix2 r y1) = past x0 r.val y1 := fun r => padded x0 r y1
  unfold val_main_v32 val_main_v31 val_main_v25 val_main_v24 val_main_v18 val_main_v17 val_main_v11 val_main_v9 val_main_v28 val_main_v21 val_main_v14 val_main_v6
  generalize val_main_v3 (F := Ideal) x0 = z at e ⊢
  pointwise [val_main_v30, val_main_v29, val_main_v27, val_main_v26, val_main_v23, val_main_v22, val_main_v20, val_main_v19, val_main_v16, val_main_v15, val_main_v13, val_main_v12, val_main_v10, val_main_v8, val_main_v7, val_main_v5, val_main_v4, val_main_v2, val_main_v1, val_main_cst]
  simp only [e]
  rw [Nat.add_comm 1 y0.val, Nat.add_comm 2 y0.val, Nat.add_comm 3 y0.val]
  rfl
end Cert.Reference20Ideal.Ref

namespace Cert.Proof.K20

open Idealize.ShloMosaic Idealize.SL.Sem

/-- The reference runs to its end, keeps its arguments and has no semaphores. -/
theorem reference_frame : Cert.quiescent_Reference20Ideal (hReference20Ideal := Cert.Reference20Ideal.Gen.facts) := fun m ρ _ =>
  (θ_run Cert.Reference20Ideal.defs _ _).mono (fun r h => ⟨fun c => (h c).2,
      Idealize.ShloMosaic.sem_eq_zero_of_no_sems (by decide) r.2⟩)
    (Cert.Reference20Ideal.Value.run m ρ)

/-- The kernel's results are the reference's, of arguments that agree. -/
theorem algebraic : Cert.algebraic_Kernel20Ideal_Reference20Ideal (hKernel20Ideal := Cert.Kernel20Ideal.Gen.facts)
    (hReference20Ideal := Cert.Reference20Ideal.Gen.facts) := by
  intro m ρ m' ρ' _ hagree
  refine ⟨fun c => (Cert.Kernel20Ideal.Gen.dats m 0 c).arrAt 12 Cert.Kernel20Ideal.cfg0.N, ?_, ?_⟩
  · refine (θ_run Cert.Kernel20Ideal.defs _ _).mono (fun r h c => ?_) (Cert.Kernel20Ideal.Value.run_blocks m ρ)
    obtain ⟨_, _, _, _, _, _, h6, hk⟩ := h c
    exact ⟨h6, hk⟩
  · refine (θ_run Cert.Reference20Ideal.defs _ _).mono (fun r h c => ?_) (Cert.Reference20Ideal.Value.run (F := Ideal) m' ρ')
    obtain ⟨h0, hk⟩ := h c
    obtain ⟨g0, _, _, _, _, g5, _⟩ := hagree c
    refine ⟨h0.trans ?_, hk⟩
    · rw [Cert.Reference20Ideal.Read.val_main_v32_eq, Cert.Reference20Ideal.Ref.value32, g0, g5]
      exact (Cert.Kernel20Ideal.Fold.final m c).symm

end Cert.Proof.K20

end
-- ==== Proof.K21.lean ====
/-
  The gradient of the weight of the norm after the recurrence.  The kernel adds up, over the chunks and the heads, the
  gradient at the gated norm's result times the normalised rows; row 2 of the array it returns is the gradient.
-/
module

public import proofs.«01_k».proof.Defs
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Fold
public import Idealize.ShloMosaic.Lib.Pipeline.Value
public import Idealize.ShloMosaic.Lib.Pipeline.ValueKit
public import Idealize.ShloMosaic.Lib.WritesUnit
public import Idealize.ShloMosaic.Lib.Claim
public import Idealize.ShloMosaic.Adequacy
public import Idealize.ShloMosaic.Init

@[expose] public section

set_option maxRecDepth 16384

noncomputable section

namespace Cert.Kernel21Ideal.Fold

open Idealize.ShloMosaic Idealize.ShloMosaic.TcCoe Idealize.SL.Sem Cert.Kernel21Ideal Cert.Kernel21Ideal.Gen
open Idealize.ShloMosaic.Pipeline (Dat)
open Cert.KernelIdeal.Fold (canon_mem canon_not_mem readCov_at)

variable (m : (ℓ : Loc nD τ sig) → Buf (Elt Ideal) ℓ) (ρ : Dev nD → PrngReg) (c : Dev nD)

/-! ## The row of the array that is returned -/

/-- The result is row 2 of the array that the kernel leaves in its last window. -/
theorem tail : Pipeline.afterTail₀ cfgs (dats m) 0 (V0 m) [hostOps1] c main_v16
    = (shapeCast S128 (extractStridedSlice S1x128 ![2, 0] ((dats m 0 c).arrAt 18 cfg0.N : Vec Ideal S8x128 .f32) slices_S8x128_S1x128_2_0)
        shapeCasts_S1x128_S128 : Vec Ideal S128 .f32) := by
  unfold Pipeline.afterTail₀
  simp only [hostOps1, List.flatten_cons, List.flatten_nil, List.append_nil, List.cons_append, List.nil_append]
  after_results_simp
  exact congrArg (fun v : Vec Ideal S8x128 .f32 => (shapeCast S128 (extractStridedSlice S1x128 ![2, 0] v slices_S8x128_S1x128_2_0)
    shapeCasts_S1x128_S128 : Vec Ideal S128 .f32))
    (Pipeline.withArrays_arr spec0 (by decide) c (V0 m c) (fun w => (dats m 0 c).arrAt w cfg0.N) 18)

/-- The kernel's run: the result is that row, and the arguments are as launched. -/
theorem run : θ_run defs (onTc (τ := τ) (main (F := Ideal))) ⟨m, fun _ => 0, ρ⟩ (fun r => ∀ c : Dev nD,
      r.2.mem ((c.tc : Thread nD τ).loc main_v16)
        = (shapeCast S128 (extractStridedSlice S1x128 ![2, 0] ((dats m 0 c).arrAt 18 cfg0.N : Vec Ideal S8x128 .f32) slices_S8x128_S1x128_2_0)
            shapeCasts_S1x128_S128 : Vec Ideal S128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run defs _ _).mono (fun r h c => ⟨?_, h.2 c⟩) (θ_run_and (run_main m ρ) (unchanged m ρ))
  exact ((h.1 c).2 main_v16 (Pipeline.mem_restRefs_of main_v16 (by decide) (by decide))).trans (tail m c)

/-! ## One point -/

theorem idx0 : ∀ t : Fin cfg0.N, win0_0.index t = ![31 - t.val, 0] := by decide +kernel
theorem idx1 : ∀ t : Fin cfg0.N, win0_1.index t = ![31 - t.val, 0] := by decide +kernel
theorem idx6 : ∀ t : Fin cfg0.N, win0_6.index t = ![31 - t.val, 0] := by decide +kernel

/-- The chunk that point `t` works on, and the chunk's row `r`. -/
def blk (t : Fin cfg0.N) : Fin 32 := ⟨31 - t.val, by omega⟩
def row (n : Fin 32) (r : Fin 128) : Fin 4096 := ⟨128 * n.val + r.val, by omega⟩

/-- The projections, the gradient at the mixer's output and the recurrence's output. -/
abbrev x0 : Vec Ideal S4096x3200 .f32 := m ((c : Thread nD τ).loc main_arg0)
abbrev x1 : Vec Ideal S4096x1024 .bf16 := m ((c : Thread nD τ).loc main_arg1)
abbrev x6 : Vec Ideal S4096x512 .f32 := m ((c : Thread nD τ).loc main_arg6)

/-- The gradient at the norm's result times the normalised row `o`, at place `e`: `d` the gradient at the gated result,
    `z` the gate. -/
def term (o : Fin 128 → EReal) (z d : EReal) (e : Fin 128) : EReal :=
  d * (z * Ideal.div 1 (1 + Ideal.exp (-z)))
    * (o e * Ideal.rsqrt (Ideal.div (∑ a : Fin 128, o a * o a) (Ideal.ofBits .f32 0x43000000#32) + Ideal.ofBits .f32 0x358637BD#32))

/-- The term of row `i` and head `h` at place `e`, in the whole arrays. -/
def entry (p : Vec Ideal S4096x3200 .f32) (d : Vec Ideal S4096x1024 .bf16) (o : Vec Ideal S4096x512 .f32) (i : Fin 4096) (h : Fin 4)
    (e : Fin 128) : EReal :=
  term (fun a => o (ix2 i ⟨h.val * 128 + a.val, by omega⟩)) (p (ix2 i ⟨2560 + (h.val * 128 + e.val), by omega⟩))
    (d (ix2 i ⟨512 + (h.val * 128 + e.val), by omega⟩)) e

theorem pay0 (v : FVec Ideal S1x128 .f32) (o z : Vec Ideal S128x128 .f32) (d : Vec Ideal S128x128 .bf16) (e : Fin 128) :
    k0_pay100 v o z d (ix2 0 e) = v (ix2 0 e) + ∑ r : Fin 128, term (fun a => o (ix2 r a)) (z (ix2 r e)) (d (ix2 r e)) e := by
  unfold term
  pointwise [k0_pay100, k0_pay99, k0_pay97, k0_pay96, k0_pay95]
  simp only [zero_sub]
theorem pay1 (v : FVec Ideal S1x128 .f32) (o z : Vec Ideal S128x128 .f32) (d : Vec Ideal S128x128 .bf16) (e : Fin 128) :
    k0_pay125 v o z d (ix2 0 e) = v (ix2 0 e) + ∑ r : Fin 128, term (fun a => o (ix2 r a)) (z (ix2 r e)) (d (ix2 r e)) e := by
  unfold term
  pointwise [k0_pay125, k0_pay124, k0_pay122, k0_pay121, k0_pay120]
  simp only [zero_sub]
theorem pay2 (v : FVec Ideal S1x128 .f32) (o z : Vec Ideal S128x128 .f32) (d : Vec Ideal S128x128 .bf16) (e : Fin 128) :
    k0_pay150 v o z d (ix2 0 e) = v (ix2 0 e) + ∑ r : Fin 128, term (fun a => o (ix2 r a)) (z (ix2 r e)) (d (ix2 r e)) e := by
  unfold term
  pointwise [k0_pay150, k0_pay149, k0_pay147, k0_pay146, k0_pay145]
  simp only [zero_sub]
theorem pay3 (v : FVec Ideal S1x128 .f32) (o z : Vec Ideal S128x128 .f32) (d : Vec Ideal S128x128 .bf16) (e : Fin 128) :
    k0_pay175 v o z d (ix2 0 e) = v (ix2 0 e) + ∑ r : Fin 128, term (fun a => o (ix2 r a)) (z (ix2 r e)) (d (ix2 r e)) e := by
  unfold term
  pointwise [k0_pay175, k0_pay174, k0_pay172, k0_pay171, k0_pay170]
  simp only [zero_sub]

/-- The blocks' parts that the body loads, head by head. -/
abbrev lO0 (t : Fin cfg0.N) : Vec Ideal S128x128 .f32 :=
  View.ld (iblk m c 6 t) (Rect.unit ![0, 0] ![128, 128] inb_S128x512_S128x128_0_0)
abbrev lZ0 (t : Fin cfg0.N) : Vec Ideal S128x128 .f32 :=
  View.ld (iblk m c 0 t) (Rect.unit ![0, 2560] ![128, 128] inb_S128x3200_S128x128_0_2560)
abbrev lD0 (t : Fin cfg0.N) : Vec Ideal S128x128 .bf16 :=
  View.ld (iblk m c 1 t) (Rect.unit ![0, 512] ![128, 128] inb_S128x1024_S128x128_0_512)
abbrev lO1 (t : Fin cfg0.N) : Vec Ideal S128x128 .f32 :=
  View.ld (iblk m c 6 t) (Rect.unit ![0, 128] ![128, 128] inb_S128x512_S128x128_0_128)
abbrev lZ1 (t : Fin cfg0.N) : Vec Ideal S128x128 .f32 :=
  View.ld (iblk m c 0 t) (Rect.unit ![0, 2688] ![128, 128] inb_S128x3200_S128x128_0_2688)
abbrev lD1 (t : Fin cfg0.N) : Vec Ideal S128x128 .bf16 :=
  View.ld (iblk m c 1 t) (Rect.unit ![0, 640] ![128, 128] inb_S128x1024_S128x128_0_640)
abbrev lO2 (t : Fin cfg0.N) : Vec Ideal S128x128 .f32 :=
  View.ld (iblk m c 6 t) (Rect.unit ![0, 256] ![128, 128] inb_S128x512_S128x128_0_256)
abbrev lZ2 (t : Fin cfg0.N) : Vec Ideal S128x128 .f32 :=
  View.ld (iblk m c 0 t) (Rect.unit ![0, 2816] ![128, 128] inb_S128x3200_S128x128_0_2816)
abbrev lD2 (t : Fin cfg0.N) : Vec Ideal S128x128 .bf16 :=
  View.ld (iblk m c 1 t) (Rect.unit ![0, 768] ![128, 128] inb_S128x1024_S128x128_0_768)
abbrev lO3 (t : Fin cfg0.N) : Vec Ideal S128x128 .f32 :=
  View.ld (iblk m c 6 t) (Rect.unit ![0, 384] ![128, 128] inb_S128x512_S128x128_0_384)
abbrev lZ3 (t : Fin cfg0.N) : Vec Ideal S128x128 .f32 :=
  View.ld (iblk m c 0 t) (Rect.unit ![0, 2944] ![128, 128] inb_S128x3200_S128x128_0_2944)
abbrev lD3 (t : Fin cfg0.N) : Vec Ideal S128x128 .bf16 :=
  View.ld (iblk m c 1 t) (Rect.unit ![0, 896] ![128, 128] inb_S128x1024_S128x128_0_896)

theorem O0 (t : Fin cfg0.N) (r a : Fin 128) : lO0 m c t (ix2 r a) = x6 m c (ix2 (row (blk t) r) ⟨(0 : Fin 4).val * 128 + a.val, by omega⟩) := by
  unfold lO0 row blk; pointwise; blk_ext! [iblk, V, idx6 t]
theorem Z0 (t : Fin cfg0.N) (r a : Fin 128) : lZ0 m c t (ix2 r a) = x0 m c (ix2 (row (blk t) r) ⟨2560 + ((0 : Fin 4).val * 128 + a.val), by omega⟩) := by
  unfold lZ0 row blk; pointwise; blk_ext! [iblk, V, idx0 t]
theorem D0 (t : Fin cfg0.N) (r a : Fin 128) : lD0 m c t (ix2 r a) = x1 m c (ix2 (row (blk t) r) ⟨512 + ((0 : Fin 4).val * 128 + a.val), by omega⟩) := by
  unfold lD0 row blk; pointwise; blk_ext! [iblk, V, idx1 t]
theorem T0 (t : Fin cfg0.N) (r e : Fin 128) :
    term (fun a => lO0 m c t (ix2 r a)) (lZ0 m c t (ix2 r e)) (lD0 m c t (ix2 r e)) e = entry (x0 m c) (x1 m c) (x6 m c) (row (blk t) r) 0 e := by
  simp only [O0, Z0, D0, entry]
theorem O1 (t : Fin cfg0.N) (r a : Fin 128) : lO1 m c t (ix2 r a) = x6 m c (ix2 (row (blk t) r) ⟨(1 : Fin 4).val * 128 + a.val, by omega⟩) := by
  unfold lO1 row blk; pointwise; blk_ext! [iblk, V, idx6 t]
theorem Z1 (t : Fin cfg0.N) (r a : Fin 128) : lZ1 m c t (ix2 r a) = x0 m c (ix2 (row (blk t) r) ⟨2560 + ((1 : Fin 4).val * 128 + a.val), by omega⟩) := by
  unfold lZ1 row blk; pointwise; blk_ext! [iblk, V, idx0 t]
theorem D1 (t : Fin cfg0.N) (r a : Fin 128) : lD1 m c t (ix2 r a) = x1 m c (ix2 (row (blk t) r) ⟨512 + ((1 : Fin 4).val * 128 + a.val), by omega⟩) := by
  unfold lD1 row blk; pointwise; blk_ext! [iblk, V, idx1 t]
theorem T1 (t : Fin cfg0.N) (r e : Fin 128) :
    term (fun a => lO1 m c t (ix2 r a)) (lZ1 m c t (ix2 r e)) (lD1 m c t (ix2 r e)) e = entry (x0 m c) (x1 m c) (x6 m c) (row (blk t) r) 1 e := by
  simp only [O1, Z1, D1, entry]
theorem O2 (t : Fin cfg0.N) (r a : Fin 128) : lO2 m c t (ix2 r a) = x6 m c (ix2 (row (blk t) r) ⟨(2 : Fin 4).val * 128 + a.val, by omega⟩) := by
  unfold lO2 row blk; pointwise; blk_ext! [iblk, V, idx6 t]
theorem Z2 (t : Fin cfg0.N) (r a : Fin 128) : lZ2 m c t (ix2 r a) = x0 m c (ix2 (row (blk t) r) ⟨2560 + ((2 : Fin 4).val * 128 + a.val), by omega⟩) := by
  unfold lZ2 row blk; pointwise; blk_ext! [iblk, V, idx0 t]
theorem D2 (t : Fin cfg0.N) (r a : Fin 128) : lD2 m c t (ix2 r a) = x1 m c (ix2 (row (blk t) r) ⟨512 + ((2 : Fin 4).val * 128 + a.val), by omega⟩) := by
  unfold lD2 row blk; pointwise; blk_ext! [iblk, V, idx1 t]
theorem T2 (t : Fin cfg0.N) (r e : Fin 128) :
    term (fun a => lO2 m c t (ix2 r a)) (lZ2 m c t (ix2 r e)) (lD2 m c t (ix2 r e)) e = entry (x0 m c) (x1 m c) (x6 m c) (row (blk t) r) 2 e := by
  simp only [O2, Z2, D2, entry]
theorem O3 (t : Fin cfg0.N) (r a : Fin 128) : lO3 m c t (ix2 r a) = x6 m c (ix2 (row (blk t) r) ⟨(3 : Fin 4).val * 128 + a.val, by omega⟩) := by
  unfold lO3 row blk; pointwise; blk_ext! [iblk, V, idx6 t]
theorem Z3 (t : Fin cfg0.N) (r a : Fin 128) : lZ3 m c t (ix2 r a) = x0 m c (ix2 (row (blk t) r) ⟨2560 + ((3 : Fin 4).val * 128 + a.val), by omega⟩) := by
  unfold lZ3 row blk; pointwise; blk_ext! [iblk, V, idx0 t]
theorem D3 (t : Fin cfg0.N) (r a : Fin 128) : lD3 m c t (ix2 r a) = x1 m c (ix2 (row (blk t) r) ⟨512 + ((3 : Fin 4).val * 128 + a.val), by omega⟩) := by
  unfold lD3 row blk; pointwise; blk_ext! [iblk, V, idx1 t]
theorem T3 (t : Fin cfg0.N) (r e : Fin 128) :
    term (fun a => lO3 m c t (ix2 r a)) (lZ3 m c t (ix2 r e)) (lD3 m c t (ix2 r e)) e = entry (x0 m c) (x1 m c) (x6 m c) (row (blk t) r) 3 e := by
  simp only [O3, Z3, D3, entry]
/-- What one point adds. -/
def step (n : Fin 32) (e : Fin 128) : EReal := ∑ h : Fin 4, ∑ r : Fin 128, entry (x0 m c) (x1 m c) (x6 m c) (row n r) h e

theorem inc (t : Fin cfg0.N) (acc : Vec Ideal S1x128 .f32) (e : Fin 128) :
    k0_pay316 (k0_pay175 (k0_pay150 (k0_pay125 (k0_pay100 k0_pay77 (lO0 m c t) (lZ0 m c t) (lD0 m c t)) (lO1 m c t) (lZ1 m c t) (lD1 m c t))
      (lO2 m c t) (lZ2 m c t) (lD2 m c t)) (lO3 m c t) (lZ3 m c t) (lD3 m c t)) acc (ix2 0 e)
      = acc (ix2 0 e) + step m c (blk t) e := by
  have e316 : ∀ v : FVec Ideal S1x128 .f32, k0_pay316 v acc (ix2 0 e) = acc (ix2 0 e) + v (ix2 0 e) := fun v => by pointwise [k0_pay316]
  have e77 : (k0_pay77 : FVec Ideal S1x128 .f32) (ix2 0 e) = 0 := by pointwise [k0_pay77]
  rw [e316, pay3, pay2, pay1, pay0, e77, zero_add]
  simp only [step, Fin.sum_univ_four, T0, T1, T2, T3]

/-! ## The accumulator -/

theorem zero18 (r : Fin 8) (k : Fin 128) : k0_pay8 (F := Ideal) (ix2 r k) = 0 := by pointwise [k0_pay8]

theorem g_B (t : Fin cfg0.N) (h : ¬ t.val % 32 = 0) (e : Fin 128) :
    (outsAt0 m c t.val t.isLt).2.2.2.2.2.1 (ix2 2 e)
      = (outsAt0 m c (t.val - 1) (Nat.lt_of_le_of_lt (Nat.sub_le _ _) t.isLt)).2.2.2.2.2.1 (ix2 2 e) + step m c (blk t) e := by
  rw [outsAt0_B m c t h]
  frame_out
  rw [View.read_writes_cons_unit_of_not_mem _ _ _ _ _ _ rfl 0 (by simp),
    View.read_writes_cons_unit_of_not_mem _ _ _ _ _ _ rfl 0 (by simp),
    View.read_writes_cons_unit_of_mem _ _ _ _ _ _ (ix2 0 e) rfl (by intro a; fin_cases a <;> simp)]
  refine (inc m c t _ e).trans ?_
  pointwise

theorem g_A (t : Fin cfg0.N) (h : t.val % 32 = 0) (e : Fin 128) :
    (outsAt0 m c t.val t.isLt).2.2.2.2.2.1 (ix2 2 e) = 0 + step m c (blk t) e := by
  rw [outsAt0_A m c t h]
  frame_out
  rw [canon_not_mem _ _ _ _ 0 (by simp), canon_not_mem _ _ _ _ 0 (by simp),
    canon_mem _ _ _ _ (ix2 0 e) (by intro a; fin_cases a <;> simp)]
  refine (inc m c t _ e).trans ?_
  rw [readCov_at _ _ _ _ (ix2 2 e) (by intro a; fin_cases a <;> simp),
    canon_mem _ _ _ _ (ix2 2 e) (by intro a; fin_cases a <;> simp), zero18]

/-! ## The result -/

theorem sum_blk (f : Fin 32 → EReal) : ∑ t : Fin cfg0.N, f (blk t) = ∑ n : Fin 32, f n := by
  have hN : cfg0.N = 32 := N_0
  refine Function.Bijective.sum_comp ((Fintype.bijective_iff_injective_and_card blk).mpr ⟨fun a b h => ?_, ?_⟩) f
  · have := Fin.ext_iff.mp h
    simp only [blk] at this
    exact Fin.ext (by omega)
  · simp [hN]

/-- The last point. -/
def tlast : Fin cfg0.N := ⟨31, by rw [show cfg0.N = 32 from N_0]; decide⟩

theorem acc_last (e : Fin 128) : (outsAt0 m c tlast.val tlast.isLt).2.2.2.2.2.1 (ix2 2 e) = ∑ n : Fin 32, step m c n e := by
  rw [Pipeline.eq_sum_fin_of_reset_step_apply_last (fun n h (q : Fin 128) => (outsAt0 m c n h).2.2.2.2.2.1 (ix2 2 q)) 32
    (fun _ => 0) (fun t q => step m c (blk t) q) (fun t h q => g_A m c t h _) (fun t h q => g_B m c t h _)
    (le_of_eq N_0) tlast rfl e, zero_add]
  exact sum_blk fun n => step m c n e

theorem final : (dats m 0 c).arrAt 18 cfg0.N = ((outsAt0 m c tlast.val tlast.isLt).2.2.2.2.2.1 : Vec Ideal S8x128 .f32) := by
  refine Dat.arrAt_eq_of_after_last _ 18 tlast (by decide +kernel) _ fun y => ?_
  blk_simp
  rw [after0_18]

theorem result : (shapeCast S128 (extractStridedSlice S1x128 ![2, 0] ((dats m 0 c).arrAt 18 cfg0.N : Vec Ideal S8x128 .f32) slices_S8x128_S1x128_2_0)
        shapeCasts_S1x128_S128 : Vec Ideal S128 .f32) = fun y => ∑ n : Fin 32, step m c n (y 0) := by
  funext y
  idx_vars y
  rw [final]
  pointwise
  exact acc_last m c _

end Cert.Kernel21Ideal.Fold

namespace Cert.Reference21Ideal.Ref

open Idealize.ShloMosaic Cert.Reference21Ideal Cert.Reference21Ideal.Gen Cert.Reference21Ideal.Read
open Cert.Kernel21Ideal.Fold (row entry term)

/-- A sum over all rows is a sum over the chunks of the sums over their rows. -/
theorem sum_row (f : Fin 4096 → EReal) : ∑ k : Fin 4096, f k = ∑ n : Fin 32, ∑ r : Fin 128, f (row n r) := by
  rw [← Fintype.sum_prod_type' (f := fun n r => f (row n r))]
  refine (Fintype.sum_equiv (finProdFinEquiv (m := 32) (n := 128)) _ _ fun p => ?_).symm
  congr 1
  exact Fin.ext (by simp [row, finProdFinEquiv]; omega)

/-- Summing away two axes of one entry each. -/
theorem sum_unit (hs : S1x1x128.ReducesTo [0, 1] S128) (v : S1x1x128.Idx → EReal) (init : EReal) (k : Fin 128) :
    Ideal.hostReduceAdd hs v init (ix1 k) = init + v (ix3 (0 : Fin 1) (0 : Fin 1) k) := by
  refine congrArg (init + ·) ?_
  refine (Finset.sum_filter_eq_sum_of_fiber _ (fun _ : Fin 1 => ix3 (0 : Fin 1) (0 : Fin 1) k) (fun _ _ _ => Subsingleton.elim _ _) ?_ v).trans (by simp)
  intro i
  constructor
  · intro e
    refine ⟨0, ?_⟩
    have := congrFun e 0
    funext a
    match a with
    | ⟨0, _⟩ => exact Subsingleton.elim (α := Fin 1) _ _
    | ⟨1, _⟩ => exact Subsingleton.elim (α := Fin 1) _ _
    | ⟨2, _⟩ => exact this.symm
  · rintro ⟨_, rfl⟩
    funext b
    match b with
    | ⟨0, _⟩ => rfl

/-- Summing away the rows and the heads. -/
theorem sum_heads (hs : S4096x4x128.ReducesTo [0, 1] S128) (v : S4096x4x128.Idx → EReal) (init : EReal) (k : Fin 128) :
    Ideal.hostReduceAdd hs v init (ix1 k) = init + ∑ i : Fin 4096, ∑ h : Fin 4, v (ix3 i h k) := by
  refine congrArg (init + ·) ?_
  rw [← Fintype.sum_prod_type' (f := fun i h => v (ix3 i h k))]
  refine Finset.sum_filter_eq_sum_of_fiber _ (fun q : Fin 4096 × Fin 4 => ix3 q.1 q.2 k) ?_ ?_ v
  · intro a b e
    exact Prod.ext (congrFun e 0) (congrFun e 1)
  · intro x
    constructor
    · intro e
      have := congrFun e 0
      refine ⟨(x 0, x 1), ?_⟩
      funext a
      match a with
      | ⟨0, _⟩ => rfl
      | ⟨1, _⟩ => rfl
      | ⟨2, _⟩ => exact this.symm
    · rintro ⟨_, rfl⟩
      funext b
      match b with
      | ⟨0, _⟩ => rfl

variable (x0 : Vec Ideal S4096x3200 .f32) (x1 : Vec Ideal S4096x1024 .bf16) (x6 : Vec Ideal S4096x512 .f32)

theorem term_apply (i : Fin 4096) (h : Fin 4) (e : Fin 128) : val_main_v25 (F := Ideal) x0 x1 x6 (ix3 i h e) = entry x0 x1 x6 i h e := by
  unfold entry term
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v5, val_main_call0_v4, val_main_call0_cst_0, val_main_call0_v3, val_main_call0_v2, val_main_call0_cst, val_main_call0_v1, val_main_call0_v0]
  exact mul_comm _ _

theorem value : val_main_v28 (F := Ideal) x0 x1 x6
    = fun y : S128.Idx => ∑ n : Fin 32, ∑ h : Fin 4, ∑ r : Fin 128, entry x0 x1 x6 (row n r) h (y 0) := by
  funext y
  idx_vars y
  unfold val_main_v28
  simp only [Host.reduceAdd, Ideal.hostReduceAdd_def]
  rw [sum_unit]
  unfold val_main_v27 val_main_v26
  simp only [Host.reduceAdd, Ideal.hostReduceAdd_def]
  pointwise [val_main_cst_2, val_main_cst_3]
  rw [sum_heads, sum_row, zero_add]
  refine Finset.sum_congr rfl fun n _ => ?_
  rw [Finset.sum_comm]
  exact Finset.sum_congr rfl fun h _ => Finset.sum_congr rfl fun r _ => term_apply x0 x1 x6 (row n r) h y0

end Cert.Reference21Ideal.Ref

namespace Cert.Proof.K21

open Idealize.ShloMosaic Idealize.SL.Sem

/-- The reference runs to its end, keeps its arguments and has no semaphores. -/
theorem reference_frame : Cert.quiescent_Reference21Ideal (hReference21Ideal := Cert.Reference21Ideal.Gen.facts) := fun m ρ _ =>
  (θ_run Cert.Reference21Ideal.defs _ _).mono (fun r h => ⟨fun c => (h c).2,
      Idealize.ShloMosaic.sem_eq_zero_of_no_sems (by decide) r.2⟩)
    (Cert.Reference21Ideal.Value.run m ρ)

/-- The kernel's result is the reference's, of arguments that agree. -/
theorem algebraic : Cert.algebraic_Kernel21Ideal_Reference21Ideal (hKernel21Ideal := Cert.Kernel21Ideal.Gen.facts)
    (hReference21Ideal := Cert.Reference21Ideal.Gen.facts) := by
  intro m ρ m' ρ' _ hagree
  refine ⟨fun c => (fun y => ∑ n : Fin 32, Cert.Kernel21Ideal.Fold.step m c n (y 0) : Vec Ideal Cert.Kernel21Ideal.S128 .f32), ?_, ?_⟩
  · refine (θ_run Cert.Kernel21Ideal.defs _ _).mono (fun r h c => ?_) (Cert.Kernel21Ideal.Fold.run m ρ)
    exact ⟨(h c).1.trans (Cert.Kernel21Ideal.Fold.result m c), (h c).2⟩
  · refine (θ_run Cert.Reference21Ideal.defs _ _).mono (fun r h c => ?_) (Cert.Reference21Ideal.Value.run (F := Ideal) m' ρ')
    obtain ⟨h0, hk⟩ := h c
    obtain ⟨g0, g1, g2, g3, g4, g5, g6, -⟩ := hagree c
    refine ⟨h0.trans ?_, hk⟩
    · rw [Cert.Reference21Ideal.Read.val_main_v28_eq, Cert.Reference21Ideal.Ref.value, g0, g1, g6]
      rfl

end Cert.Proof.K21

end
-- ==== Proof.lean ====
/-
  The proof of `Cert.Claim`: for each program pair its frames, then that its ideal reading changes no operation and that
  its results are its reference's.  The value claims are proved in the modules `Proof/K2` to `Proof/K21` and, for the
  first program, below.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite8
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Spec
public import proofs.«01_k».proof.Proof.Fold
public import proofs.«01_k».proof.Proof.Ref
public import proofs.«01_k».proof.Proof.K2
public import proofs.«01_k».proof.Proof.K3
public import proofs.«01_k».proof.Proof.K4
public import proofs.«01_k».proof.Proof.K5
public import proofs.«01_k».proof.Proof.K6
public import proofs.«01_k».proof.Proof.K7
public import proofs.«01_k».proof.Proof.K8
public import proofs.«01_k».proof.Proof.K9
public import proofs.«01_k».proof.Proof.K10
public import proofs.«01_k».proof.Proof.K11
public import proofs.«01_k».proof.Proof.K12
public import proofs.«01_k».proof.Proof.K13
public import proofs.«01_k».proof.Proof.K14
public import proofs.«01_k».proof.Proof.K15
public import proofs.«01_k».proof.Proof.K16
public import proofs.«01_k».proof.Proof.K17
public import proofs.«01_k».proof.Proof.K18
public import proofs.«01_k».proof.Proof.K19
public import proofs.«01_k».proof.Proof.K20
public import proofs.«01_k».proof.Proof.K21
public import Idealize.ShloMosaic.Adequacy
public import Idealize.ShloMosaic.Init

@[expose] public section

noncomputable section

namespace Cert.Proof

open Idealize.ShloMosaic Idealize.SL.Sem Cert.Kernel

/-- The reference runs to its end, keeps its arguments and has no semaphores. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run m ρ)

/-- The gated mixing's parameter gradients: the kernel folds 32 chunks into its three results, the reference sums over
    all rows at once; both are the sums over the chunks that `Spec` names, of arguments that agree. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => (Cert.KernelIdeal.Gen.dats m 0 c).arrAt 14 Cert.KernelIdeal.cfg0.N, fun c => (Cert.KernelIdeal.Gen.dats m 0 c).arrAt 15 Cert.KernelIdeal.cfg0.N,
    fun c => (Cert.KernelIdeal.Gen.dats m 0 c).arrAt 16 Cert.KernelIdeal.cfg0.N, ?_, ?_⟩
  · refine (θ_run Cert.KernelIdeal.defs _ _).mono (fun r h c => ?_) (Cert.KernelIdeal.Value.run_blocks m ρ)
    obtain ⟨_, h1, h2, h3, _, _, hk⟩ := h c
    exact ⟨h1, h2, h3, hk⟩
  · refine (θ_run Cert.ReferenceIdeal.defs _ _).mono (fun r h c => ?_) (Cert.ReferenceIdeal.Value.run (F := Ideal) m' ρ')
    obtain ⟨e98, e86, e100, hk⟩ := h c
    obtain ⟨a0, a1, _, _, _, _, _, _, a8, a9, a10, _⟩ := hagree c
    refine ⟨e98.trans ?_, e86.trans ?_, e100.trans ?_, hk⟩
    · rw [Cert.ReferenceIdeal.Read.val_main_v98_eq, Cert.ReferenceIdeal.Ref.v98_val, a0, a1, a10]
      exact (Cert.KernelIdeal.Fold.resL m c).symm
    · rw [Cert.ReferenceIdeal.Read.val_main_v86_eq, Cert.ReferenceIdeal.Ref.v86_val, a0, a1, a8, a9]
      exact (Cert.KernelIdeal.Fold.resW m c).symm
    · rw [Cert.ReferenceIdeal.Read.val_main_v100_eq, Cert.ReferenceIdeal.Ref.v100_val, a0, a1]
      exact (Cert.KernelIdeal.Fold.resB m c).symm

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Pre_finite4.Gen.facts,
  Cert.Pre_finite5.Gen.facts,
  Cert.Pre_finite7.Gen.facts,
  Cert.Pre_finite8.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, Cert.Proof.K2.reference_frame,
  fun m ρ _ => Cert.Kernel3.Gen.frame m ρ, fun m ρ _ => Cert.Kernel3Ideal.Gen.frame m ρ, Cert.Proof.K3.reference_frame,
  fun m ρ _ => Cert.Kernel4.Gen.frame m ρ, fun m ρ _ => Cert.Kernel4Ideal.Gen.frame m ρ, fun m ρ _ => Cert.Kernel4Ideal.Gen.frame m ρ,
  Cert.Proof.K4.reference_frame, fun m ρ _ => Cert.Proof.K4.reference_frame m ρ trivial,
  fun m ρ _ => Cert.Kernel5.Gen.frame m ρ, fun m ρ _ => Cert.Kernel5Ideal.Gen.frame m ρ, fun m ρ _ => Cert.Kernel5Ideal.Gen.frame m ρ,
  Cert.Proof.K5.reference_frame, fun m ρ _ => Cert.Proof.K5.reference_frame m ρ trivial,
  fun m ρ _ => Cert.Kernel6.Gen.frame m ρ, fun m ρ _ => Cert.Kernel6Ideal.Gen.frame m ρ, Cert.Proof.K6.reference_frame,
  fun m ρ _ => Cert.Kernel7.Gen.frame m ρ, fun m ρ _ => Cert.Kernel7Ideal.Gen.frame m ρ, fun m ρ _ => Cert.Kernel7Ideal.Gen.frame m ρ,
  Cert.Proof.K7.reference_frame, fun m ρ _ => Cert.Proof.K7.reference_frame m ρ trivial,
  fun m ρ _ => Cert.Kernel8.Gen.frame m ρ, fun m ρ _ => Cert.Kernel8Ideal.Gen.frame m ρ, fun m ρ _ => Cert.Kernel8Ideal.Gen.frame m ρ,
  Cert.Proof.K8.reference_frame, fun m ρ _ => Cert.Proof.K8.reference_frame m ρ trivial,
  fun m ρ _ => Cert.Kernel9.Gen.frame m ρ, fun m ρ _ => Cert.Kernel9Ideal.Gen.frame m ρ, Cert.Proof.K9.reference_frame,
  fun m ρ _ => Cert.Kernel10.Gen.frame m ρ, fun m ρ _ => Cert.Kernel10Ideal.Gen.frame m ρ, Cert.Proof.K10.reference_frame,
  fun m ρ _ => Cert.Kernel11.Gen.frame m ρ, fun m ρ _ => Cert.Kernel11Ideal.Gen.frame m ρ, Cert.Proof.K11.reference_frame,
  fun m ρ _ => Cert.Kernel12.Gen.frame m ρ, fun m ρ _ => Cert.Kernel12Ideal.Gen.frame m ρ, Cert.Proof.K12.reference_frame,
  fun m ρ _ => Cert.Kernel13.Gen.frame m ρ, fun m ρ _ => Cert.Kernel13Ideal.Gen.frame m ρ, Cert.Proof.K13.reference_frame,
  fun m ρ _ => Cert.Kernel14.Gen.frame m ρ, fun m ρ _ => Cert.Kernel14Ideal.Gen.frame m ρ, Cert.Proof.K14.reference_frame,
  fun m ρ _ => Cert.Kernel15.Gen.frame m ρ, fun m ρ _ => Cert.Kernel15Ideal.Gen.frame m ρ, Cert.Proof.K15.reference_frame,
  fun m ρ _ => Cert.Kernel16.Gen.frame m ρ, fun m ρ _ => Cert.Kernel16Ideal.Gen.frame m ρ, Cert.Proof.K16.reference_frame,
  fun m ρ _ => Cert.Kernel17.Gen.frame m ρ, fun m ρ _ => Cert.Kernel17Ideal.Gen.frame m ρ, Cert.Proof.K17.reference_frame,
  fun m ρ _ => Cert.Kernel18.Gen.frame m ρ, fun m ρ _ => Cert.Kernel18Ideal.Gen.frame m ρ, Cert.Proof.K18.reference_frame,
  fun m ρ _ => Cert.Kernel19.Gen.frame m ρ, fun m ρ _ => Cert.Kernel19Ideal.Gen.frame m ρ, Cert.Proof.K19.reference_frame,
  fun m ρ _ => Cert.Kernel20.Gen.frame m ρ, fun m ρ _ => Cert.Kernel20Ideal.Gen.frame m ρ, Cert.Proof.K20.reference_frame,
  fun m ρ _ => Cert.Kernel21.Gen.frame m ρ, fun m ρ _ => Cert.Kernel21Ideal.Gen.frame m ρ, Cert.Proof.K21.reference_frame,
  trivial, algebraic,
  trivial, Cert.Proof.K2.algebraic,
  trivial, Cert.Proof.K3.algebraic,
  trivial, Cert.Proof.K4.algebraic,
  trivial, Cert.Proof.K5.algebraic,
  trivial, Cert.Proof.K6.algebraic,
  trivial, Cert.Proof.K7.algebraic,
  trivial, Cert.Proof.K8.algebraic,
  trivial, Cert.Proof.K9.algebraic,
  trivial, Cert.Proof.K10.algebraic,
  trivial, Cert.Proof.K11.algebraic,
  trivial, Cert.Proof.K12.algebraic,
  trivial, Cert.Proof.K13.algebraic,
  trivial, Cert.Proof.K14.algebraic,
  trivial, Cert.Proof.K15.algebraic,
  trivial, Cert.Proof.K16.algebraic,
  trivial, Cert.Proof.K17.algebraic,
  trivial, Cert.Proof.K18.algebraic,
  trivial, Cert.Proof.K19.algebraic,
  trivial, Cert.Proof.K20.algebraic,
  trivial, Cert.Proof.K21.algebraic⟩

end Cert.Proof

end
